-- ==== Defs.lean ====
def Pre_MoeUp [hPre_experts_in_range : Cert.Pre_experts_in_range.Facts] (m : (ℓ : Loc Cert.MoeUp.nD Cert.MoeUp.τ Cert.MoeUp.sig) → Buf (Elt Bits) ℓ) : Prop :=
  ∀ c : Dev Cert.MoeUp.nD,
    (Cert.Pre_experts_in_range.fn (F := Bits) (m ((c.tc : Thread Cert.MoeUp.nD Cert.MoeUp.τ).loc Cert.MoeUp.main_arg0)) (m ((c.tc : Thread Cert.MoeUp.nD Cert.MoeUp.τ).loc Cert.MoeUp.main_arg1)) (m ((c.tc : Thread Cert.MoeUp.nD Cert.MoeUp.τ).loc Cert.MoeUp.main_arg2)) (m ((c.tc : Thread Cert.MoeUp.nD Cert.MoeUp.τ).loc Cert.MoeUp.main_arg3)) (m ((c.tc : Thread Cert.MoeUp.nD Cert.MoeUp.τ).loc Cert.MoeUp.main_arg4)) (m ((c.tc : Thread Cert.MoeUp.nD Cert.MoeUp.τ).loc Cert.MoeUp.main_arg5))) = (fun _ => 1#1)

def Pre_MoeUpIdeal [hPre_experts_in_range : Cert.Pre_experts_in_range.Facts] (m : (ℓ : Loc Cert.MoeUpIdeal.nD Cert.MoeUpIdeal.τ Cert.MoeUpIdeal.sig) → Buf (Elt Ideal) ℓ) : Prop :=
  ∀ c : Dev Cert.MoeUpIdeal.nD,
    (Cert.Pre_experts_in_range.fn (F := Ideal) (m ((c.tc : Thread Cert.MoeUpIdeal.nD Cert.MoeUpIdeal.τ).loc Cert.MoeUpIdeal.main_arg0)) (m ((c.tc : Thread Cert.MoeUpIdeal.nD Cert.MoeUpIdeal.τ).loc Cert.MoeUpIdeal.main_arg1)) (m ((c.tc : Thread Cert.MoeUpIdeal.nD Cert.MoeUpIdeal.τ).loc Cert.MoeUpIdeal.main_arg2)) (m ((c.tc : Thread Cert.MoeUpIdeal.nD Cert.MoeUpIdeal.τ).loc Cert.MoeUpIdeal.main_arg3)) (m ((c.tc : Thread Cert.MoeUpIdeal.nD Cert.MoeUpIdeal.τ).loc Cert.MoeUpIdeal.main_arg4)) (m ((c.tc : Thread Cert.MoeUpIdeal.nD Cert.MoeUpIdeal.τ).loc Cert.MoeUpIdeal.main_arg5))) = (fun _ => 1#1)

def Pre_MoeUpRefIdeal [hPre_experts_in_range : Cert.Pre_experts_in_range.Facts] (m : (ℓ : Loc Cert.MoeUpRefIdeal.nD Cert.MoeUpRefIdeal.τ Cert.MoeUpRefIdeal.sig) → Buf (Elt Ideal) ℓ) : Prop :=
  ∀ c : Dev Cert.MoeUpRefIdeal.nD,
    (Cert.Pre_experts_in_range.fn (F := Ideal) (m ((c.tc : Thread Cert.MoeUpRefIdeal.nD Cert.MoeUpRefIdeal.τ).loc Cert.MoeUpRefIdeal.main_arg0)) (m ((c.tc : Thread Cert.MoeUpRefIdeal.nD Cert.MoeUpRefIdeal.τ).loc Cert.MoeUpRefIdeal.main_arg1)) (m ((c.tc : Thread Cert.MoeUpRefIdeal.nD Cert.MoeUpRefIdeal.τ).loc Cert.MoeUpRefIdeal.main_arg2)) (m ((c.tc : Thread Cert.MoeUpRefIdeal.nD Cert.MoeUpRefIdeal.τ).loc Cert.MoeUpRefIdeal.main_arg3)) (m ((c.tc : Thread Cert.MoeUpRefIdeal.nD Cert.MoeUpRefIdeal.τ).loc Cert.MoeUpRefIdeal.main_arg4)) (m ((c.tc : Thread Cert.MoeUpRefIdeal.nD Cert.MoeUpRefIdeal.τ).loc Cert.MoeUpRefIdeal.main_arg5))) = (fun _ => 1#1)

def Pre_MoeDown [hPre_experts_in_range_down : Cert.Pre_experts_in_range_down.Facts] (m : (ℓ : Loc Cert.MoeDown.nD Cert.MoeDown.τ Cert.MoeDown.sig) → Buf (Elt Bits) ℓ) : Prop :=
  ∀ c : Dev Cert.MoeDown.nD,
    (Cert.Pre_experts_in_range_down.fn (F := Bits) (m ((c.tc : Thread Cert.MoeDown.nD Cert.MoeDown.τ).loc Cert.MoeDown.main_arg0)) (m ((c.tc : Thread Cert.MoeDown.nD Cert.MoeDown.τ).loc Cert.MoeDown.main_arg1)) (m ((c.tc : Thread Cert.MoeDown.nD Cert.MoeDown.τ).loc Cert.MoeDown.main_arg2)) (m ((c.tc : Thread Cert.MoeDown.nD Cert.MoeDown.τ).loc Cert.MoeDown.main_arg3))) = (fun _ => 1#1)

def Pre_MoeDownIdeal [hPre_experts_in_range_down : Cert.Pre_experts_in_range_down.Facts] (m : (ℓ : Loc Cert.MoeDownIdeal.nD Cert.MoeDownIdeal.τ Cert.MoeDownIdeal.sig) → Buf (Elt Ideal) ℓ) : Prop :=
  ∀ c : Dev Cert.MoeDownIdeal.nD,
    (Cert.Pre_experts_in_range_down.fn (F := Ideal) (m ((c.tc : Thread Cert.MoeDownIdeal.nD Cert.MoeDownIdeal.τ).loc Cert.MoeDownIdeal.main_arg0)) (m ((c.tc : Thread Cert.MoeDownIdeal.nD Cert.MoeDownIdeal.τ).loc Cert.MoeDownIdeal.main_arg1)) (m ((c.tc : Thread Cert.MoeDownIdeal.nD Cert.MoeDownIdeal.τ).loc Cert.MoeDownIdeal.main_arg2)) (m ((c.tc : Thread Cert.MoeDownIdeal.nD Cert.MoeDownIdeal.τ).loc Cert.MoeDownIdeal.main_arg3))) = (fun _ => 1#1)

def Pre_MoeDownRefIdeal [hPre_experts_in_range_down : Cert.Pre_experts_in_range_down.Facts] (m : (ℓ : Loc Cert.MoeDownRefIdeal.nD Cert.MoeDownRefIdeal.τ Cert.MoeDownRefIdeal.sig) → Buf (Elt Ideal) ℓ) : Prop :=
  ∀ c : Dev Cert.MoeDownRefIdeal.nD,
    (Cert.Pre_experts_in_range_down.fn (F := Ideal) (m ((c.tc : Thread Cert.MoeDownRefIdeal.nD Cert.MoeDownRefIdeal.τ).loc Cert.MoeDownRefIdeal.main_arg0)) (m ((c.tc : Thread Cert.MoeDownRefIdeal.nD Cert.MoeDownRefIdeal.τ).loc Cert.MoeDownRefIdeal.main_arg1)) (m ((c.tc : Thread Cert.MoeDownRefIdeal.nD Cert.MoeDownRefIdeal.τ).loc Cert.MoeDownRefIdeal.main_arg2)) (m ((c.tc : Thread Cert.MoeDownRefIdeal.nD Cert.MoeDownRefIdeal.τ).loc Cert.MoeDownRefIdeal.main_arg3))) = (fun _ => 1#1)

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Cond (m : (ℓ : Loc Cert.Cond.nD Cert.Cond.τ Cert.Cond.sig) → Buf (Elt Bits) ℓ) : Prop :=
  True

def Pre_CondIdeal (m : (ℓ : Loc Cert.CondIdeal.nD Cert.CondIdeal.τ Cert.CondIdeal.sig) → Buf (Elt Ideal) ℓ) : Prop :=
  True

def Pre_CondRefIdeal (m : (ℓ : Loc Cert.CondRefIdeal.nD Cert.CondRefIdeal.τ Cert.CondRefIdeal.sig) → Buf (Elt Ideal) ℓ) : Prop :=
  True

def Pre_DsaKv (m : (ℓ : Loc Cert.DsaKv.nD Cert.DsaKv.τ Cert.DsaKv.sig) → Buf (Elt Bits) ℓ) : Prop :=
  True

def Pre_DsaKvIdeal (m : (ℓ : Loc Cert.DsaKvIdeal.nD Cert.DsaKvIdeal.τ Cert.DsaKvIdeal.sig) → Buf (Elt Ideal) ℓ) : Prop :=
  True

def Pre_DsaKvRefIdeal (m : (ℓ : Loc Cert.DsaKvRefIdeal.nD Cert.DsaKvRefIdeal.τ Cert.DsaKvRefIdeal.sig) → Buf (Elt Ideal) ℓ) : Prop :=
  True

def Pre_Modulate (m : (ℓ : Loc Cert.Modulate.nD Cert.Modulate.τ Cert.Modulate.sig) → Buf (Elt Bits) ℓ) : Prop :=
  True

def Pre_ModulateIdeal (m : (ℓ : Loc Cert.ModulateIdeal.nD Cert.ModulateIdeal.τ Cert.ModulateIdeal.sig) → Buf (Elt Ideal) ℓ) : Prop :=
  True

def Pre_ModulateRefIdeal (m : (ℓ : Loc Cert.ModulateRefIdeal.nD Cert.ModulateRefIdeal.τ Cert.ModulateRefIdeal.sig) → Buf (Elt Ideal) ℓ) : Prop :=
  True

def Pre_ResidLn (m : (ℓ : Loc Cert.ResidLn.nD Cert.ResidLn.τ Cert.ResidLn.sig) → Buf (Elt Bits) ℓ) : Prop :=
  True

def Pre_ResidLnIdeal (m : (ℓ : Loc Cert.ResidLnIdeal.nD Cert.ResidLnIdeal.τ Cert.ResidLnIdeal.sig) → Buf (Elt Ideal) ℓ) : Prop :=
  True

def Pre_ResidLnRefIdeal (m : (ℓ : Loc Cert.ResidLnRefIdeal.nD Cert.ResidLnRefIdeal.τ Cert.ResidLnRefIdeal.sig) → Buf (Elt Ideal) ℓ) : Prop :=
  True

def Pre_NsaCompress (m : (ℓ : Loc Cert.NsaCompress.nD Cert.NsaCompress.τ Cert.NsaCompress.sig) → Buf (Elt Bits) ℓ) : Prop :=
  True

def Pre_NsaCompressIdeal (m : (ℓ : Loc Cert.NsaCompressIdeal.nD Cert.NsaCompressIdeal.τ Cert.NsaCompressIdeal.sig) → Buf (Elt Ideal) ℓ) : Prop :=
  True

def Pre_NsaCompressRefIdeal (m : (ℓ : Loc Cert.NsaCompressRefIdeal.nD Cert.NsaCompressRefIdeal.τ Cert.NsaCompressRefIdeal.sig) → Buf (Elt Ideal) ℓ) : Prop :=
  True

def Pre_NsaCombine (m : (ℓ : Loc Cert.NsaCombine.nD Cert.NsaCombine.τ Cert.NsaCombine.sig) → Buf (Elt Bits) ℓ) : Prop :=
  True

def Pre_NsaCombineIdeal (m : (ℓ : Loc Cert.NsaCombineIdeal.nD Cert.NsaCombineIdeal.τ Cert.NsaCombineIdeal.sig) → Buf (Elt Ideal) ℓ) : Prop :=
  True

def Pre_NsaCombineRefIdeal (m : (ℓ : Loc Cert.NsaCombineRefIdeal.nD Cert.NsaCombineRefIdeal.τ Cert.NsaCombineRefIdeal.sig) → Buf (Elt Ideal) ℓ) : Prop :=
  True

def Pre_DiffFinal (m : (ℓ : Loc Cert.DiffFinal.nD Cert.DiffFinal.τ Cert.DiffFinal.sig) → Buf (Elt Bits) ℓ) : Prop :=
  True

def Pre_DiffFinalIdeal (m : (ℓ : Loc Cert.DiffFinalIdeal.nD Cert.DiffFinalIdeal.τ Cert.DiffFinalIdeal.sig) → Buf (Elt Ideal) ℓ) : Prop :=
  True

def Pre_DiffFinalRefIdeal (m : (ℓ : Loc Cert.DiffFinalRefIdeal.nD Cert.DiffFinalRefIdeal.τ Cert.DiffFinalRefIdeal.sig) → Buf (Elt Ideal) ℓ) : Prop :=
  True

def quiescent_MoeUp [hMoeUp : Cert.MoeUp.Facts] [hPre_experts_in_range : Cert.Pre_experts_in_range.Facts] : Prop :=
  ∀ (m : (ℓ : Loc Cert.MoeUp.nD Cert.MoeUp.τ Cert.MoeUp.sig) → Buf (Elt Bits) ℓ) (g : Dev Cert.MoeUp.nD → PrngReg), Pre_MoeUp m →
    θ_run (Cert.MoeUp.defs (F := Bits)) (onTc (τ := Cert.MoeUp.τ) (Cert.MoeUp.main (F := Bits))) ⟨m, fun _ => 0, g⟩ (fun r => (∀ c : Dev Cert.MoeUp.nD,
      r.2.mem ((c.tc : Thread Cert.MoeUp.nD Cert.MoeUp.τ).loc Cert.MoeUp.main_arg0) = m ((c.tc : Thread Cert.MoeUp.nD Cert.MoeUp.τ).loc Cert.MoeUp.main_arg0)
      ∧ r.2.mem ((c.tc : Thread Cert.MoeUp.nD Cert.MoeUp.τ).loc Cert.MoeUp.main_arg1) = m ((c.tc : Thread Cert.MoeUp.nD Cert.MoeUp.τ).loc Cert.MoeUp.main_arg1)
      ∧ r.2.mem ((c.tc : Thread Cert.MoeUp.nD Cert.MoeUp.τ).loc Cert.MoeUp.main_arg2) = m ((c.tc : Thread Cert.MoeUp.nD Cert.MoeUp.τ).loc Cert.MoeUp.main_arg2)
      ∧ r.2.mem ((c.tc : Thread Cert.MoeUp.nD Cert.MoeUp.τ).loc Cert.MoeUp.main_arg3) = m ((c.tc : Thread Cert.MoeUp.nD Cert.MoeUp.τ).loc Cert.MoeUp.main_arg3)
      ∧ r.2.mem ((c.tc : Thread Cert.MoeUp.nD Cert.MoeUp.τ).loc Cert.MoeUp.main_arg4) = m ((c.tc : Thread Cert.MoeUp.nD Cert.MoeUp.τ).loc Cert.MoeUp.main_arg4)
      ∧ r.2.mem ((c.tc : Thread Cert.MoeUp.nD Cert.MoeUp.τ).loc Cert.MoeUp.main_arg5) = m ((c.tc : Thread Cert.MoeUp.nD Cert.MoeUp.τ).loc Cert.MoeUp.main_arg5))
      ∧ r.2.sem = fun _ => 0)

def quiescent_MoeUpIdeal [hMoeUpIdeal : Cert.MoeUpIdeal.Facts] [hPre_experts_in_range : Cert.Pre_experts_in_range.Facts] : Prop :=
  ∀ (m : (ℓ : Loc Cert.MoeUpIdeal.nD Cert.MoeUpIdeal.τ Cert.MoeUpIdeal.sig) → Buf (Elt Ideal) ℓ) (g : Dev Cert.MoeUpIdeal.nD → PrngReg), Pre_MoeUpIdeal m →
    θ_run (Cert.MoeUpIdeal.defs (F := Ideal)) (onTc (τ := Cert.MoeUpIdeal.τ) (Cert.MoeUpIdeal.main (F := Ideal))) ⟨m, fun _ => 0, g⟩ (fun r => (∀ c : Dev Cert.MoeUpIdeal.nD,
      r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
      ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
      ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
      ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
      ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4)
      ∧ r.2.mem ((c.tc : Thread Cert.MoeUpIdeal.nD Cert.MoeUpIdeal.τ).loc Cert.MoeUpIdeal.main_arg5) = m ((c.tc : Thread Cert.MoeUpIdeal.nD Cert.MoeUpIdeal.τ).loc Cert.MoeUpIdeal.main_arg5))
      ∧ r.2.sem = fun _ => 0)

def quiescent_MoeUpRefIdeal [hMoeUpRefIdeal : Cert.MoeUpRefIdeal.Facts] [hPre_experts_in_range : Cert.Pre_experts_in_range.Facts] : Prop :=
  ∀ (m : (ℓ : Loc Cert.MoeUpRefIdeal.nD Cert.MoeUpRefIdeal.τ Cert.MoeUpRefIdeal.sig) → Buf (Elt Ideal) ℓ) (g : Dev Cert.MoeUpRefIdeal.nD → PrngReg), Pre_MoeUpRefIdeal m →
    θ_run (Cert.MoeUpRefIdeal.defs (F := Ideal)) (onTc (τ := Cert.MoeUpRefIdeal.τ) (Cert.MoeUpRefIdeal.main (F := Ideal))) ⟨m, fun _ => 0, g⟩ (fun r => (∀ c : Dev Cert.MoeUpRefIdeal.nD,
      r.2.mem ((c.tc : Thread Cert.MoeUpRefIdeal.nD Cert.MoeUpRefIdeal.τ).loc Cert.MoeUpRefIdeal.main_arg0) = m ((c.tc : Thread Cert.MoeUpRefIdeal.nD Cert.MoeUpRefIdeal.τ).loc Cert.MoeUpRefIdeal.main_arg0)
      ∧ r.2.mem ((c.tc : Thread Cert.MoeUpRefIdeal.nD Cert.MoeUpRefIdeal.τ).loc Cert.MoeUpRefIdeal.main_arg1) = m ((c.tc : Thread Cert.MoeUpRefIdeal.nD Cert.MoeUpRefIdeal.τ).loc Cert.MoeUpRefIdeal.main_arg1)
      ∧ r.2.mem ((c.tc : Thread Cert.MoeUpRefIdeal.nD Cert.MoeUpRefIdeal.τ).loc Cert.MoeUpRefIdeal.main_arg2) = m ((c.tc : Thread Cert.MoeUpRefIdeal.nD Cert.MoeUpRefIdeal.τ).loc Cert.MoeUpRefIdeal.main_arg2)
      ∧ r.2.mem ((c.tc : Thread Cert.MoeUpRefIdeal.nD Cert.MoeUpRefIdeal.τ).loc Cert.MoeUpRefIdeal.main_arg3) = m ((c.tc : Thread Cert.MoeUpRefIdeal.nD Cert.MoeUpRefIdeal.τ).loc Cert.MoeUpRefIdeal.main_arg3)
      ∧ r.2.mem ((c.tc : Thread Cert.MoeUpRefIdeal.nD Cert.MoeUpRefIdeal.τ).loc Cert.MoeUpRefIdeal.main_arg4) = m ((c.tc : Thread Cert.MoeUpRefIdeal.nD Cert.MoeUpRefIdeal.τ).loc Cert.MoeUpRefIdeal.main_arg4)
      ∧ r.2.mem ((c.tc : Thread Cert.MoeUpRefIdeal.nD Cert.MoeUpRefIdeal.τ).loc Cert.MoeUpRefIdeal.main_arg5) = m ((c.tc : Thread Cert.MoeUpRefIdeal.nD Cert.MoeUpRefIdeal.τ).loc Cert.MoeUpRefIdeal.main_arg5))
      ∧ r.2.sem = fun _ => 0)

def quiescent_MoeDown [hMoeDown : Cert.MoeDown.Facts] [hPre_experts_in_range_down : Cert.Pre_experts_in_range_down.Facts] : Prop :=
  ∀ (m : (ℓ : Loc Cert.MoeDown.nD Cert.MoeDown.τ Cert.MoeDown.sig) → Buf (Elt Bits) ℓ) (g : Dev Cert.MoeDown.nD → PrngReg), Pre_MoeDown m →
    θ_run (Cert.MoeDown.defs (F := Bits)) (onTc (τ := Cert.MoeDown.τ) (Cert.MoeDown.main (F := Bits))) ⟨m, fun _ => 0, g⟩ (fun r => (∀ c : Dev Cert.MoeDown.nD,
      r.2.mem ((c.tc : Thread Cert.MoeDown.nD Cert.MoeDown.τ).loc Cert.MoeDown.main_arg0) = m ((c.tc : Thread Cert.MoeDown.nD Cert.MoeDown.τ).loc Cert.MoeDown.main_arg0)
      ∧ r.2.mem ((c.tc : Thread Cert.MoeDown.nD Cert.MoeDown.τ).loc Cert.MoeDown.main_arg1) = m ((c.tc : Thread Cert.MoeDown.nD Cert.MoeDown.τ).loc Cert.MoeDown.main_arg1)
      ∧ r.2.mem ((c.tc : Thread Cert.MoeDown.nD Cert.MoeDown.τ).loc Cert.MoeDown.main_arg2) = m ((c.tc : Thread Cert.MoeDown.nD Cert.MoeDown.τ).loc Cert.MoeDown.main_arg2)
      ∧ r.2.mem ((c.tc : Thread Cert.MoeDown.nD Cert.MoeDown.τ).loc Cert.MoeDown.main_arg3) = m ((c.tc : Thread Cert.MoeDown.nD Cert.MoeDown.τ).loc Cert.MoeDown.main_arg3))
      ∧ r.2.sem = fun _ => 0)

def quiescent_MoeDownIdeal [hMoeDownIdeal : Cert.MoeDownIdeal.Facts] [hPre_experts_in_range_down : Cert.Pre_experts_in_range_down.Facts] : Prop :=
  ∀ (m : (ℓ : Loc Cert.MoeDownIdeal.nD Cert.MoeDownIdeal.τ Cert.MoeDownIdeal.sig) → Buf (Elt Ideal) ℓ) (g : Dev Cert.MoeDownIdeal.nD → PrngReg), Pre_MoeDownIdeal m →
    θ_run (Cert.MoeDownIdeal.defs (F := Ideal)) (onTc (τ := Cert.MoeDownIdeal.τ) (Cert.MoeDownIdeal.main (F := Ideal))) ⟨m, fun _ => 0, g⟩ (fun r => (∀ c : Dev Cert.MoeDownIdeal.nD,
      r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
      ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
      ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
      ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3))
      ∧ r.2.sem = fun _ => 0)

def quiescent_MoeDownRefIdeal [hMoeDownRefIdeal : Cert.MoeDownRefIdeal.Facts] [hPre_experts_in_range_down : Cert.Pre_experts_in_range_down.Facts] : Prop :=
  ∀ (m : (ℓ : Loc Cert.MoeDownRefIdeal.nD Cert.MoeDownRefIdeal.τ Cert.MoeDownRefIdeal.sig) → Buf (Elt Ideal) ℓ) (g : Dev Cert.MoeDownRefIdeal.nD → PrngReg), Pre_MoeDownRefIdeal m →
    θ_run (Cert.MoeDownRefIdeal.defs (F := Ideal)) (onTc (τ := Cert.MoeDownRefIdeal.τ) (Cert.MoeDownRefIdeal.main (F := Ideal))) ⟨m, fun _ => 0, g⟩ (fun r => (∀ c : Dev Cert.MoeDownRefIdeal.nD,
      r.2.mem ((c.tc : Thread Cert.MoeDownRefIdeal.nD Cert.MoeDownRefIdeal.τ).loc Cert.MoeDownRefIdeal.main_arg0) = m ((c.tc : Thread Cert.MoeDownRefIdeal.nD Cert.MoeDownRefIdeal.τ).loc Cert.MoeDownRefIdeal.main_arg0)
      ∧ r.2.mem ((c.tc : Thread Cert.MoeDownRefIdeal.nD Cert.MoeDownRefIdeal.τ).loc Cert.MoeDownRefIdeal.main_arg1) = m ((c.tc : Thread Cert.MoeDownRefIdeal.nD Cert.MoeDownRefIdeal.τ).loc Cert.MoeDownRefIdeal.main_arg1)
      ∧ r.2.mem ((c.tc : Thread Cert.MoeDownRefIdeal.nD Cert.MoeDownRefIdeal.τ).loc Cert.MoeDownRefIdeal.main_arg2) = m ((c.tc : Thread Cert.MoeDownRefIdeal.nD Cert.MoeDownRefIdeal.τ).loc Cert.MoeDownRefIdeal.main_arg2)
      ∧ r.2.mem ((c.tc : Thread Cert.MoeDownRefIdeal.nD Cert.MoeDownRefIdeal.τ).loc Cert.MoeDownRefIdeal.main_arg3) = m ((c.tc : Thread Cert.MoeDownRefIdeal.nD Cert.MoeDownRefIdeal.τ).loc Cert.MoeDownRefIdeal.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_Cond [hCond : Cert.Cond.Facts] : Prop :=
  ∀ (m : (ℓ : Loc Cert.Cond.nD Cert.Cond.τ Cert.Cond.sig) → Buf (Elt Bits) ℓ) (g : Dev Cert.Cond.nD → PrngReg), Pre_Cond m →
    θ_run (Cert.Cond.defs (F := Bits)) (onTc (τ := Cert.Cond.τ) (Cert.Cond.main (F := Bits))) ⟨m, fun _ => 0, g⟩ (fun r => (∀ c : Dev Cert.Cond.nD,
      r.2.mem ((c.tc : Thread Cert.Cond.nD Cert.Cond.τ).loc Cert.Cond.main_arg0) = m ((c.tc : Thread Cert.Cond.nD Cert.Cond.τ).loc Cert.Cond.main_arg0)
      ∧ r.2.mem ((c.tc : Thread Cert.Cond.nD Cert.Cond.τ).loc Cert.Cond.main_arg1) = m ((c.tc : Thread Cert.Cond.nD Cert.Cond.τ).loc Cert.Cond.main_arg1)
      ∧ r.2.mem ((c.tc : Thread Cert.Cond.nD Cert.Cond.τ).loc Cert.Cond.main_arg2) = m ((c.tc : Thread Cert.Cond.nD Cert.Cond.τ).loc Cert.Cond.main_arg2))
      ∧ r.2.sem = fun _ => 0)

def quiescent_CondIdeal [hCondIdeal : Cert.CondIdeal.Facts] : Prop :=
  ∀ (m : (ℓ : Loc Cert.CondIdeal.nD Cert.CondIdeal.τ Cert.CondIdeal.sig) → Buf (Elt Ideal) ℓ) (g : Dev Cert.CondIdeal.nD → PrngReg), Pre_CondIdeal m →
    θ_run (Cert.CondIdeal.defs (F := Ideal)) (onTc (τ := Cert.CondIdeal.τ) (Cert.CondIdeal.main (F := Ideal))) ⟨m, fun _ => 0, g⟩ (fun r => (∀ c : Dev Cert.CondIdeal.nD,
      r.2.mem ((c.tc : Thread Cert.CondIdeal.nD Cert.CondIdeal.τ).loc Cert.CondIdeal.main_arg0) = m ((c.tc : Thread Cert.CondIdeal.nD Cert.CondIdeal.τ).loc Cert.CondIdeal.main_arg0)
      ∧ r.2.mem ((c.tc : Thread Cert.CondIdeal.nD Cert.CondIdeal.τ).loc Cert.CondIdeal.main_arg1) = m ((c.tc : Thread Cert.CondIdeal.nD Cert.CondIdeal.τ).loc Cert.CondIdeal.main_arg1)
      ∧ r.2.mem ((c.tc : Thread Cert.CondIdeal.nD Cert.CondIdeal.τ).loc Cert.CondIdeal.main_arg2) = m ((c.tc : Thread Cert.CondIdeal.nD Cert.CondIdeal.τ).loc Cert.CondIdeal.main_arg2))
      ∧ r.2.sem = fun _ => 0)

def quiescent_CondRefIdeal [hCondRefIdeal : Cert.CondRefIdeal.Facts] : Prop :=
  ∀ (m : (ℓ : Loc Cert.CondRefIdeal.nD Cert.CondRefIdeal.τ Cert.CondRefIdeal.sig) → Buf (Elt Ideal) ℓ) (g : Dev Cert.CondRefIdeal.nD → PrngReg), Pre_CondRefIdeal m →
    θ_run (Cert.CondRefIdeal.defs (F := Ideal)) (onTc (τ := Cert.CondRefIdeal.τ) (Cert.CondRefIdeal.main (F := Ideal))) ⟨m, fun _ => 0, g⟩ (fun r => (∀ c : Dev Cert.CondRefIdeal.nD,
      r.2.mem ((c.tc : Thread Cert.CondRefIdeal.nD Cert.CondRefIdeal.τ).loc Cert.CondRefIdeal.main_arg0) = m ((c.tc : Thread Cert.CondRefIdeal.nD Cert.CondRefIdeal.τ).loc Cert.CondRefIdeal.main_arg0)
      ∧ r.2.mem ((c.tc : Thread Cert.CondRefIdeal.nD Cert.CondRefIdeal.τ).loc Cert.CondRefIdeal.main_arg1) = m ((c.tc : Thread Cert.CondRefIdeal.nD Cert.CondRefIdeal.τ).loc Cert.CondRefIdeal.main_arg1)
      ∧ r.2.mem ((c.tc : Thread Cert.CondRefIdeal.nD Cert.CondRefIdeal.τ).loc Cert.CondRefIdeal.main_arg2) = m ((c.tc : Thread Cert.CondRefIdeal.nD Cert.CondRefIdeal.τ).loc Cert.CondRefIdeal.main_arg2))
      ∧ r.2.sem = fun _ => 0)

def quiescent_DsaKv [hDsaKv : Cert.DsaKv.Facts] : Prop :=
  ∀ (m : (ℓ : Loc Cert.DsaKv.nD Cert.DsaKv.τ Cert.DsaKv.sig) → Buf (Elt Bits) ℓ) (g : Dev Cert.DsaKv.nD → PrngReg), Pre_DsaKv m →
    θ_run (Cert.DsaKv.defs (F := Bits)) (onTc (τ := Cert.DsaKv.τ) (Cert.DsaKv.main (F := Bits))) ⟨m, fun _ => 0, g⟩ (fun r => (∀ c : Dev Cert.DsaKv.nD,
      r.2.mem ((c.tc : Thread Cert.DsaKv.nD Cert.DsaKv.τ).loc Cert.DsaKv.main_arg0) = m ((c.tc : Thread Cert.DsaKv.nD Cert.DsaKv.τ).loc Cert.DsaKv.main_arg0)
      ∧ r.2.mem ((c.tc : Thread Cert.DsaKv.nD Cert.DsaKv.τ).loc Cert.DsaKv.main_arg1) = m ((c.tc : Thread Cert.DsaKv.nD Cert.DsaKv.τ).loc Cert.DsaKv.main_arg1)
      ∧ r.2.mem ((c.tc : Thread Cert.DsaKv.nD Cert.DsaKv.τ).loc Cert.DsaKv.main_arg2) = m ((c.tc : Thread Cert.DsaKv.nD Cert.DsaKv.τ).loc Cert.DsaKv.main_arg2))
      ∧ r.2.sem = fun _ => 0)

def quiescent_DsaKvIdeal [hDsaKvIdeal : Cert.DsaKvIdeal.Facts] : Prop :=
  ∀ (m : (ℓ : Loc Cert.DsaKvIdeal.nD Cert.DsaKvIdeal.τ Cert.DsaKvIdeal.sig) → Buf (Elt Ideal) ℓ) (g : Dev Cert.DsaKvIdeal.nD → PrngReg), Pre_DsaKvIdeal m →
    θ_run (Cert.DsaKvIdeal.defs (F := Ideal)) (onTc (τ := Cert.DsaKvIdeal.τ) (Cert.DsaKvIdeal.main (F := Ideal))) ⟨m, fun _ => 0, g⟩ (fun r => (∀ c : Dev Cert.DsaKvIdeal.nD,
      r.2.mem ((c.tc : Thread Cert.DsaKvIdeal.nD Cert.DsaKvIdeal.τ).loc Cert.DsaKvIdeal.main_arg0) = m ((c.tc : Thread Cert.DsaKvIdeal.nD Cert.DsaKvIdeal.τ).loc Cert.DsaKvIdeal.main_arg0)
      ∧ r.2.mem ((c.tc : Thread Cert.DsaKvIdeal.nD Cert.DsaKvIdeal.τ).loc Cert.DsaKvIdeal.main_arg1) = m ((c.tc : Thread Cert.DsaKvIdeal.nD Cert.DsaKvIdeal.τ).loc Cert.DsaKvIdeal.main_arg1)
      ∧ r.2.mem ((c.tc : Thread Cert.DsaKvIdeal.nD Cert.DsaKvIdeal.τ).loc Cert.DsaKvIdeal.main_arg2) = m ((c.tc : Thread Cert.DsaKvIdeal.nD Cert.DsaKvIdeal.τ).loc Cert.DsaKvIdeal.main_arg2))
      ∧ r.2.sem = fun _ => 0)

def quiescent_DsaKvRefIdeal [hDsaKvRefIdeal : Cert.DsaKvRefIdeal.Facts] : Prop :=
  ∀ (m : (ℓ : Loc Cert.DsaKvRefIdeal.nD Cert.DsaKvRefIdeal.τ Cert.DsaKvRefIdeal.sig) → Buf (Elt Ideal) ℓ) (g : Dev Cert.DsaKvRefIdeal.nD → PrngReg), Pre_DsaKvRefIdeal m →
    θ_run (Cert.DsaKvRefIdeal.defs (F := Ideal)) (onTc (τ := Cert.DsaKvRefIdeal.τ) (Cert.DsaKvRefIdeal.main (F := Ideal))) ⟨m, fun _ => 0, g⟩ (fun r => (∀ c : Dev Cert.DsaKvRefIdeal.nD,
      r.2.mem ((c.tc : Thread Cert.DsaKvRefIdeal.nD Cert.DsaKvRefIdeal.τ).loc Cert.DsaKvRefIdeal.main_arg0) = m ((c.tc : Thread Cert.DsaKvRefIdeal.nD Cert.DsaKvRefIdeal.τ).loc Cert.DsaKvRefIdeal.main_arg0)
      ∧ r.2.mem ((c.tc : Thread Cert.DsaKvRefIdeal.nD Cert.DsaKvRefIdeal.τ).loc Cert.DsaKvRefIdeal.main_arg1) = m ((c.tc : Thread Cert.DsaKvRefIdeal.nD Cert.DsaKvRefIdeal.τ).loc Cert.DsaKvRefIdeal.main_arg1)
      ∧ r.2.mem ((c.tc : Thread Cert.DsaKvRefIdeal.nD Cert.DsaKvRefIdeal.τ).loc Cert.DsaKvRefIdeal.main_arg2) = m ((c.tc : Thread Cert.DsaKvRefIdeal.nD Cert.DsaKvRefIdeal.τ).loc Cert.DsaKvRefIdeal.main_arg2))
      ∧ r.2.sem = fun _ => 0)

def quiescent_Modulate [hModulate : Cert.Modulate.Facts] : Prop :=
  ∀ (m : (ℓ : Loc Cert.Modulate.nD Cert.Modulate.τ Cert.Modulate.sig) → Buf (Elt Bits) ℓ) (g : Dev Cert.Modulate.nD → PrngReg), Pre_Modulate m →
    θ_run (Cert.Modulate.defs (F := Bits)) (onTc (τ := Cert.Modulate.τ) (Cert.Modulate.main (F := Bits))) ⟨m, fun _ => 0, g⟩ (fun r => (∀ c : Dev Cert.Modulate.nD,
      r.2.mem ((c.tc : Thread Cert.Modulate.nD Cert.Modulate.τ).loc Cert.Modulate.main_arg0) = m ((c.tc : Thread Cert.Modulate.nD Cert.Modulate.τ).loc Cert.Modulate.main_arg0)
      ∧ r.2.mem ((c.tc : Thread Cert.Modulate.nD Cert.Modulate.τ).loc Cert.Modulate.main_arg1) = m ((c.tc : Thread Cert.Modulate.nD Cert.Modulate.τ).loc Cert.Modulate.main_arg1))
      ∧ r.2.sem = fun _ => 0)

def quiescent_ModulateIdeal [hModulateIdeal : Cert.ModulateIdeal.Facts] : Prop :=
  ∀ (m : (ℓ : Loc Cert.ModulateIdeal.nD Cert.ModulateIdeal.τ Cert.ModulateIdeal.sig) → Buf (Elt Ideal) ℓ) (g : Dev Cert.ModulateIdeal.nD → PrngReg), Pre_ModulateIdeal m →
    θ_run (Cert.ModulateIdeal.defs (F := Ideal)) (onTc (τ := Cert.ModulateIdeal.τ) (Cert.ModulateIdeal.main (F := Ideal))) ⟨m, fun _ => 0, g⟩ (fun r => (∀ c : Dev Cert.ModulateIdeal.nD,
      r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
      ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1))
      ∧ r.2.sem = fun _ => 0)

def quiescent_ModulateRefIdeal [hModulateRefIdeal : Cert.ModulateRefIdeal.Facts] : Prop :=
  ∀ (m : (ℓ : Loc Cert.ModulateRefIdeal.nD Cert.ModulateRefIdeal.τ Cert.ModulateRefIdeal.sig) → Buf (Elt Ideal) ℓ) (g : Dev Cert.ModulateRefIdeal.nD → PrngReg), Pre_ModulateRefIdeal m →
    θ_run (Cert.ModulateRefIdeal.defs (F := Ideal)) (onTc (τ := Cert.ModulateRefIdeal.τ) (Cert.ModulateRefIdeal.main (F := Ideal))) ⟨m, fun _ => 0, g⟩ (fun r => (∀ c : Dev Cert.ModulateRefIdeal.nD,
      r.2.mem ((c.tc : Thread Cert.ModulateRefIdeal.nD Cert.ModulateRefIdeal.τ).loc Cert.ModulateRefIdeal.main_arg0) = m ((c.tc : Thread Cert.ModulateRefIdeal.nD Cert.ModulateRefIdeal.τ).loc Cert.ModulateRefIdeal.main_arg0)
      ∧ r.2.mem ((c.tc : Thread Cert.ModulateRefIdeal.nD Cert.ModulateRefIdeal.τ).loc Cert.ModulateRefIdeal.main_arg1) = m ((c.tc : Thread Cert.ModulateRefIdeal.nD Cert.ModulateRefIdeal.τ).loc Cert.ModulateRefIdeal.main_arg1))
      ∧ r.2.sem = fun _ => 0)

def quiescent_ResidLn [hResidLn : Cert.ResidLn.Facts] : Prop :=
  ∀ (m : (ℓ : Loc Cert.ResidLn.nD Cert.ResidLn.τ Cert.ResidLn.sig) → Buf (Elt Bits) ℓ) (g : Dev Cert.ResidLn.nD → PrngReg), Pre_ResidLn m →
    θ_run (Cert.ResidLn.defs (F := Bits)) (onTc (τ := Cert.ResidLn.τ) (Cert.ResidLn.main (F := Bits))) ⟨m, fun _ => 0, g⟩ (fun r => (∀ c : Dev Cert.ResidLn.nD,
      r.2.mem ((c.tc : Thread Cert.ResidLn.nD Cert.ResidLn.τ).loc Cert.ResidLn.main_arg0) = m ((c.tc : Thread Cert.ResidLn.nD Cert.ResidLn.τ).loc Cert.ResidLn.main_arg0)
      ∧ r.2.mem ((c.tc : Thread Cert.ResidLn.nD Cert.ResidLn.τ).loc Cert.ResidLn.main_arg1) = m ((c.tc : Thread Cert.ResidLn.nD Cert.ResidLn.τ).loc Cert.ResidLn.main_arg1)
      ∧ r.2.mem ((c.tc : Thread Cert.ResidLn.nD Cert.ResidLn.τ).loc Cert.ResidLn.main_arg2) = m ((c.tc : Thread Cert.ResidLn.nD Cert.ResidLn.τ).loc Cert.ResidLn.main_arg2)
      ∧ r.2.mem ((c.tc : Thread Cert.ResidLn.nD Cert.ResidLn.τ).loc Cert.ResidLn.main_arg3) = m ((c.tc : Thread Cert.ResidLn.nD Cert.ResidLn.τ).loc Cert.ResidLn.main_arg3)
      ∧ r.2.mem ((c.tc : Thread Cert.ResidLn.nD Cert.ResidLn.τ).loc Cert.ResidLn.main_arg4) = m ((c.tc : Thread Cert.ResidLn.nD Cert.ResidLn.τ).loc Cert.ResidLn.main_arg4)
      ∧ r.2.mem ((c.tc : Thread Cert.ResidLn.nD Cert.ResidLn.τ).loc Cert.ResidLn.main_arg5) = m ((c.tc : Thread Cert.ResidLn.nD Cert.ResidLn.τ).loc Cert.ResidLn.main_arg5))
      ∧ r.2.sem = fun _ => 0)

def quiescent_ResidLnIdeal [hResidLnIdeal : Cert.ResidLnIdeal.Facts] : Prop :=
  ∀ (m : (ℓ : Loc Cert.ResidLnIdeal.nD Cert.ResidLnIdeal.τ Cert.ResidLnIdeal.sig) → Buf (Elt Ideal) ℓ) (g : Dev Cert.ResidLnIdeal.nD → PrngReg), Pre_ResidLnIdeal m →
    θ_run (Cert.ResidLnIdeal.defs (F := Ideal)) (onTc (τ := Cert.ResidLnIdeal.τ) (Cert.ResidLnIdeal.main (F := Ideal))) ⟨m, fun _ => 0, g⟩ (fun r => (∀ c : Dev Cert.ResidLnIdeal.nD,
      r.2.mem ((c.tc : Thread Cert.ResidLnIdeal.nD Cert.ResidLnIdeal.τ).loc Cert.ResidLnIdeal.main_arg0) = m ((c.tc : Thread Cert.ResidLnIdeal.nD Cert.ResidLnIdeal.τ).loc Cert.ResidLnIdeal.main_arg0)
      ∧ r.2.mem ((c.tc : Thread Cert.ResidLnIdeal.nD Cert.ResidLnIdeal.τ).loc Cert.ResidLnIdeal.main_arg1) = m ((c.tc : Thread Cert.ResidLnIdeal.nD Cert.ResidLnIdeal.τ).loc Cert.ResidLnIdeal.main_arg1)
      ∧ r.2.mem ((c.tc : Thread Cert.ResidLnIdeal.nD Cert.ResidLnIdeal.τ).loc Cert.ResidLnIdeal.main_arg2) = m ((c.tc : Thread Cert.ResidLnIdeal.nD Cert.ResidLnIdeal.τ).loc Cert.ResidLnIdeal.main_arg2)
      ∧ r.2.mem ((c.tc : Thread Cert.ResidLnIdeal.nD Cert.ResidLnIdeal.τ).loc Cert.ResidLnIdeal.main_arg3) = m ((c.tc : Thread Cert.ResidLnIdeal.nD Cert.ResidLnIdeal.τ).loc Cert.ResidLnIdeal.main_arg3)
      ∧ r.2.mem ((c.tc : Thread Cert.ResidLnIdeal.nD Cert.ResidLnIdeal.τ).loc Cert.ResidLnIdeal.main_arg4) = m ((c.tc : Thread Cert.ResidLnIdeal.nD Cert.ResidLnIdeal.τ).loc Cert.ResidLnIdeal.main_arg4)
      ∧ r.2.mem ((c.tc : Thread Cert.ResidLnIdeal.nD Cert.ResidLnIdeal.τ).loc Cert.ResidLnIdeal.main_arg5) = m ((c.tc : Thread Cert.ResidLnIdeal.nD Cert.ResidLnIdeal.τ).loc Cert.ResidLnIdeal.main_arg5))
      ∧ r.2.sem = fun _ => 0)

def quiescent_ResidLnRefIdeal [hResidLnRefIdeal : Cert.ResidLnRefIdeal.Facts] : Prop :=
  ∀ (m : (ℓ : Loc Cert.ResidLnRefIdeal.nD Cert.ResidLnRefIdeal.τ Cert.ResidLnRefIdeal.sig) → Buf (Elt Ideal) ℓ) (g : Dev Cert.ResidLnRefIdeal.nD → PrngReg), Pre_ResidLnRefIdeal m →
    θ_run (Cert.ResidLnRefIdeal.defs (F := Ideal)) (onTc (τ := Cert.ResidLnRefIdeal.τ) (Cert.ResidLnRefIdeal.main (F := Ideal))) ⟨m, fun _ => 0, g⟩ (fun r => (∀ c : Dev Cert.ResidLnRefIdeal.nD,
      r.2.mem ((c.tc : Thread Cert.ResidLnRefIdeal.nD Cert.ResidLnRefIdeal.τ).loc Cert.ResidLnRefIdeal.main_arg0) = m ((c.tc : Thread Cert.ResidLnRefIdeal.nD Cert.ResidLnRefIdeal.τ).loc Cert.ResidLnRefIdeal.main_arg0)
      ∧ r.2.mem ((c.tc : Thread Cert.ResidLnRefIdeal.nD Cert.ResidLnRefIdeal.τ).loc Cert.ResidLnRefIdeal.main_arg1) = m ((c.tc : Thread Cert.ResidLnRefIdeal.nD Cert.ResidLnRefIdeal.τ).loc Cert.ResidLnRefIdeal.main_arg1)
      ∧ r.2.mem ((c.tc : Thread Cert.ResidLnRefIdeal.nD Cert.ResidLnRefIdeal.τ).loc Cert.ResidLnRefIdeal.main_arg2) = m ((c.tc : Thread Cert.ResidLnRefIdeal.nD Cert.ResidLnRefIdeal.τ).loc Cert.ResidLnRefIdeal.main_arg2)
      ∧ r.2.mem ((c.tc : Thread Cert.ResidLnRefIdeal.nD Cert.ResidLnRefIdeal.τ).loc Cert.ResidLnRefIdeal.main_arg3) = m ((c.tc : Thread Cert.ResidLnRefIdeal.nD Cert.ResidLnRefIdeal.τ).loc Cert.ResidLnRefIdeal.main_arg3)
      ∧ r.2.mem ((c.tc : Thread Cert.ResidLnRefIdeal.nD Cert.ResidLnRefIdeal.τ).loc Cert.ResidLnRefIdeal.main_arg4) = m ((c.tc : Thread Cert.ResidLnRefIdeal.nD Cert.ResidLnRefIdeal.τ).loc Cert.ResidLnRefIdeal.main_arg4)
      ∧ r.2.mem ((c.tc : Thread Cert.ResidLnRefIdeal.nD Cert.ResidLnRefIdeal.τ).loc Cert.ResidLnRefIdeal.main_arg5) = m ((c.tc : Thread Cert.ResidLnRefIdeal.nD Cert.ResidLnRefIdeal.τ).loc Cert.ResidLnRefIdeal.main_arg5))
      ∧ r.2.sem = fun _ => 0)

def quiescent_NsaCompress [hNsaCompress : Cert.NsaCompress.Facts] : Prop :=
  ∀ (m : (ℓ : Loc Cert.NsaCompress.nD Cert.NsaCompress.τ Cert.NsaCompress.sig) → Buf (Elt Bits) ℓ) (g : Dev Cert.NsaCompress.nD → PrngReg), Pre_NsaCompress m →
    θ_run (Cert.NsaCompress.defs (F := Bits)) (onTc (τ := Cert.NsaCompress.τ) (Cert.NsaCompress.main (F := Bits))) ⟨m, fun _ => 0, g⟩ (fun r => (∀ c : Dev Cert.NsaCompress.nD,
      r.2.mem ((c.tc : Thread Cert.NsaCompress.nD Cert.NsaCompress.τ).loc Cert.NsaCompress.main_arg0) = m ((c.tc : Thread Cert.NsaCompress.nD Cert.NsaCompress.τ).loc Cert.NsaCompress.main_arg0)
      ∧ r.2.mem ((c.tc : Thread Cert.NsaCompress.nD Cert.NsaCompress.τ).loc Cert.NsaCompress.main_arg1) = m ((c.tc : Thread Cert.NsaCompress.nD Cert.NsaCompress.τ).loc Cert.NsaCompress.main_arg1)
      ∧ r.2.mem ((c.tc : Thread Cert.NsaCompress.nD Cert.NsaCompress.τ).loc Cert.NsaCompress.main_arg2) = m ((c.tc : Thread Cert.NsaCompress.nD Cert.NsaCompress.τ).loc Cert.NsaCompress.main_arg2)
      ∧ r.2.mem ((c.tc : Thread Cert.NsaCompress.nD Cert.NsaCompress.τ).loc Cert.NsaCompress.main_arg3) = m ((c.tc : Thread Cert.NsaCompress.nD Cert.NsaCompress.τ).loc Cert.NsaCompress.main_arg3))
      ∧ r.2.sem = fun _ => 0)

def quiescent_NsaCompressIdeal [hNsaCompressIdeal : Cert.NsaCompressIdeal.Facts] : Prop :=
  ∀ (m : (ℓ : Loc Cert.NsaCompressIdeal.nD Cert.NsaCompressIdeal.τ Cert.NsaCompressIdeal.sig) → Buf (Elt Ideal) ℓ) (g : Dev Cert.NsaCompressIdeal.nD → PrngReg), Pre_NsaCompressIdeal m →
    θ_run (Cert.NsaCompressIdeal.defs (F := Ideal)) (onTc (τ := Cert.NsaCompressIdeal.τ) (Cert.NsaCompressIdeal.main (F := Ideal))) ⟨m, fun _ => 0, g⟩ (fun r => (∀ c : Dev Cert.NsaCompressIdeal.nD,
      r.2.mem ((c.tc : Thread Cert.NsaCompressIdeal.nD Cert.NsaCompressIdeal.τ).loc Cert.NsaCompressIdeal.main_arg0) = m ((c.tc : Thread Cert.NsaCompressIdeal.nD Cert.NsaCompressIdeal.τ).loc Cert.NsaCompressIdeal.main_arg0)
      ∧ r.2.mem ((c.tc : Thread Cert.NsaCompressIdeal.nD Cert.NsaCompressIdeal.τ).loc Cert.NsaCompressIdeal.main_arg1) = m ((c.tc : Thread Cert.NsaCompressIdeal.nD Cert.NsaCompressIdeal.τ).loc Cert.NsaCompressIdeal.main_arg1)
      ∧ r.2.mem ((c.tc : Thread Cert.NsaCompressIdeal.nD Cert.NsaCompressIdeal.τ).loc Cert.NsaCompressIdeal.main_arg2) = m ((c.tc : Thread Cert.NsaCompressIdeal.nD Cert.NsaCompressIdeal.τ).loc Cert.NsaCompressIdeal.main_arg2)
      ∧ r.2.mem ((c.tc : Thread Cert.NsaCompressIdeal.nD Cert.NsaCompressIdeal.τ).loc Cert.NsaCompressIdeal.main_arg3) = m ((c.tc : Thread Cert.NsaCompressIdeal.nD Cert.NsaCompressIdeal.τ).loc Cert.NsaCompressIdeal.main_arg3))
      ∧ r.2.sem = fun _ => 0)

def quiescent_NsaCompressRefIdeal [hNsaCompressRefIdeal : Cert.NsaCompressRefIdeal.Facts] : Prop :=
  ∀ (m : (ℓ : Loc Cert.NsaCompressRefIdeal.nD Cert.NsaCompressRefIdeal.τ Cert.NsaCompressRefIdeal.sig) → Buf (Elt Ideal) ℓ) (g : Dev Cert.NsaCompressRefIdeal.nD → PrngReg), Pre_NsaCompressRefIdeal m →
    θ_run (Cert.NsaCompressRefIdeal.defs (F := Ideal)) (onTc (τ := Cert.NsaCompressRefIdeal.τ) (Cert.NsaCompressRefIdeal.main (F := Ideal))) ⟨m, fun _ => 0, g⟩ (fun r => (∀ c : Dev Cert.NsaCompressRefIdeal.nD,
      r.2.mem ((c.tc : Thread Cert.NsaCompressRefIdeal.nD Cert.NsaCompressRefIdeal.τ).loc Cert.NsaCompressRefIdeal.main_arg0) = m ((c.tc : Thread Cert.NsaCompressRefIdeal.nD Cert.NsaCompressRefIdeal.τ).loc Cert.NsaCompressRefIdeal.main_arg0)
      ∧ r.2.mem ((c.tc : Thread Cert.NsaCompressRefIdeal.nD Cert.NsaCompressRefIdeal.τ).loc Cert.NsaCompressRefIdeal.main_arg1) = m ((c.tc : Thread Cert.NsaCompressRefIdeal.nD Cert.NsaCompressRefIdeal.τ).loc Cert.NsaCompressRefIdeal.main_arg1)
      ∧ r.2.mem ((c.tc : Thread Cert.NsaCompressRefIdeal.nD Cert.NsaCompressRefIdeal.τ).loc Cert.NsaCompressRefIdeal.main_arg2) = m ((c.tc : Thread Cert.NsaCompressRefIdeal.nD Cert.NsaCompressRefIdeal.τ).loc Cert.NsaCompressRefIdeal.main_arg2)
      ∧ r.2.mem ((c.tc : Thread Cert.NsaCompressRefIdeal.nD Cert.NsaCompressRefIdeal.τ).loc Cert.NsaCompressRefIdeal.main_arg3) = m ((c.tc : Thread Cert.NsaCompressRefIdeal.nD Cert.NsaCompressRefIdeal.τ).loc Cert.NsaCompressRefIdeal.main_arg3))
      ∧ r.2.sem = fun _ => 0)

def quiescent_NsaCombine [hNsaCombine : Cert.NsaCombine.Facts] : Prop :=
  ∀ (m : (ℓ : Loc Cert.NsaCombine.nD Cert.NsaCombine.τ Cert.NsaCombine.sig) → Buf (Elt Bits) ℓ) (g : Dev Cert.NsaCombine.nD → PrngReg), Pre_NsaCombine m →
    θ_run (Cert.NsaCombine.defs (F := Bits)) (onTc (τ := Cert.NsaCombine.τ) (Cert.NsaCombine.main (F := Bits))) ⟨m, fun _ => 0, g⟩ (fun r => (∀ c : Dev Cert.NsaCombine.nD,
      r.2.mem ((c.tc : Thread Cert.NsaCombine.nD Cert.NsaCombine.τ).loc Cert.NsaCombine.main_arg0) = m ((c.tc : Thread Cert.NsaCombine.nD Cert.NsaCombine.τ).loc Cert.NsaCombine.main_arg0)
      ∧ r.2.mem ((c.tc : Thread Cert.NsaCombine.nD Cert.NsaCombine.τ).loc Cert.NsaCombine.main_arg1) = m ((c.tc : Thread Cert.NsaCombine.nD Cert.NsaCombine.τ).loc Cert.NsaCombine.main_arg1)
      ∧ r.2.mem ((c.tc : Thread Cert.NsaCombine.nD Cert.NsaCombine.τ).loc Cert.NsaCombine.main_arg2) = m ((c.tc : Thread Cert.NsaCombine.nD Cert.NsaCombine.τ).loc Cert.NsaCombine.main_arg2)
      ∧ r.2.mem ((c.tc : Thread Cert.NsaCombine.nD Cert.NsaCombine.τ).loc Cert.NsaCombine.main_arg3) = m ((c.tc : Thread Cert.NsaCombine.nD Cert.NsaCombine.τ).loc Cert.NsaCombine.main_arg3))
      ∧ r.2.sem = fun _ => 0)

def quiescent_NsaCombineIdeal [hNsaCombineIdeal : Cert.NsaCombineIdeal.Facts] : Prop :=
  ∀ (m : (ℓ : Loc Cert.NsaCombineIdeal.nD Cert.NsaCombineIdeal.τ Cert.NsaCombineIdeal.sig) → Buf (Elt Ideal) ℓ) (g : Dev Cert.NsaCombineIdeal.nD → PrngReg), Pre_NsaCombineIdeal m →
    θ_run (Cert.NsaCombineIdeal.defs (F := Ideal)) (onTc (τ := Cert.NsaCombineIdeal.τ) (Cert.NsaCombineIdeal.main (F := Ideal))) ⟨m, fun _ => 0, g⟩ (fun r => (∀ c : Dev Cert.NsaCombineIdeal.nD,
      r.2.mem ((c.tc : Thread Cert.NsaCombineIdeal.nD Cert.NsaCombineIdeal.τ).loc Cert.NsaCombineIdeal.main_arg0) = m ((c.tc : Thread Cert.NsaCombineIdeal.nD Cert.NsaCombineIdeal.τ).loc Cert.NsaCombineIdeal.main_arg0)
      ∧ r.2.mem ((c.tc : Thread Cert.NsaCombineIdeal.nD Cert.NsaCombineIdeal.τ).loc Cert.NsaCombineIdeal.main_arg1) = m ((c.tc : Thread Cert.NsaCombineIdeal.nD Cert.NsaCombineIdeal.τ).loc Cert.NsaCombineIdeal.main_arg1)
      ∧ r.2.mem ((c.tc : Thread Cert.NsaCombineIdeal.nD Cert.NsaCombineIdeal.τ).loc Cert.NsaCombineIdeal.main_arg2) = m ((c.tc : Thread Cert.NsaCombineIdeal.nD Cert.NsaCombineIdeal.τ).loc Cert.NsaCombineIdeal.main_arg2)
      ∧ r.2.mem ((c.tc : Thread Cert.NsaCombineIdeal.nD Cert.NsaCombineIdeal.τ).loc Cert.NsaCombineIdeal.main_arg3) = m ((c.tc : Thread Cert.NsaCombineIdeal.nD Cert.NsaCombineIdeal.τ).loc Cert.NsaCombineIdeal.main_arg3))
      ∧ r.2.sem = fun _ => 0)

def quiescent_NsaCombineRefIdeal [hNsaCombineRefIdeal : Cert.NsaCombineRefIdeal.Facts] : Prop :=
  ∀ (m : (ℓ : Loc Cert.NsaCombineRefIdeal.nD Cert.NsaCombineRefIdeal.τ Cert.NsaCombineRefIdeal.sig) → Buf (Elt Ideal) ℓ) (g : Dev Cert.NsaCombineRefIdeal.nD → PrngReg), Pre_NsaCombineRefIdeal m →
    θ_run (Cert.NsaCombineRefIdeal.defs (F := Ideal)) (onTc (τ := Cert.NsaCombineRefIdeal.τ) (Cert.NsaCombineRefIdeal.main (F := Ideal))) ⟨m, fun _ => 0, g⟩ (fun r => (∀ c : Dev Cert.NsaCombineRefIdeal.nD,
      r.2.mem ((c.tc : Thread Cert.NsaCombineRefIdeal.nD Cert.NsaCombineRefIdeal.τ).loc Cert.NsaCombineRefIdeal.main_arg0) = m ((c.tc : Thread Cert.NsaCombineRefIdeal.nD Cert.NsaCombineRefIdeal.τ).loc Cert.NsaCombineRefIdeal.main_arg0)
      ∧ r.2.mem ((c.tc : Thread Cert.NsaCombineRefIdeal.nD Cert.NsaCombineRefIdeal.τ).loc Cert.NsaCombineRefIdeal.main_arg1) = m ((c.tc : Thread Cert.NsaCombineRefIdeal.nD Cert.NsaCombineRefIdeal.τ).loc Cert.NsaCombineRefIdeal.main_arg1)
      ∧ r.2.mem ((c.tc : Thread Cert.NsaCombineRefIdeal.nD Cert.NsaCombineRefIdeal.τ).loc Cert.NsaCombineRefIdeal.main_arg2) = m ((c.tc : Thread Cert.NsaCombineRefIdeal.nD Cert.NsaCombineRefIdeal.τ).loc Cert.NsaCombineRefIdeal.main_arg2)
      ∧ r.2.mem ((c.tc : Thread Cert.NsaCombineRefIdeal.nD Cert.NsaCombineRefIdeal.τ).loc Cert.NsaCombineRefIdeal.main_arg3) = m ((c.tc : Thread Cert.NsaCombineRefIdeal.nD Cert.NsaCombineRefIdeal.τ).loc Cert.NsaCombineRefIdeal.main_arg3))
      ∧ r.2.sem = fun _ => 0)

def quiescent_DiffFinal [hDiffFinal : Cert.DiffFinal.Facts] : Prop :=
  ∀ (m : (ℓ : Loc Cert.DiffFinal.nD Cert.DiffFinal.τ Cert.DiffFinal.sig) → Buf (Elt Bits) ℓ) (g : Dev Cert.DiffFinal.nD → PrngReg), Pre_DiffFinal m →
    θ_run (Cert.DiffFinal.defs (F := Bits)) (onTc (τ := Cert.DiffFinal.τ) (Cert.DiffFinal.main (F := Bits))) ⟨m, fun _ => 0, g⟩ (fun r => (∀ c : Dev Cert.DiffFinal.nD,
      r.2.mem ((c.tc : Thread Cert.DiffFinal.nD Cert.DiffFinal.τ).loc Cert.DiffFinal.main_arg0) = m ((c.tc : Thread Cert.DiffFinal.nD Cert.DiffFinal.τ).loc Cert.DiffFinal.main_arg0)
      ∧ r.2.mem ((c.tc : Thread Cert.DiffFinal.nD Cert.DiffFinal.τ).loc Cert.DiffFinal.main_arg1) = m ((c.tc : Thread Cert.DiffFinal.nD Cert.DiffFinal.τ).loc Cert.DiffFinal.main_arg1)
      ∧ r.2.mem ((c.tc : Thread Cert.DiffFinal.nD Cert.DiffFinal.τ).loc Cert.DiffFinal.main_arg2) = m ((c.tc : Thread Cert.DiffFinal.nD Cert.DiffFinal.τ).loc Cert.DiffFinal.main_arg2))
      ∧ r.2.sem = fun _ => 0)

def quiescent_DiffFinalIdeal [hDiffFinalIdeal : Cert.DiffFinalIdeal.Facts] : Prop :=
  ∀ (m : (ℓ : Loc Cert.DiffFinalIdeal.nD Cert.DiffFinalIdeal.τ Cert.DiffFinalIdeal.sig) → Buf (Elt Ideal) ℓ) (g : Dev Cert.DiffFinalIdeal.nD → PrngReg), Pre_DiffFinalIdeal m →
    θ_run (Cert.DiffFinalIdeal.defs (F := Ideal)) (onTc (τ := Cert.DiffFinalIdeal.τ) (Cert.DiffFinalIdeal.main (F := Ideal))) ⟨m, fun _ => 0, g⟩ (fun r => (∀ c : Dev Cert.DiffFinalIdeal.nD,
      r.2.mem ((c.tc : Thread Cert.DiffFinalIdeal.nD Cert.DiffFinalIdeal.τ).loc Cert.DiffFinalIdeal.main_arg0) = m ((c.tc : Thread Cert.DiffFinalIdeal.nD Cert.DiffFinalIdeal.τ).loc Cert.DiffFinalIdeal.main_arg0)
      ∧ r.2.mem ((c.tc : Thread Cert.DiffFinalIdeal.nD Cert.DiffFinalIdeal.τ).loc Cert.DiffFinalIdeal.main_arg1) = m ((c.tc : Thread Cert.DiffFinalIdeal.nD Cert.DiffFinalIdeal.τ).loc Cert.DiffFinalIdeal.main_arg1)
      ∧ r.2.mem ((c.tc : Thread Cert.DiffFinalIdeal.nD Cert.DiffFinalIdeal.τ).loc Cert.DiffFinalIdeal.main_arg2) = m ((c.tc : Thread Cert.DiffFinalIdeal.nD Cert.DiffFinalIdeal.τ).loc Cert.DiffFinalIdeal.main_arg2))
      ∧ r.2.sem = fun _ => 0)

def quiescent_DiffFinalRefIdeal [hDiffFinalRefIdeal : Cert.DiffFinalRefIdeal.Facts] : Prop :=
  ∀ (m : (ℓ : Loc Cert.DiffFinalRefIdeal.nD Cert.DiffFinalRefIdeal.τ Cert.DiffFinalRefIdeal.sig) → Buf (Elt Ideal) ℓ) (g : Dev Cert.DiffFinalRefIdeal.nD → PrngReg), Pre_DiffFinalRefIdeal m →
    θ_run (Cert.DiffFinalRefIdeal.defs (F := Ideal)) (onTc (τ := Cert.DiffFinalRefIdeal.τ) (Cert.DiffFinalRefIdeal.main (F := Ideal))) ⟨m, fun _ => 0, g⟩ (fun r => (∀ c : Dev Cert.DiffFinalRefIdeal.nD,
      r.2.mem ((c.tc : Thread Cert.DiffFinalRefIdeal.nD Cert.DiffFinalRefIdeal.τ).loc Cert.DiffFinalRefIdeal.main_arg0) = m ((c.tc : Thread Cert.DiffFinalRefIdeal.nD Cert.DiffFinalRefIdeal.τ).loc Cert.DiffFinalRefIdeal.main_arg0)
      ∧ r.2.mem ((c.tc : Thread Cert.DiffFinalRefIdeal.nD Cert.DiffFinalRefIdeal.τ).loc Cert.DiffFinalRefIdeal.main_arg1) = m ((c.tc : Thread Cert.DiffFinalRefIdeal.nD Cert.DiffFinalRefIdeal.τ).loc Cert.DiffFinalRefIdeal.main_arg1)
      ∧ r.2.mem ((c.tc : Thread Cert.DiffFinalRefIdeal.nD Cert.DiffFinalRefIdeal.τ).loc Cert.DiffFinalRefIdeal.main_arg2) = m ((c.tc : Thread Cert.DiffFinalRefIdeal.nD Cert.DiffFinalRefIdeal.τ).loc Cert.DiffFinalRefIdeal.main_arg2))
      ∧ r.2.sem = fun _ => 0)

def preserves_MoeUp_MoeUpIdeal : Prop :=
  True

def algebraic_MoeUpIdeal_MoeUpRefIdeal [hMoeUpIdeal : Cert.MoeUpIdeal.Facts] [hMoeUpRefIdeal : Cert.MoeUpRefIdeal.Facts] [hPre_experts_in_range : Cert.Pre_experts_in_range.Facts] : Prop :=
  ∀ (m : (ℓ : Loc Cert.MoeUpIdeal.nD Cert.MoeUpIdeal.τ Cert.MoeUpIdeal.sig) → Buf (Elt Ideal) ℓ) (g : Dev Cert.MoeUpIdeal.nD → PrngReg)
    (m' : (ℓ : Loc Cert.MoeUpRefIdeal.nD Cert.MoeUpRefIdeal.τ Cert.MoeUpRefIdeal.sig) → Buf (Elt Ideal) ℓ) (g' : Dev Cert.MoeUpRefIdeal.nD → PrngReg), Pre_MoeUpIdeal m →
    (∀ c : Dev Cert.MoeUpIdeal.nD,
      m' ((c.tc : Thread Cert.MoeUpRefIdeal.nD Cert.MoeUpRefIdeal.τ).loc Cert.MoeUpRefIdeal.main_arg0) = m ((c.tc : Thread Cert.MoeUpIdeal.nD Cert.MoeUpIdeal.τ).loc Cert.MoeUpIdeal.main_arg0)
      ∧ m' ((c.tc : Thread Cert.MoeUpRefIdeal.nD Cert.MoeUpRefIdeal.τ).loc Cert.MoeUpRefIdeal.main_arg1) = m ((c.tc : Thread Cert.MoeUpIdeal.nD Cert.MoeUpIdeal.τ).loc Cert.MoeUpIdeal.main_arg1)
      ∧ m' ((c.tc : Thread Cert.MoeUpRefIdeal.nD Cert.MoeUpRefIdeal.τ).loc Cert.MoeUpRefIdeal.main_arg2) = m ((c.tc : Thread Cert.MoeUpIdeal.nD Cert.MoeUpIdeal.τ).loc Cert.MoeUpIdeal.main_arg2)
      ∧ m' ((c.tc : Thread Cert.MoeUpRefIdeal.nD Cert.MoeUpRefIdeal.τ).loc Cert.MoeUpRefIdeal.main_arg3) = m ((c.tc : Thread Cert.MoeUpIdeal.nD Cert.MoeUpIdeal.τ).loc Cert.MoeUpIdeal.main_arg3)
      ∧ m' ((c.tc : Thread Cert.MoeUpRefIdeal.nD Cert.MoeUpRefIdeal.τ).loc Cert.MoeUpRefIdeal.main_arg4) = m ((c.tc : Thread Cert.MoeUpIdeal.nD Cert.MoeUpIdeal.τ).loc Cert.MoeUpIdeal.main_arg4)
      ∧ m' ((c.tc : Thread Cert.MoeUpRefIdeal.nD Cert.MoeUpRefIdeal.τ).loc Cert.MoeUpRefIdeal.main_arg5) = m ((c.tc : Thread Cert.MoeUpIdeal.nD Cert.MoeUpIdeal.τ).loc Cert.MoeUpIdeal.main_arg5)) →
    ∃ (v0 : (c : Dev Cert.MoeUpIdeal.nD) → Buf (Elt Ideal) ((c.tc : Thread Cert.MoeUpIdeal.nD Cert.MoeUpIdeal.τ).loc Cert.MoeUpIdeal.main_v0)),
      θ_run (Cert.MoeUpIdeal.defs (F := Ideal)) (onTc (τ := Cert.MoeUpIdeal.τ) (Cert.MoeUpIdeal.main (F := Ideal))) ⟨m, fun _ => 0, g⟩ (fun r => ∀ c : Dev Cert.MoeUpIdeal.nD,
          r.2.mem ((c.tc : Thread Cert.MoeUpIdeal.nD Cert.MoeUpIdeal.τ).loc Cert.MoeUpIdeal.main_v0) = v0 c
          ∧ r.2.mem ((c.tc : Thread Cert.MoeUpIdeal.nD Cert.MoeUpIdeal.τ).loc Cert.MoeUpIdeal.main_arg0) = m ((c.tc : Thread Cert.MoeUpIdeal.nD Cert.MoeUpIdeal.τ).loc Cert.MoeUpIdeal.main_arg0)
          ∧ r.2.mem ((c.tc : Thread Cert.MoeUpIdeal.nD Cert.MoeUpIdeal.τ).loc Cert.MoeUpIdeal.main_arg1) = m ((c.tc : Thread Cert.MoeUpIdeal.nD Cert.MoeUpIdeal.τ).loc Cert.MoeUpIdeal.main_arg1)
          ∧ r.2.mem ((c.tc : Thread Cert.MoeUpIdeal.nD Cert.MoeUpIdeal.τ).loc Cert.MoeUpIdeal.main_arg2) = m ((c.tc : Thread Cert.MoeUpIdeal.nD Cert.MoeUpIdeal.τ).loc Cert.MoeUpIdeal.main_arg2)
          ∧ r.2.mem ((c.tc : Thread Cert.MoeUpIdeal.nD Cert.MoeUpIdeal.τ).loc Cert.MoeUpIdeal.main_arg3) = m ((c.tc : Thread Cert.MoeUpIdeal.nD Cert.MoeUpIdeal.τ).loc Cert.MoeUpIdeal.main_arg3)
          ∧ r.2.mem ((c.tc : Thread Cert.MoeUpIdeal.nD Cert.MoeUpIdeal.τ).loc Cert.MoeUpIdeal.main_arg4) = m ((c.tc : Thread Cert.MoeUpIdeal.nD Cert.MoeUpIdeal.τ).loc Cert.MoeUpIdeal.main_arg4)
          ∧ r.2.mem ((c.tc : Thread Cert.MoeUpIdeal.nD Cert.MoeUpIdeal.τ).loc Cert.MoeUpIdeal.main_arg5) = m ((c.tc : Thread Cert.MoeUpIdeal.nD Cert.MoeUpIdeal.τ).loc Cert.MoeUpIdeal.main_arg5))
      ∧ θ_run (Cert.MoeUpRefIdeal.defs (F := Ideal)) (onTc (τ := Cert.MoeUpRefIdeal.τ) (Cert.MoeUpRefIdeal.main (F := Ideal))) ⟨m', fun _ => 0, g'⟩ (fun r => ∀ c : Dev Cert.MoeUpRefIdeal.nD,
          r.2.mem ((c.tc : Thread Cert.MoeUpRefIdeal.nD Cert.MoeUpRefIdeal.τ).loc Cert.MoeUpRefIdeal.main_v37) = v0 c
          ∧ r.2.mem ((c.tc : Thread Cert.MoeUpRefIdeal.nD Cert.MoeUpRefIdeal.τ).loc Cert.MoeUpRefIdeal.main_arg0) = m' ((c.tc : Thread Cert.MoeUpRefIdeal.nD Cert.MoeUpRefIdeal.τ).loc Cert.MoeUpRefIdeal.main_arg0)
          ∧ r.2.mem ((c.tc : Thread Cert.MoeUpRefIdeal.nD Cert.MoeUpRefIdeal.τ).loc Cert.MoeUpRefIdeal.main_arg1) = m' ((c.tc : Thread Cert.MoeUpRefIdeal.nD Cert.MoeUpRefIdeal.τ).loc Cert.MoeUpRefIdeal.main_arg1)
          ∧ r.2.mem ((c.tc : Thread Cert.MoeUpRefIdeal.nD Cert.MoeUpRefIdeal.τ).loc Cert.MoeUpRefIdeal.main_arg2) = m' ((c.tc : Thread Cert.MoeUpRefIdeal.nD Cert.MoeUpRefIdeal.τ).loc Cert.MoeUpRefIdeal.main_arg2)
          ∧ r.2.mem ((c.tc : Thread Cert.MoeUpRefIdeal.nD Cert.MoeUpRefIdeal.τ).loc Cert.MoeUpRefIdeal.main_arg3) = m' ((c.tc : Thread Cert.MoeUpRefIdeal.nD Cert.MoeUpRefIdeal.τ).loc Cert.MoeUpRefIdeal.main_arg3)
          ∧ r.2.mem ((c.tc : Thread Cert.MoeUpRefIdeal.nD Cert.MoeUpRefIdeal.τ).loc Cert.MoeUpRefIdeal.main_arg4) = m' ((c.tc : Thread Cert.MoeUpRefIdeal.nD Cert.MoeUpRefIdeal.τ).loc Cert.MoeUpRefIdeal.main_arg4)
          ∧ r.2.mem ((c.tc : Thread Cert.MoeUpRefIdeal.nD Cert.MoeUpRefIdeal.τ).loc Cert.MoeUpRefIdeal.main_arg5) = m' ((c.tc : Thread Cert.MoeUpRefIdeal.nD Cert.MoeUpRefIdeal.τ).loc Cert.MoeUpRefIdeal.main_arg5))

def preserves_MoeDown_MoeDownIdeal : Prop :=
  True

def algebraic_MoeDownIdeal_MoeDownRefIdeal [hMoeDownIdeal : Cert.MoeDownIdeal.Facts] [hMoeDownRefIdeal : Cert.MoeDownRefIdeal.Facts] [hPre_experts_in_range_down : Cert.Pre_experts_in_range_down.Facts] : Prop :=
  ∀ (m : (ℓ : Loc Cert.MoeDownIdeal.nD Cert.MoeDownIdeal.τ Cert.MoeDownIdeal.sig) → Buf (Elt Ideal) ℓ) (g : Dev Cert.MoeDownIdeal.nD → PrngReg)
    (m' : (ℓ : Loc Cert.MoeDownRefIdeal.nD Cert.MoeDownRefIdeal.τ Cert.MoeDownRefIdeal.sig) → Buf (Elt Ideal) ℓ) (g' : Dev Cert.MoeDownRefIdeal.nD → PrngReg), Pre_MoeDownIdeal m →
    (∀ c : Dev Cert.MoeDownIdeal.nD,
      m' ((c.tc : Thread Cert.MoeDownRefIdeal.nD Cert.MoeDownRefIdeal.τ).loc Cert.MoeDownRefIdeal.main_arg0) = m ((c.tc : Thread Cert.MoeDownIdeal.nD Cert.MoeDownIdeal.τ).loc Cert.MoeDownIdeal.main_arg0)
      ∧ m' ((c.tc : Thread Cert.MoeDownRefIdeal.nD Cert.MoeDownRefIdeal.τ).loc Cert.MoeDownRefIdeal.main_arg1) = m ((c.tc : Thread Cert.MoeDownIdeal.nD Cert.MoeDownIdeal.τ).loc Cert.MoeDownIdeal.main_arg1)
      ∧ m' ((c.tc : Thread Cert.MoeDownRefIdeal.nD Cert.MoeDownRefIdeal.τ).loc Cert.MoeDownRefIdeal.main_arg2) = m ((c.tc : Thread Cert.MoeDownIdeal.nD Cert.MoeDownIdeal.τ).loc Cert.MoeDownIdeal.main_arg2)
      ∧ m' ((c.tc : Thread Cert.MoeDownRefIdeal.nD Cert.MoeDownRefIdeal.τ).loc Cert.MoeDownRefIdeal.main_arg3) = m ((c.tc : Thread Cert.MoeDownIdeal.nD Cert.MoeDownIdeal.τ).loc Cert.MoeDownIdeal.main_arg3)) →
    ∃ (v0 : (c : Dev Cert.MoeDownIdeal.nD) → Buf (Elt Ideal) ((c.tc : Thread Cert.MoeDownIdeal.nD Cert.MoeDownIdeal.τ).loc Cert.MoeDownIdeal.main_v0_0)) (v1 : (c : Dev Cert.MoeDownIdeal.nD) → Buf (Elt Ideal) ((c.tc : Thread Cert.MoeDownIdeal.nD Cert.MoeDownIdeal.τ).loc Cert.MoeDownIdeal.main_v0_1)) (v2 : (c : Dev Cert.MoeDownIdeal.nD) → Buf (Elt Ideal) ((c.tc : Thread Cert.MoeDownIdeal.nD Cert.MoeDownIdeal.τ).loc Cert.MoeDownIdeal.main_v0_2)),
      θ_run (Cert.MoeDownIdeal.defs (F := Ideal)) (onTc (τ := Cert.MoeDownIdeal.τ) (Cert.MoeDownIdeal.main (F := Ideal))) ⟨m, fun _ => 0, g⟩ (fun r => ∀ c : Dev Cert.MoeDownIdeal.nD,
          r.2.mem ((c.tc : Thread Cert.MoeDownIdeal.nD Cert.MoeDownIdeal.τ).loc Cert.MoeDownIdeal.main_v0_0) = v0 c
          ∧ r.2.mem ((c.tc : Thread Cert.MoeDownIdeal.nD Cert.MoeDownIdeal.τ).loc Cert.MoeDownIdeal.main_v0_1) = v1 c
          ∧ r.2.mem ((c.tc : Thread Cert.MoeDownIdeal.nD Cert.MoeDownIdeal.τ).loc Cert.MoeDownIdeal.main_v0_2) = v2 c
          ∧ r.2.mem ((c.tc : Thread Cert.MoeDownIdeal.nD Cert.MoeDownIdeal.τ).loc Cert.MoeDownIdeal.main_arg0) = m ((c.tc : Thread Cert.MoeDownIdeal.nD Cert.MoeDownIdeal.τ).loc Cert.MoeDownIdeal.main_arg0)
          ∧ r.2.mem ((c.tc : Thread Cert.MoeDownIdeal.nD Cert.MoeDownIdeal.τ).loc Cert.MoeDownIdeal.main_arg1) = m ((c.tc : Thread Cert.MoeDownIdeal.nD Cert.MoeDownIdeal.τ).loc Cert.MoeDownIdeal.main_arg1)
          ∧ r.2.mem ((c.tc : Thread Cert.MoeDownIdeal.nD Cert.MoeDownIdeal.τ).loc Cert.MoeDownIdeal.main_arg2) = m ((c.tc : Thread Cert.MoeDownIdeal.nD Cert.MoeDownIdeal.τ).loc Cert.MoeDownIdeal.main_arg2)
          ∧ r.2.mem ((c.tc : Thread Cert.MoeDownIdeal.nD Cert.MoeDownIdeal.τ).loc Cert.MoeDownIdeal.main_arg3) = m ((c.tc : Thread Cert.MoeDownIdeal.nD Cert.MoeDownIdeal.τ).loc Cert.MoeDownIdeal.main_arg3))
      ∧ θ_run (Cert.MoeDownRefIdeal.defs (F := Ideal)) (onTc (τ := Cert.MoeDownRefIdeal.τ) (Cert.MoeDownRefIdeal.main (F := Ideal))) ⟨m', fun _ => 0, g'⟩ (fun r => ∀ c : Dev Cert.MoeDownRefIdeal.nD,
          r.2.mem ((c.tc : Thread Cert.MoeDownRefIdeal.nD Cert.MoeDownRefIdeal.τ).loc Cert.MoeDownRefIdeal.main_v27) = v0 c
          ∧ r.2.mem ((c.tc : Thread Cert.MoeDownRefIdeal.nD Cert.MoeDownRefIdeal.τ).loc Cert.MoeDownRefIdeal.main_v30) = v1 c
          ∧ r.2.mem ((c.tc : Thread Cert.MoeDownRefIdeal.nD Cert.MoeDownRefIdeal.τ).loc Cert.MoeDownRefIdeal.main_v33) = v2 c
          ∧ r.2.mem ((c.tc : Thread Cert.MoeDownRefIdeal.nD Cert.MoeDownRefIdeal.τ).loc Cert.MoeDownRefIdeal.main_arg0) = m' ((c.tc : Thread Cert.MoeDownRefIdeal.nD Cert.MoeDownRefIdeal.τ).loc Cert.MoeDownRefIdeal.main_arg0)
          ∧ r.2.mem ((c.tc : Thread Cert.MoeDownRefIdeal.nD Cert.MoeDownRefIdeal.τ).loc Cert.MoeDownRefIdeal.main_arg1) = m' ((c.tc : Thread Cert.MoeDownRefIdeal.nD Cert.MoeDownRefIdeal.τ).loc Cert.MoeDownRefIdeal.main_arg1)
          ∧ r.2.mem ((c.tc : Thread Cert.MoeDownRefIdeal.nD Cert.MoeDownRefIdeal.τ).loc Cert.MoeDownRefIdeal.main_arg2) = m' ((c.tc : Thread Cert.MoeDownRefIdeal.nD Cert.MoeDownRefIdeal.τ).loc Cert.MoeDownRefIdeal.main_arg2)
          ∧ r.2.mem ((c.tc : Thread Cert.MoeDownRefIdeal.nD Cert.MoeDownRefIdeal.τ).loc Cert.MoeDownRefIdeal.main_arg3) = m' ((c.tc : Thread Cert.MoeDownRefIdeal.nD Cert.MoeDownRefIdeal.τ).loc Cert.MoeDownRefIdeal.main_arg3))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v9) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v22) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v3) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_Cond_CondIdeal : Prop :=
  True

def algebraic_CondIdeal_CondRefIdeal [hCondIdeal : Cert.CondIdeal.Facts] [hCondRefIdeal : Cert.CondRefIdeal.Facts] : Prop :=
  ∀ (m : (ℓ : Loc Cert.CondIdeal.nD Cert.CondIdeal.τ Cert.CondIdeal.sig) → Buf (Elt Ideal) ℓ) (g : Dev Cert.CondIdeal.nD → PrngReg)
    (m' : (ℓ : Loc Cert.CondRefIdeal.nD Cert.CondRefIdeal.τ Cert.CondRefIdeal.sig) → Buf (Elt Ideal) ℓ) (g' : Dev Cert.CondRefIdeal.nD → PrngReg), Pre_CondIdeal m →
    (∀ c : Dev Cert.CondIdeal.nD,
      m' ((c.tc : Thread Cert.CondRefIdeal.nD Cert.CondRefIdeal.τ).loc Cert.CondRefIdeal.main_arg0) = m ((c.tc : Thread Cert.CondIdeal.nD Cert.CondIdeal.τ).loc Cert.CondIdeal.main_arg0)
      ∧ m' ((c.tc : Thread Cert.CondRefIdeal.nD Cert.CondRefIdeal.τ).loc Cert.CondRefIdeal.main_arg1) = m ((c.tc : Thread Cert.CondIdeal.nD Cert.CondIdeal.τ).loc Cert.CondIdeal.main_arg1)
      ∧ m' ((c.tc : Thread Cert.CondRefIdeal.nD Cert.CondRefIdeal.τ).loc Cert.CondRefIdeal.main_arg2) = m ((c.tc : Thread Cert.CondIdeal.nD Cert.CondIdeal.τ).loc Cert.CondIdeal.main_arg2)) →
    ∃ (v0 : (c : Dev Cert.CondIdeal.nD) → Buf (Elt Ideal) ((c.tc : Thread Cert.CondIdeal.nD Cert.CondIdeal.τ).loc Cert.CondIdeal.main_v0)),
      θ_run (Cert.CondIdeal.defs (F := Ideal)) (onTc (τ := Cert.CondIdeal.τ) (Cert.CondIdeal.main (F := Ideal))) ⟨m, fun _ => 0, g⟩ (fun r => ∀ c : Dev Cert.CondIdeal.nD,
          r.2.mem ((c.tc : Thread Cert.CondIdeal.nD Cert.CondIdeal.τ).loc Cert.CondIdeal.main_v0) = v0 c
          ∧ r.2.mem ((c.tc : Thread Cert.CondIdeal.nD Cert.CondIdeal.τ).loc Cert.CondIdeal.main_arg0) = m ((c.tc : Thread Cert.CondIdeal.nD Cert.CondIdeal.τ).loc Cert.CondIdeal.main_arg0)
          ∧ r.2.mem ((c.tc : Thread Cert.CondIdeal.nD Cert.CondIdeal.τ).loc Cert.CondIdeal.main_arg1) = m ((c.tc : Thread Cert.CondIdeal.nD Cert.CondIdeal.τ).loc Cert.CondIdeal.main_arg1)
          ∧ r.2.mem ((c.tc : Thread Cert.CondIdeal.nD Cert.CondIdeal.τ).loc Cert.CondIdeal.main_arg2) = m ((c.tc : Thread Cert.CondIdeal.nD Cert.CondIdeal.τ).loc Cert.CondIdeal.main_arg2))
      ∧ θ_run (Cert.CondRefIdeal.defs (F := Ideal)) (onTc (τ := Cert.CondRefIdeal.τ) (Cert.CondRefIdeal.main (F := Ideal))) ⟨m', fun _ => 0, g'⟩ (fun r => ∀ c : Dev Cert.CondRefIdeal.nD,
          r.2.mem ((c.tc : Thread Cert.CondRefIdeal.nD Cert.CondRefIdeal.τ).loc Cert.CondRefIdeal.main_v5) = v0 c
          ∧ r.2.mem ((c.tc : Thread Cert.CondRefIdeal.nD Cert.CondRefIdeal.τ).loc Cert.CondRefIdeal.main_arg0) = m' ((c.tc : Thread Cert.CondRefIdeal.nD Cert.CondRefIdeal.τ).loc Cert.CondRefIdeal.main_arg0)
          ∧ r.2.mem ((c.tc : Thread Cert.CondRefIdeal.nD Cert.CondRefIdeal.τ).loc Cert.CondRefIdeal.main_arg1) = m' ((c.tc : Thread Cert.CondRefIdeal.nD Cert.CondRefIdeal.τ).loc Cert.CondRefIdeal.main_arg1)
          ∧ r.2.mem ((c.tc : Thread Cert.CondRefIdeal.nD Cert.CondRefIdeal.τ).loc Cert.CondRefIdeal.main_arg2) = m' ((c.tc : Thread Cert.CondRefIdeal.nD Cert.CondRefIdeal.τ).loc Cert.CondRefIdeal.main_arg2))

def preserves_DsaKv_DsaKvIdeal : Prop :=
  True

def algebraic_DsaKvIdeal_DsaKvRefIdeal [hDsaKvIdeal : Cert.DsaKvIdeal.Facts] [hDsaKvRefIdeal : Cert.DsaKvRefIdeal.Facts] : Prop :=
  ∀ (m : (ℓ : Loc Cert.DsaKvIdeal.nD Cert.DsaKvIdeal.τ Cert.DsaKvIdeal.sig) → Buf (Elt Ideal) ℓ) (g : Dev Cert.DsaKvIdeal.nD → PrngReg)
    (m' : (ℓ : Loc Cert.DsaKvRefIdeal.nD Cert.DsaKvRefIdeal.τ Cert.DsaKvRefIdeal.sig) → Buf (Elt Ideal) ℓ) (g' : Dev Cert.DsaKvRefIdeal.nD → PrngReg), Pre_DsaKvIdeal m →
    (∀ c : Dev Cert.DsaKvIdeal.nD,
      m' ((c.tc : Thread Cert.DsaKvRefIdeal.nD Cert.DsaKvRefIdeal.τ).loc Cert.DsaKvRefIdeal.main_arg0) = m ((c.tc : Thread Cert.DsaKvIdeal.nD Cert.DsaKvIdeal.τ).loc Cert.DsaKvIdeal.main_arg0)
      ∧ m' ((c.tc : Thread Cert.DsaKvRefIdeal.nD Cert.DsaKvRefIdeal.τ).loc Cert.DsaKvRefIdeal.main_arg1) = m ((c.tc : Thread Cert.DsaKvIdeal.nD Cert.DsaKvIdeal.τ).loc Cert.DsaKvIdeal.main_arg1)
      ∧ m' ((c.tc : Thread Cert.DsaKvRefIdeal.nD Cert.DsaKvRefIdeal.τ).loc Cert.DsaKvRefIdeal.main_arg2) = m ((c.tc : Thread Cert.DsaKvIdeal.nD Cert.DsaKvIdeal.τ).loc Cert.DsaKvIdeal.main_arg2)) →
    ∃ (v0 : (c : Dev Cert.DsaKvIdeal.nD) → Buf (Elt Ideal) ((c.tc : Thread Cert.DsaKvIdeal.nD Cert.DsaKvIdeal.τ).loc Cert.DsaKvIdeal.main_v0)),
      θ_run (Cert.DsaKvIdeal.defs (F := Ideal)) (onTc (τ := Cert.DsaKvIdeal.τ) (Cert.DsaKvIdeal.main (F := Ideal))) ⟨m, fun _ => 0, g⟩ (fun r => ∀ c : Dev Cert.DsaKvIdeal.nD,
          r.2.mem ((c.tc : Thread Cert.DsaKvIdeal.nD Cert.DsaKvIdeal.τ).loc Cert.DsaKvIdeal.main_v0) = v0 c
          ∧ r.2.mem ((c.tc : Thread Cert.DsaKvIdeal.nD Cert.DsaKvIdeal.τ).loc Cert.DsaKvIdeal.main_arg0) = m ((c.tc : Thread Cert.DsaKvIdeal.nD Cert.DsaKvIdeal.τ).loc Cert.DsaKvIdeal.main_arg0)
          ∧ r.2.mem ((c.tc : Thread Cert.DsaKvIdeal.nD Cert.DsaKvIdeal.τ).loc Cert.DsaKvIdeal.main_arg1) = m ((c.tc : Thread Cert.DsaKvIdeal.nD Cert.DsaKvIdeal.τ).loc Cert.DsaKvIdeal.main_arg1)
          ∧ r.2.mem ((c.tc : Thread Cert.DsaKvIdeal.nD Cert.DsaKvIdeal.τ).loc Cert.DsaKvIdeal.main_arg2) = m ((c.tc : Thread Cert.DsaKvIdeal.nD Cert.DsaKvIdeal.τ).loc Cert.DsaKvIdeal.main_arg2))
      ∧ θ_run (Cert.DsaKvRefIdeal.defs (F := Ideal)) (onTc (τ := Cert.DsaKvRefIdeal.τ) (Cert.DsaKvRefIdeal.main (F := Ideal))) ⟨m', fun _ => 0, g'⟩ (fun r => ∀ c : Dev Cert.DsaKvRefIdeal.nD,
          r.2.mem ((c.tc : Thread Cert.DsaKvRefIdeal.nD Cert.DsaKvRefIdeal.τ).loc Cert.DsaKvRefIdeal.main_v15) = v0 c
          ∧ r.2.mem ((c.tc : Thread Cert.DsaKvRefIdeal.nD Cert.DsaKvRefIdeal.τ).loc Cert.DsaKvRefIdeal.main_arg0) = m' ((c.tc : Thread Cert.DsaKvRefIdeal.nD Cert.DsaKvRefIdeal.τ).loc Cert.DsaKvRefIdeal.main_arg0)
          ∧ r.2.mem ((c.tc : Thread Cert.DsaKvRefIdeal.nD Cert.DsaKvRefIdeal.τ).loc Cert.DsaKvRefIdeal.main_arg1) = m' ((c.tc : Thread Cert.DsaKvRefIdeal.nD Cert.DsaKvRefIdeal.τ).loc Cert.DsaKvRefIdeal.main_arg1)
          ∧ r.2.mem ((c.tc : Thread Cert.DsaKvRefIdeal.nD Cert.DsaKvRefIdeal.τ).loc Cert.DsaKvRefIdeal.main_arg2) = m' ((c.tc : Thread Cert.DsaKvRefIdeal.nD Cert.DsaKvRefIdeal.τ).loc Cert.DsaKvRefIdeal.main_arg2))

def preserves_Modulate_ModulateIdeal : Prop :=
  True

def algebraic_ModulateIdeal_ModulateRefIdeal [hModulateIdeal : Cert.ModulateIdeal.Facts] [hModulateRefIdeal : Cert.ModulateRefIdeal.Facts] : Prop :=
  ∀ (m : (ℓ : Loc Cert.ModulateIdeal.nD Cert.ModulateIdeal.τ Cert.ModulateIdeal.sig) → Buf (Elt Ideal) ℓ) (g : Dev Cert.ModulateIdeal.nD → PrngReg)
    (m' : (ℓ : Loc Cert.ModulateRefIdeal.nD Cert.ModulateRefIdeal.τ Cert.ModulateRefIdeal.sig) → Buf (Elt Ideal) ℓ) (g' : Dev Cert.ModulateRefIdeal.nD → PrngReg), Pre_ModulateIdeal m →
    (∀ c : Dev Cert.ModulateIdeal.nD,
      m' ((c.tc : Thread Cert.ModulateRefIdeal.nD Cert.ModulateRefIdeal.τ).loc Cert.ModulateRefIdeal.main_arg0) = m ((c.tc : Thread Cert.ModulateIdeal.nD Cert.ModulateIdeal.τ).loc Cert.ModulateIdeal.main_arg0)
      ∧ m' ((c.tc : Thread Cert.ModulateRefIdeal.nD Cert.ModulateRefIdeal.τ).loc Cert.ModulateRefIdeal.main_arg1) = m ((c.tc : Thread Cert.ModulateIdeal.nD Cert.ModulateIdeal.τ).loc Cert.ModulateIdeal.main_arg1)) →
    ∃ (v0 : (c : Dev Cert.ModulateIdeal.nD) → Buf (Elt Ideal) ((c.tc : Thread Cert.ModulateIdeal.nD Cert.ModulateIdeal.τ).loc Cert.ModulateIdeal.main_v0)),
      θ_run (Cert.ModulateIdeal.defs (F := Ideal)) (onTc (τ := Cert.ModulateIdeal.τ) (Cert.ModulateIdeal.main (F := Ideal))) ⟨m, fun _ => 0, g⟩ (fun r => ∀ c : Dev Cert.ModulateIdeal.nD,
          r.2.mem ((c.tc : Thread Cert.ModulateIdeal.nD Cert.ModulateIdeal.τ).loc Cert.ModulateIdeal.main_v0) = v0 c
          ∧ r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
          ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1))
      ∧ θ_run (Cert.ModulateRefIdeal.defs (F := Ideal)) (onTc (τ := Cert.ModulateRefIdeal.τ) (Cert.ModulateRefIdeal.main (F := Ideal))) ⟨m', fun _ => 0, g'⟩ (fun r => ∀ c : Dev Cert.ModulateRefIdeal.nD,
          r.2.mem ((c.tc : Thread Cert.ModulateRefIdeal.nD Cert.ModulateRefIdeal.τ).loc Cert.ModulateRefIdeal.main_v8) = v0 c
          ∧ r.2.mem ((c.tc : Thread Cert.ModulateRefIdeal.nD Cert.ModulateRefIdeal.τ).loc Cert.ModulateRefIdeal.main_arg0) = m' ((c.tc : Thread Cert.ModulateRefIdeal.nD Cert.ModulateRefIdeal.τ).loc Cert.ModulateRefIdeal.main_arg0)
          ∧ r.2.mem ((c.tc : Thread Cert.ModulateRefIdeal.nD Cert.ModulateRefIdeal.τ).loc Cert.ModulateRefIdeal.main_arg1) = m' ((c.tc : Thread Cert.ModulateRefIdeal.nD Cert.ModulateRefIdeal.τ).loc Cert.ModulateRefIdeal.main_arg1))

def preserves_ResidLn_ResidLnIdeal : Prop :=
  True

def algebraic_ResidLnIdeal_ResidLnRefIdeal [hResidLnIdeal : Cert.ResidLnIdeal.Facts] [hResidLnRefIdeal : Cert.ResidLnRefIdeal.Facts] : Prop :=
  ∀ (m : (ℓ : Loc Cert.ResidLnIdeal.nD Cert.ResidLnIdeal.τ Cert.ResidLnIdeal.sig) → Buf (Elt Ideal) ℓ) (g : Dev Cert.ResidLnIdeal.nD → PrngReg)
    (m' : (ℓ : Loc Cert.ResidLnRefIdeal.nD Cert.ResidLnRefIdeal.τ Cert.ResidLnRefIdeal.sig) → Buf (Elt Ideal) ℓ) (g' : Dev Cert.ResidLnRefIdeal.nD → PrngReg), Pre_ResidLnIdeal m →
    (∀ c : Dev Cert.ResidLnIdeal.nD,
      m' ((c.tc : Thread Cert.ResidLnRefIdeal.nD Cert.ResidLnRefIdeal.τ).loc Cert.ResidLnRefIdeal.main_arg0) = m ((c.tc : Thread Cert.ResidLnIdeal.nD Cert.ResidLnIdeal.τ).loc Cert.ResidLnIdeal.main_arg0)
      ∧ m' ((c.tc : Thread Cert.ResidLnRefIdeal.nD Cert.ResidLnRefIdeal.τ).loc Cert.ResidLnRefIdeal.main_arg1) = m ((c.tc : Thread Cert.ResidLnIdeal.nD Cert.ResidLnIdeal.τ).loc Cert.ResidLnIdeal.main_arg1)
      ∧ m' ((c.tc : Thread Cert.ResidLnRefIdeal.nD Cert.ResidLnRefIdeal.τ).loc Cert.ResidLnRefIdeal.main_arg2) = m ((c.tc : Thread Cert.ResidLnIdeal.nD Cert.ResidLnIdeal.τ).loc Cert.ResidLnIdeal.main_arg2)
      ∧ m' ((c.tc : Thread Cert.ResidLnRefIdeal.nD Cert.ResidLnRefIdeal.τ).loc Cert.ResidLnRefIdeal.main_arg3) = m ((c.tc : Thread Cert.ResidLnIdeal.nD Cert.ResidLnIdeal.τ).loc Cert.ResidLnIdeal.main_arg3)
      ∧ m' ((c.tc : Thread Cert.ResidLnRefIdeal.nD Cert.ResidLnRefIdeal.τ).loc Cert.ResidLnRefIdeal.main_arg4) = m ((c.tc : Thread Cert.ResidLnIdeal.nD Cert.ResidLnIdeal.τ).loc Cert.ResidLnIdeal.main_arg4)
      ∧ m' ((c.tc : Thread Cert.ResidLnRefIdeal.nD Cert.ResidLnRefIdeal.τ).loc Cert.ResidLnRefIdeal.main_arg5) = m ((c.tc : Thread Cert.ResidLnIdeal.nD Cert.ResidLnIdeal.τ).loc Cert.ResidLnIdeal.main_arg5)) →
    ∃ (v0 : (c : Dev Cert.ResidLnIdeal.nD) → Buf (Elt Ideal) ((c.tc : Thread Cert.ResidLnIdeal.nD Cert.ResidLnIdeal.τ).loc Cert.ResidLnIdeal.main_v0_0)) (v1 : (c : Dev Cert.ResidLnIdeal.nD) → Buf (Elt Ideal) ((c.tc : Thread Cert.ResidLnIdeal.nD Cert.ResidLnIdeal.τ).loc Cert.ResidLnIdeal.main_v0_1)),
      θ_run (Cert.ResidLnIdeal.defs (F := Ideal)) (onTc (τ := Cert.ResidLnIdeal.τ) (Cert.ResidLnIdeal.main (F := Ideal))) ⟨m, fun _ => 0, g⟩ (fun r => ∀ c : Dev Cert.ResidLnIdeal.nD,
          r.2.mem ((c.tc : Thread Cert.ResidLnIdeal.nD Cert.ResidLnIdeal.τ).loc Cert.ResidLnIdeal.main_v0_0) = v0 c
          ∧ r.2.mem ((c.tc : Thread Cert.ResidLnIdeal.nD Cert.ResidLnIdeal.τ).loc Cert.ResidLnIdeal.main_v0_1) = v1 c
          ∧ r.2.mem ((c.tc : Thread Cert.ResidLnIdeal.nD Cert.ResidLnIdeal.τ).loc Cert.ResidLnIdeal.main_arg0) = m ((c.tc : Thread Cert.ResidLnIdeal.nD Cert.ResidLnIdeal.τ).loc Cert.ResidLnIdeal.main_arg0)
          ∧ r.2.mem ((c.tc : Thread Cert.ResidLnIdeal.nD Cert.ResidLnIdeal.τ).loc Cert.ResidLnIdeal.main_arg1) = m ((c.tc : Thread Cert.ResidLnIdeal.nD Cert.ResidLnIdeal.τ).loc Cert.ResidLnIdeal.main_arg1)
          ∧ r.2.mem ((c.tc : Thread Cert.ResidLnIdeal.nD Cert.ResidLnIdeal.τ).loc Cert.ResidLnIdeal.main_arg2) = m ((c.tc : Thread Cert.ResidLnIdeal.nD Cert.ResidLnIdeal.τ).loc Cert.ResidLnIdeal.main_arg2)
          ∧ r.2.mem ((c.tc : Thread Cert.ResidLnIdeal.nD Cert.ResidLnIdeal.τ).loc Cert.ResidLnIdeal.main_arg3) = m ((c.tc : Thread Cert.ResidLnIdeal.nD Cert.ResidLnIdeal.τ).loc Cert.ResidLnIdeal.main_arg3)
          ∧ r.2.mem ((c.tc : Thread Cert.ResidLnIdeal.nD Cert.ResidLnIdeal.τ).loc Cert.ResidLnIdeal.main_arg4) = m ((c.tc : Thread Cert.ResidLnIdeal.nD Cert.ResidLnIdeal.τ).loc Cert.ResidLnIdeal.main_arg4)
          ∧ r.2.mem ((c.tc : Thread Cert.ResidLnIdeal.nD Cert.ResidLnIdeal.τ).loc Cert.ResidLnIdeal.main_arg5) = m ((c.tc : Thread Cert.ResidLnIdeal.nD Cert.ResidLnIdeal.τ).loc Cert.ResidLnIdeal.main_arg5))
      ∧ θ_run (Cert.ResidLnRefIdeal.defs (F := Ideal)) (onTc (τ := Cert.ResidLnRefIdeal.τ) (Cert.ResidLnRefIdeal.main (F := Ideal))) ⟨m', fun _ => 0, g'⟩ (fun r => ∀ c : Dev Cert.ResidLnRefIdeal.nD,
          r.2.mem ((c.tc : Thread Cert.ResidLnRefIdeal.nD Cert.ResidLnRefIdeal.τ).loc Cert.ResidLnRefIdeal.main_v27) = v0 c
          ∧ r.2.mem ((c.tc : Thread Cert.ResidLnRefIdeal.nD Cert.ResidLnRefIdeal.τ).loc Cert.ResidLnRefIdeal.main_v36) = v1 c
          ∧ r.2.mem ((c.tc : Thread Cert.ResidLnRefIdeal.nD Cert.ResidLnRefIdeal.τ).loc Cert.ResidLnRefIdeal.main_arg0) = m' ((c.tc : Thread Cert.ResidLnRefIdeal.nD Cert.ResidLnRefIdeal.τ).loc Cert.ResidLnRefIdeal.main_arg0)
          ∧ r.2.mem ((c.tc : Thread Cert.ResidLnRefIdeal.nD Cert.ResidLnRefIdeal.τ).loc Cert.ResidLnRefIdeal.main_arg1) = m' ((c.tc : Thread Cert.ResidLnRefIdeal.nD Cert.ResidLnRefIdeal.τ).loc Cert.ResidLnRefIdeal.main_arg1)
          ∧ r.2.mem ((c.tc : Thread Cert.ResidLnRefIdeal.nD Cert.ResidLnRefIdeal.τ).loc Cert.ResidLnRefIdeal.main_arg2) = m' ((c.tc : Thread Cert.ResidLnRefIdeal.nD Cert.ResidLnRefIdeal.τ).loc Cert.ResidLnRefIdeal.main_arg2)
          ∧ r.2.mem ((c.tc : Thread Cert.ResidLnRefIdeal.nD Cert.ResidLnRefIdeal.τ).loc Cert.ResidLnRefIdeal.main_arg3) = m' ((c.tc : Thread Cert.ResidLnRefIdeal.nD Cert.ResidLnRefIdeal.τ).loc Cert.ResidLnRefIdeal.main_arg3)
          ∧ r.2.mem ((c.tc : Thread Cert.ResidLnRefIdeal.nD Cert.ResidLnRefIdeal.τ).loc Cert.ResidLnRefIdeal.main_arg4) = m' ((c.tc : Thread Cert.ResidLnRefIdeal.nD Cert.ResidLnRefIdeal.τ).loc Cert.ResidLnRefIdeal.main_arg4)
          ∧ r.2.mem ((c.tc : Thread Cert.ResidLnRefIdeal.nD Cert.ResidLnRefIdeal.τ).loc Cert.ResidLnRefIdeal.main_arg5) = m' ((c.tc : Thread Cert.ResidLnRefIdeal.nD Cert.ResidLnRefIdeal.τ).loc Cert.ResidLnRefIdeal.main_arg5))

def preserves_NsaCompress_NsaCompressIdeal : Prop :=
  True

def algebraic_NsaCompressIdeal_NsaCompressRefIdeal [hNsaCompressIdeal : Cert.NsaCompressIdeal.Facts] [hNsaCompressRefIdeal : Cert.NsaCompressRefIdeal.Facts] : Prop :=
  ∀ (m : (ℓ : Loc Cert.NsaCompressIdeal.nD Cert.NsaCompressIdeal.τ Cert.NsaCompressIdeal.sig) → Buf (Elt Ideal) ℓ) (g : Dev Cert.NsaCompressIdeal.nD → PrngReg)
    (m' : (ℓ : Loc Cert.NsaCompressRefIdeal.nD Cert.NsaCompressRefIdeal.τ Cert.NsaCompressRefIdeal.sig) → Buf (Elt Ideal) ℓ) (g' : Dev Cert.NsaCompressRefIdeal.nD → PrngReg), Pre_NsaCompressIdeal m →
    (∀ c : Dev Cert.NsaCompressIdeal.nD,
      m' ((c.tc : Thread Cert.NsaCompressRefIdeal.nD Cert.NsaCompressRefIdeal.τ).loc Cert.NsaCompressRefIdeal.main_arg0) = m ((c.tc : Thread Cert.NsaCompressIdeal.nD Cert.NsaCompressIdeal.τ).loc Cert.NsaCompressIdeal.main_arg0)
      ∧ m' ((c.tc : Thread Cert.NsaCompressRefIdeal.nD Cert.NsaCompressRefIdeal.τ).loc Cert.NsaCompressRefIdeal.main_arg1) = m ((c.tc : Thread Cert.NsaCompressIdeal.nD Cert.NsaCompressIdeal.τ).loc Cert.NsaCompressIdeal.main_arg1)
      ∧ m' ((c.tc : Thread Cert.NsaCompressRefIdeal.nD Cert.NsaCompressRefIdeal.τ).loc Cert.NsaCompressRefIdeal.main_arg2) = m ((c.tc : Thread Cert.NsaCompressIdeal.nD Cert.NsaCompressIdeal.τ).loc Cert.NsaCompressIdeal.main_arg2)
      ∧ m' ((c.tc : Thread Cert.NsaCompressRefIdeal.nD Cert.NsaCompressRefIdeal.τ).loc Cert.NsaCompressRefIdeal.main_arg3) = m ((c.tc : Thread Cert.NsaCompressIdeal.nD Cert.NsaCompressIdeal.τ).loc Cert.NsaCompressIdeal.main_arg3)) →
    ∃ (v0 : (c : Dev Cert.NsaCompressIdeal.nD) → Buf (Elt Ideal) ((c.tc : Thread Cert.NsaCompressIdeal.nD Cert.NsaCompressIdeal.τ).loc Cert.NsaCompressIdeal.main_v0)),
      θ_run (Cert.NsaCompressIdeal.defs (F := Ideal)) (onTc (τ := Cert.NsaCompressIdeal.τ) (Cert.NsaCompressIdeal.main (F := Ideal))) ⟨m, fun _ => 0, g⟩ (fun r => ∀ c : Dev Cert.NsaCompressIdeal.nD,
          r.2.mem ((c.tc : Thread Cert.NsaCompressIdeal.nD Cert.NsaCompressIdeal.τ).loc Cert.NsaCompressIdeal.main_v0) = v0 c
          ∧ r.2.mem ((c.tc : Thread Cert.NsaCompressIdeal.nD Cert.NsaCompressIdeal.τ).loc Cert.NsaCompressIdeal.main_arg0) = m ((c.tc : Thread Cert.NsaCompressIdeal.nD Cert.NsaCompressIdeal.τ).loc Cert.NsaCompressIdeal.main_arg0)
          ∧ r.2.mem ((c.tc : Thread Cert.NsaCompressIdeal.nD Cert.NsaCompressIdeal.τ).loc Cert.NsaCompressIdeal.main_arg1) = m ((c.tc : Thread Cert.NsaCompressIdeal.nD Cert.NsaCompressIdeal.τ).loc Cert.NsaCompressIdeal.main_arg1)
          ∧ r.2.mem ((c.tc : Thread Cert.NsaCompressIdeal.nD Cert.NsaCompressIdeal.τ).loc Cert.NsaCompressIdeal.main_arg2) = m ((c.tc : Thread Cert.NsaCompressIdeal.nD Cert.NsaCompressIdeal.τ).loc Cert.NsaCompressIdeal.main_arg2)
          ∧ r.2.mem ((c.tc : Thread Cert.NsaCompressIdeal.nD Cert.NsaCompressIdeal.τ).loc Cert.NsaCompressIdeal.main_arg3) = m ((c.tc : Thread Cert.NsaCompressIdeal.nD Cert.NsaCompressIdeal.τ).loc Cert.NsaCompressIdeal.main_arg3))
      ∧ θ_run (Cert.NsaCompressRefIdeal.defs (F := Ideal)) (onTc (τ := Cert.NsaCompressRefIdeal.τ) (Cert.NsaCompressRefIdeal.main (F := Ideal))) ⟨m', fun _ => 0, g'⟩ (fun r => ∀ c : Dev Cert.NsaCompressRefIdeal.nD,
          r.2.mem ((c.tc : Thread Cert.NsaCompressRefIdeal.nD Cert.NsaCompressRefIdeal.τ).loc Cert.NsaCompressRefIdeal.main_v13) = v0 c
          ∧ r.2.mem ((c.tc : Thread Cert.NsaCompressRefIdeal.nD Cert.NsaCompressRefIdeal.τ).loc Cert.NsaCompressRefIdeal.main_arg0) = m' ((c.tc : Thread Cert.NsaCompressRefIdeal.nD Cert.NsaCompressRefIdeal.τ).loc Cert.NsaCompressRefIdeal.main_arg0)
          ∧ r.2.mem ((c.tc : Thread Cert.NsaCompressRefIdeal.nD Cert.NsaCompressRefIdeal.τ).loc Cert.NsaCompressRefIdeal.main_arg1) = m' ((c.tc : Thread Cert.NsaCompressRefIdeal.nD Cert.NsaCompressRefIdeal.τ).loc Cert.NsaCompressRefIdeal.main_arg1)
          ∧ r.2.mem ((c.tc : Thread Cert.NsaCompressRefIdeal.nD Cert.NsaCompressRefIdeal.τ).loc Cert.NsaCompressRefIdeal.main_arg2) = m' ((c.tc : Thread Cert.NsaCompressRefIdeal.nD Cert.NsaCompressRefIdeal.τ).loc Cert.NsaCompressRefIdeal.main_arg2)
          ∧ r.2.mem ((c.tc : Thread Cert.NsaCompressRefIdeal.nD Cert.NsaCompressRefIdeal.τ).loc Cert.NsaCompressRefIdeal.main_arg3) = m' ((c.tc : Thread Cert.NsaCompressRefIdeal.nD Cert.NsaCompressRefIdeal.τ).loc Cert.NsaCompressRefIdeal.main_arg3))

def preserves_NsaCombine_NsaCombineIdeal : Prop :=
  True

def algebraic_NsaCombineIdeal_NsaCombineRefIdeal [hNsaCombineIdeal : Cert.NsaCombineIdeal.Facts] [hNsaCombineRefIdeal : Cert.NsaCombineRefIdeal.Facts] : Prop :=
  ∀ (m : (ℓ : Loc Cert.NsaCombineIdeal.nD Cert.NsaCombineIdeal.τ Cert.NsaCombineIdeal.sig) → Buf (Elt Ideal) ℓ) (g : Dev Cert.NsaCombineIdeal.nD → PrngReg)
    (m' : (ℓ : Loc Cert.NsaCombineRefIdeal.nD Cert.NsaCombineRefIdeal.τ Cert.NsaCombineRefIdeal.sig) → Buf (Elt Ideal) ℓ) (g' : Dev Cert.NsaCombineRefIdeal.nD → PrngReg), Pre_NsaCombineIdeal m →
    (∀ c : Dev Cert.NsaCombineIdeal.nD,
      m' ((c.tc : Thread Cert.NsaCombineRefIdeal.nD Cert.NsaCombineRefIdeal.τ).loc Cert.NsaCombineRefIdeal.main_arg0) = m ((c.tc : Thread Cert.NsaCombineIdeal.nD Cert.NsaCombineIdeal.τ).loc Cert.NsaCombineIdeal.main_arg0)
      ∧ m' ((c.tc : Thread Cert.NsaCombineRefIdeal.nD Cert.NsaCombineRefIdeal.τ).loc Cert.NsaCombineRefIdeal.main_arg1) = m ((c.tc : Thread Cert.NsaCombineIdeal.nD Cert.NsaCombineIdeal.τ).loc Cert.NsaCombineIdeal.main_arg1)
      ∧ m' ((c.tc : Thread Cert.NsaCombineRefIdeal.nD Cert.NsaCombineRefIdeal.τ).loc Cert.NsaCombineRefIdeal.main_arg2) = m ((c.tc : Thread Cert.NsaCombineIdeal.nD Cert.NsaCombineIdeal.τ).loc Cert.NsaCombineIdeal.main_arg2)
      ∧ m' ((c.tc : Thread Cert.NsaCombineRefIdeal.nD Cert.NsaCombineRefIdeal.τ).loc Cert.NsaCombineRefIdeal.main_arg3) = m ((c.tc : Thread Cert.NsaCombineIdeal.nD Cert.NsaCombineIdeal.τ).loc Cert.NsaCombineIdeal.main_arg3)) →
    ∃ (v0 : (c : Dev Cert.NsaCombineIdeal.nD) → Buf (Elt Ideal) ((c.tc : Thread Cert.NsaCombineIdeal.nD Cert.NsaCombineIdeal.τ).loc Cert.NsaCombineIdeal.main_v0)),
      θ_run (Cert.NsaCombineIdeal.defs (F := Ideal)) (onTc (τ := Cert.NsaCombineIdeal.τ) (Cert.NsaCombineIdeal.main (F := Ideal))) ⟨m, fun _ => 0, g⟩ (fun r => ∀ c : Dev Cert.NsaCombineIdeal.nD,
          r.2.mem ((c.tc : Thread Cert.NsaCombineIdeal.nD Cert.NsaCombineIdeal.τ).loc Cert.NsaCombineIdeal.main_v0) = v0 c
          ∧ r.2.mem ((c.tc : Thread Cert.NsaCombineIdeal.nD Cert.NsaCombineIdeal.τ).loc Cert.NsaCombineIdeal.main_arg0) = m ((c.tc : Thread Cert.NsaCombineIdeal.nD Cert.NsaCombineIdeal.τ).loc Cert.NsaCombineIdeal.main_arg0)
          ∧ r.2.mem ((c.tc : Thread Cert.NsaCombineIdeal.nD Cert.NsaCombineIdeal.τ).loc Cert.NsaCombineIdeal.main_arg1) = m ((c.tc : Thread Cert.NsaCombineIdeal.nD Cert.NsaCombineIdeal.τ).loc Cert.NsaCombineIdeal.main_arg1)
          ∧ r.2.mem ((c.tc : Thread Cert.NsaCombineIdeal.nD Cert.NsaCombineIdeal.τ).loc Cert.NsaCombineIdeal.main_arg2) = m ((c.tc : Thread Cert.NsaCombineIdeal.nD Cert.NsaCombineIdeal.τ).loc Cert.NsaCombineIdeal.main_arg2)
          ∧ r.2.mem ((c.tc : Thread Cert.NsaCombineIdeal.nD Cert.NsaCombineIdeal.τ).loc Cert.NsaCombineIdeal.main_arg3) = m ((c.tc : Thread Cert.NsaCombineIdeal.nD Cert.NsaCombineIdeal.τ).loc Cert.NsaCombineIdeal.main_arg3))
      ∧ θ_run (Cert.NsaCombineRefIdeal.defs (F := Ideal)) (onTc (τ := Cert.NsaCombineRefIdeal.τ) (Cert.NsaCombineRefIdeal.main (F := Ideal))) ⟨m', fun _ => 0, g'⟩ (fun r => ∀ c : Dev Cert.NsaCombineRefIdeal.nD,
          r.2.mem ((c.tc : Thread Cert.NsaCombineRefIdeal.nD Cert.NsaCombineRefIdeal.τ).loc Cert.NsaCombineRefIdeal.main_v22) = v0 c
          ∧ r.2.mem ((c.tc : Thread Cert.NsaCombineRefIdeal.nD Cert.NsaCombineRefIdeal.τ).loc Cert.NsaCombineRefIdeal.main_arg0) = m' ((c.tc : Thread Cert.NsaCombineRefIdeal.nD Cert.NsaCombineRefIdeal.τ).loc Cert.NsaCombineRefIdeal.main_arg0)
          ∧ r.2.mem ((c.tc : Thread Cert.NsaCombineRefIdeal.nD Cert.NsaCombineRefIdeal.τ).loc Cert.NsaCombineRefIdeal.main_arg1) = m' ((c.tc : Thread Cert.NsaCombineRefIdeal.nD Cert.NsaCombineRefIdeal.τ).loc Cert.NsaCombineRefIdeal.main_arg1)
          ∧ r.2.mem ((c.tc : Thread Cert.NsaCombineRefIdeal.nD Cert.NsaCombineRefIdeal.τ).loc Cert.NsaCombineRefIdeal.main_arg2) = m' ((c.tc : Thread Cert.NsaCombineRefIdeal.nD Cert.NsaCombineRefIdeal.τ).loc Cert.NsaCombineRefIdeal.main_arg2)
          ∧ r.2.mem ((c.tc : Thread Cert.NsaCombineRefIdeal.nD Cert.NsaCombineRefIdeal.τ).loc Cert.NsaCombineRefIdeal.main_arg3) = m' ((c.tc : Thread Cert.NsaCombineRefIdeal.nD Cert.NsaCombineRefIdeal.τ).loc Cert.NsaCombineRefIdeal.main_arg3))

def preserves_DiffFinal_DiffFinalIdeal : Prop :=
  True

def algebraic_DiffFinalIdeal_DiffFinalRefIdeal [hDiffFinalIdeal : Cert.DiffFinalIdeal.Facts] [hDiffFinalRefIdeal : Cert.DiffFinalRefIdeal.Facts] : Prop :=
  ∀ (m : (ℓ : Loc Cert.DiffFinalIdeal.nD Cert.DiffFinalIdeal.τ Cert.DiffFinalIdeal.sig) → Buf (Elt Ideal) ℓ) (g : Dev Cert.DiffFinalIdeal.nD → PrngReg)
    (m' : (ℓ : Loc Cert.DiffFinalRefIdeal.nD Cert.DiffFinalRefIdeal.τ Cert.DiffFinalRefIdeal.sig) → Buf (Elt Ideal) ℓ) (g' : Dev Cert.DiffFinalRefIdeal.nD → PrngReg), Pre_DiffFinalIdeal m →
    (∀ c : Dev Cert.DiffFinalIdeal.nD,
      m' ((c.tc : Thread Cert.DiffFinalRefIdeal.nD Cert.DiffFinalRefIdeal.τ).loc Cert.DiffFinalRefIdeal.main_arg0) = m ((c.tc : Thread Cert.DiffFinalIdeal.nD Cert.DiffFinalIdeal.τ).loc Cert.DiffFinalIdeal.main_arg0)
      ∧ m' ((c.tc : Thread Cert.DiffFinalRefIdeal.nD Cert.DiffFinalRefIdeal.τ).loc Cert.DiffFinalRefIdeal.main_arg1) = m ((c.tc : Thread Cert.DiffFinalIdeal.nD Cert.DiffFinalIdeal.τ).loc Cert.DiffFinalIdeal.main_arg1)
      ∧ m' ((c.tc : Thread Cert.DiffFinalRefIdeal.nD Cert.DiffFinalRefIdeal.τ).loc Cert.DiffFinalRefIdeal.main_arg2) = m ((c.tc : Thread Cert.DiffFinalIdeal.nD Cert.DiffFinalIdeal.τ).loc Cert.DiffFinalIdeal.main_arg2)) →
    ∃ (v0 : (c : Dev Cert.DiffFinalIdeal.nD) → Buf (Elt Ideal) ((c.tc : Thread Cert.DiffFinalIdeal.nD Cert.DiffFinalIdeal.τ).loc Cert.DiffFinalIdeal.main_v0)),
      θ_run (Cert.DiffFinalIdeal.defs (F := Ideal)) (onTc (τ := Cert.DiffFinalIdeal.τ) (Cert.DiffFinalIdeal.main (F := Ideal))) ⟨m, fun _ => 0, g⟩ (fun r => ∀ c : Dev Cert.DiffFinalIdeal.nD,
          r.2.mem ((c.tc : Thread Cert.DiffFinalIdeal.nD Cert.DiffFinalIdeal.τ).loc Cert.DiffFinalIdeal.main_v0) = v0 c
          ∧ r.2.mem ((c.tc : Thread Cert.DiffFinalIdeal.nD Cert.DiffFinalIdeal.τ).loc Cert.DiffFinalIdeal.main_arg0) = m ((c.tc : Thread Cert.DiffFinalIdeal.nD Cert.DiffFinalIdeal.τ).loc Cert.DiffFinalIdeal.main_arg0)
          ∧ r.2.mem ((c.tc : Thread Cert.DiffFinalIdeal.nD Cert.DiffFinalIdeal.τ).loc Cert.DiffFinalIdeal.main_arg1) = m ((c.tc : Thread Cert.DiffFinalIdeal.nD Cert.DiffFinalIdeal.τ).loc Cert.DiffFinalIdeal.main_arg1)
          ∧ r.2.mem ((c.tc : Thread Cert.DiffFinalIdeal.nD Cert.DiffFinalIdeal.τ).loc Cert.DiffFinalIdeal.main_arg2) = m ((c.tc : Thread Cert.DiffFinalIdeal.nD Cert.DiffFinalIdeal.τ).loc Cert.DiffFinalIdeal.main_arg2))
      ∧ θ_run (Cert.DiffFinalRefIdeal.defs (F := Ideal)) (onTc (τ := Cert.DiffFinalRefIdeal.τ) (Cert.DiffFinalRefIdeal.main (F := Ideal))) ⟨m', fun _ => 0, g'⟩ (fun r => ∀ c : Dev Cert.DiffFinalRefIdeal.nD,
          r.2.mem ((c.tc : Thread Cert.DiffFinalRefIdeal.nD Cert.DiffFinalRefIdeal.τ).loc Cert.DiffFinalRefIdeal.main_v42) = v0 c
          ∧ r.2.mem ((c.tc : Thread Cert.DiffFinalRefIdeal.nD Cert.DiffFinalRefIdeal.τ).loc Cert.DiffFinalRefIdeal.main_arg0) = m' ((c.tc : Thread Cert.DiffFinalRefIdeal.nD Cert.DiffFinalRefIdeal.τ).loc Cert.DiffFinalRefIdeal.main_arg0)
          ∧ r.2.mem ((c.tc : Thread Cert.DiffFinalRefIdeal.nD Cert.DiffFinalRefIdeal.τ).loc Cert.DiffFinalRefIdeal.main_arg1) = m' ((c.tc : Thread Cert.DiffFinalRefIdeal.nD Cert.DiffFinalRefIdeal.τ).loc Cert.DiffFinalRefIdeal.main_arg1)
          ∧ r.2.mem ((c.tc : Thread Cert.DiffFinalRefIdeal.nD Cert.DiffFinalRefIdeal.τ).loc Cert.DiffFinalRefIdeal.main_arg2) = m' ((c.tc : Thread Cert.DiffFinalRefIdeal.nD Cert.DiffFinalRefIdeal.τ).loc Cert.DiffFinalRefIdeal.main_arg2))

def Claim : Prop :=
  ∃ (hMoeUp : Cert.MoeUp.Facts) (hMoeUpIdeal : Cert.MoeUpIdeal.Facts) (hMoeUpRefIdeal : Cert.MoeUpRefIdeal.Facts) (hMoeDown : Cert.MoeDown.Facts) (hMoeDownIdeal : Cert.MoeDownIdeal.Facts) (hMoeDownRefIdeal : Cert.MoeDownRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hMerge : Cert.Merge.Facts) (hMergeIdeal : Cert.MergeIdeal.Facts) (hMergeRefIdeal : Cert.MergeRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hCond : Cert.Cond.Facts) (hCondIdeal : Cert.CondIdeal.Facts) (hCondRefIdeal : Cert.CondRefIdeal.Facts) (hDsaKv : Cert.DsaKv.Facts) (hDsaKvIdeal : Cert.DsaKvIdeal.Facts) (hDsaKvRefIdeal : Cert.DsaKvRefIdeal.Facts) (hModulate : Cert.Modulate.Facts) (hModulateIdeal : Cert.ModulateIdeal.Facts) (hModulateRefIdeal : Cert.ModulateRefIdeal.Facts) (hResidLn : Cert.ResidLn.Facts) (hResidLnIdeal : Cert.ResidLnIdeal.Facts) (hResidLnRefIdeal : Cert.ResidLnRefIdeal.Facts) (hNsaCompress : Cert.NsaCompress.Facts) (hNsaCompressIdeal : Cert.NsaCompressIdeal.Facts) (hNsaCompressRefIdeal : Cert.NsaCompressRefIdeal.Facts) (hNsaCombine : Cert.NsaCombine.Facts) (hNsaCombineIdeal : Cert.NsaCombineIdeal.Facts) (hNsaCombineRefIdeal : Cert.NsaCombineRefIdeal.Facts) (hDiffFinal : Cert.DiffFinal.Facts) (hDiffFinalIdeal : Cert.DiffFinalIdeal.Facts) (hDiffFinalRefIdeal : Cert.DiffFinalRefIdeal.Facts) (hPre_experts_in_range : Cert.Pre_experts_in_range.Facts) (hPre_experts_in_range_down : Cert.Pre_experts_in_range_down.Facts),
    quiescent_MoeUp (hMoeUp := hMoeUp) (hPre_experts_in_range := hPre_experts_in_range)
    ∧ quiescent_MoeUpIdeal (hMoeUpIdeal := hMoeUpIdeal) (hPre_experts_in_range := hPre_experts_in_range)
    ∧ quiescent_MoeUpRefIdeal (hMoeUpRefIdeal := hMoeUpRefIdeal) (hPre_experts_in_range := hPre_experts_in_range)
    ∧ quiescent_MoeDown (hMoeDown := hMoeDown) (hPre_experts_in_range_down := hPre_experts_in_range_down)
    ∧ quiescent_MoeDownIdeal (hMoeDownIdeal := hMoeDownIdeal) (hPre_experts_in_range_down := hPre_experts_in_range_down)
    ∧ quiescent_MoeDownRefIdeal (hMoeDownRefIdeal := hMoeDownRefIdeal) (hPre_experts_in_range_down := hPre_experts_in_range_down)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_Merge (hMerge := hMerge)
    ∧ quiescent_MergeIdeal (hMergeIdeal := hMergeIdeal)
    ∧ quiescent_MergeRefIdeal (hMergeRefIdeal := hMergeRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Cond (hCond := hCond)
    ∧ quiescent_CondIdeal (hCondIdeal := hCondIdeal)
    ∧ quiescent_CondRefIdeal (hCondRefIdeal := hCondRefIdeal)
    ∧ quiescent_DsaKv (hDsaKv := hDsaKv)
    ∧ quiescent_DsaKvIdeal (hDsaKvIdeal := hDsaKvIdeal)
    ∧ quiescent_DsaKvRefIdeal (hDsaKvRefIdeal := hDsaKvRefIdeal)
    ∧ quiescent_Modulate (hModulate := hModulate)
    ∧ quiescent_ModulateIdeal (hModulateIdeal := hModulateIdeal)
    ∧ quiescent_ModulateRefIdeal (hModulateRefIdeal := hModulateRefIdeal)
    ∧ quiescent_ResidLn (hResidLn := hResidLn)
    ∧ quiescent_ResidLnIdeal (hResidLnIdeal := hResidLnIdeal)
    ∧ quiescent_ResidLnRefIdeal (hResidLnRefIdeal := hResidLnRefIdeal)
    ∧ quiescent_NsaCompress (hNsaCompress := hNsaCompress)
    ∧ quiescent_NsaCompressIdeal (hNsaCompressIdeal := hNsaCompressIdeal)
    ∧ quiescent_NsaCompressRefIdeal (hNsaCompressRefIdeal := hNsaCompressRefIdeal)
    ∧ quiescent_NsaCombine (hNsaCombine := hNsaCombine)
    ∧ quiescent_NsaCombineIdeal (hNsaCombineIdeal := hNsaCombineIdeal)
    ∧ quiescent_NsaCombineRefIdeal (hNsaCombineRefIdeal := hNsaCombineRefIdeal)
    ∧ quiescent_DiffFinal (hDiffFinal := hDiffFinal)
    ∧ quiescent_DiffFinalIdeal (hDiffFinalIdeal := hDiffFinalIdeal)
    ∧ quiescent_DiffFinalRefIdeal (hDiffFinalRefIdeal := hDiffFinalRefIdeal)
    ∧ preserves_MoeUp_MoeUpIdeal
    ∧ algebraic_MoeUpIdeal_MoeUpRefIdeal (hMoeUpIdeal := hMoeUpIdeal) (hMoeUpRefIdeal := hMoeUpRefIdeal) (hPre_experts_in_range := hPre_experts_in_range)
    ∧ preserves_MoeDown_MoeDownIdeal
    ∧ algebraic_MoeDownIdeal_MoeDownRefIdeal (hMoeDownIdeal := hMoeDownIdeal) (hMoeDownRefIdeal := hMoeDownRefIdeal) (hPre_experts_in_range_down := hPre_experts_in_range_down)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_Merge_MergeIdeal
    ∧ algebraic_MergeIdeal_MergeRefIdeal (hMergeIdeal := hMergeIdeal) (hMergeRefIdeal := hMergeRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Cond_CondIdeal
    ∧ algebraic_CondIdeal_CondRefIdeal (hCondIdeal := hCondIdeal) (hCondRefIdeal := hCondRefIdeal)
    ∧ preserves_DsaKv_DsaKvIdeal
    ∧ algebraic_DsaKvIdeal_DsaKvRefIdeal (hDsaKvIdeal := hDsaKvIdeal) (hDsaKvRefIdeal := hDsaKvRefIdeal)
    ∧ preserves_Modulate_ModulateIdeal
    ∧ algebraic_ModulateIdeal_ModulateRefIdeal (hModulateIdeal := hModulateIdeal) (hModulateRefIdeal := hModulateRefIdeal)
    ∧ preserves_ResidLn_ResidLnIdeal
    ∧ algebraic_ResidLnIdeal_ResidLnRefIdeal (hResidLnIdeal := hResidLnIdeal) (hResidLnRefIdeal := hResidLnRefIdeal)
    ∧ preserves_NsaCompress_NsaCompressIdeal
    ∧ algebraic_NsaCompressIdeal_NsaCompressRefIdeal (hNsaCompressIdeal := hNsaCompressIdeal) (hNsaCompressRefIdeal := hNsaCompressRefIdeal)
    ∧ preserves_NsaCombine_NsaCombineIdeal
    ∧ algebraic_NsaCombineIdeal_NsaCombineRefIdeal (hNsaCombineIdeal := hNsaCombineIdeal) (hNsaCombineRefIdeal := hNsaCombineRefIdeal)
    ∧ preserves_DiffFinal_DiffFinalIdeal
    ∧ algebraic_DiffFinalIdeal_DiffFinalRefIdeal (hDiffFinalIdeal := hDiffFinalIdeal) (hDiffFinalRefIdeal := hDiffFinalRefIdeal)
-- ==== Pre_experts_in_range.lean ====
abbrev S40 : Shape := ⟨1, ![40]⟩
abbrev S1 : Shape := ⟨1, ![1]⟩
abbrev S20480x2048 : Shape := ⟨2, ![20480, 2048]⟩
abbrev S2x8x2048x4096 : Shape := ⟨4, ![2, 8, 2048, 4096]⟩
abbrev S20480x1 : Shape := ⟨2, ![20480, 1]⟩
abbrev S_ : Shape := ⟨0, ![]⟩

class Facts : Prop where
  bcast_S_S40 : S_.BroadcastsInDim S40 (![] : Fin 0 → Fin S40.rank)

variable [Facts]

def fn {F : FTy → Type} [FloatOps F] (main_arg0 : IVec S40 32) (main_arg1 : IVec S1 32) (main_arg2 : FVec F S20480x2048 .bf16) (main_arg3 : FVec F S2x8x2048x4096 .f32) (main_arg4 : FVec F S2x8x2048x4096 .f32) (main_arg5 : FVec F S20480x1 .f32) : IVec S40 1 :=
  let main_c : IVec S_ 32 := constantI S_ 32 0#32
  let main_v0 : IVec S40 32 := broadcastInDim S40 ![] bcast_S_S40 main_c
  let main_v1 : IVec S40 1 := cmpi .sge main_arg0 main_v0
  let main_c_0 : IVec S_ 32 := constantI S_ 32 8#32
  let main_v2 : IVec S40 32 := broadcastInDim S40 ![] bcast_S_S40 main_c_0
  let main_v3 : IVec S40 1 := cmpi .slt main_arg0 main_v2
  let main_v4 : IVec S40 1 := andi main_v1 main_v3
  main_v4
-- ==== Pre_experts_in_range_down.lean ====
abbrev S40 : Shape := ⟨1, ![40]⟩
abbrev S1 : Shape := ⟨1, ![1]⟩
abbrev S20480x4096 : Shape := ⟨2, ![20480, 4096]⟩
abbrev S2x8x4096x2048 : Shape := ⟨4, ![2, 8, 4096, 2048]⟩
abbrev S_ : Shape := ⟨0, ![]⟩

class Facts : Prop where
  bcast_S_S40 : S_.BroadcastsInDim S40 (![] : Fin 0 → Fin S40.rank)

variable [Facts]

def fn {F : FTy → Type} [FloatOps F] (main_arg0 : IVec S40 32) (main_arg1 : IVec S1 32) (main_arg2 : FVec F S20480x4096 .bf16) (main_arg3 : FVec F S2x8x4096x2048 .f32) : IVec S40 1 :=
  let main_c : IVec S_ 32 := constantI S_ 32 0#32
  let main_v0 : IVec S40 32 := broadcastInDim S40 ![] bcast_S_S40 main_c
  let main_v1 : IVec S40 1 := cmpi .sge main_arg0 main_v0
  let main_c_0 : IVec S_ 32 := constantI S_ 32 8#32
  let main_v2 : IVec S40 32 := broadcastInDim S40 ![] bcast_S_S40 main_c_0
  let main_v3 : IVec S40 1 := cmpi .slt main_arg0 main_v2
  let main_v4 : IVec S40 1 := andi main_v1 main_v3
  main_v4
-- ==== MoeUp.lean ====
abbrev S40 : Shape := ⟨1, ![40]⟩
abbrev S1 : Shape := ⟨1, ![1]⟩
abbrev S20480x2048 : Shape := ⟨2, ![20480, 2048]⟩
abbrev S2x8x2048x4096 : Shape := ⟨4, ![2, 8, 2048, 4096]⟩
abbrev S20480x1 : Shape := ⟨2, ![20480, 1]⟩
abbrev S20480x4096 : Shape := ⟨2, ![20480, 4096]⟩
abbrev S512x2048 : Shape := ⟨2, ![512, 2048]⟩
abbrev S1x1x2048x512 : Shape := ⟨4, ![1, 1, 2048, 512]⟩
abbrev S512x1 : Shape := ⟨2, ![512, 1]⟩
abbrev S512x512 : Shape := ⟨2, ![512, 512]⟩
abbrev S2048x512 : Shape := ⟨2, ![2048, 512]⟩

abbrev nBuf : Space → Nat
  | .hbm => 5
  | .vmem => 12
  | .smem => 2
  | _ => 0

abbrev bufTy : (tb : Table) → Fin (tcTables nBuf tb) → BufTy
  | .hbm, ⟨0, _⟩ => ⟨S20480x2048, .bf16⟩
  | .hbm, ⟨1, _⟩ => ⟨S2x8x2048x4096, .f32⟩
  | .hbm, ⟨2, _⟩ => ⟨S2x8x2048x4096, .f32⟩
  | .hbm, ⟨3, _⟩ => ⟨S20480x1, .f32⟩
  | .hbm, ⟨4, _⟩ => ⟨S20480x4096, .bf16⟩
  | .local _ .vmem, ⟨0, _⟩ => ⟨S512x2048, .bf16⟩
  | .local _ .vmem, ⟨1, _⟩ => ⟨S512x2048, .bf16⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S512x1, .f32⟩
  | .local _ .vmem, ⟨7, _⟩ => ⟨S512x1, .f32⟩
  | .local _ .vmem, ⟨8, _⟩ => ⟨S512x512, .bf16⟩
  | .local _ .vmem, ⟨9, _⟩ => ⟨S512x512, .bf16⟩
  | .local _ .vmem, ⟨10, _⟩ => ⟨S2048x512, .bf16⟩
  | .local _ .vmem, ⟨11, _⟩ => ⟨S2048x512, .bf16⟩
  | .local _ .smem, ⟨0, _⟩ => ⟨S40, .i32⟩
  | .local _ .smem, ⟨1, _⟩ => ⟨S1, .i32⟩
  | _, _ => ⟨S20480x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 40], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v5 : BitVec 32 := Scalar.subi arg1 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg1 : BitVec 32 := BitVec.ofNat 32 (i 1).val
  let v1 : BitVec 1 := Scalar.cmpi .slt arg1 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg1 : BitVec 32 := BitVec.ofNat 32 (i 1).val
  let v1 : BitVec 1 := Scalar.cmpi .slt arg1 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MoeUpRefIdeal.lean ====
abbrev S40 : Shape := ⟨1, ![40]⟩
abbrev S1 : Shape := ⟨1, ![1]⟩
abbrev S20480x2048 : Shape := ⟨2, ![20480, 2048]⟩
abbrev S2x8x2048x4096 : Shape := ⟨4, ![2, 8, 2048, 4096]⟩
abbrev S20480x1 : Shape := ⟨2, ![20480, 1]⟩
abbrev S1x8x2048x4096 : Shape := ⟨4, ![1, 8, 2048, 4096]⟩
abbrev S8x2048x4096 : Shape := ⟨3, ![8, 2048, 4096]⟩
abbrev S8x4096x20480 : Shape := ⟨3, ![8, 4096, 20480]⟩
abbrev S8x20480x4096 : Shape := ⟨3, ![8, 20480, 4096]⟩
abbrev S40x1 : Shape := ⟨2, ![40, 1]⟩
abbrev S40x512 : Shape := ⟨2, ![40, 512]⟩
abbrev S20480 : Shape := ⟨1, ![20480]⟩
abbrev S_ : Shape := ⟨0, ![]⟩
abbrev S1x20480 : Shape := ⟨2, ![1, 20480]⟩
abbrev S8 : Shape := ⟨1, ![8]⟩
abbrev S8x1 : Shape := ⟨2, ![8, 1]⟩
abbrev S8x20480 : Shape := ⟨2, ![8, 20480]⟩
abbrev S8x20480x1 : Shape := ⟨3, ![8, 20480, 1]⟩
abbrev S20480x4096 : Shape := ⟨2, ![20480, 4096]⟩

abbrev nBuf : Space → Nat
  | .hbm => 57
  | .vmem => 0
  | .smem => 0
  | _ => 0

abbrev bufTy : (tb : Table) → Fin (tcTables nBuf tb) → BufTy
  | .hbm, ⟨0, _⟩ => ⟨S40, .i32⟩
  | .hbm, ⟨1, _⟩ => ⟨S1, .i32⟩
  | .hbm, ⟨2, _⟩ => ⟨S20480x2048, .bf16⟩
  | .hbm, ⟨3, _⟩ => ⟨S2x8x2048x4096, .f32⟩
  | .hbm, ⟨4, _⟩ => ⟨S2x8x2048x4096, .f32⟩
  | .hbm, ⟨5, _⟩ => ⟨S20480x1, .f32⟩
  | .hbm, ⟨6, _⟩ => ⟨S20480x2048, .f32⟩
  | .hbm, ⟨7, _⟩ => ⟨S1x8x2048x4096, .f32⟩
  | .hbm, ⟨8, _⟩ => ⟨S8x2048x4096, .f32⟩
  | .hbm, ⟨9, _⟩ => ⟨S8x4096x20480, .f32⟩
  | .hbm, ⟨10, _⟩ => ⟨S8x20480x4096, .f32⟩
  | .hbm, ⟨11, _⟩ => ⟨S1x8x2048x4096, .f32⟩
  | .hbm, ⟨12, _⟩ => ⟨S8x2048x4096, .f32⟩
  | .hbm, ⟨13, _⟩ => ⟨S8x4096x20480, .f32⟩
  | .hbm, ⟨14, _⟩ => ⟨S8x20480x4096, .f32⟩
  | .hbm, ⟨15, _⟩ => ⟨S40x1, .i32⟩
  | .hbm, ⟨16, _⟩ => ⟨S40x512, .i32⟩
  | .hbm, ⟨17, _⟩ => ⟨S20480, .i32⟩
  | .hbm, ⟨18, _⟩ => ⟨S40, .i32⟩
  | .hbm, ⟨19, _⟩ => ⟨S_, .i32⟩
  | .hbm, ⟨20, _⟩ => ⟨S40, .i32⟩
  | .hbm, ⟨21, _⟩ => ⟨S40, .i1⟩
  | .hbm, ⟨22, _⟩ => ⟨S40x1, .i1⟩
  | .hbm, ⟨23, _⟩ => ⟨S40x512, .i1⟩
  | .hbm, ⟨24, _⟩ => ⟨S20480, .i1⟩
  | .hbm, ⟨25, _⟩ => ⟨S1x20480, .i32⟩
  | .hbm, ⟨26, _⟩ => ⟨S8, .i32⟩
  | .hbm, ⟨27, _⟩ => ⟨S8x1, .i32⟩
  | .hbm, ⟨28, _⟩ => ⟨S8x20480, .i32⟩
  | .hbm, ⟨29, _⟩ => ⟨S8x20480, .i32⟩
  | .hbm, ⟨30, _⟩ => ⟨S8x20480, .i1⟩
  | .hbm, ⟨31, _⟩ => ⟨S1x20480, .i1⟩
  | .hbm, ⟨32, _⟩ => ⟨S8x20480, .i1⟩
  | .hbm, ⟨33, _⟩ => ⟨S8x20480, .i1⟩
  | .hbm, ⟨34, _⟩ => ⟨S20480, .f32⟩
  | .hbm, ⟨35, _⟩ => ⟨S1x20480, .f32⟩
  | .hbm, ⟨36, _⟩ => ⟨S_, .f32⟩
  | .hbm, ⟨37, _⟩ => ⟨S_, .f32⟩
  | .hbm, ⟨38, _⟩ => ⟨S8x20480, .f32⟩
  | .hbm, ⟨39, _⟩ => ⟨S8x20480, .f32⟩
  | .hbm, ⟨40, _⟩ => ⟨S8x20480, .f32⟩
  | .hbm, ⟨41, _⟩ => ⟨S8x20480x1, .f32⟩
  | .hbm, ⟨42, _⟩ => ⟨S8x20480x4096, .f32⟩
  | .hbm, ⟨43, _⟩ => ⟨S8x20480x4096, .f32⟩
  | .hbm, ⟨44, _⟩ => ⟨S_, .f32⟩
  | .hbm, ⟨45, _⟩ => ⟨S8x20480x4096, .f32⟩
  | .hbm, ⟨46, _⟩ => ⟨S8x20480x4096, .f32⟩
  | .hbm, ⟨47, _⟩ => ⟨S_, .f32⟩
  | .hbm, ⟨48, _⟩ => ⟨S8x20480x4096, .f32⟩
  | .hbm, ⟨49, _⟩ => ⟨S8x20480x4096, .f32⟩
  | .hbm, ⟨50, _⟩ => ⟨S8x20480x4096, .f32⟩
  | .hbm, ⟨51, _⟩ => ⟨S8x20480x4096, .f32⟩
  | .hbm, ⟨52, _⟩ => ⟨S8x20480x4096, .f32⟩
  | .hbm, ⟨53, _⟩ => ⟨S8x20480x4096, .f32⟩
  | .hbm, ⟨54, _⟩ => ⟨S_, .f32⟩
  | .hbm, ⟨55, _⟩ => ⟨S20480x4096, .f32⟩
  | .hbm, ⟨56, _⟩ => ⟨S20480x4096, .bf16⟩
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v30 : Ref sig .tc := ⟨.hbm, 40, rfl⟩
abbrev main_v31 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_0 : Ref sig .tc := ⟨.hbm, 54, rfl⟩
abbrev main_v36 : Ref sig .tc := ⟨.hbm, 55, rfl⟩
abbrev main_v37 : Ref sig .tc := ⟨.hbm, 56, rfl⟩

abbrev nD : Nat := 1
abbrev τ : Topo := Topo.v7x

variable {F : FTy → Type} [FloatOps F]
-- ==== MoeDown.lean ====
abbrev S40 : Shape := ⟨1, ![40]⟩
abbrev S1 : Shape := ⟨1, ![1]⟩
abbrev S20480x4096 : Shape := ⟨2, ![20480, 4096]⟩
abbrev S2x8x4096x2048 : Shape := ⟨4, ![2, 8, 4096, 2048]⟩
abbrev S20480x2048 : Shape := ⟨2, ![20480, 2048]⟩
abbrev S512x4096 : Shape := ⟨2, ![512, 4096]⟩
abbrev S1x1x4096x512 : Shape := ⟨4, ![1, 1, 4096, 512]⟩
abbrev S512x512 : Shape := ⟨2, ![512, 512]⟩
abbrev S4096x512 : Shape := ⟨2, ![4096, 512]⟩

abbrev nBuf : Space → Nat
  | .hbm => 5
  | .vmem => 11
  | .smem => 2
  | _ => 0

abbrev bufTy : (tb : Table) → Fin (tcTables nBuf tb) → BufTy
  | .hbm, ⟨0, _⟩ => ⟨S20480x4096, .bf16⟩
  | .hbm, ⟨1, _⟩ => ⟨S2x8x4096x2048, .f32⟩
  | .hbm, ⟨2, _⟩ => ⟨S20480x2048, .bf16⟩
  | .hbm, ⟨3, _⟩ => ⟨S20480x2048, .bf16⟩
  | .hbm, ⟨4, _⟩ => ⟨S20480x2048, .bf16⟩
  | .local _ .vmem, ⟨0, _⟩ => ⟨S512x4096, .bf16⟩
  | .local _ .vmem, ⟨1, _⟩ => ⟨S512x4096, .bf16⟩
  | .local _ .vmem, ⟨2, _⟩ => ⟨S1x1x4096x512, .f32⟩
  | .local _ .vmem, ⟨3, _⟩ => ⟨S1x1x4096x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S4096x512, .bf16⟩
  | .local _ .smem, ⟨0, _⟩ => ⟨S40, .i32⟩
  | .local _ .smem, ⟨1, _⟩ => ⟨S1, .i32⟩
  | _, _ => ⟨S20480x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 40], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v5 : BitVec 32 := Scalar.subi arg1 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg1 : BitVec 32 := BitVec.ofNat 32 (i 1).val
  let v1 : BitVec 1 := Scalar.cmpi .slt arg1 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg1 : BitVec 32 := BitVec.ofNat 32 (i 1).val
  let v1 : BitVec 1 := Scalar.cmpi .slt arg1 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MoeDownRefIdeal.lean ====
abbrev S40 : Shape := ⟨1, ![40]⟩
abbrev S1 : Shape := ⟨1, ![1]⟩
abbrev S20480x4096 : Shape := ⟨2, ![20480, 4096]⟩
abbrev S2x8x4096x2048 : Shape := ⟨4, ![2, 8, 4096, 2048]⟩
abbrev S1x8x4096x2048 : Shape := ⟨4, ![1, 8, 4096, 2048]⟩
abbrev S8x4096x2048 : Shape := ⟨3, ![8, 4096, 2048]⟩
abbrev S8x2048x20480 : Shape := ⟨3, ![8, 2048, 20480]⟩
abbrev S8x20480x2048 : Shape := ⟨3, ![8, 20480, 2048]⟩
abbrev S40x1 : Shape := ⟨2, ![40, 1]⟩
abbrev S40x512 : Shape := ⟨2, ![40, 512]⟩
abbrev S20480 : Shape := ⟨1, ![20480]⟩
abbrev S_ : Shape := ⟨0, ![]⟩
abbrev S1x20480 : Shape := ⟨2, ![1, 20480]⟩
abbrev S8 : Shape := ⟨1, ![8]⟩
abbrev S8x1 : Shape := ⟨2, ![8, 1]⟩
abbrev S8x20480 : Shape := ⟨2, ![8, 20480]⟩
abbrev S8x20480x1 : Shape := ⟨3, ![8, 20480, 1]⟩
abbrev S20480x2048 : Shape := ⟨2, ![20480, 2048]⟩

abbrev nBuf : Space → Nat
  | .hbm => 43
  | .vmem => 0
  | .smem => 0
  | _ => 0

abbrev bufTy : (tb : Table) → Fin (tcTables nBuf tb) → BufTy
  | .hbm, ⟨0, _⟩ => ⟨S40, .i32⟩
  | .hbm, ⟨1, _⟩ => ⟨S1, .i32⟩
  | .hbm, ⟨2, _⟩ => ⟨S20480x4096, .bf16⟩
  | .hbm, ⟨3, _⟩ => ⟨S2x8x4096x2048, .f32⟩
  | .hbm, ⟨4, _⟩ => ⟨S20480x4096, .f32⟩
  | .hbm, ⟨5, _⟩ => ⟨S1x8x4096x2048, .f32⟩
  | .hbm, ⟨6, _⟩ => ⟨S8x4096x2048, .f32⟩
  | .hbm, ⟨7, _⟩ => ⟨S8x2048x20480, .f32⟩
  | .hbm, ⟨8, _⟩ => ⟨S8x20480x2048, .f32⟩
  | .hbm, ⟨9, _⟩ => ⟨S40x1, .i32⟩
  | .hbm, ⟨10, _⟩ => ⟨S40x512, .i32⟩
  | .hbm, ⟨11, _⟩ => ⟨S20480, .i32⟩
  | .hbm, ⟨12, _⟩ => ⟨S40, .i32⟩
  | .hbm, ⟨13, _⟩ => ⟨S_, .i32⟩
  | .hbm, ⟨14, _⟩ => ⟨S40, .i32⟩
  | .hbm, ⟨15, _⟩ => ⟨S40, .i1⟩
  | .hbm, ⟨16, _⟩ => ⟨S40x1, .i1⟩
  | .hbm, ⟨17, _⟩ => ⟨S40x512, .i1⟩
  | .hbm, ⟨18, _⟩ => ⟨S20480, .i1⟩
  | .hbm, ⟨19, _⟩ => ⟨S1x20480, .i32⟩
  | .hbm, ⟨20, _⟩ => ⟨S8, .i32⟩
  | .hbm, ⟨21, _⟩ => ⟨S8x1, .i32⟩
  | .hbm, ⟨22, _⟩ => ⟨S8x20480, .i32⟩
  | .hbm, ⟨23, _⟩ => ⟨S8x20480, .i32⟩
  | .hbm, ⟨24, _⟩ => ⟨S8x20480, .i1⟩
  | .hbm, ⟨25, _⟩ => ⟨S1x20480, .i1⟩
  | .hbm, ⟨26, _⟩ => ⟨S8x20480, .i1⟩
  | .hbm, ⟨27, _⟩ => ⟨S8x20480, .i1⟩
  | .hbm, ⟨28, _⟩ => ⟨S8x20480x1, .i1⟩
  | .hbm, ⟨29, _⟩ => ⟨S_, .f32⟩
  | .hbm, ⟨30, _⟩ => ⟨S_, .f32⟩
  | .hbm, ⟨31, _⟩ => ⟨S8x20480x2048, .i1⟩
  | .hbm, ⟨32, _⟩ => ⟨S8x20480x2048, .f32⟩
  | .hbm, ⟨33, _⟩ => ⟨S8x20480x2048, .f32⟩
  | .hbm, ⟨34, _⟩ => ⟨S_, .f32⟩
  | .hbm, ⟨35, _⟩ => ⟨S20480x2048, .f32⟩
  | .hbm, ⟨36, _⟩ => ⟨S20480x2048, .bf16⟩
  | .hbm, ⟨37, _⟩ => ⟨S20480x2048, .f32⟩
  | .hbm, ⟨38, _⟩ => ⟨S20480x2048, .f32⟩
  | .hbm, ⟨39, _⟩ => ⟨S20480x2048, .bf16⟩
  | .hbm, ⟨40, _⟩ => ⟨S20480x2048, .f32⟩
  | .hbm, ⟨41, _⟩ => ⟨S20480x2048, .f32⟩
  | .hbm, ⟨42, _⟩ => ⟨S20480x2048, .bf16⟩
  | _, _ => ⟨S40, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v25 : Ref sig .tc := ⟨.hbm, 33, rfl⟩
abbrev main_cst_0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== FfnUp.lean ====
abbrev S8192x2048 : Shape := ⟨2, ![8192, 2048]⟩
abbrev S2x2048x5632 : Shape := ⟨3, ![2, 2048, 5632]⟩
abbrev S8192x5632 : Shape := ⟨2, ![8192, 5632]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 4
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2x2048x5632, .f32⟩
  | .hbm, ⟨2, _⟩ => ⟨S2x2048x5632, .f32⟩
  | .hbm, ⟨3, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnUpRefIdeal.lean ====
abbrev S8192x2048 : Shape := ⟨2, ![8192, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S8192x5632 : Shape := ⟨2, ![8192, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x5632, .f32⟩
  | .hbm, ⟨2, _⟩ => ⟨S2x2048x5632, .f32⟩
  | .hbm, ⟨3, _⟩ => ⟨S8192x2048, .f32⟩
  | .hbm, ⟨4, _⟩ => ⟨S1x2048x5632, .f32⟩
  | .hbm, ⟨5, _⟩ => ⟨S2048x5632, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S1x2048x5632, .f32⟩
  | .hbm, ⟨17, _⟩ => ⟨S2048x5632, .f32⟩
  | .hbm, ⟨18, _⟩ => ⟨S8192x5632, .f32⟩
  | .hbm, ⟨19, _⟩ => ⟨S8192x5632, .f32⟩
  | .hbm, ⟨20, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== FfnDown.lean ====
abbrev S8192x5632 : Shape := ⟨2, ![8192, 5632]⟩
abbrev S2x5632x2048 : Shape := ⟨3, ![2, 5632, 2048]⟩
abbrev S8192x2048 : Shape := ⟨2, ![8192, 2048]⟩
abbrev S1024x512 : Shape := ⟨2, ![1024, 512]⟩
abbrev S1x512x2048 : Shape := ⟨3, ![1, 512, 2048]⟩
abbrev S1024x2048 : Shape := ⟨2, ![1024, 2048]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1x512x2048, .f32⟩
  | .local _ .vmem, ⟨3, _⟩ => ⟨S1x512x2048, .f32⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 11], ![false, false, false]⟩

def k0_cond2 (i : grid0.Coords) : BitVec 1 :=
  let arg2 : BitVec 32 := BitVec.ofNat 32 (i 2).val
  let c10_i32 : BitVec 32 := 10#32
  let v13 : BitVec 1 := Scalar.cmpi .eq arg2 c10_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownRefIdeal.lean ====
abbrev S8192x5632 : Shape := ⟨2, ![8192, 5632]⟩
abbrev S2x5632x2048 : Shape := ⟨3, ![2, 5632, 2048]⟩
abbrev S1x5632x2048 : Shape := ⟨3, ![1, 5632, 2048]⟩
abbrev S5632x2048 : Shape := ⟨2, ![5632, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S8192x5632, .f32⟩
  | .hbm, ⟨3, _⟩ => ⟨S1x5632x2048, .f32⟩
  | .hbm, ⟨4, _⟩ => ⟨S5632x2048, .f32⟩
  | .hbm, ⟨5, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Merge.lean ====
abbrev S8192x2048 : Shape := ⟨2, ![8192, 2048]⟩
abbrev S8192x512 : Shape := ⟨2, ![8192, 512]⟩
abbrev S4x2048x8192 : Shape := ⟨3, ![4, 2048, 8192]⟩
abbrev S4x4x512x2048 : Shape := ⟨4, ![4, 4, 512, 2048]⟩
abbrev S512x2048 : Shape := ⟨2, ![512, 2048]⟩
abbrev S512x512 : Shape := ⟨2, ![512, 512]⟩
abbrev S1x2048x256 : Shape := ⟨3, ![1, 2048, 256]⟩
abbrev S1x4x512x256 : Shape := ⟨4, ![1, 4, 512, 256]⟩
abbrev S512x256 : Shape := ⟨2, ![512, 256]⟩
abbrev S4x2048x256 : Shape := ⟨3, ![4, 2048, 256]⟩
abbrev S4x512x256 : Shape := ⟨3, ![4, 512, 256]⟩
abbrev S2048x256 : Shape := ⟨2, ![2048, 256]⟩
abbrev S1x1x512x256 : Shape := ⟨4, ![1, 1, 512, 256]⟩
abbrev S1x512x256 : Shape := ⟨3, ![1, 512, 256]⟩

abbrev nBuf : Space → Nat
  | .hbm => 8
  | .vmem => 24
  | .smem => 0
  | _ => 0

abbrev bufTy : (tb : Table) → Fin (tcTables nBuf tb) → BufTy
  | .hbm, ⟨0, _⟩ => ⟨S8192x2048, .bf16⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S4x2048x8192, .f32⟩
  | .hbm, ⟨6, _⟩ => ⟨S4x4x512x2048, .f32⟩
  | .hbm, ⟨7, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x2048x256, .f32⟩
  | .local _ .vmem, ⟨11, _⟩ => ⟨S1x2048x256, .f32⟩
  | .local _ .vmem, ⟨12, _⟩ => ⟨S1x2048x256, .f32⟩
  | .local _ .vmem, ⟨13, _⟩ => ⟨S1x2048x256, .f32⟩
  | .local _ .vmem, ⟨14, _⟩ => ⟨S1x2048x256, .f32⟩
  | .local _ .vmem, ⟨15, _⟩ => ⟨S1x2048x256, .f32⟩
  | .local _ .vmem, ⟨16, _⟩ => ⟨S1x2048x256, .f32⟩
  | .local _ .vmem, ⟨17, _⟩ => ⟨S1x2048x256, .f32⟩
  | .local _ .vmem, ⟨18, _⟩ => ⟨S1x4x512x256, .f32⟩
  | .local _ .vmem, ⟨19, _⟩ => ⟨S1x4x512x256, .f32⟩
  | .local _ .vmem, ⟨20, _⟩ => ⟨S512x256, .bf16⟩
  | .local _ .vmem, ⟨21, _⟩ => ⟨S512x256, .bf16⟩
  | .local _ .vmem, ⟨22, _⟩ => ⟨S4x2048x256, .bf16⟩
  | .local _ .vmem, ⟨23, _⟩ => ⟨S4x512x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, c0_i32_0.toNat, v0.toNat]

def cc0_transform_8 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  let c0_i32_1 : BitVec 32 := 0#32
  ![c0_i32.toNat, c0_i32_0.toNat, v0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x4x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MergeRefIdeal.lean ====
abbrev S8192x2048 : Shape := ⟨2, ![8192, 2048]⟩
abbrev S8192x512 : Shape := ⟨2, ![8192, 512]⟩
abbrev S4x2048x8192 : Shape := ⟨3, ![4, 2048, 8192]⟩
abbrev S4x4x512x2048 : Shape := ⟨4, ![4, 4, 512, 2048]⟩
abbrev S8192x1x512 : Shape := ⟨3, ![8192, 1, 512]⟩
abbrev S8192x4x512 : Shape := ⟨3, ![8192, 4, 512]⟩
abbrev S1x4x512x2048 : Shape := ⟨4, ![1, 4, 512, 2048]⟩
abbrev S4x512x2048 : Shape := ⟨3, ![4, 512, 2048]⟩
abbrev S8192x4x2048 : Shape := ⟨3, ![8192, 4, 2048]⟩
abbrev S1x2048x8192 : Shape := ⟨3, ![1, 2048, 8192]⟩
abbrev S2048x8192 : Shape := ⟨2, ![2048, 8192]⟩
abbrev S8192x8192 : Shape := ⟨2, ![8192, 8192]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S4x2048x8192, .f32⟩
  | .hbm, ⟨6, _⟩ => ⟨S4x4x512x2048, .f32⟩
  | .hbm, ⟨7, _⟩ => ⟨S8192x1x512, .f32⟩
  | .hbm, ⟨8, _⟩ => ⟨S8192x1x512, .f32⟩
  | .hbm, ⟨9, _⟩ => ⟨S8192x1x512, .f32⟩
  | .hbm, ⟨10, _⟩ => ⟨S8192x1x512, .f32⟩
  | .hbm, ⟨11, _⟩ => ⟨S8192x4x512, .f32⟩
  | .hbm, ⟨12, _⟩ => ⟨S1x4x512x2048, .f32⟩
  | .hbm, ⟨13, _⟩ => ⟨S4x512x2048, .f32⟩
  | .hbm, ⟨14, _⟩ => ⟨S4x2048x8192, .f32⟩
  | .hbm, ⟨15, _⟩ => ⟨S8192x4x2048, .f32⟩
  | .hbm, ⟨16, _⟩ => ⟨S8192x2048, .f32⟩
  | .hbm, ⟨17, _⟩ => ⟨S1x2048x8192, .f32⟩
  | .hbm, ⟨18, _⟩ => ⟨S2048x8192, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x4x2048, .f32⟩
  | .hbm, ⟨29, _⟩ => ⟨S8192x4x2048, .f32⟩
  | .hbm, ⟨30, _⟩ => ⟨S_, .f32⟩
  | .hbm, ⟨31, _⟩ => ⟨S8192x2048, .f32⟩
  | .hbm, ⟨32, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== InProj.lean ====
abbrev S8192x2048 : Shape := ⟨2, ![8192, 2048]⟩
abbrev S4x2048x5120 : Shape := ⟨3, ![4, 2048, 5120]⟩
abbrev S8192x5120 : Shape := ⟨2, ![8192, 5120]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x5120, .f32⟩
  | .hbm, ⟨2, _⟩ => ⟨S8192x5120, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .f32⟩
  | .local _ .vmem, ⟨5, _⟩ => ⟨S1024x512, .f32⟩
  | .local _ .vmem, ⟨6, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![10, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S8192x2048 : Shape := ⟨2, ![8192, 2048]⟩
abbrev S4x2048x5120 : Shape := ⟨3, ![4, 2048, 5120]⟩
abbrev S1x2048x5120 : Shape := ⟨3, ![1, 2048, 5120]⟩
abbrev S2048x5120 : Shape := ⟨2, ![2048, 5120]⟩
abbrev S8192x5120 : Shape := ⟨2, ![8192, 5120]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x5120, .f32⟩
  | .hbm, ⟨2, _⟩ => ⟨S8192x2048, .f32⟩
  | .hbm, ⟨3, _⟩ => ⟨S1x2048x5120, .f32⟩
  | .hbm, ⟨4, _⟩ => ⟨S2048x5120, .f32⟩
  | .hbm, ⟨5, _⟩ => ⟨S8192x5120, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutProj.lean ====
abbrev S8192x2048 : Shape := ⟨2, ![8192, 2048]⟩
abbrev S4x2048x2048 : Shape := ⟨3, ![4, 2048, 2048]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1024x512, .f32⟩
  | .local _ .vmem, ⟨5, _⟩ => ⟨S1024x512, .f32⟩
  | .local _ .vmem, ⟨6, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjRefIdeal.lean ====
abbrev S8192x2048 : Shape := ⟨2, ![8192, 2048]⟩
abbrev S4x2048x2048 : Shape := ⟨3, ![4, 2048, 2048]⟩
abbrev S1x2048x2048 : Shape := ⟨3, ![1, 2048, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2048, .f32⟩
  | .hbm, ⟨2, _⟩ => ⟨S8192x2048, .f32⟩
  | .hbm, ⟨3, _⟩ => ⟨S1x2048x2048, .f32⟩
  | .hbm, ⟨4, _⟩ => ⟨S2048x2048, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Cond.lean ====
abbrev S8x2048 : Shape := ⟨2, ![8, 2048]⟩
abbrev S4x2048x12288 : Shape := ⟨3, ![4, 2048, 12288]⟩
abbrev S1x12288 : Shape := ⟨2, ![1, 12288]⟩
abbrev S8x12288 : Shape := ⟨2, ![8, 12288]⟩
abbrev S1x2048x512 : Shape := ⟨3, ![1, 2048, 512]⟩
abbrev S1x512 : Shape := ⟨2, ![1, 512]⟩
abbrev S8x512 : Shape := ⟨2, ![8, 512]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S8x2048, .f32⟩
  | .hbm, ⟨1, _⟩ => ⟨S4x2048x12288, .f32⟩
  | .hbm, ⟨2, _⟩ => ⟨S1x12288, .f32⟩
  | .hbm, ⟨3, _⟩ => ⟨S8x12288, .f32⟩
  | .local _ .vmem, ⟨0, _⟩ => ⟨S8x2048, .f32⟩
  | .local _ .vmem, ⟨1, _⟩ => ⟨S1x2048x512, .f32⟩
  | .local _ .vmem, ⟨2, _⟩ => ⟨S1x2048x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | .local _ .vmem, ⟨7, _⟩ => ⟨S2048x512, .bf16⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![24, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CondRefIdeal.lean ====
abbrev S8x2048 : Shape := ⟨2, ![8, 2048]⟩
abbrev S4x2048x12288 : Shape := ⟨3, ![4, 2048, 12288]⟩
abbrev S1x12288 : Shape := ⟨2, ![1, 12288]⟩
abbrev S_ : Shape := ⟨0, ![]⟩
abbrev S1x2048x12288 : Shape := ⟨3, ![1, 2048, 12288]⟩
abbrev S2048x12288 : Shape := ⟨2, ![2048, 12288]⟩
abbrev S8x12288 : Shape := ⟨2, ![8, 12288]⟩

abbrev nBuf : Space → Nat
  | .hbm => 17
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x2048x12288, .f32⟩
  | .hbm, ⟨2, _⟩ => ⟨S1x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S1x2048x12288, .f32⟩
  | .hbm, ⟨13, _⟩ => ⟨S2048x12288, .f32⟩
  | .hbm, ⟨14, _⟩ => ⟨S8x12288, .f32⟩
  | .hbm, ⟨15, _⟩ => ⟨S8x12288, .f32⟩
  | .hbm, ⟨16, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== DsaKv.lean ====
abbrev S8192x5120 : Shape := ⟨2, ![8192, 5120]⟩
abbrev S1x128 : Shape := ⟨2, ![1, 128]⟩
abbrev S4x128x1024 : Shape := ⟨3, ![4, 128, 1024]⟩
abbrev S8192x1024 : Shape := ⟨2, ![8192, 1024]⟩
abbrev S1024x128 : Shape := ⟨2, ![1024, 128]⟩
abbrev S1x128x512 : Shape := ⟨3, ![1, 128, 512]⟩
abbrev S1024x512 : Shape := ⟨2, ![1024, 512]⟩
abbrev S128x512 : Shape := ⟨2, ![128, 512]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x5120, .f32⟩
  | .hbm, ⟨1, _⟩ => ⟨S1x128, .f32⟩
  | .hbm, ⟨2, _⟩ => ⟨S4x128x1024, .f32⟩
  | .hbm, ⟨3, _⟩ => ⟨S8192x1024, .f32⟩
  | .local _ .vmem, ⟨0, _⟩ => ⟨S1024x128, .f32⟩
  | .local _ .vmem, ⟨1, _⟩ => ⟨S1024x128, .f32⟩
  | .local _ .vmem, ⟨2, _⟩ => ⟨S1x128, .f32⟩
  | .local _ .vmem, ⟨3, _⟩ => ⟨S1x128x512, .f32⟩
  | .local _ .vmem, ⟨4, _⟩ => ⟨S1x128x512, .f32⟩
  | .local _ .vmem, ⟨5, _⟩ => ⟨S1024x512, .f32⟩
  | .local _ .vmem, ⟨6, _⟩ => ⟨S1024x512, .f32⟩
  | .local _ .vmem, ⟨7, _⟩ => ⟨S128x512, .bf16⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c28_i32 : BitVec 32 := 28#32
  let c0_i32 : BitVec 32 := 0#32
  ![arg1.toNat, c28_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DsaKvRefIdeal.lean ====
abbrev S8192x5120 : Shape := ⟨2, ![8192, 5120]⟩
abbrev S1x128 : Shape := ⟨2, ![1, 128]⟩
abbrev S4x128x1024 : Shape := ⟨3, ![4, 128, 1024]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x128x1024 : Shape := ⟨3, ![1, 128, 1024]⟩
abbrev S128x1024 : Shape := ⟨2, ![128, 1024]⟩
abbrev S8192x1024 : Shape := ⟨2, ![8192, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8192x5120, .f32⟩
  | .hbm, ⟨1, _⟩ => ⟨S1x128, .f32⟩
  | .hbm, ⟨2, _⟩ => ⟨S4x128x1024, .f32⟩
  | .hbm, ⟨3, _⟩ => ⟨S8192x128, .f32⟩
  | .hbm, ⟨4, _⟩ => ⟨S8192x128, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S1x128x1024, .f32⟩
  | .hbm, ⟨20, _⟩ => ⟨S128x1024, .f32⟩
  | .hbm, ⟨21, _⟩ => ⟨S8192x1024, .f32⟩
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Modulate.lean ====
abbrev S8192x2048 : Shape := ⟨2, ![8192, 2048]⟩
abbrev S1x12288 : Shape := ⟨2, ![1, 12288]⟩
abbrev S512x2048 : Shape := ⟨2, ![512, 2048]⟩
abbrev S1x2048 : Shape := ⟨2, ![1, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S1x12288, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S512x2048, .bf16⟩
  | .local _ .vmem, ⟨5, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulateRefIdeal.lean ====
abbrev S8192x2048 : Shape := ⟨2, ![8192, 2048]⟩
abbrev S1x12288 : Shape := ⟨2, ![1, 12288]⟩
abbrev S1x2048 : Shape := ⟨2, ![1, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x12288, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ResidLn.lean ====
abbrev S8192x2048 : Shape := ⟨2, ![8192, 2048]⟩
abbrev S1x12288 : Shape := ⟨2, ![1, 12288]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x12288, .f32⟩
  | .hbm, ⟨3, _⟩ => ⟨S1x2048, .f32⟩
  | .hbm, ⟨4, _⟩ => ⟨S1x2048, .f32⟩
  | .hbm, ⟨5, _⟩ => ⟨S1x12288, .f32⟩
  | .hbm, ⟨6, _⟩ => ⟨S8192x2048, .f32⟩
  | .hbm, ⟨7, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ResidLnRefIdeal.lean ====
abbrev S8192x2048 : Shape := ⟨2, ![8192, 2048]⟩
abbrev S1x12288 : Shape := ⟨2, ![1, 12288]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x12288, .f32⟩
  | .hbm, ⟨3, _⟩ => ⟨S1x2048, .f32⟩
  | .hbm, ⟨4, _⟩ => ⟨S1x2048, .f32⟩
  | .hbm, ⟨5, _⟩ => ⟨S1x12288, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S1x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S1x2048, .f32⟩
  | .hbm, ⟨41, _⟩ => ⟨S1x2048, .f32⟩
  | .hbm, ⟨42, _⟩ => ⟨S_, .f32⟩
  | .hbm, ⟨43, _⟩ => ⟨S1x2048, .f32⟩
  | .hbm, ⟨44, _⟩ => ⟨S1x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== NsaCompress.lean ====
abbrev S4x512x2048 : Shape := ⟨3, ![4, 512, 2048]⟩
abbrev S4x2x1x2048 : Shape := ⟨4, ![4, 2, 1, 2048]⟩
abbrev S4x2x2048x256 : Shape := ⟨4, ![4, 2, 2048, 256]⟩
abbrev S4x2x256x64 : Shape := ⟨4, ![4, 2, 256, 64]⟩
abbrev S4x512x64 : Shape := ⟨3, ![4, 512, 64]⟩
abbrev S1x512x2048 : Shape := ⟨3, ![1, 512, 2048]⟩
abbrev S1x1x1x2048 : Shape := ⟨4, ![1, 1, 1, 2048]⟩
abbrev S1x1x2048x256 : Shape := ⟨4, ![1, 1, 2048, 256]⟩
abbrev S1x1x256x64 : Shape := ⟨4, ![1, 1, 256, 64]⟩
abbrev S1x512x64 : Shape := ⟨3, ![1, 512, 64]⟩
abbrev S512x2048 : Shape := ⟨2, ![512, 2048]⟩
abbrev S1x2048 : Shape := ⟨2, ![1, 2048]⟩
abbrev S2048x256 : Shape := ⟨2, ![2048, 256]⟩
abbrev S512x256 : Shape := ⟨2, ![512, 256]⟩
abbrev S256x64 : Shape := ⟨2, ![256, 64]⟩
abbrev S512x64 : Shape := ⟨2, ![512, 64]⟩

abbrev nBuf : Space → Nat
  | .hbm => 5
  | .vmem => 10
  | .smem => 0
  | _ => 0

abbrev bufTy : (tb : Table) → Fin (tcTables nBuf tb) → BufTy
  | .hbm, ⟨0, _⟩ => ⟨S4x512x2048, .f32⟩
  | .hbm, ⟨1, _⟩ => ⟨S4x2x1x2048, .f32⟩
  | .hbm, ⟨2, _⟩ => ⟨S4x2x2048x256, .f32⟩
  | .hbm, ⟨3, _⟩ => ⟨S4x2x256x64, .f32⟩
  | .hbm, ⟨4, _⟩ => ⟨S4x512x64, .f32⟩
  | .local _ .vmem, ⟨0, _⟩ => ⟨S1x512x2048, .f32⟩
  | .local _ .vmem, ⟨1, _⟩ => ⟨S1x512x2048, .f32⟩
  | .local _ .vmem, ⟨2, _⟩ => ⟨S1x1x1x2048, .f32⟩
  | .local _ .vmem, ⟨3, _⟩ => ⟨S1x1x1x2048, .f32⟩
  | .local _ .vmem, ⟨4, _⟩ => ⟨S1x1x2048x256, .f32⟩
  | .local _ .vmem, ⟨5, _⟩ => ⟨S1x1x2048x256, .f32⟩
  | .local _ .vmem, ⟨6, _⟩ => ⟨S1x1x256x64, .f32⟩
  | .local _ .vmem, ⟨7, _⟩ => ⟨S1x1x256x64, .f32⟩
  | .local _ .vmem, ⟨8, _⟩ => ⟨S1x512x64, .f32⟩
  | .local _ .vmem, ⟨9, _⟩ => ⟨S1x512x64, .f32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_2 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_3 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NsaCompressRefIdeal.lean ====
abbrev S4x512x2048 : Shape := ⟨3, ![4, 512, 2048]⟩
abbrev S4x2x1x2048 : Shape := ⟨4, ![4, 2, 1, 2048]⟩
abbrev S4x2x2048x256 : Shape := ⟨4, ![4, 2, 2048, 256]⟩
abbrev S4x2x256x64 : Shape := ⟨4, ![4, 2, 256, 64]⟩
abbrev S2x2x512x2048 : Shape := ⟨4, ![2, 2, 512, 2048]⟩
abbrev S1x2x1x2048 : Shape := ⟨4, ![1, 2, 1, 2048]⟩
abbrev S2x1x2048 : Shape := ⟨3, ![2, 1, 2048]⟩
abbrev S2x1x1x2048 : Shape := ⟨4, ![2, 1, 1, 2048]⟩
abbrev S1x2x2048x256 : Shape := ⟨4, ![1, 2, 2048, 256]⟩
abbrev S2x2048x256 : Shape := ⟨3, ![2, 2048, 256]⟩
abbrev S2x2x512x256 : Shape := ⟨4, ![2, 2, 512, 256]⟩
abbrev S_ : Shape := ⟨0, ![]⟩
abbrev S1x2x256x64 : Shape := ⟨4, ![1, 2, 256, 64]⟩
abbrev S2x256x64 : Shape := ⟨3, ![2, 256, 64]⟩
abbrev S2x2x512x64 : Shape := ⟨4, ![2, 2, 512, 64]⟩
abbrev S4x512x64 : Shape := ⟨3, ![4, 512, 64]⟩

abbrev nBuf : Space → Nat
  | .hbm => 26
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S4x2x1x2048, .f32⟩
  | .hbm, ⟨2, _⟩ => ⟨S4x2x2048x256, .f32⟩
  | .hbm, ⟨3, _⟩ => ⟨S4x2x256x64, .f32⟩
  | .hbm, ⟨4, _⟩ => ⟨S2x2x512x2048, .f32⟩
  | .hbm, ⟨5, _⟩ => ⟨S1x2x1x2048, .f32⟩
  | .hbm, ⟨6, _⟩ => ⟨S2x1x2048, .f32⟩
  | .hbm, ⟨7, _⟩ => ⟨S2x1x1x2048, .f32⟩
  | .hbm, ⟨8, _⟩ => ⟨S2x2x512x2048, .f32⟩
  | .hbm, ⟨9, _⟩ => ⟨S2x2x512x2048, .f32⟩
  | .hbm, ⟨10, _⟩ => ⟨S1x2x2048x256, .f32⟩
  | .hbm, ⟨11, _⟩ => ⟨S2x2048x256, .f32⟩
  | .hbm, ⟨12, _⟩ => ⟨S2x2x512x256, .f32⟩
  | .hbm, ⟨13, _⟩ => ⟨S2x2x512x256, .f32⟩
  | .hbm, ⟨14, _⟩ => ⟨S2x2x512x256, .f32⟩
  | .hbm, ⟨15, _⟩ => ⟨S_, .f32⟩
  | .hbm, ⟨16, _⟩ => ⟨S2x2x512x256, .f32⟩
  | .hbm, ⟨17, _⟩ => ⟨S2x2x512x256, .f32⟩
  | .hbm, ⟨18, _⟩ => ⟨S_, .f32⟩
  | .hbm, ⟨19, _⟩ => ⟨S2x2x512x256, .f32⟩
  | .hbm, ⟨20, _⟩ => ⟨S2x2x512x256, .f32⟩
  | .hbm, ⟨21, _⟩ => ⟨S2x2x512x256, .f32⟩
  | .hbm, ⟨22, _⟩ => ⟨S1x2x256x64, .f32⟩
  | .hbm, ⟨23, _⟩ => ⟨S2x256x64, .f32⟩
  | .hbm, ⟨24, _⟩ => ⟨S2x2x512x64, .f32⟩
  | .hbm, ⟨25, _⟩ => ⟨S4x512x64, .f32⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩

abbrev nD : Nat := 1
abbrev τ : Topo := Topo.v7x

variable {F : FTy → Type} [FloatOps F]
-- ==== NsaCombine.lean ====
abbrev S8192x5120 : Shape := ⟨2, ![8192, 5120]⟩
abbrev S8192x512 : Shape := ⟨2, ![8192, 512]⟩
abbrev S1024x128 : Shape := ⟨2, ![1024, 128]⟩
abbrev S1024x512 : Shape := ⟨2, ![1024, 512]⟩
abbrev S1024x1 : Shape := ⟨2, ![1024, 1]⟩
abbrev S1024x64 : Shape := ⟨2, ![1024, 64]⟩

abbrev nBuf : Space → Nat
  | .hbm => 5
  | .vmem => 10
  | .smem => 0
  | _ => 0

abbrev bufTy : (tb : Table) → Fin (tcTables nBuf tb) → BufTy
  | .hbm, ⟨0, _⟩ => ⟨S8192x5120, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x512, .f32⟩
  | .local _ .vmem, ⟨0, _⟩ => ⟨S1024x128, .f32⟩
  | .local _ .vmem, ⟨1, _⟩ => ⟨S1024x128, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | _, _ => ⟨S8192x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c38_i32 : BitVec 32 := 38#32
  let c0_i32 : BitVec 32 := 0#32
  ![arg0.toNat, c38_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NsaCombineRefIdeal.lean ====
abbrev S8192x5120 : Shape := ⟨2, ![8192, 5120]⟩
abbrev S8192x512 : Shape := ⟨2, ![8192, 512]⟩
abbrev S8192x24 : Shape := ⟨2, ![8192, 24]⟩
abbrev S8192x8x3 : Shape := ⟨3, ![8192, 8, 3]⟩
abbrev S_ : Shape := ⟨0, ![]⟩
abbrev S8192x8x64 : Shape := ⟨3, ![8192, 8, 64]⟩
abbrev S8192x8x1 : Shape := ⟨3, ![8192, 8, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x5120, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x24, .f32⟩
  | .hbm, ⟨5, _⟩ => ⟨S8192x8x3, .f32⟩
  | .hbm, ⟨6, _⟩ => ⟨S8192x8x3, .f32⟩
  | .hbm, ⟨7, _⟩ => ⟨S8192x8x3, .f32⟩
  | .hbm, ⟨8, _⟩ => ⟨S_, .f32⟩
  | .hbm, ⟨9, _⟩ => ⟨S8192x8x3, .f32⟩
  | .hbm, ⟨10, _⟩ => ⟨S8192x8x3, .f32⟩
  | .hbm, ⟨11, _⟩ => ⟨S_, .f32⟩
  | .hbm, ⟨12, _⟩ => ⟨S8192x8x3, .f32⟩
  | .hbm, ⟨13, _⟩ => ⟨S8192x8x3, .f32⟩
  | .hbm, ⟨14, _⟩ => ⟨S8192x8x64, .f32⟩
  | .hbm, ⟨15, _⟩ => ⟨S8192x8x64, .f32⟩
  | .hbm, ⟨16, _⟩ => ⟨S8192x8x64, .f32⟩
  | .hbm, ⟨17, _⟩ => ⟨S8192x8x1, .f32⟩
  | .hbm, ⟨18, _⟩ => ⟨S8192x8x64, .f32⟩
  | .hbm, ⟨19, _⟩ => ⟨S8192x8x64, .f32⟩
  | .hbm, ⟨20, _⟩ => ⟨S8192x8x1, .f32⟩
  | .hbm, ⟨21, _⟩ => ⟨S8192x8x64, .f32⟩
  | .hbm, ⟨22, _⟩ => ⟨S8192x8x64, .f32⟩
  | .hbm, ⟨23, _⟩ => ⟨S8192x8x64, .f32⟩
  | .hbm, ⟨24, _⟩ => ⟨S8192x8x1, .f32⟩
  | .hbm, ⟨25, _⟩ => ⟨S8192x8x64, .f32⟩
  | .hbm, ⟨26, _⟩ => ⟨S8192x8x64, .f32⟩
  | .hbm, ⟨27, _⟩ => ⟨S8192x8x64, .f32⟩
  | .hbm, ⟨28, _⟩ => ⟨S8192x512, .f32⟩
  | _, _ => ⟨S8192x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== DiffFinal.lean ====
abbrev S8192x1024 : Shape := ⟨2, ![8192, 1024]⟩
abbrev S4x4x64 : Shape := ⟨3, ![4, 4, 64]⟩
abbrev S1x128 : Shape := ⟨2, ![1, 128]⟩
abbrev S8192x512 : Shape := ⟨2, ![8192, 512]⟩
abbrev S1024x1024 : Shape := ⟨2, ![1024, 1024]⟩
abbrev S1x4x64 : Shape := ⟨3, ![1, 4, 64]⟩
abbrev S1024x512 : Shape := ⟨2, ![1024, 512]⟩
abbrev S4x64 : Shape := ⟨2, ![4, 64]⟩
abbrev S1x64 : Shape := ⟨2, ![1, 64]⟩
abbrev S1x1x64 : Shape := ⟨3, ![1, 1, 64]⟩
abbrev S1 : Shape := ⟨1, ![1]⟩
abbrev S1x1x1 : Shape := ⟨3, ![1, 1, 1]⟩
abbrev S1024x128 : Shape := ⟨2, ![1024, 128]⟩
abbrev S1024 : Shape := ⟨1, ![1024]⟩
abbrev S1024x1 : Shape := ⟨2, ![1024, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S4x4x64, .f32⟩
  | .hbm, ⟨2, _⟩ => ⟨S1x128, .f32⟩
  | .hbm, ⟨3, _⟩ => ⟨S8192x512, .f32⟩
  | .local _ .vmem, ⟨0, _⟩ => ⟨S1024x1024, .f32⟩
  | .local _ .vmem, ⟨1, _⟩ => ⟨S1024x1024, .f32⟩
  | .local _ .vmem, ⟨2, _⟩ => ⟨S1x4x64, .f32⟩
  | .local _ .vmem, ⟨3, _⟩ => ⟨S1x128, .f32⟩
  | .local _ .vmem, ⟨4, _⟩ => ⟨S1024x512, .f32⟩
  | .local _ .vmem, ⟨5, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DiffFinalRefIdeal.lean ====
abbrev S8192x1024 : Shape := ⟨2, ![8192, 1024]⟩
abbrev S4x4x64 : Shape := ⟨3, ![4, 4, 64]⟩
abbrev S1x128 : Shape := ⟨2, ![1, 128]⟩
abbrev S1x4x64 : Shape := ⟨3, ![1, 4, 64]⟩
abbrev S4x64 : Shape := ⟨2, ![4, 64]⟩
abbrev S1x64 : Shape := ⟨2, ![1, 64]⟩
abbrev S64 : Shape := ⟨1, ![64]⟩
abbrev S_ : Shape := ⟨0, ![]⟩
abbrev S8192x4x2x128 : Shape := ⟨4, ![8192, 4, 2, 128]⟩
abbrev S8192x4x1x128 : Shape := ⟨4, ![8192, 4, 1, 128]⟩
abbrev S8192x4x128 : Shape := ⟨3, ![8192, 4, 128]⟩
abbrev S8192x4 : Shape := ⟨2, ![8192, 4]⟩
abbrev S8192x4x1 : Shape := ⟨3, ![8192, 4, 1]⟩
abbrev S128 : Shape := ⟨1, ![128]⟩
abbrev S1x1x128 : Shape := ⟨3, ![1, 1, 128]⟩
abbrev S8192x512 : Shape := ⟨2, ![8192, 512]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x4x64, .f32⟩
  | .hbm, ⟨2, _⟩ => ⟨S1x128, .f32⟩
  | .hbm, ⟨3, _⟩ => ⟨S1x4x64, .f32⟩
  | .hbm, ⟨4, _⟩ => ⟨S4x64, .f32⟩
  | .hbm, ⟨5, _⟩ => ⟨S1x64, .f32⟩
  | .hbm, ⟨6, _⟩ => ⟨S64, .f32⟩
  | .hbm, ⟨7, _⟩ => ⟨S1x64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8192x4x2x128, .f32⟩
  | .hbm, ⟨25, _⟩ => ⟨S8192x4x1x128, .f32⟩
  | .hbm, ⟨26, _⟩ => ⟨S8192x4x128, .f32⟩
  | .hbm, ⟨27, _⟩ => ⟨S8192x4x1x128, .f32⟩
  | .hbm, ⟨28, _⟩ => ⟨S8192x4x128, .f32⟩
  | .hbm, ⟨29, _⟩ => ⟨S8192x4x128, .f32⟩
  | .hbm, ⟨30, _⟩ => ⟨S8192x4x128, .f32⟩
  | .hbm, ⟨31, _⟩ => ⟨S8192x4x128, .f32⟩
  | .hbm, ⟨32, _⟩ => ⟨S8192x4x128, .f32⟩
  | .hbm, ⟨33, _⟩ => ⟨S_, .f32⟩
  | .hbm, ⟨34, _⟩ => ⟨S8192x4, .f32⟩
  | .hbm, ⟨35, _⟩ => ⟨S8192x4x1, .f32⟩
  | .hbm, ⟨36, _⟩ => ⟨S_, .f32⟩
  | .hbm, ⟨37, _⟩ => ⟨S8192x4x1, .f32⟩
  | .hbm, ⟨38, _⟩ => ⟨S8192x4x1, .f32⟩
  | .hbm, ⟨39, _⟩ => ⟨S_, .f32⟩
  | .hbm, ⟨40, _⟩ => ⟨S8192x4x1, .f32⟩
  | .hbm, ⟨41, _⟩ => ⟨S8192x4x1, .f32⟩
  | .hbm, ⟨42, _⟩ => ⟨S8192x4x1, .f32⟩
  | .hbm, ⟨43, _⟩ => ⟨S8192x4x128, .f32⟩
  | .hbm, ⟨44, _⟩ => ⟨S8192x4x128, .f32⟩
  | .hbm, ⟨45, _⟩ => ⟨S128, .f32⟩
  | .hbm, ⟨46, _⟩ => ⟨S1x1x128, .f32⟩
  | .hbm, ⟨47, _⟩ => ⟨S8192x4x128, .f32⟩
  | .hbm, ⟨48, _⟩ => ⟨S8192x4x128, .f32⟩
  | .hbm, ⟨49, _⟩ => ⟨S_, .f32⟩
  | .hbm, ⟨50, _⟩ => ⟨S8192x4x128, .f32⟩
  | .hbm, ⟨51, _⟩ => ⟨S8192x4x128, .f32⟩
  | .hbm, ⟨52, _⟩ => ⟨S8192x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩

abbrev nD : Nat := 1
abbrev τ : Topo := Topo.v7x

variable {F : FTy → Type} [FloatOps F]
-- ==== Proof.MoeUpPaths.lean ====
/- The frame of the expert up-projection call, at ANY block-to-expert table whose blocks lie in the array.
   The grid runs the 40 row blocks of one column block before the next. A used row block (its number is below `n_used`)
   whose expert differs from the one before it narrows its two weight blocks into the two scratches; a used row block of the
   same expert finds them there. So after a used point both scratches hold that point's own narrowed weight blocks, which is
   all the invariant says, and each point's output block is a closed form of that point's input blocks. -/
module

public import proofs.«01_k».proof.Defs
public import proofs.«01_k».proof.Proof.Gen.MoeUp
public import proofs.«01_k».proof.Proof.Gen.MoeUp.Launch
public import proofs.«01_k».proof.Proof.Gen.MoeUp.Flash.Pins
public import proofs.«01_k».proof.Proof.Gen.MoeUp.Flash.Runs
public import Idealize.ShloMosaic.Lib.Pipeline.Kit
public import Idealize.ShloMosaic.Lib.Pipeline.TableIdle
public import Idealize.ShloMosaic.Lib.Pipeline.FrameBody
public import Idealize.ShloMosaic.Lib.Pipeline.Value
public import Idealize.ShloMosaic.Lib.Writes
public import Idealize.ShloMosaic.Lib.Exec
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.MoeUp.Hand

open Cert.MoeUp Cert.MoeUp.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

theorem hz : (![0, 0] : Fin 2 → Nat) = fun _ => 0 := funext fun a => by fin_cases a <;> rfl
theorem hz4 : (![0, 0, 0, 0] : Fin 4 → Nat) = fun _ => 0 := funext fun a => by fin_cases a <;> rfl

/-! ## The three control decisions, over the table words -/

/-- The word of `n_used`. -/
abbrev nuW (T1 : S1.Idx → Elt Bits .i32) : BitVec 32 :=
  View.readAt (Elt Bits) (tbM0_1).view (Rect.unit (s := S1) ![0] S1.size inb_S1_S1_0).toLoadRect T1 (Shape.Idx.first (numel1_S1.symm ▸ Nat.one_pos))
/-- The expert of this row block, -/
abbrev curW (T0 : S40.Idx → Elt Bits .i32) (i : grid0.Coords) : BitVec 32 :=
  View.readAt (Elt Bits) (tbM0_0).view (Rect.unit (s := S40) (k0_off1 i) S1.size (k0_off1_inb i)).toLoadRect T0 (Shape.Idx.first (numel1_S1.symm ▸ Nat.one_pos))
/-- and of the row block before it. -/
abbrev preW (T0 : S40.Idx → Elt Bits .i32) (i : grid0.Coords) : BitVec 32 :=
  View.readAt (Elt Bits) (tbM0_0).view (Rect.unit (s := S40) (k0_off2 i) S1.size (k0_off2_inb i)).toLoadRect T0 (Shape.Idx.first (numel1_S1.symm ▸ Nat.one_pos))

/-- The point reloads its weight blocks. -/
abbrev Loads (T0 : S40.Idx → Elt Bits .i32) (T1 : S1.Idx → Elt Bits .i32) (i : grid0.Coords) : Prop :=
  (Scalar.cmpi .ne (Scalar.extui (Scalar.andi (Scalar.cmpi .slt (BitVec.ofNat 32 (i 1).val) (nuW T1)) (Scalar.ori (Scalar.cmpi .eq (BitVec.ofNat 32 (i 1).val) 0#32) (Scalar.cmpi .ne (curW T0 i) (preW T0 i))))) 0#32) = 1#1
/-- The point's row block is used. -/
abbrev Used (T1 : S1.Idx → Elt Bits .i32) (i : grid0.Coords) : Prop := k0_cond2 i (nuW T1) = 1#1

theorem cond3_iff (i : grid0.Coords) (v : BitVec 32) : k0_cond3 i v = 1#1 ↔ ¬ k0_cond2 i v = 1#1 := by
  unfold k0_cond3 k0_cond2
  dsimp only
  generalize Scalar.cmpi .slt (BitVec.ofNat 32 (i 1).val) v = b
  revert b
  decide

theorem used_of_loads {T0 : S40.Idx → Elt Bits .i32} {T1 : S1.Idx → Elt Bits .i32} {i : grid0.Coords} (h : Loads T0 T1 i) : Used T1 i := by
  unfold Used k0_cond2
  dsimp only
  unfold Loads at h
  revert h
  generalize Scalar.cmpi .slt (BitVec.ofNat 32 (i 1).val) (nuW T1) = b
  generalize Scalar.ori (Scalar.cmpi .eq (BitVec.ofNat 32 (i 1).val) 0#32) (Scalar.cmpi .ne (curW T0 i) (preW T0 i)) = d
  revert b d
  decide

theorem bits_of_keep : ∀ b d e : BitVec 1, ¬ Scalar.cmpi .ne (Scalar.extui (Scalar.andi b (Scalar.ori d e)) : BitVec 32) 0#32 = 1#1 →
    Scalar.cmpi .ne (Scalar.extui b : BitVec 32) 0#32 = 1#1 → b = 1#1 ∧ d = 0#1 ∧ e = 0#1 := by decide

theorem keep {T0 : S40.Idx → Elt Bits .i32} {T1 : S1.Idx → Elt Bits .i32} {i : grid0.Coords} (h : ¬ Loads T0 T1 i) (hu : Used T1 i) :
    (BitVec.ofNat 32 (i 1).val).slt (nuW T1) = true ∧ (i 1).val ≠ 0 ∧ curW T0 i = preW T0 i := by
  obtain ⟨h1, h2, h3⟩ := bits_of_keep _ _ _ h hu
  refine ⟨?_, ?_, ?_⟩
  · revert h1
    show BitVec.ofBool _ = 1#1 → _
    cases (BitVec.ofNat 32 (i 1).val).slt (nuW T1) <;> simp
  · intro h0
    rw [h0] at h2
    exact absurd h2 (by decide)
  · revert h3
    show BitVec.ofBool (curW T0 i != preW T0 i) = 0#1 → _
    by_cases e : curW T0 i = preW T0 i
    · intro _; exact e
    · rw [bne_iff_ne.mpr e]; intro h; exact absurd h (by decide)

/-! ## What each path leaves: its run's contents in closed form -/

section Paths
variable (c : Dev nD) (i : grid0.Coords) (arg4 : Memref sig .tc .vmem S512x2048 .bf16) (harg4 : arg4.IsWhole)
  (arg5 : Memref sig .tc .vmem S1x1x2048x512 .f32) (harg5 : arg5.IsWhole) (arg6 : Memref sig .tc .vmem S1x1x2048x512 .f32) (harg6 : arg6.IsWhole)
  (arg7 : Memref sig .tc .vmem S512x1 .f32) (harg7 : arg7.IsWhole) (arg8 : Memref sig .tc .vmem S512x512 .bf16) (harg8 : arg8.IsWhole)
  (T0 : S40.Idx → Elt Bits .i32) (T1 : S1.Idx → Elt Bits .i32)
  (x0 : S512x2048.Idx → Elt Bits .bf16) (x1 x2 : S1x1x2048x512.Idx → Elt Bits .f32) (x3 : S512x1.Idx → Elt Bits .f32)
  (xa0 : Buf (Elt Bits) ((c : Thread nD τ).loc cc0_scratch0)) (xa1 : Buf (Elt Bits) ((c : Thread nD τ).loc cc0_scratch1))

/-- A load of a whole input block reads the block. -/
theorem ld_x0 : View.readAt (Elt Bits) arg4.view (Rect.unit (s := S512x2048) ![0, 0] S512x2048.size inb_S512x2048_S512x2048_0_0).toLoadRect (arg4.view.rep x0) = x0 := by
  rw [View.readAt_eq_ld, View.read_rep, View.ld_unit_zero hz]
theorem ld_w (arg : Memref sig .tc .vmem S1x1x2048x512 .f32) (x : S1x1x2048x512.Idx → Elt Bits .f32) :
    View.readAt (Elt Bits) arg.view (Rect.unit (s := S1x1x2048x512) ![0, 0, 0, 0] S1x1x2048x512.size inb_S1x1x2048x512_S1x1x2048x512_0_0_0_0).toLoadRect (arg.view.rep x) = x := by
  rw [View.readAt_eq_ld, View.read_rep, View.ld_unit_zero hz4]
theorem ld_x3 : View.readAt (Elt Bits) arg7.view (Rect.unit (s := S512x1) ![0, 0] S512x1.size inb_S512x1_S512x1_0_0).toLoadRect (arg7.view.rep x3) = x3 := by
  rw [View.readAt_eq_ld, View.read_rep, View.ld_unit_zero hz]
/-- A load of a whole scratch reads its contents. -/
theorem ld_s0 : View.readAt (Elt Bits) scM0_0.view (Rect.unit (s := S2048x512) ![0, 0] S2048x512.size inb_S2048x512_S2048x512_0_0).toLoadRect xa0 = xa0 := by
  rw [View.readAt_eq_ld, View.ld_unit_zero hz]; rfl
theorem ld_s1 : View.readAt (Elt Bits) scM0_1.view (Rect.unit (s := S2048x512) ![0, 0] S2048x512.size inb_S2048x512_S2048x512_0_0).toLoadRect xa1 = xa1 := by
  rw [View.readAt_eq_ld, View.ld_unit_zero hz]; rfl

/-- The loading path leaves the payload of its blocks, the two weight blocks narrowed, -/
theorem out_A (hc0 h2 h3) : out0_A_4 c i arg4 harg4 arg5 harg5 arg6 harg6 arg7 harg7 arg8 harg8 T0 T1 x0 x1 x2 x3 hc0 h2 h3
    = k0_pay3 x0 (k0_pay1 x1) (k0_pay2 x2) x3 := by
  unfold out0_A_4
  rw [View.read_writes_junk_eq_canon]
  unfold kernelRun0_A
  dsimp only
  sl_unfold_words
  rw [View.canon_unit_zero hz, View.readCov_unit_zero (S := S2048x512) _ hz, View.readCov_unit_zero (S := S2048x512) _ hz,
    ld_x0, ld_w, ld_w, ld_x3]

/-- the scratches the narrowed weight blocks. -/
theorem scr0_A (hc0 h2 h3) : (kernelRun0_A c i arg4 harg4 arg5 harg5 arg6 harg6 arg7 harg7 arg8 harg8 T0 T1 x0 x1 x2 x3 hc0 h2 h3).2.1
    = k0_pay1 x1 := by
  unfold kernelRun0_A
  dsimp only
  sl_unfold_words
  refine (View.read_whole cc0_scratch0 _).symm.trans ?_
  rw [View.read_writes_junk_eq_canon]
  exact (View.canon_unit_zero (S := S2048x512) hz inb_S2048x512_S2048x512_0_0 _).trans (congrArg k0_pay1 (ld_w _ _))
theorem scr1_A (hc0 h2 h3) : (kernelRun0_A c i arg4 harg4 arg5 harg5 arg6 harg6 arg7 harg7 arg8 harg8 T0 T1 x0 x1 x2 x3 hc0 h2 h3).2.2.1
    = k0_pay2 x2 := by
  unfold kernelRun0_A
  dsimp only
  sl_unfold_words
  refine (View.read_whole cc0_scratch1 _).symm.trans ?_
  rw [View.read_writes_junk_eq_canon]
  exact (View.canon_unit_zero (S := S2048x512) hz inb_S2048x512_S2048x512_0_0 _).trans (congrArg k0_pay2 (ld_w _ _))

/-- The keeping path leaves the payload over what the scratches hold, -/
theorem out_B (hc0 h2 h3) : out0_B_4 c i arg4 harg4 arg5 harg5 arg6 harg6 arg7 harg7 arg8 harg8 T0 T1 x0 x1 x2 x3 xa0 xa1 hc0 h2 h3
    = k0_pay3 x0 xa0 xa1 x3 := by
  unfold out0_B_4
  rw [View.read_writes_junk_eq_canon]
  unfold kernelRun0_B
  dsimp only
  sl_unfold_words
  rw [View.canon_unit_zero hz, ld_x0, ld_s0, ld_s1, ld_x3]

/-- and an unused block is zeroed. -/
theorem out_C (hc0 h2 h3) : out0_C_4 c i arg4 harg4 arg5 harg5 arg6 harg6 arg7 harg7 arg8 harg8 T0 T1 x0 x1 x2 x3 xa0 xa1 hc0 h2 h3
    = k0_pay4 (F := Bits) := by
  unfold out0_C_4
  rw [View.read_writes_junk_eq_canon]
  unfold kernelRun0_C
  dsimp only
  sl_unfold_words
  rw [View.canon_unit_zero hz]

theorem scr0_B (hc0 h2 h3) : (kernelRun0_B c i arg4 harg4 arg5 harg5 arg6 harg6 arg7 harg7 arg8 harg8 T0 T1 x0 x1 x2 x3 xa0 xa1 hc0 h2 h3).2.1 = xa0 := rfl
theorem scr1_B (hc0 h2 h3) : (kernelRun0_B c i arg4 harg4 arg5 harg5 arg6 harg6 arg7 harg7 arg8 harg8 T0 T1 x0 x1 x2 x3 xa0 xa1 hc0 h2 h3).2.2.1 = xa1 := rfl
end Paths

/-! ## The configuration at tables `A`, and the points -/

variable (A : (pcfg0 (F := Bits)).Adm) (m : (ℓ : Loc nD τ sig) → Buf (Elt Bits) ℓ) (ρ : Dev nD → PrngReg)

abbrev T0 : S40.Idx → Elt Bits .i32 := A.1 0
abbrev T1 : S1.Idx → Elt Bits .i32 := A.1 1
abbrev cfgA : Pipeline.Cfg sig Λ₀ := cfg0 (F := Bits) A
abbrev pcs : Fin 1 → Pipeline.Cfg sig Λ₀ := Pipeline.pin (pcfgs (F := Bits)) fun _ => A
abbrev s₀ : MemSt nD τ sig (Elt Bits) := ⟨m, fun _ => 0, ρ⟩
abbrev crd (t : Fin (cfgA A).N) : grid0.Coords := (cfgA A).grid.coords t
abbrev ms0_0 (t : Fin (cfgA A).N) : Memref sig .tc .vmem S512x2048 .bf16 := spec0_0.stage ((cfgA A).slots t (0 : Fin 5))
abbrev hs0_0 (t : Fin (cfgA A).N) : (ms0_0 A t).IsWhole := hstage0_0 (((cfgA A).slots t (0 : Fin 5)).cast nbuf0_0)
abbrev ms0_1 (t : Fin (cfgA A).N) : Memref sig .tc .vmem S1x1x2048x512 .f32 := spec0_1.stage ((cfgA A).slots t (1 : Fin 5))
abbrev hs0_1 (t : Fin (cfgA A).N) : (ms0_1 A t).IsWhole := hstage0_1 (((cfgA A).slots t (1 : Fin 5)).cast nbuf0_1)
abbrev ms0_2 (t : Fin (cfgA A).N) : Memref sig .tc .vmem S1x1x2048x512 .f32 := spec0_2.stage ((cfgA A).slots t (2 : Fin 5))
abbrev hs0_2 (t : Fin (cfgA A).N) : (ms0_2 A t).IsWhole := hstage0_2 (((cfgA A).slots t (2 : Fin 5)).cast nbuf0_2)
abbrev ms0_3 (t : Fin (cfgA A).N) : Memref sig .tc .vmem S512x1 .f32 := spec0_3.stage ((cfgA A).slots t (3 : Fin 5))
abbrev hs0_3 (t : Fin (cfgA A).N) : (ms0_3 A t).IsWhole := hstage0_3 (((cfgA A).slots t (3 : Fin 5)).cast nbuf0_3)
abbrev ms0_4 (t : Fin (cfgA A).N) : Memref sig .tc .vmem S512x512 .bf16 := spec0_4.stage ((cfgA A).slots t (4 : Fin 5))
abbrev hs0_4 (t : Fin (cfgA A).N) : (ms0_4 A t).IsWhole := hstage0_4 (((cfgA A).slots t (4 : Fin 5)).cast nbuf0_4)

/-- Window `w`'s block at point `t`, read off its array at launch. -/
def iblk (c : Dev nD) (w : Fin (cfgA A).W) (t : Fin (cfgA A).N) : (((cfgA A).win w).xblock (crd A t)).Idx → Elt Bits ((cfgA A).win w).elt :=
  (((cfgA A).win w).blk t).view.read (Elt Bits) (m (((cfgA A).win w).arr.view.loc (c : Thread nD τ)))
/-- The blocks at their literal types: the rows, the two weight blocks, the row weights. -/
abbrev xb (c : Dev nD) (t : Fin (cfgA A).N) : S512x2048.Idx → Elt Bits .bf16 := iblk A m c (0 : Fin 5) t
abbrev gb (c : Dev nD) (t : Fin (cfgA A).N) : S1x1x2048x512.Idx → Elt Bits .f32 := iblk A m c (1 : Fin 5) t
abbrev ub (c : Dev nD) (t : Fin (cfgA A).N) : S1x1x2048x512.Idx → Elt Bits .f32 := iblk A m c (2 : Fin 5) t
abbrev rb (c : Dev nD) (t : Fin (cfgA A).N) : S512x1.Idx → Elt Bits .f32 := iblk A m c (3 : Fin 5) t

/-- Point `t` is used; it loads. -/
abbrev UsedAt (t : Fin (cfgA A).N) : Prop := Used (T1 A) (crd A t)
abbrev LoadsAt (t : Fin (cfgA A).N) : Prop := Loads (T0 A) (T1 A) (crd A t)

open Classical in
/-- What point `t` leaves in the output's buffer. -/
def oblk (c : Dev nD) (t : Fin (cfgA A).N) : S512x512.Idx → Elt Bits .bf16 :=
  if UsedAt A t then k0_pay3 (xb A m c t) (k0_pay1 (gb A m c t)) (k0_pay2 (ub A m c t)) (rb A m c t) else k0_pay4 (F := Bits)

/-- A point past its column's first row block comes right after the same column's row block before. -/
theorem prev_point : ∀ t : Fin grid0.N, (grid0.coords t 1).val ≠ 0 → ∃ p : Fin grid0.N, p.val + 1 = t.val
    ∧ (grid0.coords p 0).val = (grid0.coords t 0).val ∧ (grid0.coords p 1).val + 1 = (grid0.coords t 1).val := by
  intro t
  have key : ∀ t : Fin grid0.N, (grid0.coords t 1).val ≠ 0 →
      (grid0.coords ⟨t.val - 1, lt_of_le_of_lt (Nat.sub_le _ _) t.isLt⟩ 0).val = (grid0.coords t 0).val
      ∧ (grid0.coords ⟨t.val - 1, lt_of_le_of_lt (Nat.sub_le _ _) t.isLt⟩ 1).val + 1 = (grid0.coords t 1).val ∧ 0 < t.val := by decide +kernel
  intro h
  obtain ⟨h1, h2, h3⟩ := key t h
  exact ⟨⟨t.val - 1, lt_of_le_of_lt (Nat.sub_le _ _) t.isLt⟩, by show t.val - 1 + 1 = t.val; omega, h1, h2⟩

theorem toInt_small (k : ℕ) (h : k < 40) : (BitVec.ofNat 32 k).toInt = (k : Int) := by
  rw [BitVec.toInt_eq_toNat_cond, BitVec.toNat_ofNat, Nat.mod_eq_of_lt (by omega), if_pos (by omega)]

/-- A used row block's predecessor in the column is used. -/
theorem used_prev {T1 : S1.Idx → Elt Bits .i32} {i j : grid0.Coords} (h : (BitVec.ofNat 32 (i 1).val).slt (nuW T1) = true)
    (hj : (j 1).val + 1 = (i 1).val) : Used T1 j := by
  have hi : (i 1).val < 40 := (i 1).isLt
  have hs : (BitVec.ofNat 32 (j 1).val).slt (nuW T1) = true := by
    generalize nuW T1 = v at h ⊢
    rw [BitVec.slt_iff_toInt_lt] at h ⊢
    have e1 : (BitVec.ofNat 32 (i 1).val).toInt = ((i 1).val : Int) := toInt_small _ (by omega)
    have e2 : (BitVec.ofNat 32 (j 1).val).toInt = ((j 1).val : Int) := toInt_small _ (by omega)
    rw [e1] at h; rw [e2]; omega
  unfold Used k0_cond2
  dsimp only
  rw [show Scalar.cmpi .slt (BitVec.ofNat 32 (j 1).val) (nuW T1) = 1#1 from by
    show BitVec.ofBool _ = _; rw [hs]; rfl]
  decide

/-- The place the body reads the previous expert at. -/
theorem off2_eq : ∀ i : grid0.Coords, k0_off2 i = ![(i 1).val - 1] := by decide +kernel

/-- The expert word read at a point is the table's word at the row block's place. -/
def at40 (k : ℕ) (h : k < 40) : S40.Idx := fun a => match a with | ⟨0, _⟩ => ⟨k, h⟩
theorem curW_eq (T0 : S40.Idx → Elt Bits .i32) (i : grid0.Coords) : curW T0 i = T0 (at40 (i 1).val (i 1).isLt) := by
  show T0 _ = _
  refine congrArg T0 (funext fun a => ?_)
  match a with
  | ⟨0, _⟩ =>
    apply Fin.ext
    show k0_off1 i 0 + 1 * _ = (i 1).val
    rw [show k0_off1 i 0 = (i 1).val from congrFun (k0_off1_eq i) 0]
    rfl
theorem preW_eq (T0 : S40.Idx → Elt Bits .i32) (i : grid0.Coords) : preW T0 i = T0 (at40 ((i 1).val - 1) (lt_of_le_of_lt (Nat.sub_le _ _) (i 1).isLt)) := by
  show T0 _ = _
  refine congrArg T0 (funext fun a => ?_)
  match a with
  | ⟨0, _⟩ =>
    apply Fin.ext
    show k0_off2 i 0 + 1 * _ = (i 1).val - 1
    rw [show k0_off2 i 0 = (i 1).val - 1 from congrFun (off2_eq i) 0]
    rfl
/-- The weight windows' block indices: layer 0, the row block's expert, all rows, the column block. -/
theorem ixw_eq (pf : pre0.Contents (Elt Bits)) (i : grid0.Coords) :
    cc0_transform_1 k0_off1_inb numel1_S1 pf i = ![0, ((show S40.Idx → BitVec 32 from pf 0) (at40 (i 1).val (i 1).isLt)).toNat, 0, (i 0).val] := by
  have e : pf.at 0 (Rect.unit (s := S40) (k0_off1 i) S1.size (k0_off1_inb i)) numel1_S1 = (show S40.Idx → BitVec 32 from pf 0) (at40 (i 1).val (i 1).isLt) :=
    (show _ = curW (show S40.Idx → Elt Bits .i32 from pf 0) i from rfl).trans (curW_eq (show S40.Idx → Elt Bits .i32 from pf 0) i)
  have e0 : (BitVec.ofNat 32 (i 0).val).toNat = (i 0).val := by
    rw [BitVec.toNat_ofNat]; exact Nat.mod_eq_of_lt (lt_trans (i 0).isLt (by decide))
  exact congrArg₂ (fun a b : ℕ => ![0, a, 0, b]) (congrArg BitVec.toNat e) e0
theorem ix1_eq (i : grid0.Coords) : cc0_transform_1 k0_off1_inb numel1_S1 A.1 i = ![0, (T0 A (at40 (i 1).val (i 1).isLt)).toNat, 0, (i 0).val] := ixw_eq A.1 i
theorem ix2_eq (i : grid0.Coords) : cc0_transform_2 k0_off1_inb numel1_S1 A.1 i = ![0, (T0 A (at40 (i 1).val (i 1).isLt)).toNat, 0, (i 0).val] := ix1_eq A i

/-- Equal indices give equal blocks. -/
theorem gb_congr (c : Dev nD) (t p : Fin (cfgA A).N)
    (h : cc0_transform_1 k0_off1_inb numel1_S1 A.1 (crd A p) = cc0_transform_1 k0_off1_inb numel1_S1 A.1 (crd A t)) :
    gb A m c p = gb A m c t := by
  funext x
  show m ((c : Thread nD τ).loc main_arg3) ((((cfgA A).win 1).blk p).view.emb x) = m ((c : Thread nD τ).loc main_arg3) ((((cfgA A).win 1).blk t).view.emb x)
  refine congrArg (m ((c : Thread nD τ).loc main_arg3)) (funext fun a => Fin.ext ?_)
  show cc0_transform_1 k0_off1_inb numel1_S1 A.1 (crd A p) a * S1x1x2048x512.size a + 1 * (x a).val
    = cc0_transform_1 k0_off1_inb numel1_S1 A.1 (crd A t) a * S1x1x2048x512.size a + 1 * (x a).val
  rw [h]
theorem ub_congr (c : Dev nD) (t p : Fin (cfgA A).N)
    (h : cc0_transform_2 k0_off1_inb numel1_S1 A.1 (crd A p) = cc0_transform_2 k0_off1_inb numel1_S1 A.1 (crd A t)) :
    ub A m c p = ub A m c t := by
  funext x
  show m ((c : Thread nD τ).loc main_arg4) ((((cfgA A).win 2).blk p).view.emb x) = m ((c : Thread nD τ).loc main_arg4) ((((cfgA A).win 2).blk t).view.emb x)
  refine congrArg (m ((c : Thread nD τ).loc main_arg4)) (funext fun a => Fin.ext ?_)
  show cc0_transform_2 k0_off1_inb numel1_S1 A.1 (crd A p) a * S1x1x2048x512.size a + 1 * (x a).val
    = cc0_transform_2 k0_off1_inb numel1_S1 A.1 (crd A t) a * S1x1x2048x512.size a + 1 * (x a).val
  rw [h]

/-- What a keeping point finds: the point before it is used and has the same weight blocks. -/
theorem kept (c : Dev nD) (t : Fin (cfgA A).N) (h : ¬ LoadsAt A t) (hu : UsedAt A t) :
    ∃ p : Fin (cfgA A).N, p.val + 1 = t.val ∧ UsedAt A p ∧ gb A m c p = gb A m c t ∧ ub A m c p = ub A m c t := by
  obtain ⟨hs, hne, hw⟩ := keep h hu
  obtain ⟨p, hp, h0, h1⟩ := prev_point t hne
  have hix : cc0_transform_1 k0_off1_inb numel1_S1 A.1 (crd A p) = cc0_transform_1 k0_off1_inb numel1_S1 A.1 (crd A t) := by
    rw [curW_eq, preW_eq] at hw
    have ea : (at40 (crd A p 1).val (crd A p 1).isLt) = at40 ((crd A t 1).val - 1) (lt_of_le_of_lt (Nat.sub_le _ _) (crd A t 1).isLt) := by
      funext a
      match a with
      | ⟨0, _⟩ => apply Fin.ext; have h1' : (crd A p 1).val + 1 = (crd A t 1).val := h1; show (crd A p 1).val = (crd A t 1).val - 1; omega
    rw [ix1_eq, ix1_eq, ea, ← hw, show (crd A p 0).val = (crd A t 0).val from h0]
  exact ⟨p, hp, used_prev hs h1, gb_congr A m c t p hix, ub_congr A m c t p hix⟩

end Cert.MoeUp.Hand
end
-- ==== Proof.ExpertsRange.lean ====
/- The preconditions of the two expert calls, read off: every word of the block-to-expert table is an expert's number. -/
module

public import proofs.«01_k».proof.Proof.Gen.Pre_experts_in_range
public import proofs.«01_k».proof.Proof.Gen.Pre_experts_in_range_down

@[expose] public section

set_option maxRecDepth 16384

noncomputable section

namespace Cert.ExpertsRange

open Idealize.ShloMosaic

/-- A word at least 0 and below 8, both signed, is below 8 as a natural number. -/
theorem lt_eight (v : BitVec 32) (h0 : (0#32).sle v = true) (h8 : v.slt 8#32 = true) : v.toNat < 8 := by
  rw [BitVec.sle_iff_toInt_le] at h0
  rw [BitVec.slt_iff_toInt_lt] at h8
  have e0 : (0#32).toInt = 0 := by decide
  have e8 : (8#32).toInt = 8 := by decide
  rw [e0] at h0; rw [e8] at h8
  rw [BitVec.toInt_eq_toNat_cond] at h0 h8
  split at h0 <;> split at h8 <;> omega

/-- Two flags are one together only if each is. -/
theorem and_one : ∀ b d : Bool, BitVec.ofBool b &&& BitVec.ofBool d = 1#1 → b = true ∧ d = true := by decide

theorem up {F : FTy → Type} [FloatOps F] (a0 a1 a2 a3 a4 a5)
    (h : Cert.Pre_experts_in_range.fn (F := F) a0 a1 a2 a3 a4 a5 = fun _ => 1#1) (x) : (a0 x).toNat < 8 := by
  have e := congrFun h x
  obtain ⟨hb, hd⟩ := and_one ((0#32).sle (a0 x)) ((a0 x).slt 8#32) e
  exact lt_eight _ hb hd

theorem down {F : FTy → Type} [FloatOps F] (a0 a1 a2 a3)
    (h : Cert.Pre_experts_in_range_down.fn (F := F) a0 a1 a2 a3 = fun _ => 1#1) (x) : (a0 x).toNat < 8 := by
  have e := congrFun h x
  obtain ⟨hb, hd⟩ := and_one ((0#32).sle (a0 x)) ((a0 x).slt 8#32) e
  exact lt_eight _ hb hd

end Cert.ExpertsRange
end
-- ==== Proof.MoeUpIdealPaths.lean ====
/- The frame of the expert up-projection call, at ANY block-to-expert table whose blocks lie in the array.
   The grid runs the 40 row blocks of one column block before the next. A used row block (its number is below `n_used`)
   whose expert differs from the one before it narrows its two weight blocks into the two scratches; a used row block of the
   same expert finds them there. So after a used point both scratches hold that point's own narrowed weight blocks, which is
   all the invariant says, and each point's output block is a closed form of that point's input blocks. -/
module

public import proofs.«01_k».proof.Defs
public import proofs.«01_k».proof.Proof.Gen.MoeUpIdeal
public import proofs.«01_k».proof.Proof.Gen.MoeUpIdeal.Launch
public import proofs.«01_k».proof.Proof.Gen.MoeUpIdeal.Flash.Pins
public import proofs.«01_k».proof.Proof.Gen.MoeUpIdeal.Flash.Runs
public import Idealize.ShloMosaic.Lib.Pipeline.Kit
public import Idealize.ShloMosaic.Lib.Pipeline.TableIdle
public import Idealize.ShloMosaic.Lib.Pipeline.FrameBody
public import Idealize.ShloMosaic.Lib.Pipeline.Value
public import Idealize.ShloMosaic.Lib.Writes
public import Idealize.ShloMosaic.Lib.Exec
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.MoeUpIdeal.Hand

open Cert.MoeUpIdeal Cert.MoeUpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

theorem hz : (![0, 0] : Fin 2 → Nat) = fun _ => 0 := funext fun a => by fin_cases a <;> rfl
theorem hz4 : (![0, 0, 0, 0] : Fin 4 → Nat) = fun _ => 0 := funext fun a => by fin_cases a <;> rfl

/-! ## The three control decisions, over the table words -/

/-- The word of `n_used`. -/
abbrev nuW (T1 : S1.Idx → Elt Ideal .i32) : BitVec 32 :=
  View.readAt (Elt Ideal) (tbM0_1).view (Rect.unit (s := S1) ![0] S1.size inb_S1_S1_0).toLoadRect T1 (Shape.Idx.first (numel1_S1.symm ▸ Nat.one_pos))
/-- The expert of this row block, -/
abbrev curW (T0 : S40.Idx → Elt Ideal .i32) (i : grid0.Coords) : BitVec 32 :=
  View.readAt (Elt Ideal) (tbM0_0).view (Rect.unit (s := S40) (k0_off1 i) S1.size (k0_off1_inb i)).toLoadRect T0 (Shape.Idx.first (numel1_S1.symm ▸ Nat.one_pos))
/-- and of the row block before it. -/
abbrev preW (T0 : S40.Idx → Elt Ideal .i32) (i : grid0.Coords) : BitVec 32 :=
  View.readAt (Elt Ideal) (tbM0_0).view (Rect.unit (s := S40) (k0_off2 i) S1.size (k0_off2_inb i)).toLoadRect T0 (Shape.Idx.first (numel1_S1.symm ▸ Nat.one_pos))

/-- The point reloads its weight blocks. -/
abbrev Loads (T0 : S40.Idx → Elt Ideal .i32) (T1 : S1.Idx → Elt Ideal .i32) (i : grid0.Coords) : Prop :=
  (Scalar.cmpi .ne (Scalar.extui (Scalar.andi (Scalar.cmpi .slt (BitVec.ofNat 32 (i 1).val) (nuW T1)) (Scalar.ori (Scalar.cmpi .eq (BitVec.ofNat 32 (i 1).val) 0#32) (Scalar.cmpi .ne (curW T0 i) (preW T0 i))))) 0#32) = 1#1
/-- The point's row block is used. -/
abbrev Used (T1 : S1.Idx → Elt Ideal .i32) (i : grid0.Coords) : Prop := k0_cond2 i (nuW T1) = 1#1

theorem cond3_iff (i : grid0.Coords) (v : BitVec 32) : k0_cond3 i v = 1#1 ↔ ¬ k0_cond2 i v = 1#1 := by
  unfold k0_cond3 k0_cond2
  dsimp only
  generalize Scalar.cmpi .slt (BitVec.ofNat 32 (i 1).val) v = b
  revert b
  decide

theorem used_of_loads {T0 : S40.Idx → Elt Ideal .i32} {T1 : S1.Idx → Elt Ideal .i32} {i : grid0.Coords} (h : Loads T0 T1 i) : Used T1 i := by
  unfold Used k0_cond2
  dsimp only
  unfold Loads at h
  revert h
  generalize Scalar.cmpi .slt (BitVec.ofNat 32 (i 1).val) (nuW T1) = b
  generalize Scalar.ori (Scalar.cmpi .eq (BitVec.ofNat 32 (i 1).val) 0#32) (Scalar.cmpi .ne (curW T0 i) (preW T0 i)) = d
  revert b d
  decide

theorem bits_of_keep : ∀ b d e : BitVec 1, ¬ Scalar.cmpi .ne (Scalar.extui (Scalar.andi b (Scalar.ori d e)) : BitVec 32) 0#32 = 1#1 →
    Scalar.cmpi .ne (Scalar.extui b : BitVec 32) 0#32 = 1#1 → b = 1#1 ∧ d = 0#1 ∧ e = 0#1 := by decide

theorem keep {T0 : S40.Idx → Elt Ideal .i32} {T1 : S1.Idx → Elt Ideal .i32} {i : grid0.Coords} (h : ¬ Loads T0 T1 i) (hu : Used T1 i) :
    (BitVec.ofNat 32 (i 1).val).slt (nuW T1) = true ∧ (i 1).val ≠ 0 ∧ curW T0 i = preW T0 i := by
  obtain ⟨h1, h2, h3⟩ := bits_of_keep _ _ _ h hu
  refine ⟨?_, ?_, ?_⟩
  · revert h1
    show BitVec.ofBool _ = 1#1 → _
    cases (BitVec.ofNat 32 (i 1).val).slt (nuW T1) <;> simp
  · intro h0
    rw [h0] at h2
    exact absurd h2 (by decide)
  · revert h3
    show BitVec.ofBool (curW T0 i != preW T0 i) = 0#1 → _
    by_cases e : curW T0 i = preW T0 i
    · intro _; exact e
    · rw [bne_iff_ne.mpr e]; intro h; exact absurd h (by decide)

/-! ## What each path leaves: its run's contents in closed form -/

section Paths
variable (c : Dev nD) (i : grid0.Coords) (arg4 : Memref sig .tc .vmem S512x2048 .bf16) (harg4 : arg4.IsWhole)
  (arg5 : Memref sig .tc .vmem S1x1x2048x512 .f32) (harg5 : arg5.IsWhole) (arg6 : Memref sig .tc .vmem S1x1x2048x512 .f32) (harg6 : arg6.IsWhole)
  (arg7 : Memref sig .tc .vmem S512x1 .f32) (harg7 : arg7.IsWhole) (arg8 : Memref sig .tc .vmem S512x512 .bf16) (harg8 : arg8.IsWhole)
  (T0 : S40.Idx → Elt Ideal .i32) (T1 : S1.Idx → Elt Ideal .i32)
  (x0 : S512x2048.Idx → Elt Ideal .bf16) (x1 x2 : S1x1x2048x512.Idx → Elt Ideal .f32) (x3 : S512x1.Idx → Elt Ideal .f32)
  (xa0 : Buf (Elt Ideal) ((c : Thread nD τ).loc cc0_scratch0)) (xa1 : Buf (Elt Ideal) ((c : Thread nD τ).loc cc0_scratch1))

/-- A load of a whole input block reads the block. -/
theorem ld_x0 : View.readAt (Elt Ideal) arg4.view (Rect.unit (s := S512x2048) ![0, 0] S512x2048.size inb_S512x2048_S512x2048_0_0).toLoadRect (arg4.view.rep x0) = x0 := by
  rw [View.readAt_eq_ld, View.read_rep, View.ld_unit_zero hz]
theorem ld_w (arg : Memref sig .tc .vmem S1x1x2048x512 .f32) (x : S1x1x2048x512.Idx → Elt Ideal .f32) :
    View.readAt (Elt Ideal) arg.view (Rect.unit (s := S1x1x2048x512) ![0, 0, 0, 0] S1x1x2048x512.size inb_S1x1x2048x512_S1x1x2048x512_0_0_0_0).toLoadRect (arg.view.rep x) = x := by
  rw [View.readAt_eq_ld, View.read_rep, View.ld_unit_zero hz4]
theorem ld_x3 : View.readAt (Elt Ideal) arg7.view (Rect.unit (s := S512x1) ![0, 0] S512x1.size inb_S512x1_S512x1_0_0).toLoadRect (arg7.view.rep x3) = x3 := by
  rw [View.readAt_eq_ld, View.read_rep, View.ld_unit_zero hz]
/-- A load of a whole scratch reads its contents. -/
theorem ld_s0 : View.readAt (Elt Ideal) scM0_0.view (Rect.unit (s := S2048x512) ![0, 0] S2048x512.size inb_S2048x512_S2048x512_0_0).toLoadRect xa0 = xa0 := by
  rw [View.readAt_eq_ld, View.ld_unit_zero hz]; rfl
theorem ld_s1 : View.readAt (Elt Ideal) scM0_1.view (Rect.unit (s := S2048x512) ![0, 0] S2048x512.size inb_S2048x512_S2048x512_0_0).toLoadRect xa1 = xa1 := by
  rw [View.readAt_eq_ld, View.ld_unit_zero hz]; rfl

/-- The loading path leaves the payload of its blocks, the two weight blocks narrowed, -/
theorem out_A (hc0 h2 h3) : out0_A_4 c i arg4 harg4 arg5 harg5 arg6 harg6 arg7 harg7 arg8 harg8 T0 T1 x0 x1 x2 x3 hc0 h2 h3
    = k0_pay3 x0 (k0_pay1 x1) (k0_pay2 x2) x3 := by
  unfold out0_A_4
  rw [View.read_writes_junk_eq_canon]
  unfold kernelRun0_A
  dsimp only
  sl_unfold_words
  rw [View.canon_unit_zero hz, View.readCov_unit_zero (S := S2048x512) _ hz, View.readCov_unit_zero (S := S2048x512) _ hz,
    ld_x0, ld_w, ld_w, ld_x3]

/-- the scratches the narrowed weight blocks. -/
theorem scr0_A (hc0 h2 h3) : (kernelRun0_A c i arg4 harg4 arg5 harg5 arg6 harg6 arg7 harg7 arg8 harg8 T0 T1 x0 x1 x2 x3 hc0 h2 h3).2.1
    = k0_pay1 x1 := by
  unfold kernelRun0_A
  dsimp only
  sl_unfold_words
  refine (View.read_whole cc0_scratch0 _).symm.trans ?_
  rw [View.read_writes_junk_eq_canon]
  exact (View.canon_unit_zero (S := S2048x512) hz inb_S2048x512_S2048x512_0_0 _).trans (congrArg k0_pay1 (ld_w _ _))
theorem scr1_A (hc0 h2 h3) : (kernelRun0_A c i arg4 harg4 arg5 harg5 arg6 harg6 arg7 harg7 arg8 harg8 T0 T1 x0 x1 x2 x3 hc0 h2 h3).2.2.1
    = k0_pay2 x2 := by
  unfold kernelRun0_A
  dsimp only
  sl_unfold_words
  refine (View.read_whole cc0_scratch1 _).symm.trans ?_
  rw [View.read_writes_junk_eq_canon]
  exact (View.canon_unit_zero (S := S2048x512) hz inb_S2048x512_S2048x512_0_0 _).trans (congrArg k0_pay2 (ld_w _ _))

/-- The keeping path leaves the payload over what the scratches hold, -/
theorem out_B (hc0 h2 h3) : out0_B_4 c i arg4 harg4 arg5 harg5 arg6 harg6 arg7 harg7 arg8 harg8 T0 T1 x0 x1 x2 x3 xa0 xa1 hc0 h2 h3
    = k0_pay3 x0 xa0 xa1 x3 := by
  unfold out0_B_4
  rw [View.read_writes_junk_eq_canon]
  unfold kernelRun0_B
  dsimp only
  sl_unfold_words
  rw [View.canon_unit_zero hz, ld_x0, ld_s0, ld_s1, ld_x3]

/-- and an unused block is zeroed. -/
theorem out_C (hc0 h2 h3) : out0_C_4 c i arg4 harg4 arg5 harg5 arg6 harg6 arg7 harg7 arg8 harg8 T0 T1 x0 x1 x2 x3 xa0 xa1 hc0 h2 h3
    = k0_pay4 (F := Ideal) := by
  unfold out0_C_4
  rw [View.read_writes_junk_eq_canon]
  unfold kernelRun0_C
  dsimp only
  sl_unfold_words
  rw [View.canon_unit_zero hz]

theorem scr0_B (hc0 h2 h3) : (kernelRun0_B c i arg4 harg4 arg5 harg5 arg6 harg6 arg7 harg7 arg8 harg8 T0 T1 x0 x1 x2 x3 xa0 xa1 hc0 h2 h3).2.1 = xa0 := rfl
theorem scr1_B (hc0 h2 h3) : (kernelRun0_B c i arg4 harg4 arg5 harg5 arg6 harg6 arg7 harg7 arg8 harg8 T0 T1 x0 x1 x2 x3 xa0 xa1 hc0 h2 h3).2.2.1 = xa1 := rfl
end Paths

/-! ## The configuration at tables `A`, and the points -/

variable (A : (pcfg0 (F := Ideal)).Adm) (m : (ℓ : Loc nD τ sig) → Buf (Elt Ideal) ℓ) (ρ : Dev nD → PrngReg)

abbrev T0 : S40.Idx → Elt Ideal .i32 := A.1 0
abbrev T1 : S1.Idx → Elt Ideal .i32 := A.1 1
abbrev cfgA : Pipeline.Cfg sig Λ₀ := cfg0 (F := Ideal) A
abbrev pcs : Fin 1 → Pipeline.Cfg sig Λ₀ := Pipeline.pin (pcfgs (F := Ideal)) fun _ => A
abbrev s₀ : MemSt nD τ sig (Elt Ideal) := ⟨m, fun _ => 0, ρ⟩
abbrev crd (t : Fin (cfgA A).N) : grid0.Coords := (cfgA A).grid.coords t
abbrev ms0_0 (t : Fin (cfgA A).N) : Memref sig .tc .vmem S512x2048 .bf16 := spec0_0.stage ((cfgA A).slots t (0 : Fin 5))
abbrev hs0_0 (t : Fin (cfgA A).N) : (ms0_0 A t).IsWhole := hstage0_0 (((cfgA A).slots t (0 : Fin 5)).cast nbuf0_0)
abbrev ms0_1 (t : Fin (cfgA A).N) : Memref sig .tc .vmem S1x1x2048x512 .f32 := spec0_1.stage ((cfgA A).slots t (1 : Fin 5))
abbrev hs0_1 (t : Fin (cfgA A).N) : (ms0_1 A t).IsWhole := hstage0_1 (((cfgA A).slots t (1 : Fin 5)).cast nbuf0_1)
abbrev ms0_2 (t : Fin (cfgA A).N) : Memref sig .tc .vmem S1x1x2048x512 .f32 := spec0_2.stage ((cfgA A).slots t (2 : Fin 5))
abbrev hs0_2 (t : Fin (cfgA A).N) : (ms0_2 A t).IsWhole := hstage0_2 (((cfgA A).slots t (2 : Fin 5)).cast nbuf0_2)
abbrev ms0_3 (t : Fin (cfgA A).N) : Memref sig .tc .vmem S512x1 .f32 := spec0_3.stage ((cfgA A).slots t (3 : Fin 5))
abbrev hs0_3 (t : Fin (cfgA A).N) : (ms0_3 A t).IsWhole := hstage0_3 (((cfgA A).slots t (3 : Fin 5)).cast nbuf0_3)
abbrev ms0_4 (t : Fin (cfgA A).N) : Memref sig .tc .vmem S512x512 .bf16 := spec0_4.stage ((cfgA A).slots t (4 : Fin 5))
abbrev hs0_4 (t : Fin (cfgA A).N) : (ms0_4 A t).IsWhole := hstage0_4 (((cfgA A).slots t (4 : Fin 5)).cast nbuf0_4)

/-- Window `w`'s block at point `t`, read off its array at launch. -/
def iblk (c : Dev nD) (w : Fin (cfgA A).W) (t : Fin (cfgA A).N) : (((cfgA A).win w).xblock (crd A t)).Idx → Elt Ideal ((cfgA A).win w).elt :=
  (((cfgA A).win w).blk t).view.read (Elt Ideal) (m (((cfgA A).win w).arr.view.loc (c : Thread nD τ)))
/-- The blocks at their literal types: the rows, the two weight blocks, the row weights. -/
abbrev xb (c : Dev nD) (t : Fin (cfgA A).N) : S512x2048.Idx → Elt Ideal .bf16 := iblk A m c (0 : Fin 5) t
abbrev gb (c : Dev nD) (t : Fin (cfgA A).N) : S1x1x2048x512.Idx → Elt Ideal .f32 := iblk A m c (1 : Fin 5) t
abbrev ub (c : Dev nD) (t : Fin (cfgA A).N) : S1x1x2048x512.Idx → Elt Ideal .f32 := iblk A m c (2 : Fin 5) t
abbrev rb (c : Dev nD) (t : Fin (cfgA A).N) : S512x1.Idx → Elt Ideal .f32 := iblk A m c (3 : Fin 5) t

/-- Point `t` is used; it loads. -/
abbrev UsedAt (t : Fin (cfgA A).N) : Prop := Used (T1 A) (crd A t)
abbrev LoadsAt (t : Fin (cfgA A).N) : Prop := Loads (T0 A) (T1 A) (crd A t)

open Classical in
/-- What point `t` leaves in the output's buffer. -/
def oblk (c : Dev nD) (t : Fin (cfgA A).N) : S512x512.Idx → Elt Ideal .bf16 :=
  if UsedAt A t then k0_pay3 (xb A m c t) (k0_pay1 (gb A m c t)) (k0_pay2 (ub A m c t)) (rb A m c t) else k0_pay4 (F := Ideal)

/-- A point past its column's first row block comes right after the same column's row block before. -/
theorem prev_point : ∀ t : Fin grid0.N, (grid0.coords t 1).val ≠ 0 → ∃ p : Fin grid0.N, p.val + 1 = t.val
    ∧ (grid0.coords p 0).val = (grid0.coords t 0).val ∧ (grid0.coords p 1).val + 1 = (grid0.coords t 1).val := by
  intro t
  have key : ∀ t : Fin grid0.N, (grid0.coords t 1).val ≠ 0 →
      (grid0.coords ⟨t.val - 1, lt_of_le_of_lt (Nat.sub_le _ _) t.isLt⟩ 0).val = (grid0.coords t 0).val
      ∧ (grid0.coords ⟨t.val - 1, lt_of_le_of_lt (Nat.sub_le _ _) t.isLt⟩ 1).val + 1 = (grid0.coords t 1).val ∧ 0 < t.val := by decide +kernel
  intro h
  obtain ⟨h1, h2, h3⟩ := key t h
  exact ⟨⟨t.val - 1, lt_of_le_of_lt (Nat.sub_le _ _) t.isLt⟩, by show t.val - 1 + 1 = t.val; omega, h1, h2⟩

theorem toInt_small (k : ℕ) (h : k < 40) : (BitVec.ofNat 32 k).toInt = (k : Int) := by
  rw [BitVec.toInt_eq_toNat_cond, BitVec.toNat_ofNat, Nat.mod_eq_of_lt (by omega), if_pos (by omega)]

/-- A used row block's predecessor in the column is used. -/
theorem used_prev {T1 : S1.Idx → Elt Ideal .i32} {i j : grid0.Coords} (h : (BitVec.ofNat 32 (i 1).val).slt (nuW T1) = true)
    (hj : (j 1).val + 1 = (i 1).val) : Used T1 j := by
  have hi : (i 1).val < 40 := (i 1).isLt
  have hs : (BitVec.ofNat 32 (j 1).val).slt (nuW T1) = true := by
    generalize nuW T1 = v at h ⊢
    rw [BitVec.slt_iff_toInt_lt] at h ⊢
    have e1 : (BitVec.ofNat 32 (i 1).val).toInt = ((i 1).val : Int) := toInt_small _ (by omega)
    have e2 : (BitVec.ofNat 32 (j 1).val).toInt = ((j 1).val : Int) := toInt_small _ (by omega)
    rw [e1] at h; rw [e2]; omega
  unfold Used k0_cond2
  dsimp only
  rw [show Scalar.cmpi .slt (BitVec.ofNat 32 (j 1).val) (nuW T1) = 1#1 from by
    show BitVec.ofBool _ = _; rw [hs]; rfl]
  decide

/-- The place the body reads the previous expert at. -/
theorem off2_eq : ∀ i : grid0.Coords, k0_off2 i = ![(i 1).val - 1] := by decide +kernel

/-- The expert word read at a point is the table's word at the row block's place. -/
def at40 (k : ℕ) (h : k < 40) : S40.Idx := fun a => match a with | ⟨0, _⟩ => ⟨k, h⟩
theorem curW_eq (T0 : S40.Idx → Elt Ideal .i32) (i : grid0.Coords) : curW T0 i = T0 (at40 (i 1).val (i 1).isLt) := by
  show T0 _ = _
  refine congrArg T0 (funext fun a => ?_)
  match a with
  | ⟨0, _⟩ =>
    apply Fin.ext
    show k0_off1 i 0 + 1 * _ = (i 1).val
    rw [show k0_off1 i 0 = (i 1).val from congrFun (k0_off1_eq i) 0]
    rfl
theorem preW_eq (T0 : S40.Idx → Elt Ideal .i32) (i : grid0.Coords) : preW T0 i = T0 (at40 ((i 1).val - 1) (lt_of_le_of_lt (Nat.sub_le _ _) (i 1).isLt)) := by
  show T0 _ = _
  refine congrArg T0 (funext fun a => ?_)
  match a with
  | ⟨0, _⟩ =>
    apply Fin.ext
    show k0_off2 i 0 + 1 * _ = (i 1).val - 1
    rw [show k0_off2 i 0 = (i 1).val - 1 from congrFun (off2_eq i) 0]
    rfl
/-- The weight windows' block indices: layer 0, the row block's expert, all rows, the column block. -/
theorem ixw_eq (pf : pre0.Contents (Elt Ideal)) (i : grid0.Coords) :
    cc0_transform_1 k0_off1_inb numel1_S1 pf i = ![0, ((show S40.Idx → BitVec 32 from pf 0) (at40 (i 1).val (i 1).isLt)).toNat, 0, (i 0).val] := by
  have e : pf.at 0 (Rect.unit (s := S40) (k0_off1 i) S1.size (k0_off1_inb i)) numel1_S1 = (show S40.Idx → BitVec 32 from pf 0) (at40 (i 1).val (i 1).isLt) :=
    (show _ = curW (show S40.Idx → Elt Ideal .i32 from pf 0) i from rfl).trans (curW_eq (show S40.Idx → Elt Ideal .i32 from pf 0) i)
  have e0 : (BitVec.ofNat 32 (i 0).val).toNat = (i 0).val := by
    rw [BitVec.toNat_ofNat]; exact Nat.mod_eq_of_lt (lt_trans (i 0).isLt (by decide))
  exact congrArg₂ (fun a b : ℕ => ![0, a, 0, b]) (congrArg BitVec.toNat e) e0
theorem ix1_eq (i : grid0.Coords) : cc0_transform_1 k0_off1_inb numel1_S1 A.1 i = ![0, (T0 A (at40 (i 1).val (i 1).isLt)).toNat, 0, (i 0).val] := ixw_eq A.1 i
theorem ix2_eq (i : grid0.Coords) : cc0_transform_2 k0_off1_inb numel1_S1 A.1 i = ![0, (T0 A (at40 (i 1).val (i 1).isLt)).toNat, 0, (i 0).val] := ix1_eq A i

/-- Equal indices give equal blocks. -/
theorem gb_congr (c : Dev nD) (t p : Fin (cfgA A).N)
    (h : cc0_transform_1 k0_off1_inb numel1_S1 A.1 (crd A p) = cc0_transform_1 k0_off1_inb numel1_S1 A.1 (crd A t)) :
    gb A m c p = gb A m c t := by
  funext x
  show m ((c : Thread nD τ).loc main_arg3) ((((cfgA A).win 1).blk p).view.emb x) = m ((c : Thread nD τ).loc main_arg3) ((((cfgA A).win 1).blk t).view.emb x)
  refine congrArg (m ((c : Thread nD τ).loc main_arg3)) (funext fun a => Fin.ext ?_)
  show cc0_transform_1 k0_off1_inb numel1_S1 A.1 (crd A p) a * S1x1x2048x512.size a + 1 * (x a).val
    = cc0_transform_1 k0_off1_inb numel1_S1 A.1 (crd A t) a * S1x1x2048x512.size a + 1 * (x a).val
  rw [h]
theorem ub_congr (c : Dev nD) (t p : Fin (cfgA A).N)
    (h : cc0_transform_2 k0_off1_inb numel1_S1 A.1 (crd A p) = cc0_transform_2 k0_off1_inb numel1_S1 A.1 (crd A t)) :
    ub A m c p = ub A m c t := by
  funext x
  show m ((c : Thread nD τ).loc main_arg4) ((((cfgA A).win 2).blk p).view.emb x) = m ((c : Thread nD τ).loc main_arg4) ((((cfgA A).win 2).blk t).view.emb x)
  refine congrArg (m ((c : Thread nD τ).loc main_arg4)) (funext fun a => Fin.ext ?_)
  show cc0_transform_2 k0_off1_inb numel1_S1 A.1 (crd A p) a * S1x1x2048x512.size a + 1 * (x a).val
    = cc0_transform_2 k0_off1_inb numel1_S1 A.1 (crd A t) a * S1x1x2048x512.size a + 1 * (x a).val
  rw [h]

/-- What a keeping point finds: the point before it is used and has the same weight blocks. -/
theorem kept (c : Dev nD) (t : Fin (cfgA A).N) (h : ¬ LoadsAt A t) (hu : UsedAt A t) :
    ∃ p : Fin (cfgA A).N, p.val + 1 = t.val ∧ UsedAt A p ∧ gb A m c p = gb A m c t ∧ ub A m c p = ub A m c t := by
  obtain ⟨hs, hne, hw⟩ := keep h hu
  obtain ⟨p, hp, h0, h1⟩ := prev_point t hne
  have hix : cc0_transform_1 k0_off1_inb numel1_S1 A.1 (crd A p) = cc0_transform_1 k0_off1_inb numel1_S1 A.1 (crd A t) := by
    rw [curW_eq, preW_eq] at hw
    have ea : (at40 (crd A p 1).val (crd A p 1).isLt) = at40 ((crd A t 1).val - 1) (lt_of_le_of_lt (Nat.sub_le _ _) (crd A t 1).isLt) := by
      funext a
      match a with
      | ⟨0, _⟩ => apply Fin.ext; have h1' : (crd A p 1).val + 1 = (crd A t 1).val := h1; show (crd A p 1).val = (crd A t 1).val - 1; omega
    rw [ix1_eq, ix1_eq, ea, ← hw, show (crd A p 0).val = (crd A t 0).val from h0]
  exact ⟨p, hp, used_prev hs h1, gb_congr A m c t p hix, ub_congr A m c t p hix⟩

end Cert.MoeUpIdeal.Hand
end
-- ==== Proof.MoeUpIdealRun.lean ====
/- The frame of the expert up-projection call, at ANY block-to-expert table whose blocks lie in the array.
   The grid runs the 40 row blocks of one column block before the next. A used row block (its number is below `n_used`)
   whose expert differs from the one before it narrows its two weight blocks into the two scratches; a used row block of the
   same expert finds them there. So after a used point both scratches hold that point's own narrowed weight blocks, which is
   all the invariant says, and each point's output block is a closed form of that point's input blocks. -/
module

public import proofs.«01_k».proof.Defs
public import proofs.«01_k».proof.Proof.Gen.MoeUpIdeal
public import proofs.«01_k».proof.Proof.Gen.MoeUpIdeal.Launch
public import proofs.«01_k».proof.Proof.Gen.MoeUpIdeal.Flash.Pins
public import proofs.«01_k».proof.Proof.Gen.MoeUpIdeal.Flash.Runs
public import proofs.«01_k».proof.Proof.MoeUpIdealPaths
public import proofs.«01_k».proof.Proof.ExpertsRange
public import Idealize.ShloMosaic.Lib.Pipeline.Kit
public import Idealize.ShloMosaic.Lib.Pipeline.TableIdle
public import Idealize.ShloMosaic.Lib.Pipeline.FrameBody
public import Idealize.ShloMosaic.Lib.Pipeline.Value
public import Idealize.ShloMosaic.Lib.Writes
public import Idealize.ShloMosaic.Lib.Exec
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.MoeUpIdeal.Hand

open Cert.MoeUpIdeal Cert.MoeUpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev EP : Emb (UR sig nD τ) 𝕄 := emb₁

variable (A : (pcfg0 (F := Ideal)).Adm) (m : (ℓ : Loc nD τ sig) → Buf (Elt Ideal) ℓ) (ρ : Dev nD → PrngReg)

/-! ## The pipeline's proof data -/

/-- What scratch 0 and scratch 1 hold before point `n`: if the point before was used, that point's narrowed weight blocks. -/
def Held0 (c : Dev nD) (n : ℕ) (a : Buf (Elt Ideal) ((c : Thread nD τ).loc cc0_scratch0)) : Prop :=
  ∀ p : Fin (cfgA A).N, p.val + 1 = n → UsedAt A p → a = k0_pay1 (gb A m c p)
def Held1 (c : Dev nD) (n : ℕ) (a : Buf (Elt Ideal) ((c : Thread nD τ).loc cc0_scratch1)) : Prop :=
  ∀ p : Fin (cfgA A).N, p.val + 1 = n → UsedAt A p → a = k0_pay2 (ub A m c p)

/-- THE INVARIANT before point `t`: the scratches as said, the body's halves of the tables. -/
def Phi (c : Dev nD) (t : Fin ((cfgA A).N + 1)) : sProp 𝕄 :=
  iprop((∃ a, ⌜Held0 A m c t.val a⌝ ∗ (scM0_0.view.loc (c : Thread nD τ) ↦{fullShare} a)) ∗ (∃ a, ⌜Held1 A m c t.val a⌝ ∗ (scM0_1.view.loc (c : Thread nD τ) ↦{fullShare} a)) ∗ (tbM0_0.view.loc (c : Thread nD τ) ↦{fullShare.right} T0 A) ∗ (tbM0_1.view.loc (c : Thread nD τ) ↦{fullShare.right} T1 A))

/-- The proof data of the one pipeline on core `c`. -/
def dats (_ : Fin 1) (c : Dev nD) : Dat τ (Elt Ideal) Unit ℕ (UR sig nD τ) ℕ (cfgA A) c where
  A w := m (((cfgA A).win w).arr.view.loc (c : Thread nD τ))
  after w t := match w with
    | ⟨0, _⟩ => iblk A m c (0 : Fin 5) t
    | ⟨1, _⟩ => iblk A m c (1 : Fin 5) t
    | ⟨2, _⟩ => iblk A m c (2 : Fin 5) t
    | ⟨3, _⟩ => iblk A m c (3 : Fin 5) t
    | ⟨4, _⟩ => oblk A m c t
  Φ t := Phi A m c t
  q _ := fullShare
  owed _ := 0

theorem after0_0 (c : Dev nD) (t : Fin (cfgA A).N) : (dats A m 0 c).after (0 : Fin 5) t = iblk A m c (0 : Fin 5) t := rfl
theorem after0_1 (c : Dev nD) (t : Fin (cfgA A).N) : (dats A m 0 c).after (1 : Fin 5) t = iblk A m c (1 : Fin 5) t := rfl
theorem after0_2 (c : Dev nD) (t : Fin (cfgA A).N) : (dats A m 0 c).after (2 : Fin 5) t = iblk A m c (2 : Fin 5) t := rfl
theorem after0_3 (c : Dev nD) (t : Fin (cfgA A).N) : (dats A m 0 c).after (3 : Fin 5) t = iblk A m c (3 : Fin 5) t := rfl
theorem after0_4 (c : Dev nD) (t : Fin (cfgA A).N) : (dats A m 0 c).after (4 : Fin 5) t = oblk A m c t := rfl

/-- An input window holds its block when the body runs. -/
theorem before0_0 (c : Dev nD) (t : Fin (cfgA A).N) (d) : (dats A m 0 c).before (0 : Fin 5) t d = iblk A m c (0 : Fin 5) t :=
  ((dats A m 0 c).before_in_eq_fetched (0 : Fin 5) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA A).N) (d) : (dats A m 0 c).before (1 : Fin 5) t d = iblk A m c (1 : Fin 5) t :=
  ((dats A m 0 c).before_in_eq_fetched (1 : Fin 5) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA A).N) (d) : (dats A m 0 c).before (2 : Fin 5) t d = iblk A m c (2 : Fin 5) t :=
  ((dats A m 0 c).before_in_eq_fetched (2 : Fin 5) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA A).N) (d) : (dats A m 0 c).before (3 : Fin 5) t d = iblk A m c (3 : Fin 5) t :=
  ((dats A m 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- No point leaves the output idle: it is stored where the block is used and where it is not. -/
theorem idle4 (i : grid0.Coords) : (cfgA A).idle (4 : Fin 5) i = false := by
  show (!(k0_cond2 i (A.1.atD 1 ![0]) == 1#1) && !(k0_cond3 i (A.1.atD 1 ![0]) == 1#1)) = false
  by_cases h : k0_cond2 i (A.1.atD 1 ![0]) = 1#1
  · rw [h]; rfl
  · rw [(cond3_iff _ _).mpr h]; simp

/-! ## The body obligation -/

/-- The body at point `t` on its staging memrefs, as the pipeline calls it. -/
abbrev bodyAt0 (t : Fin (cfgA A).N) : Prog (TpuEff nD τ sig (Elt Ideal) Λ₀ .tc) PUnit :=
  cc0_moe_up (crd A t) (Memref.whole main_arg0) (Memref.isWhole_whole _) (Memref.whole main_arg1) (Memref.isWhole_whole _) (ms0_0 A t) (hs0_0 A t) (ms0_1 A t) (hs0_1 A t) (ms0_2 A t) (hs0_2 A t) (ms0_3 A t) (hs0_3 A t) (ms0_4 A t) (hs0_4 A t) (Memref.whole cc0_scratch0) (Memref.isWhole_whole _) (Memref.whole cc0_scratch1) (Memref.isWhole_whole _)

theorem held0_next (c : Dev nD) (t : Fin (cfgA A).N) (a) (h : UsedAt A t → a = k0_pay1 (gb A m c t)) : Held0 A m c t.succ.val a := by
  intro p hp hu
  obtain rfl : p = t := Fin.ext (by simpa using hp)
  exact h hu
theorem held1_next (c : Dev nD) (t : Fin (cfgA A).N) (a) (h : UsedAt A t → a = k0_pay2 (ub A m c t)) : Held1 A m c t.succ.val a := by
  intro p hp hu
  obtain rfl : p = t := Fin.ext (by simpa using hp)
  exact h hu

/-- A keeping point finds its own narrowed weight blocks. -/
theorem found (c : Dev nD) (t : Fin (cfgA A).N) (h : ¬ LoadsAt A t) (hu : UsedAt A t)
    {a0 : Buf (Elt Ideal) ((c : Thread nD τ).loc cc0_scratch0)} {a1 : Buf (Elt Ideal) ((c : Thread nD τ).loc cc0_scratch1)}
    (h0 : Held0 A m c t.castSucc.val a0) (h1 : Held1 A m c t.castSucc.val a1) : a0 = k0_pay1 (gb A m c t) ∧ a1 = k0_pay2 (ub A m c t) := by
  obtain ⟨p, hp, hup, eg, eu⟩ := kept A m c t h hu
  have e0 := h0 p (by rw [Fin.val_castSucc]; exact hp) hup
  have e1 := h1 p (by rw [Fin.val_castSucc]; exact hp) hup
  rw [eg] at e0
  rw [eu] at e1
  exact ⟨e0, e1⟩

set_option maxHeartbeats 1000000 in
/-- THE BODY OBLIGATION at point `t`: the decisions there tell the path, and the path's run applies. -/
theorem sound_body (c : Dev nD) (t : Fin (cfgA A).N) :
    iprop((dats A m 0 c).Φ t.castSucc ∗ (dats A m 0 c).owesAt () t.castSucc
        ∗ (∃ d, owns (c : Thread nD τ) (ms0_0 A t) fullShare ((dats A m 0 c).before (0 : Fin 5) t d))
        ∗ (∃ d, owns (c : Thread nD τ) (ms0_1 A t) fullShare ((dats A m 0 c).before (1 : Fin 5) t d))
        ∗ (∃ d, owns (c : Thread nD τ) (ms0_2 A t) fullShare ((dats A m 0 c).before (2 : Fin 5) t d))
        ∗ (∃ d, owns (c : Thread nD τ) (ms0_3 A t) fullShare ((dats A m 0 c).before (3 : Fin 5) t d))
        ∗ (∃ d, owns (c : Thread nD τ) (ms0_4 A t) fullShare ((dats A m 0 c).before (4 : Fin 5) t d)))
      ⊢ wp frame (wpE (defs₀ (F := Ideal)) Variants.none c none) Set.univ (bodyAt0 A t) fun _ =>
          iprop((dats A m 0 c).Φ t.succ ∗ (dats A m 0 c).owesAt () t.succ
            ∗ bigSep Finset.univ fun w : Fin (cfgA A).W =>
                match (cfgA A).idle w ((cfgA A).grid.coords t) with
                | true =>
                  match ((cfgA A).win w).flush t with
                  | false => iprop(∃ d, owns (c : Thread nD τ) (((cfgA A).win w).stage ((cfgA A).slots t w)) fullShare ((dats A m 0 c).before w t d))
                  | true => owns (c : Thread nD τ) (((cfgA A).win w).stage ((cfgA A).slots t w)) fullShare ((dats A m 0 c).after w t)
                | false => owns (c : Thread nD τ) (((cfgA A).win w).stage ((cfgA A).slots t w)) fullShare ((dats A m 0 c).after w t)) := by
  rw [bigSep_W0]
  rewrite [idle4 A]
  simp only [before0_0, before0_1, before0_2, before0_3, after0_0, after0_1, after0_2, after0_3, after0_4]
  rewrite [show (dats A m 0 c).Φ t.succ = Phi A m c t.succ from rfl, show (dats A m 0 c).Φ t.castSucc = Phi A m c t.castSucc from rfl,
    show (dats A m 0 c).owesAt () t.succ = (dats A m 0 c).owesAt () t.castSucc from rfl]
  unfold Phi
  by_cases q0 : LoadsAt A t
  · have hu : UsedAt A t := used_of_loads q0
    have h3 : ¬ k0_cond3 (crd A t) (nuW (T1 A)) = 1#1 := fun h => (cond3_iff _ _).mp h hu
    iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
    iapply ((kernelRun0_A c (crd A t) (ms0_0 A t) (hs0_0 A t) (ms0_1 A t) (hs0_1 A t) (ms0_2 A t) (hs0_2 A t) (ms0_3 A t) (hs0_3 A t) (ms0_4 A t) (hs0_4 A t) (T0 A) (T1 A) (iblk A m c (0 : Fin 5) t) (iblk A m c (1 : Fin 5) t) (iblk A m c (2 : Fin 5) t) (iblk A m c (3 : Fin 5) t) q0 hu h3).2.2.2 a0 a1 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    iintro ⟨H0, H1, H2, H3, HT0, HT1, ⟨%e4, H4⟩, HS0, HS1⟩
    isplitl [HS0 HS1 HT0 HT1]
    · isplitl [HS0]
      · iexists _; isplitr; swap
        · iexact HS0
        · ipureintro; exact held0_next A m c t _ fun _ => scr0_A c _ _ _ _ _ _ _ _ _ _ _ _ _ _ _ _ _ _ _ _
      isplitl [HS1]
      · iexists _; isplitr; swap
        · iexact HS1
        · ipureintro; exact held1_next A m c t _ fun _ => scr1_A c _ _ _ _ _ _ _ _ _ _ _ _ _ _ _ _ _ _ _ _
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro
      refine (View.read_writes_of_cover _ _ VO0_4 VO0_4.junk _ (cover0_A_4 c _ _ _ _ _ _ _ _ _ _ _ _ _ _ _ _ _ _ _ _)).trans ?_
      refine (out_A c _ _ _ _ _ _ _ _ _ _ _ _ _ _ _ _ _ _ _ _).trans ?_
      unfold oblk; rw [if_pos hu]
  · by_cases hu : UsedAt A t
    · have h3 : ¬ k0_cond3 (crd A t) (nuW (T1 A)) = 1#1 := fun h => (cond3_iff _ _).mp h hu
      iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
      obtain ⟨b0, b1⟩ := found A m c t q0 hu ha0 ha1
      iapply ((kernelRun0_B c (crd A t) (ms0_0 A t) (hs0_0 A t) (ms0_1 A t) (hs0_1 A t) (ms0_2 A t) (hs0_2 A t) (ms0_3 A t) (hs0_3 A t) (ms0_4 A t) (hs0_4 A t) (T0 A) (T1 A) (iblk A m c (0 : Fin 5) t) (iblk A m c (1 : Fin 5) t) (iblk A m c (2 : Fin 5) t) (iblk A m c (3 : Fin 5) t) a0 a1 q0 hu h3).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      iintro ⟨H0, H1, H2, H3, HT0, HT1, ⟨%e4, H4⟩, HS0, HS1⟩
      isplitl [HS0 HS1 HT0 HT1]
      · isplitl [HS0]
        · iexists _; isplitr; swap
          · iexact HS0
          · ipureintro; exact held0_next A m c t _ fun _ => b0
        isplitl [HS1]
        · iexists _; isplitr; swap
          · iexact HS1
          · ipureintro; exact held1_next A m c t _ fun _ => b1
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro
        refine (View.read_writes_of_cover _ _ VO0_4 VO0_4.junk _ (cover0_B_4 c _ _ _ _ _ _ _ _ _ _ _ _ _ _ _ _ _ _ _ _ _ _)).trans ?_
        refine (out_B c _ _ _ _ _ _ _ _ _ _ _ _ _ _ _ _ _ _ _ _ _ _).trans ?_
        unfold oblk; rw [if_pos hu, b0, b1]
    · have h3 : k0_cond3 (crd A t) (nuW (T1 A)) = 1#1 := (cond3_iff _ _).mpr hu
      iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
      iapply ((kernelRun0_C c (crd A t) (ms0_0 A t) (hs0_0 A t) (ms0_1 A t) (hs0_1 A t) (ms0_2 A t) (hs0_2 A t) (ms0_3 A t) (hs0_3 A t) (ms0_4 A t) (hs0_4 A t) (T0 A) (T1 A) (iblk A m c (0 : Fin 5) t) (iblk A m c (1 : Fin 5) t) (iblk A m c (2 : Fin 5) t) (iblk A m c (3 : Fin 5) t) a0 a1 q0 hu h3).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      iintro ⟨H0, H1, H2, H3, HT0, HT1, ⟨%e4, H4⟩, HS0, HS1⟩
      isplitl [HS0 HS1 HT0 HT1]
      · isplitl [HS0]
        · iexists _; isplitr; swap
          · iexact HS0
          · ipureintro; exact held0_next A m c t _ fun h => absurd h hu
        isplitl [HS1]
        · iexists _; isplitr; swap
          · iexact HS1
          · ipureintro; exact held1_next A m c t _ fun h => absurd h hu
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro
        refine (View.read_writes_of_cover _ _ VO0_4 VO0_4.junk _ (cover0_C_4 c _ _ _ _ _ _ _ _ _ _ _ _ _ _ _ _ _ _ _ _ _ _)).trans ?_
        refine (out_C c _ _ _ _ _ _ _ _ _ _ _ _ _ _ _ _ _ _ _ _ _ _).trans ?_
        unfold oblk; rw [if_neg hu]

/-- The library's body obligation, at every point. -/
theorem body_obligation (c : Dev nD) : BodyObligation (dats A m 0 c) (defs₀ (F := Ideal)) Variants.none () Set.univ := fun t => by
  rw [bigSep_W0]
  exact sound_body A m c t

/-! ## The launch -/

/-- The launch memory holds the tables `A`. -/
def Pinned : Prop := ∀ c : Dev nD, m ((c : Thread nD τ).loc main_arg0) = A.1 0 ∧ m ((c : Thread nD τ).loc main_arg1) = A.1 1

/-- The rounds library's launch element. -/
def u₀ : UR sig nD τ :=
  initOf (Pipeline.cells (pcs A) ((launch0 (F := Ideal)).cellOf_inj fun _ => A))
    (Pipeline.launchToks (pcs A) ((launch0 (F := Ideal)).cellOf_inj fun _ => A))

theorem share_eq (c : Dev nD) (w : Fin (cfgA A).W) : (dats A m 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers; -/
theorem phi0_intro (c : Dev nD) :
    iprop(BI.emp ∗ Pipeline.prefHeld pre0 c (fun _ => fullShare.right) A.1 ∗ Pipeline.scopedRest spec0 c) ⊢ (dats A m 0 c).Φ 0 := by
  rw [prefHeld_eq, scopedRest0_eq, show (dats A m 0 c).Φ 0 = Phi A m c 0 from rfl]
  unfold Phi
  iintro ⟨-, ⟨HT0, HT1⟩, ⟨%a0, HS0⟩, ⟨%a1, HS1⟩⟩
  isplitl [HS0]
  · iexists a0; isplitr; swap
    · iexact HS0
    · ipureintro; intro p hp; exact absurd hp (Nat.succ_ne_zero _)
  isplitl [HS1]
  · iexists a1; isplitr; swap
    · iexact HS1
    · ipureintro; intro p hp; exact absurd hp (Nat.succ_ne_zero _)
  isplitl [HT0]
  · iexact HT0
  iexact HT1

/-- at the last point it gives the scratch buffers back, the tables let go. -/
theorem phiN_exit (c : Dev nD) : (dats A m 0 c).Φ (Fin.last (cfgA A).N) ⊢ iprop(BI.emp ∗ Pipeline.scopedRest spec0 c) := by
  rw [scopedRest0_eq, show (dats A m 0 c).Φ (Fin.last (cfgA A).N) = Phi A m c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- The physical post: every array at what the library computes, every table at what the pipeline ran at. -/
def QC : PUnit × MemSt nD τ sig (Elt Ideal) → Prop := fun r =>
  ∀ c : Dev nD, (∀ w : Fin (cfgA A).W, r.2.mem (((cfgA A).win w).arr.view.loc (c : Thread nD τ)) = (dats A m 0 c).arrAt w (cfgA A).N)
    ∧ ∀ j, r.2.mem ((c : Thread nD τ).loc (pre0.ref j)) = A.1 j

theorem V_pre (hp : Pinned A m) (c : Dev nD) (j : Fin 2) : m ((c : Thread nD τ).loc (pre0.ref j)) = A.1 j := by
  fin_cases j
  · exact (hp c).1
  · exact (hp c).2

set_option backward.isDefEq.respectTransparency.types false in
set_option maxHeartbeats 4000000 in
/-- From any memory with zero counters whose tables are `A`: every weakly fair execution of @main on the TensorCores
    terminates, and every final state has each array at the computed contents and every semaphore counter at zero. -/
theorem run_main (hp : Pinned A m) : θ_run (defs (F := Ideal)) (onTc (τ := τ) (main (F := Ideal))) (s₀ m ρ) (fun r => QC A m r ∧ r.2.sem = fun _ => 0) :=
  Pipeline.θ_run_region_noSem_pf_quiescent pcfgs (fun _ => A) (dats A m) () ((launch0 (F := Ideal)).cellOf_inj fun _ => A) (0 : Fin 1)
    (launch0 (F := Ideal)).win.to₀ (launch0 (F := Ideal)).pre EP defs₀ Variants.none m ρ main
    (hbody := fun c => (body_obligation A m c).loose) (hne := (launch0 (F := Ideal)).block_pos)
    (harr := (launch0 (F := Ideal)).arr_whole) (hstage := (launch0 (F := Ideal)).stage_whole) (howed := fun _ _ => rfl)
    (u₀ := u₀ A) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs A) (dats A m) 0 (launch0 (F := Ideal)).win.arr_inj c (launch0 (F := Ideal)).arr_whole
      (share_eq A m c) _ _ fun _ => rfl)
    (hpf := V_pre A m hp)
    (X := fun _ => iprop(emp)) (Y := fun _ => iprop(emp)) (Z := fun _ => iprop(emp))
    (hX := fun c => by rw [unscopedRestP0_eq]; iintro -; isplitr <;> iempintro)
    (hin := phi0_intro A m)
    (hout := phiN_exit A m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- What holds of the arrays after the run: the output's computed contents, the arguments as launched. -/
theorem post (hp : Pinned A m) : θ_run (defs (F := Ideal)) (onTc (τ := τ) (main (F := Ideal))) ⟨m, fun _ => 0, ρ⟩ (fun r => (∀ c : Dev nD,
      r.2.mem ((c.tc : Thread nD τ).loc main_v0) = (dats A m 0 c).arrAt (4 : Fin 5) (cfgA A).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 (4 : Fin 5), ((h.1 c).2 0).trans (hp c).1.symm, ((h.1 c).2 1).trans (hp c).2.symm,
      ((h.1 c).1 (0 : Fin 5)).trans ((dats A m 0 c).arrAt_in (0 : Fin 5) rfl _), ((h.1 c).1 (1 : Fin 5)).trans ((dats A m 0 c).arrAt_in (1 : Fin 5) rfl _),
      ((h.1 c).1 (2 : Fin 5)).trans ((dats A m 0 c).arrAt_in (2 : Fin 5) rfl _), ((h.1 c).1 (3 : Fin 5)).trans ((dats A m 0 c).arrAt_in (3 : Fin 5) rfl _)⟩, h.2⟩)
    (run_main A m ρ hp)

/-! ## The tables a precondition admits -/

/-- Any table whose words are experts' numbers keeps the weight blocks inside the arrays. -/
theorem ok_of_range (pf : pre0.Contents (Elt Ideal)) (h : ∀ x : S40.Idx, ((show S40.Idx → BitVec 32 from pf 0) x).toNat < 8) : ok0 pf := by
  have key : ∀ (i : grid0.Coords) a, (cc0_transform_1 k0_off1_inb numel1_S1 pf i a + 1) * S1x1x2048x512.size a ≤ S2x8x2048x4096.size a := by
    intro i a
    rw [ixw_eq pf i]
    have he := h (at40 (i 1).val (i 1).isLt)
    have hi : (i 0).val < 8 := (i 0).isLt
    match a with
    | ⟨0, _⟩ => show (0 + 1) * 1 ≤ 2; omega
    | ⟨1, _⟩ => exact (Nat.mul_one _).le.trans he
    | ⟨2, _⟩ => show (0 + 1) * 2048 ≤ 2048; omega
    | ⟨3, _⟩ => show ((i 0).val + 1) * 512 ≤ 4096; omega
  exact ⟨fun i => ⟨key i, Or.inl rfl⟩, fun i => ⟨key i, Or.inl rfl⟩⟩

/-- The tables a launch memory with experts' numbers holds, on the one device. -/
def tables (h : ∀ x : S40.Idx, ((show S40.Idx → BitVec 32 from m (((0 : Dev nD) : Thread nD τ).loc main_arg0)) x).toNat < 8) : (pcfg0 (F := Ideal)).Adm :=
  ⟨fun j => m (((0 : Dev nD) : Thread nD τ).loc (pre0.ref j)), ok_of_range _ h⟩

theorem pinned (h : ∀ x : S40.Idx, ((show S40.Idx → BitVec 32 from m (((0 : Dev nD) : Thread nD τ).loc main_arg0)) x).toNat < 8) : Pinned (tables m h) m := fun c => by
  obtain rfl : c = 0 := Subsingleton.elim _ _
  exact ⟨rfl, rfl⟩

theorem range_of_pre (h : Cert.Pre_MoeUpIdeal m) (x : S40.Idx) : ((show S40.Idx → BitVec 32 from m (((0 : Dev nD) : Thread nD τ).loc main_arg0)) x).toNat < 8 :=
  Cert.ExpertsRange.up _ _ _ _ _ _ (h 0) x

/-- THE FRAME: under the precondition @main runs, leaves its arguments alone and ends with every counter at zero. -/
theorem frame : Cert.quiescent_MoeUpIdeal := fun m ρ h =>
  (θ_run defs _ _).mono (fun _ h => ⟨fun c => (h.1 c).2, h.2⟩) (post (tables m (range_of_pre m h)) m ρ (pinned m (range_of_pre m h)))

end Cert.MoeUpIdeal.Hand
end
-- ==== Proof.MoeDownPaths.lean ====
/- The frame of the expert down-projection call, at ANY block-to-expert table whose blocks lie in the array.
   The grid runs the 40 row blocks of one column block before the next. A used row block (its number is below `n_used`)
   whose expert differs from the one before it narrows its weight block into the scratch; a used row block of the
   same expert finds it there. So after a used point the scratch holds that point's own narrowed weight block, which is
   all the invariant says, and each point's three output blocks are closed forms of that point's input blocks. -/
module

public import proofs.«01_k».proof.Defs
public import proofs.«01_k».proof.Proof.Gen.MoeDown
public import proofs.«01_k».proof.Proof.Gen.MoeDown.Launch
public import proofs.«01_k».proof.Proof.Gen.MoeDown.Flash.Pins
public import proofs.«01_k».proof.Proof.Gen.MoeDown.Flash.Runs
public import Idealize.ShloMosaic.Lib.Pipeline.Kit
public import Idealize.ShloMosaic.Lib.Pipeline.TableIdle
public import Idealize.ShloMosaic.Lib.Pipeline.FrameBody
public import Idealize.ShloMosaic.Lib.Pipeline.Value
public import Idealize.ShloMosaic.Lib.Writes
public import Idealize.ShloMosaic.Lib.Exec
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.MoeDown.Hand

open Cert.MoeDown Cert.MoeDown.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

theorem hz : (![0, 0] : Fin 2 → Nat) = fun _ => 0 := funext fun a => by fin_cases a <;> rfl
theorem hz4 : (![0, 0, 0, 0] : Fin 4 → Nat) = fun _ => 0 := funext fun a => by fin_cases a <;> rfl

/-! ## The three control decisions, over the table words -/

/-- The word of `n_used`. -/
abbrev nuW (T1 : S1.Idx → Elt Bits .i32) : BitVec 32 :=
  View.readAt (Elt Bits) (tbM0_1).view (Rect.unit (s := S1) ![0] S1.size inb_S1_S1_0).toLoadRect T1 (Shape.Idx.first (numel1_S1.symm ▸ Nat.one_pos))
/-- The expert of this row block, -/
abbrev curW (T0 : S40.Idx → Elt Bits .i32) (i : grid0.Coords) : BitVec 32 :=
  View.readAt (Elt Bits) (tbM0_0).view (Rect.unit (s := S40) (k0_off1 i) S1.size (k0_off1_inb i)).toLoadRect T0 (Shape.Idx.first (numel1_S1.symm ▸ Nat.one_pos))
/-- and of the row block before it. -/
abbrev preW (T0 : S40.Idx → Elt Bits .i32) (i : grid0.Coords) : BitVec 32 :=
  View.readAt (Elt Bits) (tbM0_0).view (Rect.unit (s := S40) (k0_off2 i) S1.size (k0_off2_inb i)).toLoadRect T0 (Shape.Idx.first (numel1_S1.symm ▸ Nat.one_pos))

/-- The point reloads its weight blocks. -/
abbrev Loads (T0 : S40.Idx → Elt Bits .i32) (T1 : S1.Idx → Elt Bits .i32) (i : grid0.Coords) : Prop :=
  (Scalar.cmpi .ne (Scalar.extui (Scalar.andi (Scalar.cmpi .slt (BitVec.ofNat 32 (i 1).val) (nuW T1)) (Scalar.ori (Scalar.cmpi .eq (BitVec.ofNat 32 (i 1).val) 0#32) (Scalar.cmpi .ne (curW T0 i) (preW T0 i))))) 0#32) = 1#1
/-- The point's row block is used. -/
abbrev Used (T1 : S1.Idx → Elt Bits .i32) (i : grid0.Coords) : Prop := k0_cond2 i (nuW T1) = 1#1

theorem cond3_iff (i : grid0.Coords) (v : BitVec 32) : k0_cond3 i v = 1#1 ↔ ¬ k0_cond2 i v = 1#1 := by
  unfold k0_cond3 k0_cond2
  dsimp only
  generalize Scalar.cmpi .slt (BitVec.ofNat 32 (i 1).val) v = b
  revert b
  decide

theorem used_of_loads {T0 : S40.Idx → Elt Bits .i32} {T1 : S1.Idx → Elt Bits .i32} {i : grid0.Coords} (h : Loads T0 T1 i) : Used T1 i := by
  unfold Used k0_cond2
  dsimp only
  unfold Loads at h
  revert h
  generalize Scalar.cmpi .slt (BitVec.ofNat 32 (i 1).val) (nuW T1) = b
  generalize Scalar.ori (Scalar.cmpi .eq (BitVec.ofNat 32 (i 1).val) 0#32) (Scalar.cmpi .ne (curW T0 i) (preW T0 i)) = d
  revert b d
  decide

theorem bits_of_keep : ∀ b d e : BitVec 1, ¬ Scalar.cmpi .ne (Scalar.extui (Scalar.andi b (Scalar.ori d e)) : BitVec 32) 0#32 = 1#1 →
    Scalar.cmpi .ne (Scalar.extui b : BitVec 32) 0#32 = 1#1 → b = 1#1 ∧ d = 0#1 ∧ e = 0#1 := by decide

theorem keep {T0 : S40.Idx → Elt Bits .i32} {T1 : S1.Idx → Elt Bits .i32} {i : grid0.Coords} (h : ¬ Loads T0 T1 i) (hu : Used T1 i) :
    (BitVec.ofNat 32 (i 1).val).slt (nuW T1) = true ∧ (i 1).val ≠ 0 ∧ curW T0 i = preW T0 i := by
  obtain ⟨h1, h2, h3⟩ := bits_of_keep _ _ _ h hu
  refine ⟨?_, ?_, ?_⟩
  · revert h1
    show BitVec.ofBool _ = 1#1 → _
    cases (BitVec.ofNat 32 (i 1).val).slt (nuW T1) <;> simp
  · intro h0
    rw [h0] at h2
    exact absurd h2 (by decide)
  · revert h3
    show BitVec.ofBool (curW T0 i != preW T0 i) = 0#1 → _
    by_cases e : curW T0 i = preW T0 i
    · intro _; exact e
    · rw [bne_iff_ne.mpr e]; intro h; exact absurd h (by decide)

/-! ## What each path leaves: its run's contents in closed form -/

section Paths
variable (c : Dev nD) (i : grid0.Coords) (arg4 : Memref sig .tc .vmem S512x4096 .bf16) (harg4 : arg4.IsWhole)
  (arg5 : Memref sig .tc .vmem S1x1x4096x512 .f32) (harg5 : arg5.IsWhole) (arg6 : Memref sig .tc .vmem S512x512 .bf16) (harg6 : arg6.IsWhole)
  (arg7 : Memref sig .tc .vmem S512x512 .bf16) (harg7 : arg7.IsWhole) (arg8 : Memref sig .tc .vmem S512x512 .bf16) (harg8 : arg8.IsWhole)
  (T0 : S40.Idx → Elt Bits .i32) (T1 : S1.Idx → Elt Bits .i32)
  (x0 : S512x4096.Idx → Elt Bits .bf16) (x1 : S1x1x4096x512.Idx → Elt Bits .f32)
  (xa0 : Buf (Elt Bits) ((c : Thread nD τ).loc cc0_scratch0))

/-- A load of a whole input block reads the block. -/
theorem ld_x0 : View.readAt (Elt Bits) arg4.view (Rect.unit (s := S512x4096) ![0, 0] S512x4096.size inb_S512x4096_S512x4096_0_0).toLoadRect (arg4.view.rep x0) = x0 := by
  rw [View.readAt_eq_ld, View.read_rep, View.ld_unit_zero hz]
theorem ld_w (arg : Memref sig .tc .vmem S1x1x4096x512 .f32) (x : S1x1x4096x512.Idx → Elt Bits .f32) :
    View.readAt (Elt Bits) arg.view (Rect.unit (s := S1x1x4096x512) ![0, 0, 0, 0] S1x1x4096x512.size inb_S1x1x4096x512_S1x1x4096x512_0_0_0_0).toLoadRect (arg.view.rep x) = x := by
  rw [View.readAt_eq_ld, View.read_rep, View.ld_unit_zero hz4]
/-- A load of a whole scratch reads its contents. -/
theorem ld_s0 : View.readAt (Elt Bits) scM0_0.view (Rect.unit (s := S4096x512) ![0, 0] S4096x512.size inb_S4096x512_S4096x512_0_0).toLoadRect xa0 = xa0 := by
  rw [View.readAt_eq_ld, View.ld_unit_zero hz]; rfl

/-- Output 2 after the loading path: the payload of its blocks, the weight block narrowed; -/
theorem out_A_2 (hc0 h2 h3) : out0_A_2 c i arg4 harg4 arg5 harg5 arg6 harg6 arg7 harg7 arg8 harg8 T0 T1 x0 x1 hc0 h2 h3
    = k0_pay3 x0 (k0_pay1 x1) := by
  unfold out0_A_2
  rw [View.read_writes_junk_eq_canon]
  unfold kernelRun0_A
  dsimp only
  sl_unfold_words
  rw [View.canon_unit_zero hz, View.readCov_unit_zero (S := S4096x512) _ hz, ld_x0, ld_w]
/-- after the keeping path: the payload over what the scratch holds; -/
theorem out_B_2 (hc0 h2 h3) : out0_B_2 c i arg4 harg4 arg5 harg5 arg6 harg6 arg7 harg7 arg8 harg8 T0 T1 x0 x1 xa0 hc0 h2 h3
    = k0_pay3 x0 xa0 := by
  unfold out0_B_2
  rw [View.read_writes_junk_eq_canon]
  unfold kernelRun0_B
  dsimp only
  sl_unfold_words
  rw [View.canon_unit_zero hz, ld_x0, ld_s0]
/-- at an unused block: zeros. -/
theorem out_C_2 (hc0 h2 h3) : out0_C_2 c i arg4 harg4 arg5 harg5 arg6 harg6 arg7 harg7 arg8 harg8 T0 T1 x0 x1 xa0 hc0 h2 h3
    = k0_pay7 (F := Bits) := by
  unfold out0_C_2
  rw [View.read_writes_junk_eq_canon]
  unfold kernelRun0_C
  dsimp only
  sl_unfold_words
  rw [View.canon_unit_zero hz]
/-- Output 3 after the loading path: the payload of its blocks, the weight block narrowed; -/
theorem out_A_3 (hc0 h2 h3) : out0_A_3 c i arg4 harg4 arg5 harg5 arg6 harg6 arg7 harg7 arg8 harg8 T0 T1 x0 x1 hc0 h2 h3
    = k0_pay5 x0 (k0_pay1 x1) := by
  unfold out0_A_3
  rw [View.read_writes_junk_eq_canon]
  unfold kernelRun0_A
  dsimp only
  sl_unfold_words
  rw [View.canon_unit_zero hz, View.readCov_unit_zero (S := S4096x512) _ hz, ld_x0, ld_w]
/-- after the keeping path: the payload over what the scratch holds; -/
theorem out_B_3 (hc0 h2 h3) : out0_B_3 c i arg4 harg4 arg5 harg5 arg6 harg6 arg7 harg7 arg8 harg8 T0 T1 x0 x1 xa0 hc0 h2 h3
    = k0_pay5 x0 xa0 := by
  unfold out0_B_3
  rw [View.read_writes_junk_eq_canon]
  unfold kernelRun0_B
  dsimp only
  sl_unfold_words
  rw [View.canon_unit_zero hz, ld_x0, ld_s0]
/-- at an unused block: zeros. -/
theorem out_C_3 (hc0 h2 h3) : out0_C_3 c i arg4 harg4 arg5 harg5 arg6 harg6 arg7 harg7 arg8 harg8 T0 T1 x0 x1 xa0 hc0 h2 h3
    = k0_pay8 (F := Bits) := by
  unfold out0_C_3
  rw [View.read_writes_junk_eq_canon]
  unfold kernelRun0_C
  dsimp only
  sl_unfold_words
  rw [View.canon_unit_zero hz]
/-- Output 4 after the loading path: the payload of its blocks, the weight block narrowed; -/
theorem out_A_4 (hc0 h2 h3) : out0_A_4 c i arg4 harg4 arg5 harg5 arg6 harg6 arg7 harg7 arg8 harg8 T0 T1 x0 x1 hc0 h2 h3
    = k0_pay6 x0 (k0_pay1 x1) := by
  unfold out0_A_4
  rw [View.read_writes_junk_eq_canon]
  unfold kernelRun0_A
  dsimp only
  sl_unfold_words
  rw [View.canon_unit_zero hz, View.readCov_unit_zero (S := S4096x512) _ hz, ld_x0, ld_w]
/-- after the keeping path: the payload over what the scratch holds; -/
theorem out_B_4 (hc0 h2 h3) : out0_B_4 c i arg4 harg4 arg5 harg5 arg6 harg6 arg7 harg7 arg8 harg8 T0 T1 x0 x1 xa0 hc0 h2 h3
    = k0_pay6 x0 xa0 := by
  unfold out0_B_4
  rw [View.read_writes_junk_eq_canon]
  unfold kernelRun0_B
  dsimp only
  sl_unfold_words
  rw [View.canon_unit_zero hz, ld_x0, ld_s0]
/-- at an unused block: zeros. -/
theorem out_C_4 (hc0 h2 h3) : out0_C_4 c i arg4 harg4 arg5 harg5 arg6 harg6 arg7 harg7 arg8 harg8 T0 T1 x0 x1 xa0 hc0 h2 h3
    = k0_pay9 (F := Bits) := by
  unfold out0_C_4
  rw [View.read_writes_junk_eq_canon]
  unfold kernelRun0_C
  dsimp only
  sl_unfold_words
  rw [View.canon_unit_zero hz]

/-- The loading path leaves the narrowed weight block in the scratch; the keeping one leaves the scratch alone. -/
theorem scr0_A (hc0 h2 h3) : (kernelRun0_A c i arg4 harg4 arg5 harg5 arg6 harg6 arg7 harg7 arg8 harg8 T0 T1 x0 x1 hc0 h2 h3).2.2.2.1
    = k0_pay1 x1 := by
  unfold kernelRun0_A
  dsimp only
  sl_unfold_words
  refine (View.read_whole cc0_scratch0 _).symm.trans ?_
  rw [View.read_writes_junk_eq_canon]
  exact (View.canon_unit_zero (S := S4096x512) hz inb_S4096x512_S4096x512_0_0 _).trans (congrArg k0_pay1 (ld_w _ _))
theorem scr0_B (hc0 h2 h3) : (kernelRun0_B c i arg4 harg4 arg5 harg5 arg6 harg6 arg7 harg7 arg8 harg8 T0 T1 x0 x1 xa0 hc0 h2 h3).2.2.2.1 = xa0 := rfl
end Paths

/-! ## The configuration at tables `A`, and the points -/

variable (A : (pcfg0 (F := Bits)).Adm) (m : (ℓ : Loc nD τ sig) → Buf (Elt Bits) ℓ) (ρ : Dev nD → PrngReg)

abbrev T0 : S40.Idx → Elt Bits .i32 := A.1 0
abbrev T1 : S1.Idx → Elt Bits .i32 := A.1 1
abbrev cfgA : Pipeline.Cfg sig Λ₀ := cfg0 (F := Bits) A
abbrev pcs : Fin 1 → Pipeline.Cfg sig Λ₀ := Pipeline.pin (pcfgs (F := Bits)) fun _ => A
abbrev s₀ : MemSt nD τ sig (Elt Bits) := ⟨m, fun _ => 0, ρ⟩
abbrev crd (t : Fin (cfgA A).N) : grid0.Coords := (cfgA A).grid.coords t
abbrev ms0_0 (t : Fin (cfgA A).N) : Memref sig .tc .vmem S512x4096 .bf16 := spec0_0.stage ((cfgA A).slots t (0 : Fin 5))
abbrev hs0_0 (t : Fin (cfgA A).N) : (ms0_0 A t).IsWhole := hstage0_0 (((cfgA A).slots t (0 : Fin 5)).cast nbuf0_0)
abbrev ms0_1 (t : Fin (cfgA A).N) : Memref sig .tc .vmem S1x1x4096x512 .f32 := spec0_1.stage ((cfgA A).slots t (1 : Fin 5))
abbrev hs0_1 (t : Fin (cfgA A).N) : (ms0_1 A t).IsWhole := hstage0_1 (((cfgA A).slots t (1 : Fin 5)).cast nbuf0_1)
abbrev ms0_2 (t : Fin (cfgA A).N) : Memref sig .tc .vmem S512x512 .bf16 := spec0_2.stage ((cfgA A).slots t (2 : Fin 5))
abbrev hs0_2 (t : Fin (cfgA A).N) : (ms0_2 A t).IsWhole := hstage0_2 (((cfgA A).slots t (2 : Fin 5)).cast nbuf0_2)
abbrev ms0_3 (t : Fin (cfgA A).N) : Memref sig .tc .vmem S512x512 .bf16 := spec0_3.stage ((cfgA A).slots t (3 : Fin 5))
abbrev hs0_3 (t : Fin (cfgA A).N) : (ms0_3 A t).IsWhole := hstage0_3 (((cfgA A).slots t (3 : Fin 5)).cast nbuf0_3)
abbrev ms0_4 (t : Fin (cfgA A).N) : Memref sig .tc .vmem S512x512 .bf16 := spec0_4.stage ((cfgA A).slots t (4 : Fin 5))
abbrev hs0_4 (t : Fin (cfgA A).N) : (ms0_4 A t).IsWhole := hstage0_4 (((cfgA A).slots t (4 : Fin 5)).cast nbuf0_4)

/-- Window `w`'s block at point `t`, read off its array at launch. -/
def iblk (c : Dev nD) (w : Fin (cfgA A).W) (t : Fin (cfgA A).N) : (((cfgA A).win w).xblock (crd A t)).Idx → Elt Bits ((cfgA A).win w).elt :=
  (((cfgA A).win w).blk t).view.read (Elt Bits) (m (((cfgA A).win w).arr.view.loc (c : Thread nD τ)))
/-- The blocks at their literal types: the rows and the weight block. -/
abbrev xb (c : Dev nD) (t : Fin (cfgA A).N) : S512x4096.Idx → Elt Bits .bf16 := iblk A m c (0 : Fin 5) t
abbrev gb (c : Dev nD) (t : Fin (cfgA A).N) : S1x1x4096x512.Idx → Elt Bits .f32 := iblk A m c (1 : Fin 5) t

/-- Point `t` is used; it loads. -/
abbrev UsedAt (t : Fin (cfgA A).N) : Prop := Used (T1 A) (crd A t)
abbrev LoadsAt (t : Fin (cfgA A).N) : Prop := Loads (T0 A) (T1 A) (crd A t)

open Classical in
/-- What point `t` leaves in output 2's buffer. -/
def oblk2 (c : Dev nD) (t : Fin (cfgA A).N) : S512x512.Idx → Elt Bits .bf16 :=
  if UsedAt A t then k0_pay3 (xb A m c t) (k0_pay1 (gb A m c t)) else k0_pay7 (F := Bits)

open Classical in
/-- What point `t` leaves in output 3's buffer. -/
def oblk3 (c : Dev nD) (t : Fin (cfgA A).N) : S512x512.Idx → Elt Bits .bf16 :=
  if UsedAt A t then k0_pay5 (xb A m c t) (k0_pay1 (gb A m c t)) else k0_pay8 (F := Bits)

open Classical in
/-- What point `t` leaves in output 4's buffer. -/
def oblk4 (c : Dev nD) (t : Fin (cfgA A).N) : S512x512.Idx → Elt Bits .bf16 :=
  if UsedAt A t then k0_pay6 (xb A m c t) (k0_pay1 (gb A m c t)) else k0_pay9 (F := Bits)

/-- A point past its column's first row block comes right after the same column's row block before. -/
theorem prev_point : ∀ t : Fin grid0.N, (grid0.coords t 1).val ≠ 0 → ∃ p : Fin grid0.N, p.val + 1 = t.val
    ∧ (grid0.coords p 0).val = (grid0.coords t 0).val ∧ (grid0.coords p 1).val + 1 = (grid0.coords t 1).val := by
  intro t
  have key : ∀ t : Fin grid0.N, (grid0.coords t 1).val ≠ 0 →
      (grid0.coords ⟨t.val - 1, lt_of_le_of_lt (Nat.sub_le _ _) t.isLt⟩ 0).val = (grid0.coords t 0).val
      ∧ (grid0.coords ⟨t.val - 1, lt_of_le_of_lt (Nat.sub_le _ _) t.isLt⟩ 1).val + 1 = (grid0.coords t 1).val ∧ 0 < t.val := by decide +kernel
  intro h
  obtain ⟨h1, h2, h3⟩ := key t h
  exact ⟨⟨t.val - 1, lt_of_le_of_lt (Nat.sub_le _ _) t.isLt⟩, by show t.val - 1 + 1 = t.val; omega, h1, h2⟩

theorem toInt_small (k : ℕ) (h : k < 40) : (BitVec.ofNat 32 k).toInt = (k : Int) := by
  rw [BitVec.toInt_eq_toNat_cond, BitVec.toNat_ofNat, Nat.mod_eq_of_lt (by omega), if_pos (by omega)]

/-- A used row block's predecessor in the column is used. -/
theorem used_prev {T1 : S1.Idx → Elt Bits .i32} {i j : grid0.Coords} (h : (BitVec.ofNat 32 (i 1).val).slt (nuW T1) = true)
    (hj : (j 1).val + 1 = (i 1).val) : Used T1 j := by
  have hi : (i 1).val < 40 := (i 1).isLt
  have hs : (BitVec.ofNat 32 (j 1).val).slt (nuW T1) = true := by
    generalize nuW T1 = v at h ⊢
    rw [BitVec.slt_iff_toInt_lt] at h ⊢
    have e1 : (BitVec.ofNat 32 (i 1).val).toInt = ((i 1).val : Int) := toInt_small _ (by omega)
    have e2 : (BitVec.ofNat 32 (j 1).val).toInt = ((j 1).val : Int) := toInt_small _ (by omega)
    rw [e1] at h; rw [e2]; omega
  unfold Used k0_cond2
  dsimp only
  rw [show Scalar.cmpi .slt (BitVec.ofNat 32 (j 1).val) (nuW T1) = 1#1 from by
    show BitVec.ofBool _ = _; rw [hs]; rfl]
  decide

/-- The place the body reads the previous expert at. -/
theorem off2_eq : ∀ i : grid0.Coords, k0_off2 i = ![(i 1).val - 1] := by decide +kernel

/-- The expert word read at a point is the table's word at the row block's place. -/
def at40 (k : ℕ) (h : k < 40) : S40.Idx := fun a => match a with | ⟨0, _⟩ => ⟨k, h⟩
theorem curW_eq (T0 : S40.Idx → Elt Bits .i32) (i : grid0.Coords) : curW T0 i = T0 (at40 (i 1).val (i 1).isLt) := by
  show T0 _ = _
  refine congrArg T0 (funext fun a => ?_)
  match a with
  | ⟨0, _⟩ =>
    apply Fin.ext
    show k0_off1 i 0 + 1 * _ = (i 1).val
    rw [show k0_off1 i 0 = (i 1).val from congrFun (k0_off1_eq i) 0]
    rfl
theorem preW_eq (T0 : S40.Idx → Elt Bits .i32) (i : grid0.Coords) : preW T0 i = T0 (at40 ((i 1).val - 1) (lt_of_le_of_lt (Nat.sub_le _ _) (i 1).isLt)) := by
  show T0 _ = _
  refine congrArg T0 (funext fun a => ?_)
  match a with
  | ⟨0, _⟩ =>
    apply Fin.ext
    show k0_off2 i 0 + 1 * _ = (i 1).val - 1
    rw [show k0_off2 i 0 = (i 1).val - 1 from congrFun (off2_eq i) 0]
    rfl
/-- The weight windows' block indices: layer 0, the row block's expert, all rows, the column block. -/
theorem ixw_eq (pf : pre0.Contents (Elt Bits)) (i : grid0.Coords) :
    cc0_transform_1 k0_off1_inb numel1_S1 pf i = ![0, ((show S40.Idx → BitVec 32 from pf 0) (at40 (i 1).val (i 1).isLt)).toNat, 0, (i 0).val] := by
  have e : pf.at 0 (Rect.unit (s := S40) (k0_off1 i) S1.size (k0_off1_inb i)) numel1_S1 = (show S40.Idx → BitVec 32 from pf 0) (at40 (i 1).val (i 1).isLt) :=
    (show _ = curW (show S40.Idx → Elt Bits .i32 from pf 0) i from rfl).trans (curW_eq (show S40.Idx → Elt Bits .i32 from pf 0) i)
  have e0 : (BitVec.ofNat 32 (i 0).val).toNat = (i 0).val := by
    rw [BitVec.toNat_ofNat]; exact Nat.mod_eq_of_lt (lt_trans (i 0).isLt (by decide))
  exact congrArg₂ (fun a b : ℕ => ![0, a, 0, b]) (congrArg BitVec.toNat e) e0
theorem ix1_eq (i : grid0.Coords) : cc0_transform_1 k0_off1_inb numel1_S1 A.1 i = ![0, (T0 A (at40 (i 1).val (i 1).isLt)).toNat, 0, (i 0).val] := ixw_eq A.1 i

/-- Equal indices give equal blocks. -/
theorem gb_congr (c : Dev nD) (t p : Fin (cfgA A).N)
    (h : cc0_transform_1 k0_off1_inb numel1_S1 A.1 (crd A p) = cc0_transform_1 k0_off1_inb numel1_S1 A.1 (crd A t)) :
    gb A m c p = gb A m c t := by
  funext x
  show m ((c : Thread nD τ).loc main_arg3) ((((cfgA A).win 1).blk p).view.emb x) = m ((c : Thread nD τ).loc main_arg3) ((((cfgA A).win 1).blk t).view.emb x)
  refine congrArg (m ((c : Thread nD τ).loc main_arg3)) (funext fun a => Fin.ext ?_)
  show cc0_transform_1 k0_off1_inb numel1_S1 A.1 (crd A p) a * S1x1x4096x512.size a + 1 * (x a).val
    = cc0_transform_1 k0_off1_inb numel1_S1 A.1 (crd A t) a * S1x1x4096x512.size a + 1 * (x a).val
  rw [h]

/-- What a keeping point finds: the point before it is used and has the same weight blocks. -/
theorem kept (c : Dev nD) (t : Fin (cfgA A).N) (h : ¬ LoadsAt A t) (hu : UsedAt A t) :
    ∃ p : Fin (cfgA A).N, p.val + 1 = t.val ∧ UsedAt A p ∧ gb A m c p = gb A m c t := by
  obtain ⟨hs, hne, hw⟩ := keep h hu
  obtain ⟨p, hp, h0, h1⟩ := prev_point t hne
  have hix : cc0_transform_1 k0_off1_inb numel1_S1 A.1 (crd A p) = cc0_transform_1 k0_off1_inb numel1_S1 A.1 (crd A t) := by
    rw [curW_eq, preW_eq] at hw
    have ea : (at40 (crd A p 1).val (crd A p 1).isLt) = at40 ((crd A t 1).val - 1) (lt_of_le_of_lt (Nat.sub_le _ _) (crd A t 1).isLt) := by
      funext a
      match a with
      | ⟨0, _⟩ => apply Fin.ext; have h1' : (crd A p 1).val + 1 = (crd A t 1).val := h1; show (crd A p 1).val = (crd A t 1).val - 1; omega
    rw [ix1_eq, ix1_eq, ea, ← hw, show (crd A p 0).val = (crd A t 0).val from h0]
  exact ⟨p, hp, used_prev hs h1, gb_congr A m c t p hix⟩

end Cert.MoeDown.Hand
end
-- ==== Proof.MoeDownIdealPaths.lean ====
/- The frame of the expert down-projection call, at ANY block-to-expert table whose blocks lie in the array.
   The grid runs the 40 row blocks of one column block before the next. A used row block (its number is below `n_used`)
   whose expert differs from the one before it narrows its weight block into the scratch; a used row block of the
   same expert finds it there. So after a used point the scratch holds that point's own narrowed weight block, which is
   all the invariant says, and each point's three output blocks are closed forms of that point's input blocks. -/
module

public import proofs.«01_k».proof.Defs
public import proofs.«01_k».proof.Proof.Gen.MoeDownIdeal
public import proofs.«01_k».proof.Proof.Gen.MoeDownIdeal.Launch
public import proofs.«01_k».proof.Proof.Gen.MoeDownIdeal.Flash.Pins
public import proofs.«01_k».proof.Proof.Gen.MoeDownIdeal.Flash.Runs
public import Idealize.ShloMosaic.Lib.Pipeline.Kit
public import Idealize.ShloMosaic.Lib.Pipeline.TableIdle
public import Idealize.ShloMosaic.Lib.Pipeline.FrameBody
public import Idealize.ShloMosaic.Lib.Pipeline.Value
public import Idealize.ShloMosaic.Lib.Writes
public import Idealize.ShloMosaic.Lib.Exec
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.MoeDownIdeal.Hand

open Cert.MoeDownIdeal Cert.MoeDownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

theorem hz : (![0, 0] : Fin 2 → Nat) = fun _ => 0 := funext fun a => by fin_cases a <;> rfl
theorem hz4 : (![0, 0, 0, 0] : Fin 4 → Nat) = fun _ => 0 := funext fun a => by fin_cases a <;> rfl

/-! ## The three control decisions, over the table words -/

/-- The word of `n_used`. -/
abbrev nuW (T1 : S1.Idx → Elt Ideal .i32) : BitVec 32 :=
  View.readAt (Elt Ideal) (tbM0_1).view (Rect.unit (s := S1) ![0] S1.size inb_S1_S1_0).toLoadRect T1 (Shape.Idx.first (numel1_S1.symm ▸ Nat.one_pos))
/-- The expert of this row block, -/
abbrev curW (T0 : S40.Idx → Elt Ideal .i32) (i : grid0.Coords) : BitVec 32 :=
  View.readAt (Elt Ideal) (tbM0_0).view (Rect.unit (s := S40) (k0_off1 i) S1.size (k0_off1_inb i)).toLoadRect T0 (Shape.Idx.first (numel1_S1.symm ▸ Nat.one_pos))
/-- and of the row block before it. -/
abbrev preW (T0 : S40.Idx → Elt Ideal .i32) (i : grid0.Coords) : BitVec 32 :=
  View.readAt (Elt Ideal) (tbM0_0).view (Rect.unit (s := S40) (k0_off2 i) S1.size (k0_off2_inb i)).toLoadRect T0 (Shape.Idx.first (numel1_S1.symm ▸ Nat.one_pos))

/-- The point reloads its weight blocks. -/
abbrev Loads (T0 : S40.Idx → Elt Ideal .i32) (T1 : S1.Idx → Elt Ideal .i32) (i : grid0.Coords) : Prop :=
  (Scalar.cmpi .ne (Scalar.extui (Scalar.andi (Scalar.cmpi .slt (BitVec.ofNat 32 (i 1).val) (nuW T1)) (Scalar.ori (Scalar.cmpi .eq (BitVec.ofNat 32 (i 1).val) 0#32) (Scalar.cmpi .ne (curW T0 i) (preW T0 i))))) 0#32) = 1#1
/-- The point's row block is used. -/
abbrev Used (T1 : S1.Idx → Elt Ideal .i32) (i : grid0.Coords) : Prop := k0_cond2 i (nuW T1) = 1#1

theorem cond3_iff (i : grid0.Coords) (v : BitVec 32) : k0_cond3 i v = 1#1 ↔ ¬ k0_cond2 i v = 1#1 := by
  unfold k0_cond3 k0_cond2
  dsimp only
  generalize Scalar.cmpi .slt (BitVec.ofNat 32 (i 1).val) v = b
  revert b
  decide

theorem used_of_loads {T0 : S40.Idx → Elt Ideal .i32} {T1 : S1.Idx → Elt Ideal .i32} {i : grid0.Coords} (h : Loads T0 T1 i) : Used T1 i := by
  unfold Used k0_cond2
  dsimp only
  unfold Loads at h
  revert h
  generalize Scalar.cmpi .slt (BitVec.ofNat 32 (i 1).val) (nuW T1) = b
  generalize Scalar.ori (Scalar.cmpi .eq (BitVec.ofNat 32 (i 1).val) 0#32) (Scalar.cmpi .ne (curW T0 i) (preW T0 i)) = d
  revert b d
  decide

theorem bits_of_keep : ∀ b d e : BitVec 1, ¬ Scalar.cmpi .ne (Scalar.extui (Scalar.andi b (Scalar.ori d e)) : BitVec 32) 0#32 = 1#1 →
    Scalar.cmpi .ne (Scalar.extui b : BitVec 32) 0#32 = 1#1 → b = 1#1 ∧ d = 0#1 ∧ e = 0#1 := by decide

theorem keep {T0 : S40.Idx → Elt Ideal .i32} {T1 : S1.Idx → Elt Ideal .i32} {i : grid0.Coords} (h : ¬ Loads T0 T1 i) (hu : Used T1 i) :
    (BitVec.ofNat 32 (i 1).val).slt (nuW T1) = true ∧ (i 1).val ≠ 0 ∧ curW T0 i = preW T0 i := by
  obtain ⟨h1, h2, h3⟩ := bits_of_keep _ _ _ h hu
  refine ⟨?_, ?_, ?_⟩
  · revert h1
    show BitVec.ofBool _ = 1#1 → _
    cases (BitVec.ofNat 32 (i 1).val).slt (nuW T1) <;> simp
  · intro h0
    rw [h0] at h2
    exact absurd h2 (by decide)
  · revert h3
    show BitVec.ofBool (curW T0 i != preW T0 i) = 0#1 → _
    by_cases e : curW T0 i = preW T0 i
    · intro _; exact e
    · rw [bne_iff_ne.mpr e]; intro h; exact absurd h (by decide)

/-! ## What each path leaves: its run's contents in closed form -/

section Paths
variable (c : Dev nD) (i : grid0.Coords) (arg4 : Memref sig .tc .vmem S512x4096 .bf16) (harg4 : arg4.IsWhole)
  (arg5 : Memref sig .tc .vmem S1x1x4096x512 .f32) (harg5 : arg5.IsWhole) (arg6 : Memref sig .tc .vmem S512x512 .bf16) (harg6 : arg6.IsWhole)
  (arg7 : Memref sig .tc .vmem S512x512 .bf16) (harg7 : arg7.IsWhole) (arg8 : Memref sig .tc .vmem S512x512 .bf16) (harg8 : arg8.IsWhole)
  (T0 : S40.Idx → Elt Ideal .i32) (T1 : S1.Idx → Elt Ideal .i32)
  (x0 : S512x4096.Idx → Elt Ideal .bf16) (x1 : S1x1x4096x512.Idx → Elt Ideal .f32)
  (xa0 : Buf (Elt Ideal) ((c : Thread nD τ).loc cc0_scratch0))

/-- A load of a whole input block reads the block. -/
theorem ld_x0 : View.readAt (Elt Ideal) arg4.view (Rect.unit (s := S512x4096) ![0, 0] S512x4096.size inb_S512x4096_S512x4096_0_0).toLoadRect (arg4.view.rep x0) = x0 := by
  rw [View.readAt_eq_ld, View.read_rep, View.ld_unit_zero hz]
theorem ld_w (arg : Memref sig .tc .vmem S1x1x4096x512 .f32) (x : S1x1x4096x512.Idx → Elt Ideal .f32) :
    View.readAt (Elt Ideal) arg.view (Rect.unit (s := S1x1x4096x512) ![0, 0, 0, 0] S1x1x4096x512.size inb_S1x1x4096x512_S1x1x4096x512_0_0_0_0).toLoadRect (arg.view.rep x) = x := by
  rw [View.readAt_eq_ld, View.read_rep, View.ld_unit_zero hz4]
/-- A load of a whole scratch reads its contents. -/
theorem ld_s0 : View.readAt (Elt Ideal) scM0_0.view (Rect.unit (s := S4096x512) ![0, 0] S4096x512.size inb_S4096x512_S4096x512_0_0).toLoadRect xa0 = xa0 := by
  rw [View.readAt_eq_ld, View.ld_unit_zero hz]; rfl

/-- Output 2 after the loading path: the payload of its blocks, the weight block narrowed; -/
theorem out_A_2 (hc0 h2 h3) : out0_A_2 c i arg4 harg4 arg5 harg5 arg6 harg6 arg7 harg7 arg8 harg8 T0 T1 x0 x1 hc0 h2 h3
    = k0_pay3 x0 (k0_pay1 x1) := by
  unfold out0_A_2
  rw [View.read_writes_junk_eq_canon]
  unfold kernelRun0_A
  dsimp only
  sl_unfold_words
  rw [View.canon_unit_zero hz, View.readCov_unit_zero (S := S4096x512) _ hz, ld_x0, ld_w]
/-- after the keeping path: the payload over what the scratch holds; -/
theorem out_B_2 (hc0 h2 h3) : out0_B_2 c i arg4 harg4 arg5 harg5 arg6 harg6 arg7 harg7 arg8 harg8 T0 T1 x0 x1 xa0 hc0 h2 h3
    = k0_pay3 x0 xa0 := by
  unfold out0_B_2
  rw [View.read_writes_junk_eq_canon]
  unfold kernelRun0_B
  dsimp only
  sl_unfold_words
  rw [View.canon_unit_zero hz, ld_x0, ld_s0]
/-- at an unused block: zeros. -/
theorem out_C_2 (hc0 h2 h3) : out0_C_2 c i arg4 harg4 arg5 harg5 arg6 harg6 arg7 harg7 arg8 harg8 T0 T1 x0 x1 xa0 hc0 h2 h3
    = k0_pay7 (F := Ideal) := by
  unfold out0_C_2
  rw [View.read_writes_junk_eq_canon]
  unfold kernelRun0_C
  dsimp only
  sl_unfold_words
  rw [View.canon_unit_zero hz]
/-- Output 3 after the loading path: the payload of its blocks, the weight block narrowed; -/
theorem out_A_3 (hc0 h2 h3) : out0_A_3 c i arg4 harg4 arg5 harg5 arg6 harg6 arg7 harg7 arg8 harg8 T0 T1 x0 x1 hc0 h2 h3
    = k0_pay5 x0 (k0_pay1 x1) := by
  unfold out0_A_3
  rw [View.read_writes_junk_eq_canon]
  unfold kernelRun0_A
  dsimp only
  sl_unfold_words
  rw [View.canon_unit_zero hz, View.readCov_unit_zero (S := S4096x512) _ hz, ld_x0, ld_w]
/-- after the keeping path: the payload over what the scratch holds; -/
theorem out_B_3 (hc0 h2 h3) : out0_B_3 c i arg4 harg4 arg5 harg5 arg6 harg6 arg7 harg7 arg8 harg8 T0 T1 x0 x1 xa0 hc0 h2 h3
    = k0_pay5 x0 xa0 := by
  unfold out0_B_3
  rw [View.read_writes_junk_eq_canon]
  unfold kernelRun0_B
  dsimp only
  sl_unfold_words
  rw [View.canon_unit_zero hz, ld_x0, ld_s0]
/-- at an unused block: zeros. -/
theorem out_C_3 (hc0 h2 h3) : out0_C_3 c i arg4 harg4 arg5 harg5 arg6 harg6 arg7 harg7 arg8 harg8 T0 T1 x0 x1 xa0 hc0 h2 h3
    = k0_pay8 (F := Ideal) := by
  unfold out0_C_3
  rw [View.read_writes_junk_eq_canon]
  unfold kernelRun0_C
  dsimp only
  sl_unfold_words
  rw [View.canon_unit_zero hz]
/-- Output 4 after the loading path: the payload of its blocks, the weight block narrowed; -/
theorem out_A_4 (hc0 h2 h3) : out0_A_4 c i arg4 harg4 arg5 harg5 arg6 harg6 arg7 harg7 arg8 harg8 T0 T1 x0 x1 hc0 h2 h3
    = k0_pay6 x0 (k0_pay1 x1) := by
  unfold out0_A_4
  rw [View.read_writes_junk_eq_canon]
  unfold kernelRun0_A
  dsimp only
  sl_unfold_words
  rw [View.canon_unit_zero hz, View.readCov_unit_zero (S := S4096x512) _ hz, ld_x0, ld_w]
/-- after the keeping path: the payload over what the scratch holds; -/
theorem out_B_4 (hc0 h2 h3) : out0_B_4 c i arg4 harg4 arg5 harg5 arg6 harg6 arg7 harg7 arg8 harg8 T0 T1 x0 x1 xa0 hc0 h2 h3
    = k0_pay6 x0 xa0 := by
  unfold out0_B_4
  rw [View.read_writes_junk_eq_canon]
  unfold kernelRun0_B
  dsimp only
  sl_unfold_words
  rw [View.canon_unit_zero hz, ld_x0, ld_s0]
/-- at an unused block: zeros. -/
theorem out_C_4 (hc0 h2 h3) : out0_C_4 c i arg4 harg4 arg5 harg5 arg6 harg6 arg7 harg7 arg8 harg8 T0 T1 x0 x1 xa0 hc0 h2 h3
    = k0_pay9 (F := Ideal) := by
  unfold out0_C_4
  rw [View.read_writes_junk_eq_canon]
  unfold kernelRun0_C
  dsimp only
  sl_unfold_words
  rw [View.canon_unit_zero hz]

/-- The loading path leaves the narrowed weight block in the scratch; the keeping one leaves the scratch alone. -/
theorem scr0_A (hc0 h2 h3) : (kernelRun0_A c i arg4 harg4 arg5 harg5 arg6 harg6 arg7 harg7 arg8 harg8 T0 T1 x0 x1 hc0 h2 h3).2.2.2.1
    = k0_pay1 x1 := by
  unfold kernelRun0_A
  dsimp only
  sl_unfold_words
  refine (View.read_whole cc0_scratch0 _).symm.trans ?_
  rw [View.read_writes_junk_eq_canon]
  exact (View.canon_unit_zero (S := S4096x512) hz inb_S4096x512_S4096x512_0_0 _).trans (congrArg k0_pay1 (ld_w _ _))
theorem scr0_B (hc0 h2 h3) : (kernelRun0_B c i arg4 harg4 arg5 harg5 arg6 harg6 arg7 harg7 arg8 harg8 T0 T1 x0 x1 xa0 hc0 h2 h3).2.2.2.1 = xa0 := rfl
end Paths

/-! ## The configuration at tables `A`, and the points -/

variable (A : (pcfg0 (F := Ideal)).Adm) (m : (ℓ : Loc nD τ sig) → Buf (Elt Ideal) ℓ) (ρ : Dev nD → PrngReg)

abbrev T0 : S40.Idx → Elt Ideal .i32 := A.1 0
abbrev T1 : S1.Idx → Elt Ideal .i32 := A.1 1
abbrev cfgA : Pipeline.Cfg sig Λ₀ := cfg0 (F := Ideal) A
abbrev pcs : Fin 1 → Pipeline.Cfg sig Λ₀ := Pipeline.pin (pcfgs (F := Ideal)) fun _ => A
abbrev s₀ : MemSt nD τ sig (Elt Ideal) := ⟨m, fun _ => 0, ρ⟩
abbrev crd (t : Fin (cfgA A).N) : grid0.Coords := (cfgA A).grid.coords t
abbrev ms0_0 (t : Fin (cfgA A).N) : Memref sig .tc .vmem S512x4096 .bf16 := spec0_0.stage ((cfgA A).slots t (0 : Fin 5))
abbrev hs0_0 (t : Fin (cfgA A).N) : (ms0_0 A t).IsWhole := hstage0_0 (((cfgA A).slots t (0 : Fin 5)).cast nbuf0_0)
abbrev ms0_1 (t : Fin (cfgA A).N) : Memref sig .tc .vmem S1x1x4096x512 .f32 := spec0_1.stage ((cfgA A).slots t (1 : Fin 5))
abbrev hs0_1 (t : Fin (cfgA A).N) : (ms0_1 A t).IsWhole := hstage0_1 (((cfgA A).slots t (1 : Fin 5)).cast nbuf0_1)
abbrev ms0_2 (t : Fin (cfgA A).N) : Memref sig .tc .vmem S512x512 .bf16 := spec0_2.stage ((cfgA A).slots t (2 : Fin 5))
abbrev hs0_2 (t : Fin (cfgA A).N) : (ms0_2 A t).IsWhole := hstage0_2 (((cfgA A).slots t (2 : Fin 5)).cast nbuf0_2)
abbrev ms0_3 (t : Fin (cfgA A).N) : Memref sig .tc .vmem S512x512 .bf16 := spec0_3.stage ((cfgA A).slots t (3 : Fin 5))
abbrev hs0_3 (t : Fin (cfgA A).N) : (ms0_3 A t).IsWhole := hstage0_3 (((cfgA A).slots t (3 : Fin 5)).cast nbuf0_3)
abbrev ms0_4 (t : Fin (cfgA A).N) : Memref sig .tc .vmem S512x512 .bf16 := spec0_4.stage ((cfgA A).slots t (4 : Fin 5))
abbrev hs0_4 (t : Fin (cfgA A).N) : (ms0_4 A t).IsWhole := hstage0_4 (((cfgA A).slots t (4 : Fin 5)).cast nbuf0_4)

/-- Window `w`'s block at point `t`, read off its array at launch. -/
def iblk (c : Dev nD) (w : Fin (cfgA A).W) (t : Fin (cfgA A).N) : (((cfgA A).win w).xblock (crd A t)).Idx → Elt Ideal ((cfgA A).win w).elt :=
  (((cfgA A).win w).blk t).view.read (Elt Ideal) (m (((cfgA A).win w).arr.view.loc (c : Thread nD τ)))
/-- The blocks at their literal types: the rows and the weight block. -/
abbrev xb (c : Dev nD) (t : Fin (cfgA A).N) : S512x4096.Idx → Elt Ideal .bf16 := iblk A m c (0 : Fin 5) t
abbrev gb (c : Dev nD) (t : Fin (cfgA A).N) : S1x1x4096x512.Idx → Elt Ideal .f32 := iblk A m c (1 : Fin 5) t

/-- Point `t` is used; it loads. -/
abbrev UsedAt (t : Fin (cfgA A).N) : Prop := Used (T1 A) (crd A t)
abbrev LoadsAt (t : Fin (cfgA A).N) : Prop := Loads (T0 A) (T1 A) (crd A t)

open Classical in
/-- What point `t` leaves in output 2's buffer. -/
def oblk2 (c : Dev nD) (t : Fin (cfgA A).N) : S512x512.Idx → Elt Ideal .bf16 :=
  if UsedAt A t then k0_pay3 (xb A m c t) (k0_pay1 (gb A m c t)) else k0_pay7 (F := Ideal)

open Classical in
/-- What point `t` leaves in output 3's buffer. -/
def oblk3 (c : Dev nD) (t : Fin (cfgA A).N) : S512x512.Idx → Elt Ideal .bf16 :=
  if UsedAt A t then k0_pay5 (xb A m c t) (k0_pay1 (gb A m c t)) else k0_pay8 (F := Ideal)

open Classical in
/-- What point `t` leaves in output 4's buffer. -/
def oblk4 (c : Dev nD) (t : Fin (cfgA A).N) : S512x512.Idx → Elt Ideal .bf16 :=
  if UsedAt A t then k0_pay6 (xb A m c t) (k0_pay1 (gb A m c t)) else k0_pay9 (F := Ideal)

/-- A point past its column's first row block comes right after the same column's row block before. -/
theorem prev_point : ∀ t : Fin grid0.N, (grid0.coords t 1).val ≠ 0 → ∃ p : Fin grid0.N, p.val + 1 = t.val
    ∧ (grid0.coords p 0).val = (grid0.coords t 0).val ∧ (grid0.coords p 1).val + 1 = (grid0.coords t 1).val := by
  intro t
  have key : ∀ t : Fin grid0.N, (grid0.coords t 1).val ≠ 0 →
      (grid0.coords ⟨t.val - 1, lt_of_le_of_lt (Nat.sub_le _ _) t.isLt⟩ 0).val = (grid0.coords t 0).val
      ∧ (grid0.coords ⟨t.val - 1, lt_of_le_of_lt (Nat.sub_le _ _) t.isLt⟩ 1).val + 1 = (grid0.coords t 1).val ∧ 0 < t.val := by decide +kernel
  intro h
  obtain ⟨h1, h2, h3⟩ := key t h
  exact ⟨⟨t.val - 1, lt_of_le_of_lt (Nat.sub_le _ _) t.isLt⟩, by show t.val - 1 + 1 = t.val; omega, h1, h2⟩

theorem toInt_small (k : ℕ) (h : k < 40) : (BitVec.ofNat 32 k).toInt = (k : Int) := by
  rw [BitVec.toInt_eq_toNat_cond, BitVec.toNat_ofNat, Nat.mod_eq_of_lt (by omega), if_pos (by omega)]

/-- A used row block's predecessor in the column is used. -/
theorem used_prev {T1 : S1.Idx → Elt Ideal .i32} {i j : grid0.Coords} (h : (BitVec.ofNat 32 (i 1).val).slt (nuW T1) = true)
    (hj : (j 1).val + 1 = (i 1).val) : Used T1 j := by
  have hi : (i 1).val < 40 := (i 1).isLt
  have hs : (BitVec.ofNat 32 (j 1).val).slt (nuW T1) = true := by
    generalize nuW T1 = v at h ⊢
    rw [BitVec.slt_iff_toInt_lt] at h ⊢
    have e1 : (BitVec.ofNat 32 (i 1).val).toInt = ((i 1).val : Int) := toInt_small _ (by omega)
    have e2 : (BitVec.ofNat 32 (j 1).val).toInt = ((j 1).val : Int) := toInt_small _ (by omega)
    rw [e1] at h; rw [e2]; omega
  unfold Used k0_cond2
  dsimp only
  rw [show Scalar.cmpi .slt (BitVec.ofNat 32 (j 1).val) (nuW T1) = 1#1 from by
    show BitVec.ofBool _ = _; rw [hs]; rfl]
  decide

/-- The place the body reads the previous expert at. -/
theorem off2_eq : ∀ i : grid0.Coords, k0_off2 i = ![(i 1).val - 1] := by decide +kernel

/-- The expert word read at a point is the table's word at the row block's place. -/
def at40 (k : ℕ) (h : k < 40) : S40.Idx := fun a => match a with | ⟨0, _⟩ => ⟨k, h⟩
theorem curW_eq (T0 : S40.Idx → Elt Ideal .i32) (i : grid0.Coords) : curW T0 i = T0 (at40 (i 1).val (i 1).isLt) := by
  show T0 _ = _
  refine congrArg T0 (funext fun a => ?_)
  match a with
  | ⟨0, _⟩ =>
    apply Fin.ext
    show k0_off1 i 0 + 1 * _ = (i 1).val
    rw [show k0_off1 i 0 = (i 1).val from congrFun (k0_off1_eq i) 0]
    rfl
theorem preW_eq (T0 : S40.Idx → Elt Ideal .i32) (i : grid0.Coords) : preW T0 i = T0 (at40 ((i 1).val - 1) (lt_of_le_of_lt (Nat.sub_le _ _) (i 1).isLt)) := by
  show T0 _ = _
  refine congrArg T0 (funext fun a => ?_)
  match a with
  | ⟨0, _⟩ =>
    apply Fin.ext
    show k0_off2 i 0 + 1 * _ = (i 1).val - 1
    rw [show k0_off2 i 0 = (i 1).val - 1 from congrFun (off2_eq i) 0]
    rfl
/-- The weight windows' block indices: layer 0, the row block's expert, all rows, the column block. -/
theorem ixw_eq (pf : pre0.Contents (Elt Ideal)) (i : grid0.Coords) :
    cc0_transform_1 k0_off1_inb numel1_S1 pf i = ![0, ((show S40.Idx → BitVec 32 from pf 0) (at40 (i 1).val (i 1).isLt)).toNat, 0, (i 0).val] := by
  have e : pf.at 0 (Rect.unit (s := S40) (k0_off1 i) S1.size (k0_off1_inb i)) numel1_S1 = (show S40.Idx → BitVec 32 from pf 0) (at40 (i 1).val (i 1).isLt) :=
    (show _ = curW (show S40.Idx → Elt Ideal .i32 from pf 0) i from rfl).trans (curW_eq (show S40.Idx → Elt Ideal .i32 from pf 0) i)
  have e0 : (BitVec.ofNat 32 (i 0).val).toNat = (i 0).val := by
    rw [BitVec.toNat_ofNat]; exact Nat.mod_eq_of_lt (lt_trans (i 0).isLt (by decide))
  exact congrArg₂ (fun a b : ℕ => ![0, a, 0, b]) (congrArg BitVec.toNat e) e0
theorem ix1_eq (i : grid0.Coords) : cc0_transform_1 k0_off1_inb numel1_S1 A.1 i = ![0, (T0 A (at40 (i 1).val (i 1).isLt)).toNat, 0, (i 0).val] := ixw_eq A.1 i

/-- Equal indices give equal blocks. -/
theorem gb_congr (c : Dev nD) (t p : Fin (cfgA A).N)
    (h : cc0_transform_1 k0_off1_inb numel1_S1 A.1 (crd A p) = cc0_transform_1 k0_off1_inb numel1_S1 A.1 (crd A t)) :
    gb A m c p = gb A m c t := by
  funext x
  show m ((c : Thread nD τ).loc main_arg3) ((((cfgA A).win 1).blk p).view.emb x) = m ((c : Thread nD τ).loc main_arg3) ((((cfgA A).win 1).blk t).view.emb x)
  refine congrArg (m ((c : Thread nD τ).loc main_arg3)) (funext fun a => Fin.ext ?_)
  show cc0_transform_1 k0_off1_inb numel1_S1 A.1 (crd A p) a * S1x1x4096x512.size a + 1 * (x a).val
    = cc0_transform_1 k0_off1_inb numel1_S1 A.1 (crd A t) a * S1x1x4096x512.size a + 1 * (x a).val
  rw [h]

/-- What a keeping point finds: the point before it is used and has the same weight blocks. -/
theorem kept (c : Dev nD) (t : Fin (cfgA A).N) (h : ¬ LoadsAt A t) (hu : UsedAt A t) :
    ∃ p : Fin (cfgA A).N, p.val + 1 = t.val ∧ UsedAt A p ∧ gb A m c p = gb A m c t := by
  obtain ⟨hs, hne, hw⟩ := keep h hu
  obtain ⟨p, hp, h0, h1⟩ := prev_point t hne
  have hix : cc0_transform_1 k0_off1_inb numel1_S1 A.1 (crd A p) = cc0_transform_1 k0_off1_inb numel1_S1 A.1 (crd A t) := by
    rw [curW_eq, preW_eq] at hw
    have ea : (at40 (crd A p 1).val (crd A p 1).isLt) = at40 ((crd A t 1).val - 1) (lt_of_le_of_lt (Nat.sub_le _ _) (crd A t 1).isLt) := by
      funext a
      match a with
      | ⟨0, _⟩ => apply Fin.ext; have h1' : (crd A p 1).val + 1 = (crd A t 1).val := h1; show (crd A p 1).val = (crd A t 1).val - 1; omega
    rw [ix1_eq, ix1_eq, ea, ← hw, show (crd A p 0).val = (crd A t 0).val from h0]
  exact ⟨p, hp, used_prev hs h1, gb_congr A m c t p hix⟩

end Cert.MoeDownIdeal.Hand
end
-- ==== Proof.MoeDownIdealRun.lean ====
/- The frame of the expert down-projection call, at ANY block-to-expert table whose blocks lie in the array.
   The grid runs the 40 row blocks of one column block before the next. A used row block (its number is below `n_used`)
   whose expert differs from the one before it narrows its weight block into the scratch; a used row block of the
   same expert finds it there. So after a used point the scratch holds that point's own narrowed weight block, which is
   all the invariant says, and each point's three output blocks are closed forms of that point's input blocks. -/
module

public import proofs.«01_k».proof.Defs
public import proofs.«01_k».proof.Proof.Gen.MoeDownIdeal
public import proofs.«01_k».proof.Proof.Gen.MoeDownIdeal.Launch
public import proofs.«01_k».proof.Proof.Gen.MoeDownIdeal.Flash.Pins
public import proofs.«01_k».proof.Proof.Gen.MoeDownIdeal.Flash.Runs
public import proofs.«01_k».proof.Proof.MoeDownIdealPaths
public import proofs.«01_k».proof.Proof.ExpertsRange
public import Idealize.ShloMosaic.Lib.Pipeline.Kit
public import Idealize.ShloMosaic.Lib.Pipeline.TableIdle
public import Idealize.ShloMosaic.Lib.Pipeline.FrameBody
public import Idealize.ShloMosaic.Lib.Pipeline.Value
public import Idealize.ShloMosaic.Lib.Writes
public import Idealize.ShloMosaic.Lib.Exec
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.MoeDownIdeal.Hand

open Cert.MoeDownIdeal Cert.MoeDownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev EP : Emb (UR sig nD τ) 𝕄 := emb₁

variable (A : (pcfg0 (F := Ideal)).Adm) (m : (ℓ : Loc nD τ sig) → Buf (Elt Ideal) ℓ) (ρ : Dev nD → PrngReg)

/-! ## The pipeline's proof data -/

/-- What the scratch holds before point `n`: if the point before was used, that point's narrowed weight block. -/
def Held0 (c : Dev nD) (n : ℕ) (a : Buf (Elt Ideal) ((c : Thread nD τ).loc cc0_scratch0)) : Prop :=
  ∀ p : Fin (cfgA A).N, p.val + 1 = n → UsedAt A p → a = k0_pay1 (gb A m c p)

/-- THE INVARIANT before point `t`: the scratches as said, the body's halves of the tables. -/
def Phi (c : Dev nD) (t : Fin ((cfgA A).N + 1)) : sProp 𝕄 :=
  iprop((∃ a, ⌜Held0 A m c t.val a⌝ ∗ (scM0_0.view.loc (c : Thread nD τ) ↦{fullShare} a)) ∗ (tbM0_0.view.loc (c : Thread nD τ) ↦{fullShare.right} T0 A) ∗ (tbM0_1.view.loc (c : Thread nD τ) ↦{fullShare.right} T1 A))

/-- The proof data of the one pipeline on core `c`. -/
def dats (_ : Fin 1) (c : Dev nD) : Dat τ (Elt Ideal) Unit ℕ (UR sig nD τ) ℕ (cfgA A) c where
  A w := m (((cfgA A).win w).arr.view.loc (c : Thread nD τ))
  after w t := match w with
    | ⟨0, _⟩ => iblk A m c (0 : Fin 5) t
    | ⟨1, _⟩ => iblk A m c (1 : Fin 5) t
    | ⟨2, _⟩ => oblk2 A m c t
    | ⟨3, _⟩ => oblk3 A m c t
    | ⟨4, _⟩ => oblk4 A m c t
  Φ t := Phi A m c t
  q _ := fullShare
  owed _ := 0

theorem after0_0 (c : Dev nD) (t : Fin (cfgA A).N) : (dats A m 0 c).after (0 : Fin 5) t = iblk A m c (0 : Fin 5) t := rfl
theorem after0_1 (c : Dev nD) (t : Fin (cfgA A).N) : (dats A m 0 c).after (1 : Fin 5) t = iblk A m c (1 : Fin 5) t := rfl
theorem after0_2 (c : Dev nD) (t : Fin (cfgA A).N) : (dats A m 0 c).after (2 : Fin 5) t = oblk2 A m c t := rfl
theorem after0_3 (c : Dev nD) (t : Fin (cfgA A).N) : (dats A m 0 c).after (3 : Fin 5) t = oblk3 A m c t := rfl
theorem after0_4 (c : Dev nD) (t : Fin (cfgA A).N) : (dats A m 0 c).after (4 : Fin 5) t = oblk4 A m c t := rfl

/-- An input window holds its block when the body runs. -/
theorem before0_0 (c : Dev nD) (t : Fin (cfgA A).N) (d) : (dats A m 0 c).before (0 : Fin 5) t d = iblk A m c (0 : Fin 5) t :=
  ((dats A m 0 c).before_in_eq_fetched (0 : Fin 5) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA A).N) (d) : (dats A m 0 c).before (1 : Fin 5) t d = iblk A m c (1 : Fin 5) t :=
  ((dats A m 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- No point leaves the output idle: it is stored where the block is used and where it is not. -/
theorem idle2 (i : grid0.Coords) : (cfgA A).idle (2 : Fin 5) i = false := by
  show (!(k0_cond2 i (A.1.atD 1 ![0]) == 1#1) && !(k0_cond3 i (A.1.atD 1 ![0]) == 1#1)) = false
  by_cases h : k0_cond2 i (A.1.atD 1 ![0]) = 1#1
  · rw [h]; rfl
  · rw [(cond3_iff _ _).mpr h]; simp

/-- No point leaves the output idle: it is stored where the block is used and where it is not. -/
theorem idle3 (i : grid0.Coords) : (cfgA A).idle (3 : Fin 5) i = false := by
  show (!(k0_cond2 i (A.1.atD 1 ![0]) == 1#1) && !(k0_cond3 i (A.1.atD 1 ![0]) == 1#1)) = false
  by_cases h : k0_cond2 i (A.1.atD 1 ![0]) = 1#1
  · rw [h]; rfl
  · rw [(cond3_iff _ _).mpr h]; simp

/-- No point leaves the output idle: it is stored where the block is used and where it is not. -/
theorem idle4 (i : grid0.Coords) : (cfgA A).idle (4 : Fin 5) i = false := by
  show (!(k0_cond2 i (A.1.atD 1 ![0]) == 1#1) && !(k0_cond3 i (A.1.atD 1 ![0]) == 1#1)) = false
  by_cases h : k0_cond2 i (A.1.atD 1 ![0]) = 1#1
  · rw [h]; rfl
  · rw [(cond3_iff _ _).mpr h]; simp

/-! ## The body obligation -/

/-- The body at point `t` on its staging memrefs, as the pipeline calls it. -/
abbrev bodyAt0 (t : Fin (cfgA A).N) : Prog (TpuEff nD τ sig (Elt Ideal) Λ₀ .tc) PUnit :=
  cc0_moe_down (crd A t) (Memref.whole main_arg0) (Memref.isWhole_whole _) (Memref.whole main_arg1) (Memref.isWhole_whole _) (ms0_0 A t) (hs0_0 A t) (ms0_1 A t) (hs0_1 A t) (ms0_2 A t) (hs0_2 A t) (ms0_3 A t) (hs0_3 A t) (ms0_4 A t) (hs0_4 A t) (Memref.whole cc0_scratch0) (Memref.isWhole_whole _)

theorem held0_next (c : Dev nD) (t : Fin (cfgA A).N) (a) (h : UsedAt A t → a = k0_pay1 (gb A m c t)) : Held0 A m c t.succ.val a := by
  intro p hp hu
  obtain rfl : p = t := Fin.ext (by simpa using hp)
  exact h hu

/-- A keeping point finds its own narrowed weight block. -/
theorem found (c : Dev nD) (t : Fin (cfgA A).N) (h : ¬ LoadsAt A t) (hu : UsedAt A t)
    {a0 : Buf (Elt Ideal) ((c : Thread nD τ).loc cc0_scratch0)}
    (h0 : Held0 A m c t.castSucc.val a0) : a0 = k0_pay1 (gb A m c t) := by
  obtain ⟨p, hp, hup, eg⟩ := kept A m c t h hu
  have e0 := h0 p (by rw [Fin.val_castSucc]; exact hp) hup
  rw [eg] at e0
  exact e0

set_option maxHeartbeats 1000000 in
/-- THE BODY OBLIGATION at point `t`: the decisions there tell the path, and the path's run applies. -/
theorem sound_body (c : Dev nD) (t : Fin (cfgA A).N) :
    iprop((dats A m 0 c).Φ t.castSucc ∗ (dats A m 0 c).owesAt () t.castSucc
        ∗ (∃ d, owns (c : Thread nD τ) (ms0_0 A t) fullShare ((dats A m 0 c).before (0 : Fin 5) t d))
        ∗ (∃ d, owns (c : Thread nD τ) (ms0_1 A t) fullShare ((dats A m 0 c).before (1 : Fin 5) t d))
        ∗ (∃ d, owns (c : Thread nD τ) (ms0_2 A t) fullShare ((dats A m 0 c).before (2 : Fin 5) t d))
        ∗ (∃ d, owns (c : Thread nD τ) (ms0_3 A t) fullShare ((dats A m 0 c).before (3 : Fin 5) t d))
        ∗ (∃ d, owns (c : Thread nD τ) (ms0_4 A t) fullShare ((dats A m 0 c).before (4 : Fin 5) t d)))
      ⊢ wp frame (wpE (defs₀ (F := Ideal)) Variants.none c none) Set.univ (bodyAt0 A t) fun _ =>
          iprop((dats A m 0 c).Φ t.succ ∗ (dats A m 0 c).owesAt () t.succ
            ∗ bigSep Finset.univ fun w : Fin (cfgA A).W =>
                match (cfgA A).idle w ((cfgA A).grid.coords t) with
                | true =>
                  match ((cfgA A).win w).flush t with
                  | false => iprop(∃ d, owns (c : Thread nD τ) (((cfgA A).win w).stage ((cfgA A).slots t w)) fullShare ((dats A m 0 c).before w t d))
                  | true => owns (c : Thread nD τ) (((cfgA A).win w).stage ((cfgA A).slots t w)) fullShare ((dats A m 0 c).after w t)
                | false => owns (c : Thread nD τ) (((cfgA A).win w).stage ((cfgA A).slots t w)) fullShare ((dats A m 0 c).after w t)) := by
  rw [bigSep_W0]
  rewrite [idle2 A]
  try rewrite [idle3 A]
  try rewrite [idle4 A]
  simp only [before0_0, before0_1, after0_0, after0_1, after0_2, after0_3, after0_4]
  rewrite [show (dats A m 0 c).Φ t.succ = Phi A m c t.succ from rfl, show (dats A m 0 c).Φ t.castSucc = Phi A m c t.castSucc from rfl,
    show (dats A m 0 c).owesAt () t.succ = (dats A m 0 c).owesAt () t.castSucc from rfl]
  unfold Phi
  by_cases q0 : LoadsAt A t
  · have hu : UsedAt A t := used_of_loads q0
    have h3 : ¬ k0_cond3 (crd A t) (nuW (T1 A)) = 1#1 := fun h => (cond3_iff _ _).mp h hu
    iintro ⟨⟨⟨%a0, %ha0, HS0⟩, HT0, HT1⟩, Ho, ⟨%d0, H0⟩, ⟨%d1, H1⟩, ⟨%d2, H2⟩, ⟨%d3, H3⟩, ⟨%d4, H4⟩⟩
    iapply ((kernelRun0_A c (crd A t) (ms0_0 A t) (hs0_0 A t) (ms0_1 A t) (hs0_1 A t) (ms0_2 A t) (hs0_2 A t) (ms0_3 A t) (hs0_3 A t) (ms0_4 A t) (hs0_4 A t) (T0 A) (T1 A) (iblk A m c (0 : Fin 5) t) (iblk A m c (1 : Fin 5) t) q0 hu h3).2.2.2.2 a0 _)
    isplitl [H0]; · iapply rep_of_owns; iexact H0
    isplitl [H1]; · iapply rep_of_owns; iexact H1
    isplitl [HT0]; · iexact HT0
    isplitl [HT1]; · iexact HT1
    isplitl [H2]; · iexists _; iexact H2
    isplitl [H3]; · iexists _; iexact H3
    isplitl [H4]; · iexists _; iexact H4
    isplitl [HS0]; · iexact HS0
    iintro ⟨H0, H1, HT0, HT1, ⟨%e2, H2⟩, ⟨%e3, H3⟩, ⟨%e4, H4⟩, HS0⟩
    isplitl [HS0 HT0 HT1]
    · isplitl [HS0]
      · iexists _; isplitr; swap
        · iexact HS0
        · ipureintro; exact held0_next A m c t _ fun _ => scr0_A c _ _ _ _ _ _ _ _ _ _ _ _ _ _ _ _ _ _
      isplitl [HT0]
      · iexact HT0
      iexact HT1
    isplitl [Ho]; · iexact Ho
    isplitl [H0]
    · iapply owns_of_rep; iexact H0
    isplitl [H1]
    · iapply owns_of_rep; iexact H1
    isplitl [H2]
    · unfold owns; iexists _; isplitr; swap
      · iexact H2
      · ipureintro
        refine (View.read_writes_of_cover _ _ VO0_2 VO0_2.junk _ (cover0_A_2 c _ _ _ _ _ _ _ _ _ _ _ _ _ _ _ _ _ _)).trans ?_
        refine (out_A_2 c _ _ _ _ _ _ _ _ _ _ _ _ _ _ _ _ _ _).trans ?_
        unfold oblk2; rw [if_pos hu]
    isplitl [H3]
    · unfold owns; iexists _; isplitr; swap
      · iexact H3
      · ipureintro
        refine (View.read_writes_of_cover _ _ VO0_3 VO0_3.junk _ (cover0_A_3 c _ _ _ _ _ _ _ _ _ _ _ _ _ _ _ _ _ _)).trans ?_
        refine (out_A_3 c _ _ _ _ _ _ _ _ _ _ _ _ _ _ _ _ _ _).trans ?_
        unfold oblk3; rw [if_pos hu]
    unfold owns; iexists _; isplitr; swap
    · iexact H4
    · ipureintro
      refine (View.read_writes_of_cover _ _ VO0_4 VO0_4.junk _ (cover0_A_4 c _ _ _ _ _ _ _ _ _ _ _ _ _ _ _ _ _ _)).trans ?_
      refine (out_A_4 c _ _ _ _ _ _ _ _ _ _ _ _ _ _ _ _ _ _).trans ?_
      unfold oblk4; rw [if_pos hu]
  · by_cases hu : UsedAt A t
    · have h3 : ¬ k0_cond3 (crd A t) (nuW (T1 A)) = 1#1 := fun h => (cond3_iff _ _).mp h hu
      iintro ⟨⟨⟨%a0, %ha0, HS0⟩, HT0, HT1⟩, Ho, ⟨%d0, H0⟩, ⟨%d1, H1⟩, ⟨%d2, H2⟩, ⟨%d3, H3⟩, ⟨%d4, H4⟩⟩
      have b0 := found A m c t q0 hu ha0
      iapply ((kernelRun0_B c (crd A t) (ms0_0 A t) (hs0_0 A t) (ms0_1 A t) (hs0_1 A t) (ms0_2 A t) (hs0_2 A t) (ms0_3 A t) (hs0_3 A t) (ms0_4 A t) (hs0_4 A t) (T0 A) (T1 A) (iblk A m c (0 : Fin 5) t) (iblk A m c (1 : Fin 5) t) a0 q0 hu h3).2.2.2.2 _)
      isplitl [H0]; · iapply rep_of_owns; iexact H0
      isplitl [H1]; · iapply rep_of_owns; iexact H1
      isplitl [HT0]; · iexact HT0
      isplitl [HT1]; · iexact HT1
      isplitl [H2]; · iexists _; iexact H2
      isplitl [H3]; · iexists _; iexact H3
      isplitl [H4]; · iexists _; iexact H4
      isplitl [HS0]; · iexact HS0
      iintro ⟨H0, H1, HT0, HT1, ⟨%e2, H2⟩, ⟨%e3, H3⟩, ⟨%e4, H4⟩, HS0⟩
      isplitl [HS0 HT0 HT1]
      · isplitl [HS0]
        · iexists _; isplitr; swap
          · iexact HS0
          · ipureintro; exact held0_next A m c t _ fun _ => b0
        isplitl [HT0]
        · iexact HT0
        iexact HT1
      isplitl [Ho]; · iexact Ho
      isplitl [H0]
      · iapply owns_of_rep; iexact H0
      isplitl [H1]
      · iapply owns_of_rep; iexact H1
      isplitl [H2]
      · unfold owns; iexists _; isplitr; swap
        · iexact H2
        · ipureintro
          refine (View.read_writes_of_cover _ _ VO0_2 VO0_2.junk _ (cover0_B_2 c _ _ _ _ _ _ _ _ _ _ _ _ _ _ _ _ _ _ _)).trans ?_
          refine (out_B_2 c _ _ _ _ _ _ _ _ _ _ _ _ _ _ _ _ _ _ _).trans ?_
          unfold oblk2; rw [if_pos hu, b0]
      isplitl [H3]
      · unfold owns; iexists _; isplitr; swap
        · iexact H3
        · ipureintro
          refine (View.read_writes_of_cover _ _ VO0_3 VO0_3.junk _ (cover0_B_3 c _ _ _ _ _ _ _ _ _ _ _ _ _ _ _ _ _ _ _)).trans ?_
          refine (out_B_3 c _ _ _ _ _ _ _ _ _ _ _ _ _ _ _ _ _ _ _).trans ?_
          unfold oblk3; rw [if_pos hu, b0]
      unfold owns; iexists _; isplitr; swap
      · iexact H4
      · ipureintro
        refine (View.read_writes_of_cover _ _ VO0_4 VO0_4.junk _ (cover0_B_4 c _ _ _ _ _ _ _ _ _ _ _ _ _ _ _ _ _ _ _)).trans ?_
        refine (out_B_4 c _ _ _ _ _ _ _ _ _ _ _ _ _ _ _ _ _ _ _).trans ?_
        unfold oblk4; rw [if_pos hu, b0]
    · have h3 : k0_cond3 (crd A t) (nuW (T1 A)) = 1#1 := (cond3_iff _ _).mpr hu
      iintro ⟨⟨⟨%a0, %ha0, HS0⟩, HT0, HT1⟩, Ho, ⟨%d0, H0⟩, ⟨%d1, H1⟩, ⟨%d2, H2⟩, ⟨%d3, H3⟩, ⟨%d4, H4⟩⟩
      iapply ((kernelRun0_C c (crd A t) (ms0_0 A t) (hs0_0 A t) (ms0_1 A t) (hs0_1 A t) (ms0_2 A t) (hs0_2 A t) (ms0_3 A t) (hs0_3 A t) (ms0_4 A t) (hs0_4 A t) (T0 A) (T1 A) (iblk A m c (0 : Fin 5) t) (iblk A m c (1 : Fin 5) t) a0 q0 hu h3).2.2.2.2 _)
      isplitl [H0]; · iapply rep_of_owns; iexact H0
      isplitl [H1]; · iapply rep_of_owns; iexact H1
      isplitl [HT0]; · iexact HT0
      isplitl [HT1]; · iexact HT1
      isplitl [H2]; · iexists _; iexact H2
      isplitl [H3]; · iexists _; iexact H3
      isplitl [H4]; · iexists _; iexact H4
      isplitl [HS0]; · iexact HS0
      iintro ⟨H0, H1, HT0, HT1, ⟨%e2, H2⟩, ⟨%e3, H3⟩, ⟨%e4, H4⟩, HS0⟩
      isplitl [HS0 HT0 HT1]
      · isplitl [HS0]
        · iexists _; isplitr; swap
          · iexact HS0
          · ipureintro; exact held0_next A m c t _ fun h => absurd h hu
        isplitl [HT0]
        · iexact HT0
        iexact HT1
      isplitl [Ho]; · iexact Ho
      isplitl [H0]
      · iapply owns_of_rep; iexact H0
      isplitl [H1]
      · iapply owns_of_rep; iexact H1
      isplitl [H2]
      · unfold owns; iexists _; isplitr; swap
        · iexact H2
        · ipureintro
          refine (View.read_writes_of_cover _ _ VO0_2 VO0_2.junk _ (cover0_C_2 c _ _ _ _ _ _ _ _ _ _ _ _ _ _ _ _ _ _ _)).trans ?_
          refine (out_C_2 c _ _ _ _ _ _ _ _ _ _ _ _ _ _ _ _ _ _ _).trans ?_
          unfold oblk2; rw [if_neg hu]
      isplitl [H3]
      · unfold owns; iexists _; isplitr; swap
        · iexact H3
        · ipureintro
          refine (View.read_writes_of_cover _ _ VO0_3 VO0_3.junk _ (cover0_C_3 c _ _ _ _ _ _ _ _ _ _ _ _ _ _ _ _ _ _ _)).trans ?_
          refine (out_C_3 c _ _ _ _ _ _ _ _ _ _ _ _ _ _ _ _ _ _ _).trans ?_
          unfold oblk3; rw [if_neg hu]
      unfold owns; iexists _; isplitr; swap
      · iexact H4
      · ipureintro
        refine (View.read_writes_of_cover _ _ VO0_4 VO0_4.junk _ (cover0_C_4 c _ _ _ _ _ _ _ _ _ _ _ _ _ _ _ _ _ _ _)).trans ?_
        refine (out_C_4 c _ _ _ _ _ _ _ _ _ _ _ _ _ _ _ _ _ _ _).trans ?_
        unfold oblk4; rw [if_neg hu]

/-- The library's body obligation, at every point. -/
theorem body_obligation (c : Dev nD) : BodyObligation (dats A m 0 c) (defs₀ (F := Ideal)) Variants.none () Set.univ := fun t => by
  rw [bigSep_W0]
  exact sound_body A m c t

/-! ## The launch -/

/-- The launch memory holds the tables `A`. -/
def Pinned : Prop := ∀ c : Dev nD, m ((c : Thread nD τ).loc main_arg0) = A.1 0 ∧ m ((c : Thread nD τ).loc main_arg1) = A.1 1

/-- The rounds library's launch element. -/
def u₀ : UR sig nD τ :=
  initOf (Pipeline.cells (pcs A) ((launch0 (F := Ideal)).cellOf_inj fun _ => A))
    (Pipeline.launchToks (pcs A) ((launch0 (F := Ideal)).cellOf_inj fun _ => A))

theorem share_eq (c : Dev nD) (w : Fin (cfgA A).W) : (dats A m 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers; -/
theorem phi0_intro (c : Dev nD) :
    iprop(BI.emp ∗ Pipeline.prefHeld pre0 c (fun _ => fullShare.right) A.1 ∗ Pipeline.scopedRest spec0 c) ⊢ (dats A m 0 c).Φ 0 := by
  rw [prefHeld_eq, scopedRest0_eq, show (dats A m 0 c).Φ 0 = Phi A m c 0 from rfl]
  unfold Phi
  iintro ⟨-, ⟨HT0, HT1⟩, ⟨%a0, HS0⟩⟩
  isplitl [HS0]
  · iexists a0; isplitr; swap
    · iexact HS0
    · ipureintro; intro p hp; exact absurd hp (Nat.succ_ne_zero _)
  isplitl [HT0]
  · iexact HT0
  iexact HT1

/-- at the last point it gives the scratch buffers back, the tables let go. -/
theorem phiN_exit (c : Dev nD) : (dats A m 0 c).Φ (Fin.last (cfgA A).N) ⊢ iprop(BI.emp ∗ Pipeline.scopedRest spec0 c) := by
  rw [scopedRest0_eq, show (dats A m 0 c).Φ (Fin.last (cfgA A).N) = Phi A m c (Fin.last _) from rfl]
  unfold Phi
  iintro ⟨⟨%a0, -, HS0⟩, -, -⟩
  isplitr; · iempintro
  iexists a0; iexact HS0

/-- The physical post: every array at what the library computes, every table at what the pipeline ran at. -/
def QC : PUnit × MemSt nD τ sig (Elt Ideal) → Prop := fun r =>
  ∀ c : Dev nD, (∀ w : Fin (cfgA A).W, r.2.mem (((cfgA A).win w).arr.view.loc (c : Thread nD τ)) = (dats A m 0 c).arrAt w (cfgA A).N)
    ∧ ∀ j, r.2.mem ((c : Thread nD τ).loc (pre0.ref j)) = A.1 j

theorem V_pre (hp : Pinned A m) (c : Dev nD) (j : Fin 2) : m ((c : Thread nD τ).loc (pre0.ref j)) = A.1 j := by
  fin_cases j
  · exact (hp c).1
  · exact (hp c).2

set_option backward.isDefEq.respectTransparency.types false in
set_option maxHeartbeats 4000000 in
/-- From any memory with zero counters whose tables are `A`: every weakly fair execution of @main on the TensorCores
    terminates, and every final state has each array at the computed contents and every semaphore counter at zero. -/
theorem run_main (hp : Pinned A m) : θ_run (defs (F := Ideal)) (onTc (τ := τ) (main (F := Ideal))) (s₀ m ρ) (fun r => QC A m r ∧ r.2.sem = fun _ => 0) :=
  Pipeline.θ_run_region_noSem_pf_quiescent pcfgs (fun _ => A) (dats A m) () ((launch0 (F := Ideal)).cellOf_inj fun _ => A) (0 : Fin 1)
    (launch0 (F := Ideal)).win.to₀ (launch0 (F := Ideal)).pre EP defs₀ Variants.none m ρ main
    (hbody := fun c => (body_obligation A m c).loose) (hne := (launch0 (F := Ideal)).block_pos)
    (harr := (launch0 (F := Ideal)).arr_whole) (hstage := (launch0 (F := Ideal)).stage_whole) (howed := fun _ _ => rfl)
    (u₀ := u₀ A) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs A) (dats A m) 0 (launch0 (F := Ideal)).win.arr_inj c (launch0 (F := Ideal)).arr_whole
      (share_eq A m c) _ _ fun _ => rfl)
    (hpf := V_pre A m hp)
    (X := fun _ => iprop(emp)) (Y := fun _ => iprop(emp)) (Z := fun _ => iprop(emp))
    (hX := fun c => by rw [unscopedRestP0_eq]; iintro -; isplitr <;> iempintro)
    (hin := phi0_intro A m)
    (hout := phiN_exit A m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- What holds of the arrays after the run: the output's computed contents, the arguments as launched. -/
theorem post (hp : Pinned A m) : θ_run (defs (F := Ideal)) (onTc (τ := τ) (main (F := Ideal))) ⟨m, fun _ => 0, ρ⟩ (fun r => (∀ c : Dev nD,
      r.2.mem ((c.tc : Thread nD τ).loc main_v0_0) = (dats A m 0 c).arrAt (2 : Fin 5) (cfgA A).N
      ∧ r.2.mem ((c.tc : Thread nD τ).loc main_v0_1) = (dats A m 0 c).arrAt (3 : Fin 5) (cfgA A).N
      ∧ r.2.mem ((c.tc : Thread nD τ).loc main_v0_2) = (dats A m 0 c).arrAt (4 : Fin 5) (cfgA A).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1 (2 : Fin 5), (h.1 c).1 (3 : Fin 5), (h.1 c).1 (4 : Fin 5),
      ((h.1 c).2 0).trans (hp c).1.symm, ((h.1 c).2 1).trans (hp c).2.symm,
      ((h.1 c).1 (0 : Fin 5)).trans ((dats A m 0 c).arrAt_in (0 : Fin 5) rfl _), ((h.1 c).1 (1 : Fin 5)).trans ((dats A m 0 c).arrAt_in (1 : Fin 5) rfl _)⟩, h.2⟩)
    (run_main A m ρ hp)

/-! ## The tables a precondition admits -/

/-- Any table whose words are experts' numbers keeps the weight blocks inside the arrays. -/
theorem ok_of_range (pf : pre0.Contents (Elt Ideal)) (h : ∀ x : S40.Idx, ((show S40.Idx → BitVec 32 from pf 0) x).toNat < 8) : ok0 pf := by
  have key : ∀ (i : grid0.Coords) a, (cc0_transform_1 k0_off1_inb numel1_S1 pf i a + 1) * S1x1x4096x512.size a ≤ S2x8x4096x2048.size a := by
    intro i a
    rw [ixw_eq pf i]
    have he := h (at40 (i 1).val (i 1).isLt)
    have hi : (i 0).val < 4 := (i 0).isLt
    match a with
    | ⟨0, _⟩ => show (0 + 1) * 1 ≤ 2; omega
    | ⟨1, _⟩ => exact (Nat.mul_one _).le.trans he
    | ⟨2, _⟩ => show (0 + 1) * 4096 ≤ 4096; omega
    | ⟨3, _⟩ => show ((i 0).val + 1) * 512 ≤ 2048; omega
  exact fun i => ⟨key i, Or.inl rfl⟩

/-- The tables a launch memory with experts' numbers holds, on the one device. -/
def tables (h : ∀ x : S40.Idx, ((show S40.Idx → BitVec 32 from m (((0 : Dev nD) : Thread nD τ).loc main_arg0)) x).toNat < 8) : (pcfg0 (F := Ideal)).Adm :=
  ⟨fun j => m (((0 : Dev nD) : Thread nD τ).loc (pre0.ref j)), ok_of_range _ h⟩

theorem pinned (h : ∀ x : S40.Idx, ((show S40.Idx → BitVec 32 from m (((0 : Dev nD) : Thread nD τ).loc main_arg0)) x).toNat < 8) : Pinned (tables m h) m := fun c => by
  obtain rfl : c = 0 := Subsingleton.elim _ _
  exact ⟨rfl, rfl⟩

theorem range_of_pre (h : Cert.Pre_MoeDownIdeal m) (x : S40.Idx) : ((show S40.Idx → BitVec 32 from m (((0 : Dev nD) : Thread nD τ).loc main_arg0)) x).toNat < 8 :=
  Cert.ExpertsRange.down _ _ _ _ (h 0) x

/-- THE FRAME: under the precondition @main runs, leaves its arguments alone and ends with every counter at zero. -/
theorem frame : Cert.quiescent_MoeDownIdeal := fun m ρ h =>
  (θ_run defs _ _).mono (fun _ h => ⟨fun c => (h.1 c).2.2.2, h.2⟩) (post (tables m (range_of_pre m h)) m ρ (pinned m (range_of_pre m h)))

end Cert.MoeDownIdeal.Hand
end
-- ==== Proof.Spec.lean ====
/- What the calls compute, in plain extended-real arithmetic, with nothing of a kernel in it. -/
module

public import Idealize.ShloMosaic.PureOps.Ideal
public import Idealize.ShloMosaic.Lib.Pointwise
public import Idealize.ShloMosaic.Init

@[expose] public section

noncomputable section

namespace Cert.Spec
open Idealize.ShloMosaic

/-- `x · 1/(1 + exp(-x))`. -/
def silu (x : EReal) : EReal := x * Ideal.div 1 (1 + Ideal.exp (-x))

/-- Row block `b` comes before the count `n`, as the two's complement comparison of words says it. -/
def used (nu : Vec Ideal ⟨1, ![1]⟩ .i32) (b : ℕ) : Prop := (BitVec.ofNat 32 b).slt (nu (ix1 0)) = true

/-- The expert a table of words gives to row block `b`. -/
def expert (te : Vec Ideal ⟨1, ![40]⟩ .i32) (b : Fin 40) : Fin 8 := ⟨(te (ix1 b)).toNat % 8, Nat.mod_lt _ (by decide)⟩

/-- The row block of a row. -/
def blockOf (r : Fin 20480) : Fin 40 := ⟨r.val / 512, by have := r.isLt; omega⟩

open Classical in
/-- The routed up-projection: a used row's `silu` of its product with its expert's first weights, times the product with the
    second, times the row's weight; any other row zero. -/
def up (te : Vec Ideal ⟨1, ![40]⟩ .i32) (nu : Vec Ideal ⟨1, ![1]⟩ .i32) (a : Vec Ideal ⟨2, ![20480, 2048]⟩ .bf16)
    (wg wu : Vec Ideal ⟨4, ![2, 8, 2048, 4096]⟩ .f32) (rw : Vec Ideal ⟨2, ![20480, 1]⟩ .f32) : Vec Ideal ⟨2, ![20480, 4096]⟩ .bf16 := fun i =>
  if used nu (blockOf (i 0)).val then
    silu (∑ k : Fin 2048, a (ix2 (i 0) k) * wg (ix4 0 (expert te (blockOf (i 0))) k (i 1)))
      * (∑ k : Fin 2048, a (ix2 (i 0) k) * wu (ix4 0 (expert te (blockOf (i 0))) k (i 1))) * rw (ix2 (i 0) 0)
  else (0 : EReal)

open Classical in
/-- The routed down-projection: a used row's product with its expert's weights; any other row zero. -/
def down (te : Vec Ideal ⟨1, ![40]⟩ .i32) (nu : Vec Ideal ⟨1, ![1]⟩ .i32) (a : Vec Ideal ⟨2, ![20480, 4096]⟩ .bf16)
    (wd : Vec Ideal ⟨4, ![2, 8, 4096, 2048]⟩ .f32) : Vec Ideal ⟨2, ![20480, 2048]⟩ .f32 := fun i =>
  if used nu (blockOf (i 0)).val then
    ∑ k : Fin 4096, a (ix2 (i 0) k) * wd (ix4 0 (expert te (blockOf (i 0))) k (i 1))
  else (0 : EReal)

/-- What is left of the product after its first rounding, -/
def downMid (te : Vec Ideal ⟨1, ![40]⟩ .i32) (nu : Vec Ideal ⟨1, ![1]⟩ .i32) (a : Vec Ideal ⟨2, ![20480, 4096]⟩ .bf16)
    (wd : Vec Ideal ⟨4, ![2, 8, 4096, 2048]⟩ .f32) : Vec Ideal ⟨2, ![20480, 2048]⟩ .bf16 := fun i =>
  ((down te nu a wd i : EReal) - (down te nu a wd i : EReal) : EReal)
/-- and after the rounding of that. -/
def downLow (te : Vec Ideal ⟨1, ![40]⟩ .i32) (nu : Vec Ideal ⟨1, ![1]⟩ .i32) (a : Vec Ideal ⟨2, ![20480, 4096]⟩ .bf16)
    (wd : Vec Ideal ⟨4, ![2, 8, 4096, 2048]⟩ .f32) : Vec Ideal ⟨2, ![20480, 2048]⟩ .bf16 := fun i =>
  ((downMid te nu a wd i : EReal) - (downMid te nu a wd i : EReal) : EReal)

open Classical in
theorem up_at (te : Vec Ideal ⟨1, ![40]⟩ .i32) (nu : Vec Ideal ⟨1, ![1]⟩ .i32) (a : Vec Ideal ⟨2, ![20480, 2048]⟩ .bf16)
    (wg wu : Vec Ideal ⟨4, ![2, 8, 2048, 4096]⟩ .f32) (rw : Vec Ideal ⟨2, ![20480, 1]⟩ .f32) (r : Fin 20480) (n : Fin 4096) (b : Fin 40) (h : blockOf r = b) :
    up te nu a wg wu rw (ix2 r n) = if used nu b.val then
      silu (∑ k : Fin 2048, a (ix2 r k) * wg (ix4 0 (expert te b) k n)) * (∑ k : Fin 2048, a (ix2 r k) * wu (ix4 0 (expert te b) k n)) * rw (ix2 r 0)
      else (0 : EReal) := by
  subst h; rfl
open Classical in
theorem down_at (te : Vec Ideal ⟨1, ![40]⟩ .i32) (nu : Vec Ideal ⟨1, ![1]⟩ .i32) (a : Vec Ideal ⟨2, ![20480, 4096]⟩ .bf16)
    (wd : Vec Ideal ⟨4, ![2, 8, 4096, 2048]⟩ .f32) (r : Fin 20480) (n : Fin 2048) (b : Fin 40) (h : blockOf r = b) :
    down te nu a wd (ix2 r n) = if used nu b.val then ∑ k : Fin 4096, a (ix2 r k) * wd (ix4 0 (expert te b) k n) else (0 : EReal) := by
  subst h; rfl

/-! ## The reference's mask over the eight experts -/

theorem ofBool_and_iff : ∀ p q : Bool, IntOp.andi (BitVec.ofBool p) (BitVec.ofBool q) = 1#1 ↔ p = true ∧ q = true := by decide

/-- The mask's bit at expert `e`: the row's expert word is `e` and its row block is used. -/
theorem mask_iff (te : Vec Ideal ⟨1, ![40]⟩ .i32) (nu : Vec Ideal ⟨1, ![1]⟩ .i32) (h : ∀ x, (te x).toNat < 8) (b : Fin 40) (e : Fin 8) :
    IntOp.andi (IntOp.cmpi .eq (te (ix1 b)) (BitVec.ofNat 32 e.val)) (IntOp.cmpi .slt (BitVec.ofNat 32 b.val) (nu (ix1 0))) = 1#1
      ↔ e = expert te b ∧ used nu b.val := by
  refine (ofBool_and_iff _ _).trans (and_congr ?_ Iff.rfl)
  have ht := h (ix1 b)
  have he := e.isLt
  rw [beq_iff_eq, Fin.ext_iff, ← BitVec.toNat_inj, BitVec.toNat_ofNat]
  show _ ↔ e.val = (te (ix1 b)).toNat % 8
  omega

/-- Of the masked sum over the experts one term is left, or none. -/
theorem sum_mask (te : Vec Ideal ⟨1, ![40]⟩ .i32) (nu : Vec Ideal ⟨1, ![1]⟩ .i32) (h : ∀ x, (te x).toNat < 8) (b : Fin 40) (f : Fin 8 → EReal) [Decidable (used nu b.val)] :
    (∑ e : Fin 8, if IntOp.andi (IntOp.cmpi .eq (te (ix1 b)) (BitVec.ofNat 32 e.val)) (IntOp.cmpi .slt (BitVec.ofNat 32 b.val) (nu (ix1 0))) = 1#1 then f e else 0)
      = if used nu b.val then f (expert te b) else 0 := by
  rw [Finset.sum_eq_single (expert te b)]
  · by_cases hu : used nu b.val
    · rw [if_pos ((mask_iff te nu h b _).mpr ⟨rfl, hu⟩), if_pos hu]
    · rw [if_neg fun hm => hu ((mask_iff te nu h b _).mp hm).2, if_neg hu]
  · intro e _ hne
    rw [if_neg fun hm => hne ((mask_iff te nu h b _).mp hm).1]
  · intro hm; exact absurd (Finset.mem_univ _) hm

end Cert.Spec
end
-- ==== Proof.MoeUpIdealPay.lean ====
/- The expert up-projection's payloads, read at an element. -/
module

public import proofs.«01_k».proof.Defs
public import proofs.«01_k».proof.Proof.Gen.MoeUpIdeal
public import proofs.«01_k».proof.Proof.Gen.MoeUpIdeal.Skeleton
public import proofs.«01_k».proof.Proof.Spec
public import Idealize.ShloMosaic.Lib.Pointwise
public import Idealize.ShloMosaic.PureOps.Ideal
public import Idealize.ShloMosaic.Init

@[expose] public section

set_option maxRecDepth 16384

noncomputable section

namespace Cert.MoeUpIdeal.Pay
open Cert.MoeUpIdeal Cert.MoeUpIdeal.Gen Cert.Spec
open Idealize.ShloMosaic

theorem pay1_apply (w : Vec Ideal S1x1x2048x512 .f32) (k : Fin 2048) (n : Fin 512) : k0_pay1 (F := Ideal) w (ix2 k n) = w (ix4 0 0 k n) := by
  pointwise [k0_pay1]
theorem pay2_apply (w : Vec Ideal S1x1x2048x512 .f32) (k : Fin 2048) (n : Fin 512) : k0_pay2 (F := Ideal) w (ix2 k n) = w (ix4 0 0 k n) := by
  pointwise [k0_pay2]
theorem pay3_apply (x : Vec Ideal S512x2048 .bf16) (g u : Vec Ideal S2048x512 .bf16) (r : Vec Ideal S512x1 .f32) (i j : Fin 512) :
    k0_pay3 (F := Ideal) x g u r (ix2 i j)
      = silu (∑ k : Fin 2048, x (ix2 i k) * g (ix2 k j)) * (∑ k : Fin 2048, x (ix2 i k) * u (ix2 k j)) * r (ix2 i 0) := by
  pointwise [k0_pay3, silu]
  rw [zero_sub]
theorem pay4_apply (i : S512x512.Idx) : k0_pay4 (F := Ideal) i = (0 : EReal) := by
  pointwise [k0_pay4]

end Cert.MoeUpIdeal.Pay
end
-- ==== Proof.MoeUpIdealValue.lean ====
/- What the expert up-projection's output array holds after the run: the routed up-projection of the arguments.
   A point's output block is a closed form of its input blocks (the frame); each input block is a rectangle of its array at a
   place read off the grid point and the expert table; so the block is that rectangle of the routed up-projection, and the
   blocks of all points cover the array. -/
module

public import proofs.«01_k».proof.Defs
public import proofs.«01_k».proof.Proof.MoeUpIdealPay
public import proofs.«01_k».proof.Proof.MoeUpIdealRun
public import proofs.«01_k».proof.Proof.Spec
public import Idealize.ShloMosaic.Lib.Pipeline.Value
public import Idealize.ShloMosaic.PureOps.Ideal
public import Idealize.ShloMosaic.Init

@[expose] public section

set_option maxRecDepth 16384

noncomputable section

namespace Cert.MoeUpIdeal.Hand

open Cert.MoeUpIdeal Cert.MoeUpIdeal.Gen Cert.Spec
open Idealize.ShloMosaic Idealize.ShloMosaic.TcCoe
open Idealize.SL.Sem
open Idealize.ShloMosaic.Pipeline (Dat Cfg Window)

variable (A : (pcfg0 (F := Ideal)).Adm) (m : (ℓ : Loc nD τ sig) → Buf (Elt Ideal) ℓ) (ρ : Dev nD → PrngReg)

/-! ## The grid -/

theorem crd_val : ∀ t : Fin grid0.N, (grid0.coords t 0).val = t.val / 40 ∧ (grid0.coords t 1).val = t.val % 40 := by decide +kernel

theorem tr0_eq : ∀ i : grid0.Coords, cc0_transform_0 i = ![(i 1).val, 0] := by decide +kernel
theorem tr3_eq : ∀ i : grid0.Coords, cc0_transform_3 i = ![(i 1).val, 0] := by decide +kernel
theorem tr4_eq : ∀ i : grid0.Coords, cc0_transform_4 i = ![(i 1).val, (i 0).val] := by decide +kernel

/-- The row block and the column block of a point. -/
abbrev rbk (t : Fin (cfgA A).N) : Fin 40 := ⟨(crd A t 1).val, (crd A t 1).isLt⟩
abbrev cbk (t : Fin (cfgA A).N) : Fin 8 := ⟨(crd A t 0).val, (crd A t 0).isLt⟩
/-- A row of a row block, a column of a column block. -/
def row (b : Fin 40) (i : Fin 512) : Fin 20480 := ⟨b.val * 512 + i.val, by omega⟩
def col (b : Fin 8) (j : Fin 512) : Fin 4096 := ⟨b.val * 512 + j.val, by omega⟩

theorem block_row (b : Fin 40) (i : Fin 512) : blockOf (row b i) = b := by
  apply Fin.ext
  show (b.val * 512 + i.val) / 512 = b.val
  omega

/-- The output is written back after every point. -/
theorem flush4 (t : Fin (cfgA A).N) : ((cfgA A).win (4 : Fin 5)).flush t = true := by
  rw [Window.flush_out _ rfl]
  by_cases h : t.val + 1 = (cfgA A).grid.N
  · exact .inl h
  · refine .inr ⟨lt_of_le_of_ne t.isLt h, fun e => ?_⟩
    have e' : cc0_transform_4 (grid0.coords ⟨t.val + 1, lt_of_le_of_ne t.isLt h⟩) = cc0_transform_4 (grid0.coords t) := e
    rw [tr4_eq, tr4_eq] at e'
    have e0 : (grid0.coords ⟨t.val + 1, lt_of_le_of_ne t.isLt h⟩ 1).val = (grid0.coords t 1).val := congrFun e' 0
    rw [(crd_val _).2, (crd_val _).2] at e0
    have e0' : (t.val + 1) % 40 = t.val % 40 := e0
    omega

/-- A point's row block is used where the routed product says so. -/
theorem used_iff (hp : Pinned A m) (c : Dev nD) (t : Fin (cfgA A).N) :
    UsedAt A t ↔ used (m ((c : Thread nD τ).loc main_arg1)) (rbk A t).val := by
  rw [(hp c).2]
  have e : nuW (T1 A) = T1 A (ix1 0) := by
    show T1 A _ = _
    exact congrArg (T1 A) ((eq_ix1 _).trans (congrArg ix1 (Subsingleton.elim _ _)))
  unfold UsedAt Used k0_cond2
  dsimp only
  rw [e]
  show Scalar.cmpi .ne (Scalar.extui (BitVec.ofBool ((BitVec.ofNat 32 (crd A t 1).val).slt (T1 A (ix1 0)))) : BitVec 32) 0#32 = 1#1
    ↔ (BitVec.ofNat 32 (crd A t 1).val).slt (T1 A (ix1 0)) = true
  generalize (BitVec.ofNat 32 (crd A t 1).val).slt (T1 A (ix1 0)) = b
  revert b
  decide

/-! ## The blocks, read at an element -/

theorem xb_at (c : Dev nD) (t : Fin (cfgA A).N) (i : Fin 512) (k : Fin 2048) :
    xb A m c t (ix2 i k) = m ((c : Thread nD τ).loc main_arg2) (ix2 (row (rbk A t) i) k) := by
  show m ((c : Thread nD τ).loc main_arg2) _ = _
  refine congrArg (m ((c : Thread nD τ).loc main_arg2)) (funext fun a => Fin.ext ?_)
  show cc0_transform_0 (crd A t) a * S512x2048.size a + 1 * (ix2 i k a).val = _
  rw [tr0_eq]
  match a with
  | ⟨0, _⟩ => show (crd A t 1).val * 512 + 1 * i.val = (crd A t 1).val * 512 + i.val; omega
  | ⟨1, _⟩ => show 0 * 2048 + 1 * k.val = k.val; omega

theorem rb_at (c : Dev nD) (t : Fin (cfgA A).N) (i : Fin 512) :
    rb A m c t (ix2 i 0) = m ((c : Thread nD τ).loc main_arg5) (ix2 (row (rbk A t) i) 0) := by
  show m ((c : Thread nD τ).loc main_arg5) _ = _
  refine congrArg (m ((c : Thread nD τ).loc main_arg5)) (funext fun a => Fin.ext ?_)
  show cc0_transform_3 (crd A t) a * S512x1.size a + 1 * (ix2 i (0 : Fin 1) a).val = _
  rw [tr3_eq]
  match a with
  | ⟨0, _⟩ => show (crd A t 1).val * 512 + 1 * i.val = (crd A t 1).val * 512 + i.val; omega
  | ⟨1, _⟩ => rfl

/-- The table's word at a point is the expert of its row block. -/
theorem word_eq (hE : ∀ x, (T0 A x).toNat < 8) (t : Fin (cfgA A).N) :
    (T0 A (at40 (crd A t 1).val (crd A t 1).isLt)).toNat = (expert (T0 A) (rbk A t)).val := by
  have e : at40 (crd A t 1).val (crd A t 1).isLt = ix1 (rbk A t) := by
    funext a
    match a with
    | ⟨0, _⟩ => rfl
  rw [e]
  exact (Nat.mod_eq_of_lt (hE (ix1 (rbk A t)))).symm

theorem gb_at (hE : ∀ x, (T0 A x).toNat < 8) (c : Dev nD) (t : Fin (cfgA A).N) (k : Fin 2048) (j : Fin 512) :
    gb A m c t (ix4 0 0 k j) = m ((c : Thread nD τ).loc main_arg3) (ix4 0 (expert (T0 A) (rbk A t)) k (col (cbk A t) j)) := by
  show m ((c : Thread nD τ).loc main_arg3) _ = _
  refine congrArg (m ((c : Thread nD τ).loc main_arg3)) (funext fun a => Fin.ext ?_)
  show cc0_transform_1 k0_off1_inb numel1_S1 A.1 (crd A t) a * S1x1x2048x512.size a + 1 * (ix4 (0 : Fin 1) (0 : Fin 1) k j a).val = _
  rw [ix1_eq, word_eq A hE t]
  match a with
  | ⟨0, _⟩ => rfl
  | ⟨1, _⟩ => show (expert (T0 A) (rbk A t)).val * 1 + 1 * 0 = (expert (T0 A) (rbk A t)).val; omega
  | ⟨2, _⟩ => show 0 * 2048 + 1 * k.val = k.val; omega
  | ⟨3, _⟩ => show (crd A t 0).val * 512 + 1 * j.val = (crd A t 0).val * 512 + j.val; omega

theorem ub_at (hE : ∀ x, (T0 A x).toNat < 8) (c : Dev nD) (t : Fin (cfgA A).N) (k : Fin 2048) (j : Fin 512) :
    ub A m c t (ix4 0 0 k j) = m ((c : Thread nD τ).loc main_arg4) (ix4 0 (expert (T0 A) (rbk A t)) k (col (cbk A t) j)) := by
  show m ((c : Thread nD τ).loc main_arg4) _ = _
  refine congrArg (m ((c : Thread nD τ).loc main_arg4)) (funext fun a => Fin.ext ?_)
  show cc0_transform_2 k0_off1_inb numel1_S1 A.1 (crd A t) a * S1x1x2048x512.size a + 1 * (ix4 (0 : Fin 1) (0 : Fin 1) k j a).val = _
  rw [ix2_eq, word_eq A hE t]
  match a with
  | ⟨0, _⟩ => rfl
  | ⟨1, _⟩ => show (expert (T0 A) (rbk A t)).val * 1 + 1 * 0 = (expert (T0 A) (rbk A t)).val; omega
  | ⟨2, _⟩ => show 0 * 2048 + 1 * k.val = k.val; omega
  | ⟨3, _⟩ => show (crd A t 0).val * 512 + 1 * j.val = (crd A t 0).val * 512 + j.val; omega

/-! ## The array -/

/-- What the output array is shown to hold. -/
abbrev G (c : Dev nD) : Buf (Elt Ideal) ((c : Thread nD τ).loc main_v0) :=
  up (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- A point's output block is its rectangle of the routed up-projection. -/
theorem oblk_at (hp : Pinned A m) (hE : ∀ x, (T0 A x).toNat < 8) (c : Dev nD) (t : Fin (cfgA A).N) (i j : Fin 512) :
    oblk A m c t (ix2 i j) = G m c (ix2 (row (rbk A t) i) (col (cbk A t) j)) := by
  classical
  refine Eq.trans ?_ (up_at _ _ _ _ _ _ _ _ (rbk A t) (block_row _ _)).symm
  have hu := used_iff A m hp c t
  unfold oblk
  by_cases h : UsedAt A t
  · rw [if_pos h, if_pos (hu.mp h), Pay.pay3_apply]
    simp only [Pay.pay1_apply, Pay.pay2_apply]
    simp only [xb_at, rb_at, gb_at A m hE, ub_at A m hE]
    rw [(hp c).1]
  · rw [if_neg h, if_neg fun q => h (hu.mpr q), Pay.pay4_apply]

theorem flushed4_eq (hp : Pinned A m) (hE : ∀ x, (T0 A x).toNat < 8) (c : Dev nD) (t : Fin (cfgA A).N) :
    (dats A m 0 c).flushed (4 : Fin 5) t = (((cfgA A).win (4 : Fin 5)).blk t).view.read (Elt Ideal) (G m c) := by
  funext y
  obtain ⟨i, j, rfl⟩ : ∃ (i j : Fin 512), y = ix2 i j := ⟨y 0, y 1, eq_ix2 y⟩
  show oblk A m c t _ = G m c _
  refine (congrArg (oblk A m c t) ?_).trans ((oblk_at A m hp hE c t i j).trans (congrArg (G m c) ?_))
  · funext a
    match a with
    | ⟨0, _⟩ => rfl
    | ⟨1, _⟩ => rfl
  · symm
    funext a
    apply Fin.ext
    show cc0_transform_4 (crd A t) a * S512x512.size a + 1 * (ix2 i j a).val = _
    rw [tr4_eq]
    match a with
    | ⟨0, _⟩ => show (crd A t 1).val * 512 + 1 * i.val = (crd A t 1).val * 512 + i.val; omega
    | ⟨1, _⟩ => show (crd A t 0).val * 512 + 1 * j.val = (crd A t 0).val * 512 + j.val; omega

/-- The point whose block holds a place of the output array. -/
def ptOf (i : S20480x4096.Idx) : Fin grid0.N :=
  ⟨(i 1).val / 512 * 40 + (i 0).val / 512, lt_of_lt_of_eq (by
    have h0 : (i 0).val < 20480 := (i 0).isLt
    have h1 : (i 1).val < 4096 := (i 1).isLt
    omega) N_0.symm⟩

theorem covered4 (i : S20480x4096.Idx) : i ∈ (((cfgA A).win (4 : Fin 5)).blk (ptOf i)).view.set := by
  show i ∈ ((View.whole main_v0).slice (((cfgA A).win (4 : Fin 5)).rect (ptOf i))).set
  rw [View.set_slice_whole]
  show i ∈ (Rect.unit (s := S20480x4096) _ S512x512.size _).set
  rw [Rect.mem_set_unit]
  have h0 : (i 0).val < 20480 := (i 0).isLt
  have h1 : (i 1).val < 4096 := (i 1).isLt
  intro a
  show cc0_transform_4 (grid0.coords (ptOf i)) a * S512x512.size a ≤ (i a).val ∧ (i a).val < cc0_transform_4 (grid0.coords (ptOf i)) a * S512x512.size a + S512x512.size a
  rw [tr4_eq, (crd_val _).1, (crd_val _).2]
  match a with
  | ⟨0, _⟩ =>
    show ((i 1).val / 512 * 40 + (i 0).val / 512) % 40 * 512 ≤ (i 0).val ∧ (i 0).val < ((i 1).val / 512 * 40 + (i 0).val / 512) % 40 * 512 + 512
    omega
  | ⟨1, _⟩ =>
    show ((i 1).val / 512 * 40 + (i 0).val / 512) / 40 * 512 ≤ (i 1).val ∧ (i 1).val < ((i 1).val / 512 * 40 + (i 0).val / 512) / 40 * 512 + 512
    omega

theorem final4 (hp : Pinned A m) (hE : ∀ x, (T0 A x).toNat < 8) (c : Dev nD) : (dats A m 0 c).arrAt (4 : Fin 5) (cfgA A).N = G m c :=
  (dats A m 0 c).arrAt_eq_of_cover (4 : Fin 5) _ (fun t _ => flushed4_eq A m hp hE c t) (fun i => ⟨ptOf i, flush4 A _, covered4 A i⟩)

/-- THE VALUE: under the precondition the output array holds the routed up-projection and the arguments are as they were. -/
theorem value (h : Cert.Pre_MoeUpIdeal m) : θ_run (defs (F := Ideal)) (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ q c => ⟨((q.1 c).1).trans (final4 _ m (pinned m (range_of_pre m h)) (range_of_pre m h) c), (q.1 c).2⟩)
    (post (tables m (range_of_pre m h)) m ρ (pinned m (range_of_pre m h)))

end Cert.MoeUpIdeal.Hand
end
-- ==== Proof.MoeUpRef.lean ====
/- The expert up-projection's reference, read at an element: the sum over the eight experts has one term that is not zero. -/
module

public import proofs.«01_k».proof.Defs
public import proofs.«01_k».proof.Proof.Gen.MoeUpRefIdeal.Read
public import proofs.«01_k».proof.Proof.Spec
public import Idealize.ShloMosaic.Lib.Pointwise
public import Idealize.ShloMosaic.PureOps.Ideal
public import Idealize.ShloMosaic.Init

@[expose] public section

set_option maxRecDepth 16384

noncomputable section

namespace Cert.MoeUpRefIdeal.Ref
open Cert.MoeUpRefIdeal Cert.MoeUpRefIdeal.Gen Cert.MoeUpRefIdeal.Read Cert.Spec
open Idealize.ShloMosaic

variable (x0 : Vec Ideal S40 .i32) (x1 : Vec Ideal S1 .i32) (x2 : Vec Ideal S20480x2048 .bf16) (x3 x4 : Vec Ideal S2x8x2048x4096 .f32) (x5 : Vec Ideal S20480x1 .f32)

theorem v4_at (e : Fin 8) (r : Fin 20480) (n : Fin 4096) :
    val_main_v4 (F := Ideal) x2 x3 (ix3 e r n) = ∑ k : Fin 2048, x3 (ix4 0 e k n) * x2 (ix2 r k) := by
  pointwise [val_main_v4, val_main_v3, val_main_v2, val_main_v1, val_main_v0]
theorem v8_at (e : Fin 8) (r : Fin 20480) (n : Fin 4096) :
    val_main_v8 (F := Ideal) x2 x4 (ix3 e r n) = ∑ k : Fin 2048, x4 (ix4 0 e k n) * x2 (ix2 r k) := by
  pointwise [val_main_v8, val_main_v7, val_main_v6, val_main_v5, val_main_v0]
theorem v33_at (i : S8x20480x4096.Idx) :
    val_main_v33 (F := Ideal) x2 x3 x4 i = silu (val_main_v4 (F := Ideal) x2 x3 i) * val_main_v8 (F := Ideal) x2 x4 i := by
  pointwise [val_main_v33, val_main_v32, val_main_call1_v5, val_main_call1_v4, val_main_call1_v3, val_main_call1_v2, val_main_call1_v1, val_main_call1_v0, val_main_call1_cst, val_main_call1_cst_0, silu]

theorem v11_at (r : Fin 20480) : val_main_v11 (F := Ideal) x0 (ix1 r) = x0 (ix1 (blockOf r)) := by
  pointwise [val_main_v11, val_main_v10, val_main_v9, blockOf]
theorem v18_at (r : Fin 20480) : val_main_v18 (F := Ideal) x1 (ix1 r) = IntOp.cmpi .slt (BitVec.ofNat 32 (blockOf r).val) (x1 (ix1 0)) := by
  pointwise [val_main_v18, val_main_v17, val_main_v16, val_main_v15, val_main_v14, val_main_v13, val_main_v12, blockOf]
theorem v27_at (e : Fin 8) (r : Fin 20480) : val_main_v27 (F := Ideal) x0 x1 (ix2 e r)
    = IntOp.andi (IntOp.cmpi .eq (val_main_v11 (F := Ideal) x0 (ix1 r)) (BitVec.ofNat 32 e.val)) (val_main_v18 (F := Ideal) x1 (ix1 r)) := by
  pointwise [val_main_v27, val_main_v26, val_main_v25, val_main_v24, val_main_v23, val_main_v22, val_main_v21, val_main_v20, val_main_v19]
theorem v34_at (e : Fin 8) (r : Fin 20480) (n : Fin 4096) : val_main_v34 (F := Ideal) x0 x1 x5 (ix3 e r n)
    = if val_main_v27 (F := Ideal) x0 x1 (ix2 e r) = 1#1 then x5 (ix2 r 0) else (0 : EReal) := by
  pointwise [val_main_v34, val_main_v31, val_main_v30, val_main_call0_v2, val_main_call0_v1, val_main_call0_v0, val_main_cst, val_main_v29, val_main_v28]
  refine congrArg (fun z => Scalar.select _ _ z) ?_
  rw [id_eq]
  pointwise []
theorem v37_at (r : Fin 20480) (n : Fin 4096) : val_main_v37 (F := Ideal) x0 x1 x2 x3 x4 x5 (ix2 r n)
    = ∑ e : Fin 8, val_main_v34 (F := Ideal) x0 x1 x5 (ix3 e r n) * val_main_v33 (F := Ideal) x2 x3 x4 (ix3 e r n) := by
  pointwise [val_main_v37, val_main_v36, val_main_v35, val_main_cst_0]

/-- The reference's result is the routed up-projection. -/
theorem ref_eq (h : ∀ x, (x0 x).toNat < 8) : val_main_v37 (F := Ideal) x0 x1 x2 x3 x4 x5 = up x0 x1 x2 x3 x4 x5 := by
  classical
  funext i
  obtain ⟨r, n, rfl⟩ : ∃ (r : Fin 20480) (n : Fin 4096), i = ix2 r n := ⟨i 0, i 1, eq_ix2 i⟩
  rw [v37_at]
  simp only [v34_at, v27_at, v11_at, v18_at, v33_at, v4_at, v8_at, ite_mul, zero_mul]
  rw [sum_mask x0 x1 h (blockOf r)]
  show _ = ite _ _ _
  refine if_congr Iff.rfl ?_ rfl
  rw [mul_comm]
  simp only [mul_comm (x3 _) _, mul_comm (x4 _) _]
  rfl

end Cert.MoeUpRefIdeal.Ref
end
-- ==== Proof.MoeDownIdealPay.lean ====
/- The expert down-projection's payloads, read at an element. -/
module

public import proofs.«01_k».proof.Defs
public import proofs.«01_k».proof.Proof.Gen.MoeDownIdeal
public import proofs.«01_k».proof.Proof.Gen.MoeDownIdeal.Skeleton
public import proofs.«01_k».proof.Proof.Spec
public import Idealize.ShloMosaic.Lib.Pointwise
public import Idealize.ShloMosaic.PureOps.Ideal
public import Idealize.ShloMosaic.Init

@[expose] public section

set_option maxRecDepth 16384

noncomputable section

namespace Cert.MoeDownIdeal.Pay
open Cert.MoeDownIdeal Cert.MoeDownIdeal.Gen Cert.Spec
open Idealize.ShloMosaic

theorem pay1_apply (w : Vec Ideal S1x1x4096x512 .f32) (k : Fin 4096) (n : Fin 512) : k0_pay1 (F := Ideal) w (ix2 k n) = w (ix4 0 0 k n) := by
  pointwise [k0_pay1]
theorem pay2_apply (x : Vec Ideal S512x4096 .bf16) (g : Vec Ideal S4096x512 .bf16) (i j : Fin 512) :
    k0_pay2 (F := Ideal) x g (ix2 i j) = ∑ k : Fin 4096, x (ix2 i k) * g (ix2 k j) := by
  pointwise [k0_pay2]
theorem pay3_apply (x : Vec Ideal S512x4096 .bf16) (g : Vec Ideal S4096x512 .bf16) (i : S512x512.Idx) :
    k0_pay3 (F := Ideal) x g i = k0_pay2 (F := Ideal) x g i := rfl
theorem pay4_apply (x : Vec Ideal S512x4096 .bf16) (g : Vec Ideal S4096x512 .bf16) (i : S512x512.Idx) :
    k0_pay4 (F := Ideal) x g i = (k0_pay2 (F := Ideal) x g i : EReal) - k0_pay2 (F := Ideal) x g i := rfl
theorem pay5_apply (x : Vec Ideal S512x4096 .bf16) (g : Vec Ideal S4096x512 .bf16) (i : S512x512.Idx) :
    k0_pay5 (F := Ideal) x g i = k0_pay4 (F := Ideal) x g i := rfl
theorem pay6_apply (x : Vec Ideal S512x4096 .bf16) (g : Vec Ideal S4096x512 .bf16) (i : S512x512.Idx) :
    k0_pay6 (F := Ideal) x g i = (k0_pay4 (F := Ideal) x g i : EReal) - k0_pay4 (F := Ideal) x g i := rfl
theorem pay7_apply (i : S512x512.Idx) : k0_pay7 (F := Ideal) i = (0 : EReal) := by
  pointwise [k0_pay7]
theorem pay8_apply (i : S512x512.Idx) : k0_pay8 (F := Ideal) i = (0 : EReal) := by
  pointwise [k0_pay8]
theorem pay9_apply (i : S512x512.Idx) : k0_pay9 (F := Ideal) i = (0 : EReal) := by
  pointwise [k0_pay9]

end Cert.MoeDownIdeal.Pay
end
-- ==== Proof.MoeDownIdealValue.lean ====
/- What the expert down-projection's three output arrays hold after the run: the routed down-projection of the arguments.
   A point's output block is a closed form of its input blocks (the frame); each input block is a rectangle of its array at a
   place read off the grid point and the expert table; so the block is that rectangle of the routed down-projection, and the
   blocks of all points cover the array. -/
module

public import proofs.«01_k».proof.Defs
public import proofs.«01_k».proof.Proof.MoeDownIdealPay
public import proofs.«01_k».proof.Proof.MoeDownIdealRun
public import proofs.«01_k».proof.Proof.Spec
public import Idealize.ShloMosaic.Lib.Pipeline.Value
public import Idealize.ShloMosaic.PureOps.Ideal
public import Idealize.ShloMosaic.Init

@[expose] public section

set_option maxRecDepth 16384

noncomputable section

namespace Cert.MoeDownIdeal.Hand

open Cert.MoeDownIdeal Cert.MoeDownIdeal.Gen Cert.Spec
open Idealize.ShloMosaic Idealize.ShloMosaic.TcCoe
open Idealize.SL.Sem
open Idealize.ShloMosaic.Pipeline (Dat Cfg Window)

variable (A : (pcfg0 (F := Ideal)).Adm) (m : (ℓ : Loc nD τ sig) → Buf (Elt Ideal) ℓ) (ρ : Dev nD → PrngReg)

/-! ## The grid -/

theorem crd_val : ∀ t : Fin grid0.N, (grid0.coords t 0).val = t.val / 40 ∧ (grid0.coords t 1).val = t.val % 40 := by decide +kernel

theorem tr0_eq : ∀ i : grid0.Coords, cc0_transform_0 i = ![(i 1).val, 0] := by decide +kernel
theorem tr2_eq : ∀ i : grid0.Coords, cc0_transform_2 i = ![(i 1).val, (i 0).val] := by decide +kernel
theorem tr3_eq : ∀ i : grid0.Coords, cc0_transform_3 i = ![(i 1).val, (i 0).val] := by decide +kernel
theorem tr4_eq : ∀ i : grid0.Coords, cc0_transform_4 i = ![(i 1).val, (i 0).val] := by decide +kernel

/-- The row block and the column block of a point. -/
abbrev rbk (t : Fin (cfgA A).N) : Fin 40 := ⟨(crd A t 1).val, (crd A t 1).isLt⟩
abbrev cbk (t : Fin (cfgA A).N) : Fin 4 := ⟨(crd A t 0).val, (crd A t 0).isLt⟩
/-- A row of a row block, a column of a column block. -/
def row (b : Fin 40) (i : Fin 512) : Fin 20480 := ⟨b.val * 512 + i.val, by omega⟩
def col (b : Fin 4) (j : Fin 512) : Fin 2048 := ⟨b.val * 512 + j.val, by omega⟩

theorem block_row (b : Fin 40) (i : Fin 512) : blockOf (row b i) = b := by
  apply Fin.ext
  show (b.val * 512 + i.val) / 512 = b.val
  omega

/-- The output is written back after every point. -/
theorem flush2 (t : Fin (cfgA A).N) : ((cfgA A).win (2 : Fin 5)).flush t = true := by
  rw [Window.flush_out _ rfl]
  by_cases h : t.val + 1 = (cfgA A).grid.N
  · exact .inl h
  · refine .inr ⟨lt_of_le_of_ne t.isLt h, fun e => ?_⟩
    have e' : cc0_transform_2 (grid0.coords ⟨t.val + 1, lt_of_le_of_ne t.isLt h⟩) = cc0_transform_2 (grid0.coords t) := e
    rw [tr2_eq, tr2_eq] at e'
    have e0 : (grid0.coords ⟨t.val + 1, lt_of_le_of_ne t.isLt h⟩ 1).val = (grid0.coords t 1).val := congrFun e' 0
    rw [(crd_val _).2, (crd_val _).2] at e0
    have e0' : (t.val + 1) % 40 = t.val % 40 := e0
    omega

/-- The output is written back after every point. -/
theorem flush3 (t : Fin (cfgA A).N) : ((cfgA A).win (3 : Fin 5)).flush t = true := by
  rw [Window.flush_out _ rfl]
  by_cases h : t.val + 1 = (cfgA A).grid.N
  · exact .inl h
  · refine .inr ⟨lt_of_le_of_ne t.isLt h, fun e => ?_⟩
    have e' : cc0_transform_3 (grid0.coords ⟨t.val + 1, lt_of_le_of_ne t.isLt h⟩) = cc0_transform_3 (grid0.coords t) := e
    rw [tr3_eq, tr3_eq] at e'
    have e0 : (grid0.coords ⟨t.val + 1, lt_of_le_of_ne t.isLt h⟩ 1).val = (grid0.coords t 1).val := congrFun e' 0
    rw [(crd_val _).2, (crd_val _).2] at e0
    have e0' : (t.val + 1) % 40 = t.val % 40 := e0
    omega

/-- The output is written back after every point. -/
theorem flush4 (t : Fin (cfgA A).N) : ((cfgA A).win (4 : Fin 5)).flush t = true := by
  rw [Window.flush_out _ rfl]
  by_cases h : t.val + 1 = (cfgA A).grid.N
  · exact .inl h
  · refine .inr ⟨lt_of_le_of_ne t.isLt h, fun e => ?_⟩
    have e' : cc0_transform_4 (grid0.coords ⟨t.val + 1, lt_of_le_of_ne t.isLt h⟩) = cc0_transform_4 (grid0.coords t) := e
    rw [tr4_eq, tr4_eq] at e'
    have e0 : (grid0.coords ⟨t.val + 1, lt_of_le_of_ne t.isLt h⟩ 1).val = (grid0.coords t 1).val := congrFun e' 0
    rw [(crd_val _).2, (crd_val _).2] at e0
    have e0' : (t.val + 1) % 40 = t.val % 40 := e0
    omega

/-- A point's row block is used where the routed product says so. -/
theorem used_iff (hp : Pinned A m) (c : Dev nD) (t : Fin (cfgA A).N) :
    UsedAt A t ↔ used (m ((c : Thread nD τ).loc main_arg1)) (rbk A t).val := by
  rw [(hp c).2]
  have e : nuW (T1 A) = T1 A (ix1 0) := by
    show T1 A _ = _
    exact congrArg (T1 A) ((eq_ix1 _).trans (congrArg ix1 (Subsingleton.elim _ _)))
  unfold UsedAt Used k0_cond2
  dsimp only
  rw [e]
  show Scalar.cmpi .ne (Scalar.extui (BitVec.ofBool ((BitVec.ofNat 32 (crd A t 1).val).slt (T1 A (ix1 0)))) : BitVec 32) 0#32 = 1#1
    ↔ (BitVec.ofNat 32 (crd A t 1).val).slt (T1 A (ix1 0)) = true
  generalize (BitVec.ofNat 32 (crd A t 1).val).slt (T1 A (ix1 0)) = b
  revert b
  decide

/-! ## The blocks, read at an element -/

theorem xb_at (c : Dev nD) (t : Fin (cfgA A).N) (i : Fin 512) (k : Fin 4096) :
    xb A m c t (ix2 i k) = m ((c : Thread nD τ).loc main_arg2) (ix2 (row (rbk A t) i) k) := by
  show m ((c : Thread nD τ).loc main_arg2) _ = _
  refine congrArg (m ((c : Thread nD τ).loc main_arg2)) (funext fun a => Fin.ext ?_)
  show cc0_transform_0 (crd A t) a * S512x4096.size a + 1 * (ix2 i k a).val = _
  rw [tr0_eq]
  match a with
  | ⟨0, _⟩ => show (crd A t 1).val * 512 + 1 * i.val = (crd A t 1).val * 512 + i.val; omega
  | ⟨1, _⟩ => show 0 * 4096 + 1 * k.val = k.val; omega

/-- The table's word at a point is the expert of its row block. -/
theorem word_eq (hE : ∀ x, (T0 A x).toNat < 8) (t : Fin (cfgA A).N) :
    (T0 A (at40 (crd A t 1).val (crd A t 1).isLt)).toNat = (expert (T0 A) (rbk A t)).val := by
  have e : at40 (crd A t 1).val (crd A t 1).isLt = ix1 (rbk A t) := by
    funext a
    match a with
    | ⟨0, _⟩ => rfl
  rw [e]
  exact (Nat.mod_eq_of_lt (hE (ix1 (rbk A t)))).symm

theorem gb_at (hE : ∀ x, (T0 A x).toNat < 8) (c : Dev nD) (t : Fin (cfgA A).N) (k : Fin 4096) (j : Fin 512) :
    gb A m c t (ix4 0 0 k j) = m ((c : Thread nD τ).loc main_arg3) (ix4 0 (expert (T0 A) (rbk A t)) k (col (cbk A t) j)) := by
  show m ((c : Thread nD τ).loc main_arg3) _ = _
  refine congrArg (m ((c : Thread nD τ).loc main_arg3)) (funext fun a => Fin.ext ?_)
  show cc0_transform_1 k0_off1_inb numel1_S1 A.1 (crd A t) a * S1x1x4096x512.size a + 1 * (ix4 (0 : Fin 1) (0 : Fin 1) k j a).val = _
  rw [ix1_eq, word_eq A hE t]
  match a with
  | ⟨0, _⟩ => rfl
  | ⟨1, _⟩ => show (expert (T0 A) (rbk A t)).val * 1 + 1 * 0 = (expert (T0 A) (rbk A t)).val; omega
  | ⟨2, _⟩ => show 0 * 4096 + 1 * k.val = k.val; omega
  | ⟨3, _⟩ => show (crd A t 0).val * 512 + 1 * j.val = (crd A t 0).val * 512 + j.val; omega

/-! ## The array -/

/-- What the output arrays are shown to hold. -/
abbrev G2 (c : Dev nD) : Buf (Elt Ideal) ((c : Thread nD τ).loc main_v0_0) :=
  down (m ((c : Thread nD τ).loc main_arg0)) (m ((c : Thread nD τ).loc main_arg1)) (m ((c : Thread nD τ).loc main_arg2)) (m ((c : Thread nD τ).loc main_arg3))
abbrev G3 (c : Dev nD) : Buf (Elt Ideal) ((c : Thread nD τ).loc main_v0_1) :=
  downMid (m ((c : Thread nD τ).loc main_arg0)) (m ((c : Thread nD τ).loc main_arg1)) (m ((c : Thread nD τ).loc main_arg2)) (m ((c : Thread nD τ).loc main_arg3))
abbrev G4 (c : Dev nD) : Buf (Elt Ideal) ((c : Thread nD τ).loc main_v0_2) :=
  downLow (m ((c : Thread nD τ).loc main_arg0)) (m ((c : Thread nD τ).loc main_arg1)) (m ((c : Thread nD τ).loc main_arg2)) (m ((c : Thread nD τ).loc main_arg3))

/-- A used point's product is its rectangle of the routed down-projection; -/
theorem prod_at (hp : Pinned A m) (hE : ∀ x, (T0 A x).toNat < 8) (c : Dev nD) (t : Fin (cfgA A).N) (h : UsedAt A t) (i j : Fin 512) :
    k0_pay2 (xb A m c t) (k0_pay1 (gb A m c t)) (ix2 i j) = G2 m c (ix2 (row (rbk A t) i) (col (cbk A t) j)) := by
  classical
  refine Eq.trans ?_ (down_at _ _ _ _ _ _ (rbk A t) (block_row _ _)).symm
  rw [if_pos ((used_iff A m hp c t).mp h), Pay.pay2_apply]
  simp only [Pay.pay1_apply]
  simp only [xb_at, gb_at A m hE]
  rw [(hp c).1]
/-- at an unused one the routed product is zero. -/
theorem none_at (hp : Pinned A m) (c : Dev nD) (t : Fin (cfgA A).N) (h : ¬ UsedAt A t) (i j : Fin 512) :
    G2 m c (ix2 (row (rbk A t) i) (col (cbk A t) j)) = (0 : EReal) := by
  classical
  refine (down_at _ _ _ _ _ _ (rbk A t) (block_row _ _)).trans ?_
  rw [if_neg fun q => h ((used_iff A m hp c t).mpr q)]

/-- So a point's output blocks are their rectangles. -/
theorem oblk2_at (hp : Pinned A m) (hE : ∀ x, (T0 A x).toNat < 8) (c : Dev nD) (t : Fin (cfgA A).N) (i j : Fin 512) :
    oblk2 A m c t (ix2 i j) = G2 m c (ix2 (row (rbk A t) i) (col (cbk A t) j)) := by
  unfold oblk2
  by_cases h : UsedAt A t
  · rw [if_pos h]
    have e := prod_at A m hp hE c t h i j
    exact (Pay.pay3_apply _ _ _).trans e
  · rw [if_neg h]
    have e := none_at A m hp c t h i j
    exact (Pay.pay7_apply _).trans e.symm
theorem oblk3_at (hp : Pinned A m) (hE : ∀ x, (T0 A x).toNat < 8) (c : Dev nD) (t : Fin (cfgA A).N) (i j : Fin 512) :
    oblk3 A m c t (ix2 i j) = G3 m c (ix2 (row (rbk A t) i) (col (cbk A t) j)) := by
  unfold oblk3
  by_cases h : UsedAt A t
  · rw [if_pos h]
    have e := prod_at A m hp hE c t h i j
    refine (Pay.pay5_apply _ _ _).trans ((Pay.pay4_apply _ _ _).trans ?_)
    rw [e]; rfl
  · rw [if_neg h]
    have e := none_at A m hp c t h i j
    refine (Pay.pay8_apply _).trans ?_
    exact (show (0 : EReal) = 0 - 0 from (sub_zero _).symm).trans (congrArg (fun z : EReal => z - z) e.symm)
theorem oblk4_at (hp : Pinned A m) (hE : ∀ x, (T0 A x).toNat < 8) (c : Dev nD) (t : Fin (cfgA A).N) (i j : Fin 512) :
    oblk4 A m c t (ix2 i j) = G4 m c (ix2 (row (rbk A t) i) (col (cbk A t) j)) := by
  unfold oblk4
  by_cases h : UsedAt A t
  · rw [if_pos h]
    have e := prod_at A m hp hE c t h i j
    refine (Pay.pay6_apply _ _ _).trans ?_
    rw [Pay.pay4_apply, e]; rfl
  · rw [if_neg h]
    have e := none_at A m hp c t h i j
    refine (Pay.pay9_apply _).trans ?_
    exact (show (0 : EReal) = (0 - 0) - (0 - 0) from by rw [sub_zero, sub_zero]).trans (congrArg (fun z : EReal => (z - z) - (z - z)) e.symm)

theorem flushed2_eq (hp : Pinned A m) (hE : ∀ x, (T0 A x).toNat < 8) (c : Dev nD) (t : Fin (cfgA A).N) :
    (dats A m 0 c).flushed (2 : Fin 5) t = (((cfgA A).win (2 : Fin 5)).blk t).view.read (Elt Ideal) (G2 m c) := by
  funext y
  obtain ⟨i, j, rfl⟩ : ∃ (i j : Fin 512), y = ix2 i j := ⟨y 0, y 1, eq_ix2 y⟩
  show oblk2 A m c t _ = G2 m c _
  refine (congrArg (oblk2 A m c t) ?_).trans ((oblk2_at A m hp hE c t i j).trans (congrArg (G2 m c) ?_))
  · funext a
    match a with
    | ⟨0, _⟩ => rfl
    | ⟨1, _⟩ => rfl
  · symm
    funext a
    apply Fin.ext
    show cc0_transform_2 (crd A t) a * S512x512.size a + 1 * (ix2 i j a).val = _
    rw [tr2_eq]
    match a with
    | ⟨0, _⟩ => show (crd A t 1).val * 512 + 1 * i.val = (crd A t 1).val * 512 + i.val; omega
    | ⟨1, _⟩ => show (crd A t 0).val * 512 + 1 * j.val = (crd A t 0).val * 512 + j.val; omega

theorem flushed3_eq (hp : Pinned A m) (hE : ∀ x, (T0 A x).toNat < 8) (c : Dev nD) (t : Fin (cfgA A).N) :
    (dats A m 0 c).flushed (3 : Fin 5) t = (((cfgA A).win (3 : Fin 5)).blk t).view.read (Elt Ideal) (G3 m c) := by
  funext y
  obtain ⟨i, j, rfl⟩ : ∃ (i j : Fin 512), y = ix2 i j := ⟨y 0, y 1, eq_ix2 y⟩
  show oblk3 A m c t _ = G3 m c _
  refine (congrArg (oblk3 A m c t) ?_).trans ((oblk3_at A m hp hE c t i j).trans (congrArg (G3 m c) ?_))
  · funext a
    match a with
    | ⟨0, _⟩ => rfl
    | ⟨1, _⟩ => rfl
  · symm
    funext a
    apply Fin.ext
    show cc0_transform_3 (crd A t) a * S512x512.size a + 1 * (ix2 i j a).val = _
    rw [tr3_eq]
    match a with
    | ⟨0, _⟩ => show (crd A t 1).val * 512 + 1 * i.val = (crd A t 1).val * 512 + i.val; omega
    | ⟨1, _⟩ => show (crd A t 0).val * 512 + 1 * j.val = (crd A t 0).val * 512 + j.val; omega

theorem flushed4_eq (hp : Pinned A m) (hE : ∀ x, (T0 A x).toNat < 8) (c : Dev nD) (t : Fin (cfgA A).N) :
    (dats A m 0 c).flushed (4 : Fin 5) t = (((cfgA A).win (4 : Fin 5)).blk t).view.read (Elt Ideal) (G4 m c) := by
  funext y
  obtain ⟨i, j, rfl⟩ : ∃ (i j : Fin 512), y = ix2 i j := ⟨y 0, y 1, eq_ix2 y⟩
  show oblk4 A m c t _ = G4 m c _
  refine (congrArg (oblk4 A m c t) ?_).trans ((oblk4_at A m hp hE c t i j).trans (congrArg (G4 m c) ?_))
  · funext a
    match a with
    | ⟨0, _⟩ => rfl
    | ⟨1, _⟩ => rfl
  · symm
    funext a
    apply Fin.ext
    show cc0_transform_4 (crd A t) a * S512x512.size a + 1 * (ix2 i j a).val = _
    rw [tr4_eq]
    match a with
    | ⟨0, _⟩ => show (crd A t 1).val * 512 + 1 * i.val = (crd A t 1).val * 512 + i.val; omega
    | ⟨1, _⟩ => show (crd A t 0).val * 512 + 1 * j.val = (crd A t 0).val * 512 + j.val; omega

/-- The point whose block holds a place of the output array. -/
def ptOf (i : S20480x2048.Idx) : Fin grid0.N :=
  ⟨(i 1).val / 512 * 40 + (i 0).val / 512, lt_of_lt_of_eq (by
    have h0 : (i 0).val < 20480 := (i 0).isLt
    have h1 : (i 1).val < 2048 := (i 1).isLt
    omega) N_0.symm⟩

theorem covered2 (i : S20480x2048.Idx) : i ∈ (((cfgA A).win (2 : Fin 5)).blk (ptOf i)).view.set := by
  show i ∈ ((View.whole main_v0_0).slice (((cfgA A).win (2 : Fin 5)).rect (ptOf i))).set
  rw [View.set_slice_whole]
  show i ∈ (Rect.unit (s := S20480x2048) _ S512x512.size _).set
  rw [Rect.mem_set_unit]
  have h0 : (i 0).val < 20480 := (i 0).isLt
  have h1 : (i 1).val < 2048 := (i 1).isLt
  intro a
  show cc0_transform_2 (grid0.coords (ptOf i)) a * S512x512.size a ≤ (i a).val ∧ (i a).val < cc0_transform_2 (grid0.coords (ptOf i)) a * S512x512.size a + S512x512.size a
  rw [tr2_eq, (crd_val _).1, (crd_val _).2]
  match a with
  | ⟨0, _⟩ =>
    show ((i 1).val / 512 * 40 + (i 0).val / 512) % 40 * 512 ≤ (i 0).val ∧ (i 0).val < ((i 1).val / 512 * 40 + (i 0).val / 512) % 40 * 512 + 512
    omega
  | ⟨1, _⟩ =>
    show ((i 1).val / 512 * 40 + (i 0).val / 512) / 40 * 512 ≤ (i 1).val ∧ (i 1).val < ((i 1).val / 512 * 40 + (i 0).val / 512) / 40 * 512 + 512
    omega

theorem final2 (hp : Pinned A m) (hE : ∀ x, (T0 A x).toNat < 8) (c : Dev nD) : (dats A m 0 c).arrAt (2 : Fin 5) (cfgA A).N = G2 m c :=
  (dats A m 0 c).arrAt_eq_of_cover (2 : Fin 5) _ (fun t _ => flushed2_eq A m hp hE c t) (fun i => ⟨ptOf i, flush2 A _, covered2 A i⟩)

theorem covered3 (i : S20480x2048.Idx) : i ∈ (((cfgA A).win (3 : Fin 5)).blk (ptOf i)).view.set := by
  show i ∈ ((View.whole main_v0_1).slice (((cfgA A).win (3 : Fin 5)).rect (ptOf i))).set
  rw [View.set_slice_whole]
  show i ∈ (Rect.unit (s := S20480x2048) _ S512x512.size _).set
  rw [Rect.mem_set_unit]
  have h0 : (i 0).val < 20480 := (i 0).isLt
  have h1 : (i 1).val < 2048 := (i 1).isLt
  intro a
  show cc0_transform_3 (grid0.coords (ptOf i)) a * S512x512.size a ≤ (i a).val ∧ (i a).val < cc0_transform_3 (grid0.coords (ptOf i)) a * S512x512.size a + S512x512.size a
  rw [tr3_eq, (crd_val _).1, (crd_val _).2]
  match a with
  | ⟨0, _⟩ =>
    show ((i 1).val / 512 * 40 + (i 0).val / 512) % 40 * 512 ≤ (i 0).val ∧ (i 0).val < ((i 1).val / 512 * 40 + (i 0).val / 512) % 40 * 512 + 512
    omega
  | ⟨1, _⟩ =>
    show ((i 1).val / 512 * 40 + (i 0).val / 512) / 40 * 512 ≤ (i 1).val ∧ (i 1).val < ((i 1).val / 512 * 40 + (i 0).val / 512) / 40 * 512 + 512
    omega

theorem final3 (hp : Pinned A m) (hE : ∀ x, (T0 A x).toNat < 8) (c : Dev nD) : (dats A m 0 c).arrAt (3 : Fin 5) (cfgA A).N = G3 m c :=
  (dats A m 0 c).arrAt_eq_of_cover (3 : Fin 5) _ (fun t _ => flushed3_eq A m hp hE c t) (fun i => ⟨ptOf i, flush3 A _, covered3 A i⟩)

theorem covered4 (i : S20480x2048.Idx) : i ∈ (((cfgA A).win (4 : Fin 5)).blk (ptOf i)).view.set := by
  show i ∈ ((View.whole main_v0_2).slice (((cfgA A).win (4 : Fin 5)).rect (ptOf i))).set
  rw [View.set_slice_whole]
  show i ∈ (Rect.unit (s := S20480x2048) _ S512x512.size _).set
  rw [Rect.mem_set_unit]
  have h0 : (i 0).val < 20480 := (i 0).isLt
  have h1 : (i 1).val < 2048 := (i 1).isLt
  intro a
  show cc0_transform_4 (grid0.coords (ptOf i)) a * S512x512.size a ≤ (i a).val ∧ (i a).val < cc0_transform_4 (grid0.coords (ptOf i)) a * S512x512.size a + S512x512.size a
  rw [tr4_eq, (crd_val _).1, (crd_val _).2]
  match a with
  | ⟨0, _⟩ =>
    show ((i 1).val / 512 * 40 + (i 0).val / 512) % 40 * 512 ≤ (i 0).val ∧ (i 0).val < ((i 1).val / 512 * 40 + (i 0).val / 512) % 40 * 512 + 512
    omega
  | ⟨1, _⟩ =>
    show ((i 1).val / 512 * 40 + (i 0).val / 512) / 40 * 512 ≤ (i 1).val ∧ (i 1).val < ((i 1).val / 512 * 40 + (i 0).val / 512) / 40 * 512 + 512
    omega

theorem final4 (hp : Pinned A m) (hE : ∀ x, (T0 A x).toNat < 8) (c : Dev nD) : (dats A m 0 c).arrAt (4 : Fin 5) (cfgA A).N = G4 m c :=
  (dats A m 0 c).arrAt_eq_of_cover (4 : Fin 5) _ (fun t _ => flushed4_eq A m hp hE c t) (fun i => ⟨ptOf i, flush4 A _, covered4 A i⟩)

/-- THE VALUE: under the precondition the output arrays hold the routed down-projection and what its two roundings leave, and
    the arguments are as they were. -/
theorem value (h : Cert.Pre_MoeDownIdeal m) : θ_run (defs (F := Ideal)) (onTc (τ := τ) (main (F := Ideal))) ⟨m, fun _ => 0, ρ⟩ (fun r => ∀ c : Dev nD,
      r.2.mem ((c.tc : Thread nD τ).loc main_v0_0) = G2 m c
      ∧ r.2.mem ((c.tc : Thread nD τ).loc main_v0_1) = G3 m c
      ∧ r.2.mem ((c.tc : Thread nD τ).loc main_v0_2) = G4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ q c =>
      have hp := pinned m (range_of_pre m h)
      have hE := range_of_pre m h
      ⟨(q.1 c).1.trans (final2 _ m hp hE c), (q.1 c).2.1.trans (final3 _ m hp hE c), (q.1 c).2.2.1.trans (final4 _ m hp hE c), (q.1 c).2.2.2⟩)
    (post (tables m (range_of_pre m h)) m ρ (pinned m (range_of_pre m h)))

end Cert.MoeDownIdeal.Hand
end
-- ==== Proof.MoeDownRef.lean ====
/- The expert down-projection's reference, read at an element: the sum over the eight experts has one term that is not zero. -/
module

public import proofs.«01_k».proof.Defs
public import proofs.«01_k».proof.Proof.Gen.MoeDownRefIdeal.Read
public import proofs.«01_k».proof.Proof.Spec
public import Idealize.ShloMosaic.Lib.Pointwise
public import Idealize.ShloMosaic.PureOps.Ideal
public import Idealize.ShloMosaic.Init

@[expose] public section

set_option maxRecDepth 16384

noncomputable section

namespace Cert.MoeDownRefIdeal.Ref
open Cert.MoeDownRefIdeal Cert.MoeDownRefIdeal.Gen Cert.MoeDownRefIdeal.Read Cert.Spec
open Idealize.ShloMosaic

variable (x0 : Vec Ideal S40 .i32) (x1 : Vec Ideal S1 .i32) (x2 : Vec Ideal S20480x4096 .bf16) (x3 : Vec Ideal S2x8x4096x2048 .f32)

theorem v4_at (e : Fin 8) (r : Fin 20480) (n : Fin 2048) :
    val_main_v4 (F := Ideal) x2 x3 (ix3 e r n) = ∑ k : Fin 4096, x3 (ix4 0 e k n) * x2 (ix2 r k) := by
  pointwise [val_main_v4, val_main_v3, val_main_v2, val_main_v1, val_main_v0]
theorem v7_at (r : Fin 20480) : val_main_v7 (F := Ideal) x0 (ix1 r) = x0 (ix1 (blockOf r)) := by
  pointwise [val_main_v7, val_main_v6, val_main_v5, blockOf]
theorem v14_at (r : Fin 20480) : val_main_v14 (F := Ideal) x1 (ix1 r) = IntOp.cmpi .slt (BitVec.ofNat 32 (blockOf r).val) (x1 (ix1 0)) := by
  pointwise [val_main_v14, val_main_v13, val_main_v12, val_main_v11, val_main_v10, val_main_v9, val_main_v8, blockOf]
theorem v23_at (e : Fin 8) (r : Fin 20480) : val_main_v23 (F := Ideal) x0 x1 (ix2 e r)
    = IntOp.andi (IntOp.cmpi .eq (val_main_v7 (F := Ideal) x0 (ix1 r)) (BitVec.ofNat 32 e.val)) (val_main_v14 (F := Ideal) x1 (ix1 r)) := by
  pointwise [val_main_v23, val_main_v22, val_main_v21, val_main_v20, val_main_v19, val_main_v18, val_main_v17, val_main_v16, val_main_v15]
theorem v25_at (e : Fin 8) (r : Fin 20480) (n : Fin 2048) : val_main_v25 (F := Ideal) x0 x1 x2 x3 (ix3 e r n)
    = if val_main_v23 (F := Ideal) x0 x1 (ix2 e r) = 1#1 then val_main_v4 (F := Ideal) x2 x3 (ix3 e r n) else (0 : EReal) := by
  pointwise [val_main_v25, val_main_call0_v2, val_main_call0_v1, val_main_call0_v0, val_main_cst, val_main_v24]
  refine congrArg (fun z => Scalar.select _ _ z) ?_
  rw [id_eq]
  pointwise []
theorem v26_at (r : Fin 20480) (n : Fin 2048) : val_main_v26 (F := Ideal) x0 x1 x2 x3 (ix2 r n)
    = ∑ e : Fin 8, val_main_v25 (F := Ideal) x0 x1 x2 x3 (ix3 e r n) := by
  pointwise [val_main_v26, val_main_cst_0]

/-- The reference's sum is the routed down-projection; -/
theorem v26_eq (h : ∀ x, (x0 x).toNat < 8) : val_main_v26 (F := Ideal) x0 x1 x2 x3 = down x0 x1 x2 x3 := by
  classical
  funext i
  obtain ⟨r, n, rfl⟩ : ∃ (r : Fin 20480) (n : Fin 2048), i = ix2 r n := ⟨i 0, i 1, eq_ix2 i⟩
  rw [v26_at]
  simp only [v25_at, v23_at, v7_at, v14_at, v4_at]
  rw [sum_mask x0 x1 h (blockOf r)]
  show _ = ite _ _ _
  refine if_congr Iff.rfl ?_ rfl
  simp only [mul_comm (x3 _) _]
  rfl

/-- its three results are that sum and what the two roundings leave. -/
theorem hi_eq (h : ∀ x, (x0 x).toNat < 8) : val_main_v27 (F := Ideal) x0 x1 x2 x3 = down x0 x1 x2 x3 :=
  (show _ = val_main_v26 (F := Ideal) x0 x1 x2 x3 from rfl).trans (v26_eq x0 x1 x2 x3 h)
theorem mid_eq (h : ∀ x, (x0 x).toNat < 8) : val_main_v30 (F := Ideal) x0 x1 x2 x3 = downMid x0 x1 x2 x3 := by
  have e := v26_eq x0 x1 x2 x3 h
  funext i
  show (val_main_v26 (F := Ideal) x0 x1 x2 x3 i : EReal) - val_main_v26 (F := Ideal) x0 x1 x2 x3 i = _
  rw [e]
  rfl
theorem low_eq (h : ∀ x, (x0 x).toNat < 8) : val_main_v33 (F := Ideal) x0 x1 x2 x3 = downLow x0 x1 x2 x3 := by
  have e := mid_eq x0 x1 x2 x3 h
  funext i
  show (val_main_v30 (F := Ideal) x0 x1 x2 x3 i : EReal) - val_main_v30 (F := Ideal) x0 x1 x2 x3 i = _
  rw [e]
  rfl

end Cert.MoeDownRefIdeal.Ref
end
-- ==== Proof.SpecFfn.lean ====
/- What the shared feed-forward calls and the branch merge compute, as functions on whole arrays. -/
module

public import proofs.«01_k».proof.Defs
public import proofs.«01_k».proof.Proof.Spec
public import Idealize.ShloMosaic.Lib.Pointwise
public import Idealize.ShloMosaic.PureOps.Ideal
public import Idealize.ShloMosaic.Init

@[expose] public section

set_option maxRecDepth 16384

noncomputable section

namespace Cert.Spec
open Idealize.ShloMosaic

/-- The gated up-projection: `silu` of the product with the first weights, times the product with the second. -/
def ffnUp (x : Vec Ideal ⟨2, ![8192, 2048]⟩ .bf16) (wg wu : Vec Ideal ⟨3, ![2, 2048, 5632]⟩ .f32) : Vec Ideal ⟨2, ![8192, 5632]⟩ .bf16 := fun i =>
  silu (∑ k : Fin 2048, x (ix2 (i 0) k) * wg (ix3 0 k (i 1))) * (∑ k : Fin 2048, x (ix2 (i 0) k) * wu (ix3 0 k (i 1)))

/-- The down-projection: a product with the weights. -/
def ffnDown (h : Vec Ideal ⟨2, ![8192, 5632]⟩ .bf16) (wd : Vec Ideal ⟨3, ![2, 5632, 2048]⟩ .f32) : Vec Ideal ⟨2, ![8192, 2048]⟩ .f32 := fun i =>
  ∑ k : Fin 5632, h (ix2 (i 0) k) * wd (ix3 0 k (i 1))

/-- `1/(1 + exp(-x))`. -/
def sigm (x : EReal) : EReal := Ideal.div 1 (1 + Ideal.exp (-x))

/-- A column of branch `b`'s part of the gate weights. -/
def gcol (b : Fin 4) (n : Fin 2048) : Fin 8192 := ⟨b.val * 2048 + n.val, by omega⟩

/-- One branch's gate, and its projection. -/
def gate (x : Vec Ideal ⟨2, ![8192, 2048]⟩ .bf16) (wg : Vec Ideal ⟨3, ![4, 2048, 8192]⟩ .f32) (b : Fin 4) (r : Fin 8192) (n : Fin 2048) : EReal :=
  sigm (∑ k : Fin 2048, x (ix2 r k) * wg (ix3 0 k (gcol b n)))
def proj (o : Vec Ideal ⟨2, ![8192, 512]⟩ .f32) (w : Vec Ideal ⟨4, ![4, 4, 512, 2048]⟩ .f32) (b : Fin 4) (r : Fin 8192) (n : Fin 2048) : EReal :=
  ∑ q : Fin 512, o (ix2 r q) * w (ix4 0 b q n)

/-- The gated sum of the four branches' projections. -/
def merge (x : Vec Ideal ⟨2, ![8192, 2048]⟩ .bf16) (o0 o1 o2 o3 : Vec Ideal ⟨2, ![8192, 512]⟩ .f32) (wg : Vec Ideal ⟨3, ![4, 2048, 8192]⟩ .f32)
    (w : Vec Ideal ⟨4, ![4, 4, 512, 2048]⟩ .f32) : Vec Ideal ⟨2, ![8192, 2048]⟩ .bf16 := fun i =>
  gate x wg 0 (i 0) (i 1) * proj o0 w 0 (i 0) (i 1) + gate x wg 1 (i 0) (i 1) * proj o1 w 1 (i 0) (i 1)
    + gate x wg 2 (i 0) (i 1) * proj o2 w 2 (i 0) (i 1) + gate x wg 3 (i 0) (i 1) * proj o3 w 3 (i 0) (i 1)

end Cert.Spec
end
-- ==== Proof.FfnUpIdealValue.lean ====
/- What the gated up-projection's output array holds after the run: `ffnUp` of the arguments.
   The grid runs the eight row blocks of one column block before the next. The first narrows the column block's weights into
   the two scratches; the others find them there. So after every point the scratches hold the weights of that point's own
   column block, and the point's output block is the payload of its own rectangles of the arrays. -/
module

public import proofs.«01_k».proof.Defs
public import proofs.«01_k».proof.Proof.Gen.FfnUpIdeal
public import proofs.«01_k».proof.Proof.Gen.FfnUpIdeal.Skeleton
public import proofs.«01_k».proof.Proof.Gen.FfnUpIdeal.Frame
public import proofs.«01_k».proof.Proof.Gen.FfnUpIdeal.Value
public import proofs.«01_k».proof.Proof.SpecFfn
public import Idealize.ShloMosaic.Lib.Pointwise
public import Idealize.ShloMosaic.Lib.Pipeline.Value
public import Idealize.ShloMosaic.Lib.Writes
public import Idealize.ShloMosaic.Lib.Exec
public import Idealize.ShloMosaic.Lib.Tactic
public import Idealize.ShloMosaic.PureOps.Ideal
public import Idealize.ShloMosaic.Init

@[expose] public section

set_option maxRecDepth 16384

noncomputable section

namespace Cert.FfnUpIdeal.Hand

open Cert.FfnUpIdeal Cert.FfnUpIdeal.Gen Cert.FfnUpIdeal.Value Cert.Spec
open Idealize.ShloMosaic Idealize.ShloMosaic.TcCoe Idealize.ShloMosaic.Tactic
open Idealize.SL.Sem
open Idealize.ShloMosaic.Pipeline (Dat Cfg Window)

/-! ## The payloads, read at an element -/

theorem pay1_apply (w : Vec Ideal S1x2048x512 .f32) (k : Fin 2048) (n : Fin 512) : k0_pay1 (F := Ideal) w (ix2 k n) = w (ix3 0 k n) := by
  pointwise [k0_pay1]
theorem pay2_apply (w : Vec Ideal S1x2048x512 .f32) (k : Fin 2048) (n : Fin 512) : k0_pay2 (F := Ideal) w (ix2 k n) = w (ix3 0 k n) := by
  pointwise [k0_pay2]
theorem pay3_apply (x : Vec Ideal S1024x2048 .bf16) (g u : Vec Ideal S2048x512 .bf16) (i : Fin 1024) (j : Fin 512) :
    k0_pay3 (F := Ideal) x g u (ix2 i j)
      = silu (∑ k : Fin 2048, x (ix2 i k) * g (ix2 k j)) * (∑ k : Fin 2048, x (ix2 i k) * u (ix2 k j)) := by
  pointwise [k0_pay3, silu]
  rw [zero_sub]

/-! ## What each path leaves: its run's contents in closed form -/

section Paths
variable (c : Dev nD) (i : grid0.Coords) (arg2 : Memref sig .tc .vmem S1024x2048 .bf16) (harg2 : arg2.IsWhole)
  (arg3 : Memref sig .tc .vmem S1x2048x512 .f32) (harg3 : arg3.IsWhole) (arg4 : Memref sig .tc .vmem S1x2048x512 .f32) (harg4 : arg4.IsWhole)
  (arg5 : Memref sig .tc .vmem S1024x512 .bf16) (harg5 : arg5.IsWhole) (arg6 : Memref sig .tc .vmem S2048x512 .bf16) (harg6 : arg6.IsWhole)
  (arg7 : Memref sig .tc .vmem S2048x512 .bf16) (harg7 : arg7.IsWhole)
  (x0 : Vec Ideal S1024x2048 .bf16) (x1 x2 : Vec Ideal S1x2048x512 .f32) (xs0 xs1 : Vec Ideal S2048x512 .bf16)

theorem hz2 : (![0, 0] : Fin 2 → ℕ) = fun _ => 0 := by decide
theorem hz3 : (![0, 0, 0] : Fin 3 → ℕ) = fun _ => 0 := by decide

/-- A load of a whole block reads the block. -/
theorem ld_x (arg : Memref sig .tc .vmem S1024x2048 .bf16) (h : arg.IsWhole) (x : S1024x2048.Idx → Elt Ideal .bf16) :
    View.readAt (Elt Ideal) arg.view (Rect.unit (s := S1024x2048) ![0, 0] S1024x2048.size inb_S1024x2048_S1024x2048_0_0).toLoadRect (h.unread x) = x := by
  rw [View.readAt_eq_ld, h.read_unread, View.ld_unit_zero hz2]
theorem ld_w (arg : Memref sig .tc .vmem S1x2048x512 .f32) (h : arg.IsWhole) (x : S1x2048x512.Idx → Elt Ideal .f32) :
    View.readAt (Elt Ideal) arg.view (Rect.unit (s := S1x2048x512) ![0, 0, 0] S1x2048x512.size inb_S1x2048x512_S1x2048x512_0_0_0).toLoadRect (h.unread x) = x := by
  rw [View.readAt_eq_ld, h.read_unread, View.ld_unit_zero hz3]
theorem ld_s (arg : Memref sig .tc .vmem S2048x512 .bf16) (h : arg.IsWhole) (x : S2048x512.Idx → Elt Ideal .bf16) :
    View.readAt (Elt Ideal) arg.view (Rect.unit (s := S2048x512) ![0, 0] S2048x512.size inb_S2048x512_S2048x512_0_0).toLoadRect (h.unread x) = x := by
  rw [View.readAt_eq_ld, h.read_unread, View.ld_unit_zero hz2]

theorem out_A (hc0) : out0_A_3 (F := Ideal) c i arg2 harg2 arg3 harg3 arg4 harg4 arg5 harg5 arg6 harg6 arg7 harg7 hc0 x0 x1 x2
    = k0_pay3 x0 (k0_pay1 x1) (k0_pay2 x2) := by
  unfold out0_A_3
  rw [View.read_writes_junk_eq_canon]
  unfold kernelRun0_A
  dsimp only
  sl_unfold_words
  rw [View.canon_unit_zero hz2, View.readCov_unit_zero (S := S2048x512) _ hz2, View.readCov_unit_zero (S := S2048x512) _ hz2,
    ld_x, ld_w, ld_w]
theorem scr0_A (hc0) : sout0_A_0 (F := Ideal) c i arg2 harg2 arg3 harg3 arg4 harg4 arg5 harg5 arg6 harg6 arg7 harg7 hc0 x0 x1 x2
    = k0_pay1 x1 := by
  unfold sout0_A_0
  rw [View.read_writes_junk_eq_canon]
  unfold kernelRun0_A
  dsimp only
  sl_unfold_words
  exact (View.canon_unit_zero (S := S2048x512) hz2 inb_S2048x512_S2048x512_0_0 _).trans (congrArg k0_pay1 (ld_w _ _ _))
theorem scr1_A (hc0) : sout0_A_1 (F := Ideal) c i arg2 harg2 arg3 harg3 arg4 harg4 arg5 harg5 arg6 harg6 arg7 harg7 hc0 x0 x1 x2
    = k0_pay2 x2 := by
  unfold sout0_A_1
  rw [View.read_writes_junk_eq_canon]
  unfold kernelRun0_A
  dsimp only
  sl_unfold_words
  exact (View.canon_unit_zero (S := S2048x512) hz2 inb_S2048x512_S2048x512_0_0 _).trans (congrArg k0_pay2 (ld_w _ _ _))
theorem out_B (hc0) : out0_B_3 (F := Ideal) c i arg2 harg2 arg3 harg3 arg4 harg4 arg5 harg5 arg6 harg6 arg7 harg7 hc0 x0 x1 x2 xs0 xs1
    = k0_pay3 x0 xs0 xs1 := by
  unfold out0_B_3
  rw [View.read_writes_junk_eq_canon]
  unfold kernelRun0_B
  dsimp only
  sl_unfold_words
  rw [View.canon_unit_zero hz2, ld_x, ld_s, ld_s]
end Paths

variable (m : (ℓ : Loc nD τ sig) → Buf (Elt Ideal) ℓ) (ρ : Dev nD → PrngReg)

/-! ## The grid -/

theorem crd_val : ∀ t : Fin grid0.N, (grid0.coords t 0).val = t.val / 8 ∧ (grid0.coords t 1).val = t.val % 8 := by decide +kernel

theorem tr0_eq : ∀ i : grid0.Coords, cc0_transform_0 i = ![(i 1).val, 0] := by decide +kernel
theorem tr1_eq : ∀ i : grid0.Coords, cc0_transform_1 i = ![0, 0, (i 0).val] := by decide +kernel
theorem tr2_eq : ∀ i : grid0.Coords, cc0_transform_2 i = ![0, 0, (i 0).val] := by decide +kernel
theorem tr3_eq : ∀ i : grid0.Coords, cc0_transform_3 i = ![(i 1).val, (i 0).val] := by decide +kernel

theorem N88 : cfg0.N = 88 := by decide +kernel

/-- A row of point `n`'s row block, a column of its column block. -/
def row (n : ℕ) (i : Fin 1024) : Fin 8192 := ⟨n % 8 * 1024 + i.val, by omega⟩
def col (n : ℕ) (hn : n < cfg0.N) (j : Fin 512) : Fin 5632 := ⟨n / 8 * 512 + j.val, by have := N88; omega⟩

theorem x_at (c : Dev nD) (t : Fin cfg0.N) (i : Fin 1024) (k : Fin 2048) :
    iblk m c 0 t (ix2 i k) = m ((c : Thread nD τ).loc main_arg0) (ix2 (row t.val i) k) := by
  show m ((c : Thread nD τ).loc main_arg0) _ = _
  refine congrArg (m ((c : Thread nD τ).loc main_arg0)) (funext fun a => Fin.ext ?_)
  show cc0_transform_0 (grid0.coords t) a * S1024x2048.size a + 1 * (ix2 i k a).val = _
  rw [tr0_eq, (crd_val t).2]
  match a with
  | ⟨0, _⟩ => show t.val % 8 * 1024 + 1 * i.val = t.val % 8 * 1024 + i.val; omega
  | ⟨1, _⟩ => show 0 * 2048 + 1 * k.val = k.val; omega
theorem g_at (c : Dev nD) (t : Fin cfg0.N) (k : Fin 2048) (j : Fin 512) :
    iblk m c 1 t (ix3 0 k j) = m ((c : Thread nD τ).loc main_arg1) (ix3 0 k (col t.val t.isLt j)) := by
  show m ((c : Thread nD τ).loc main_arg1) _ = _
  refine congrArg (m ((c : Thread nD τ).loc main_arg1)) (funext fun a => Fin.ext ?_)
  show cc0_transform_1 (grid0.coords t) a * S1x2048x512.size a + 1 * (ix3 (0 : Fin 1) k j a).val = _
  rw [tr1_eq, (crd_val t).1]
  match a with
  | ⟨0, _⟩ => rfl
  | ⟨1, _⟩ => show 0 * 2048 + 1 * k.val = k.val; omega
  | ⟨2, _⟩ => show t.val / 8 * 512 + 1 * j.val = t.val / 8 * 512 + j.val; omega
theorem u_at (c : Dev nD) (t : Fin cfg0.N) (k : Fin 2048) (j : Fin 512) :
    iblk m c 2 t (ix3 0 k j) = m ((c : Thread nD τ).loc main_arg2) (ix3 0 k (col t.val t.isLt j)) := by
  show m ((c : Thread nD τ).loc main_arg2) _ = _
  refine congrArg (m ((c : Thread nD τ).loc main_arg2)) (funext fun a => Fin.ext ?_)
  show cc0_transform_2 (grid0.coords t) a * S1x2048x512.size a + 1 * (ix3 (0 : Fin 1) k j a).val = _
  rw [tr2_eq, (crd_val t).1]
  match a with
  | ⟨0, _⟩ => rfl
  | ⟨1, _⟩ => show 0 * 2048 + 1 * k.val = k.val; omega
  | ⟨2, _⟩ => show t.val / 8 * 512 + 1 * j.val = t.val / 8 * 512 + j.val; omega

/-! ## The scratches and the output block after each point -/

theorem scr_step (c : Dev nD) (t : Fin cfg0.N) (h0 : ¬ t.val % 8 = 0) :
    (outsAt0 m c t.val t.isLt).2.1 = (outsAt0 m c (t.val - 1) (Nat.lt_of_le_of_lt (Nat.sub_le _ _) t.isLt)).2.1
    ∧ (outsAt0 m c t.val t.isLt).2.2 = (outsAt0 m c (t.val - 1) (Nat.lt_of_le_of_lt (Nat.sub_le _ _) t.isLt)).2.2 := by
  rw [outsAt0_B m c t h0]
  exact ⟨rfl, rfl⟩

theorem scr (c : Dev nD) (n : ℕ) (hn : n < cfg0.N) (k : Fin 2048) (j : Fin 512) :
    (outsAt0 m c n hn).2.1 (ix2 k j) = m ((c : Thread nD τ).loc main_arg1) (ix3 0 k (col n hn j))
    ∧ (outsAt0 m c n hn).2.2 (ix2 k j) = m ((c : Thread nD τ).loc main_arg2) (ix3 0 k (col n hn j)) := by
  induction n with
  | zero =>
    have e := outsAt0_A m c ⟨0, hn⟩ rfl
    rw [show outsAt0 m c 0 hn = _ from e]
    dsimp only
    rw [scr0_A, scr1_A, pay1_apply, pay2_apply]
    exact ⟨g_at m c ⟨0, hn⟩ k j, u_at m c ⟨0, hn⟩ k j⟩
  | succ n ih =>
    by_cases h0 : (n + 1) % 8 = 0
    · have e := outsAt0_A m c ⟨n + 1, hn⟩ h0
      rw [show outsAt0 m c (n + 1) hn = _ from e]
      dsimp only
      rw [scr0_A, scr1_A, pay1_apply, pay2_apply]
      exact ⟨g_at m c ⟨n + 1, hn⟩ k j, u_at m c ⟨n + 1, hn⟩ k j⟩
    · have e := scr_step m c ⟨n + 1, hn⟩ h0
      have i := ih (Nat.lt_of_succ_lt hn)
      have ec : col n (Nat.lt_of_succ_lt hn) j = col (n + 1) hn j := Fin.ext (by
        show n / 8 * 512 + j.val = (n + 1) / 8 * 512 + j.val
        omega)
      rw [ec] at i
      exact ⟨(congrFun e.1 _).trans i.1, (congrFun e.2 _).trans i.2⟩

/-- What the output array is shown to hold. -/
abbrev G (c : Dev nD) : Buf (Elt Ideal) ((c : Thread nD τ).loc main_v0) :=
  ffnUp (m ((c : Thread nD τ).loc main_arg0)) (m ((c : Thread nD τ).loc main_arg1)) (m ((c : Thread nD τ).loc main_arg2))

theorem ffnUp_at (x : Vec Ideal ⟨2, ![8192, 2048]⟩ .bf16) (wg wu : Vec Ideal ⟨3, ![2, 2048, 5632]⟩ .f32) (r : Fin 8192) (n : Fin 5632) :
    ffnUp x wg wu (ix2 r n) = silu (∑ k : Fin 2048, x (ix2 r k) * wg (ix3 0 k n)) * (∑ k : Fin 2048, x (ix2 r k) * wu (ix3 0 k n)) := rfl

theorem out_eq (c : Dev nD) (t : Fin cfg0.N) :
    (outsAt0 m c t.val t.isLt).1 = k0_pay3 (F := Ideal) (iblk m c 0 t) (outsAt0 m c t.val t.isLt).2.1 (outsAt0 m c t.val t.isLt).2.2 := by
  by_cases h0 : t.val % 8 = 0
  · rw [outsAt0_A m c t h0]
    dsimp only
    rw [out_A, scr0_A, scr1_A]
  · have e := scr_step m c t h0
    rw [e.1, e.2, outsAt0_B m c t h0]
    dsimp only
    rw [out_B]

theorem oblk_at (c : Dev nD) (t : Fin cfg0.N) (i : Fin 1024) (j : Fin 512) :
    (outsAt0 m c t.val t.isLt).1 (ix2 i j) = G m c (ix2 (row t.val i) (col t.val t.isLt j)) := by
  refine Eq.trans ?_ (ffnUp_at _ _ _ _ _).symm
  rw [out_eq, pay3_apply]
  simp only [(scr m c t.val t.isLt _ j).1, (scr m c t.val t.isLt _ j).2, x_at]

theorem flushed_eq (c : Dev nD) (t : Fin cfg0.N) :
    (dats m 0 c).flushed 3 t = ((cfg0.win 3).blk t).view.read (Elt Ideal) (G m c) := by
  rw [flushed3]
  funext y
  obtain ⟨i, j, rfl⟩ : ∃ (i : Fin 1024) (j : Fin 512), y = ix2 i j := ⟨y 0, y 1, eq_ix2 y⟩
  show (outsAt0 m c t.val t.isLt).1 _ = G m c _
  refine (congrArg (outsAt0 m c t.val t.isLt).1 ?_).trans ((oblk_at m c t i j).trans (congrArg (G m c) ?_))
  · funext a
    match a with
    | ⟨0, _⟩ => rfl
    | ⟨1, _⟩ => rfl
  · symm
    funext a
    apply Fin.ext
    show cc0_transform_3 (grid0.coords t) a * S1024x512.size a + 1 * (ix2 i j a).val = _
    rw [tr3_eq, (crd_val t).1, (crd_val t).2]
    match a with
    | ⟨0, _⟩ => show t.val % 8 * 1024 + 1 * i.val = t.val % 8 * 1024 + i.val; omega
    | ⟨1, _⟩ => show t.val / 8 * 512 + 1 * j.val = t.val / 8 * 512 + j.val; omega

theorem final (c : Dev nD) : (dats m 0 c).arrAt 3 cfg0.N = G m c :=
  (dats m 0 c).arrAt_eq_of_cover 3 _ (fun t _ => flushed_eq m c t) (fun i => (covered_iff3 i).2 (by
    have h0 : (i 0).val < 8192 := (i 0).isLt; have h1 : (i 1).val < 5632 := (i 1).isLt; omega))

/-- THE VALUE: the output array holds the gated up-projection and the arguments are as they were. -/
theorem value : θ_run (defs (F := Ideal)) (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (final m c), (h c).2⟩) (run_blocks m ρ)

end Cert.FfnUpIdeal.Hand
end
-- ==== Proof.FfnUpRef.lean ====
/- The up-projection's reference computes `ffnUp`. -/
module

public import proofs.«01_k».proof.Defs
public import proofs.«01_k».proof.Proof.Gen.FfnUpRefIdeal
public import proofs.«01_k».proof.Proof.Gen.FfnUpRefIdeal.Read
public import proofs.«01_k».proof.Proof.SpecFfn
public import Idealize.ShloMosaic.Lib.Pointwise
public import Idealize.ShloMosaic.PureOps.Ideal
public import Idealize.ShloMosaic.Init

@[expose] public section

set_option maxRecDepth 16384

noncomputable section

namespace Cert.FfnUpRefIdeal.Ref
open Cert.FfnUpRefIdeal Cert.FfnUpRefIdeal.Read Cert.Spec
open Idealize.ShloMosaic

theorem ref_at (x0 : Vec Ideal S8192x2048 .bf16) (x1 x2 : Vec Ideal S2x2048x5632 .f32) (r : Fin 8192) (n : Fin 5632) :
    val_main_v9 (F := Ideal) x0 x1 x2 (ix2 r n)
      = silu (∑ k : Fin 2048, x0 (ix2 r k) * x1 (ix3 0 k n)) * (∑ k : Fin 2048, x0 (ix2 r k) * x2 (ix3 0 k n)) := by
  pointwise [val_main_v9, val_main_v8, val_main_v7, val_main_v6, val_main_v5, val_main_v4, val_main_call0_v5, val_main_call0_v4, val_main_call0_v3,
    val_main_call0_v2, val_main_call0_v1, val_main_call0_v0, val_main_call0_cst, val_main_call0_cst_0, val_main_v3, val_main_v2, val_main_v1, val_main_v0, silu]

theorem ref_eq (x0 : Vec Ideal S8192x2048 .bf16) (x1 x2 : Vec Ideal S2x2048x5632 .f32) : val_main_v9 (F := Ideal) x0 x1 x2 = ffnUp x0 x1 x2 := by
  funext i
  rw [eq_ix2 i]
  exact ref_at _ _ _ _ _

end Cert.FfnUpRefIdeal.Ref
end
-- ==== Proof.FfnDownIdealValue.lean ====
/- What the down-projection's output array holds after the run: `ffnDown` of the arguments.
   The grid runs the eleven chunks of the contracted axis of one row block before the next. The first zeroes the accumulator;
   each adds the product of its chunks; the last writes the accumulator out. So after each point the accumulator holds the
   sum of the chunks up to the point's own, and what is written out is the sum of all eleven, the whole product. -/
module

public import proofs.«01_k».proof.Defs
public import proofs.«01_k».proof.Proof.Gen.FfnDownIdeal
public import proofs.«01_k».proof.Proof.Gen.FfnDownIdeal.Skeleton
public import proofs.«01_k».proof.Proof.Gen.FfnDownIdeal.Frame
public import proofs.«01_k».proof.Proof.Gen.FfnDownIdeal.Value
public import proofs.«01_k».proof.Proof.SpecFfn
public import Idealize.ShloMosaic.Lib.Pointwise
public import Idealize.ShloMosaic.Lib.Pipeline.Value
public import Idealize.ShloMosaic.Lib.Writes
public import Idealize.ShloMosaic.Lib.Exec
public import Idealize.ShloMosaic.Lib.Tactic
public import Idealize.ShloMosaic.PureOps.Ideal
public import Idealize.ShloMosaic.Init

@[expose] public section

set_option maxRecDepth 16384

noncomputable section

namespace Cert.FfnDownIdeal.Hand

open Cert.FfnDownIdeal Cert.FfnDownIdeal.Gen Cert.FfnDownIdeal.Value Cert.Spec
open Idealize.ShloMosaic Idealize.ShloMosaic.TcCoe Idealize.ShloMosaic.Tactic
open Idealize.SL.Sem
open Idealize.ShloMosaic.Pipeline (Dat Cfg Window)

/-! ## The payloads, read at an element -/

theorem pay1_apply (i : Fin 1024) (j : Fin 2048) : k0_pay1 (F := Ideal) (ix2 i j) = (0 : EReal) := by
  pointwise [k0_pay1]
theorem pay2_apply (a : Vec Ideal S1024x2048 .f32) (x : Vec Ideal S1024x512 .bf16) (w : Vec Ideal S1x512x2048 .f32) (i : Fin 1024) (j : Fin 2048) :
    k0_pay2 (F := Ideal) a x w (ix2 i j) = a (ix2 i j) + ∑ k : Fin 512, x (ix2 i k) * w (ix3 0 k j) := by
  pointwise [k0_pay2]

/-! ## What each path leaves: its run's contents in closed form -/

section Paths
variable (c : Dev nD) (i : grid0.Coords) (arg3 : Memref sig .tc .vmem S1024x512 .bf16) (harg3 : arg3.IsWhole)
  (arg4 : Memref sig .tc .vmem S1x512x2048 .f32) (harg4 : arg4.IsWhole) (arg5 : Memref sig .tc .vmem S1024x2048 .f32) (harg5 : arg5.IsWhole)
  (arg6 : Memref sig .tc .vmem S1024x2048 .f32) (harg6 : arg6.IsWhole)
  (x0 : Vec Ideal S1024x512 .bf16) (x1 : Vec Ideal S1x512x2048 .f32) (xs0 : Vec Ideal S1024x2048 .f32)

theorem hz2 : (![0, 0] : Fin 2 → ℕ) = fun _ => 0 := by decide
theorem hz3 : (![0, 0, 0] : Fin 3 → ℕ) = fun _ => 0 := by decide

/-- A load of a whole block reads the block. -/
theorem ld_x (arg : Memref sig .tc .vmem S1024x512 .bf16) (h : arg.IsWhole) (x : S1024x512.Idx → Elt Ideal .bf16) :
    View.readAt (Elt Ideal) arg.view (Rect.unit (s := S1024x512) ![0, 0] S1024x512.size inb_S1024x512_S1024x512_0_0).toLoadRect (h.unread x) = x := by
  rw [View.readAt_eq_ld, h.read_unread, View.ld_unit_zero hz2]
theorem ld_w (arg : Memref sig .tc .vmem S1x512x2048 .f32) (h : arg.IsWhole) (x : S1x512x2048.Idx → Elt Ideal .f32) :
    View.readAt (Elt Ideal) arg.view (Rect.unit (s := S1x512x2048) ![0, 0, 0] S1x512x2048.size inb_S1x512x2048_S1x512x2048_0_0_0).toLoadRect (h.unread x) = x := by
  rw [View.readAt_eq_ld, h.read_unread, View.ld_unit_zero hz3]
theorem ld_s (arg : Memref sig .tc .vmem S1024x2048 .f32) (h : arg.IsWhole) (x : S1024x2048.Idx → Elt Ideal .f32) :
    View.readAt (Elt Ideal) arg.view (Rect.unit (s := S1024x2048) ![0, 0] S1024x2048.size inb_S1024x2048_S1024x2048_0_0).toLoadRect (h.unread x) = x := by
  rw [View.readAt_eq_ld, h.read_unread, View.ld_unit_zero hz2]

theorem scr_A (hc0 hc1) : sout0_A_0 (F := Ideal) c i arg3 harg3 arg4 harg4 arg5 harg5 arg6 harg6 hc0 hc1 x0 x1
    = k0_pay2 k0_pay1 x0 x1 := by
  unfold sout0_A_0
  rw [View.read_writes_junk_eq_canon]
  unfold kernelRun0_A
  dsimp only
  sl_unfold_words
  rw [View.canon_cons_unit_zero (S := S1024x2048) hz2, View.readCov_unit_zero (S := S1024x2048) _ hz2, ld_x, ld_w]
theorem scr_B (hc0 hc1) : sout0_B_0 (F := Ideal) c i arg3 harg3 arg4 harg4 arg5 harg5 arg6 harg6 hc0 hc1 x0 x1 xs0
    = k0_pay2 xs0 x0 x1 := by
  unfold sout0_B_0
  rw [View.read_writes_junk_eq_canon]
  unfold kernelRun0_B
  dsimp only
  sl_unfold_words
  rw [View.canon_unit_zero hz2, ld_s, ld_x, ld_w]
theorem scr_C (hc0 hc1) : sout0_C_0 (F := Ideal) c i arg3 harg3 arg4 harg4 arg5 harg5 arg6 harg6 hc0 hc1 x0 x1 xs0
    = k0_pay2 xs0 x0 x1 := by
  unfold sout0_C_0
  rw [View.read_writes_junk_eq_canon]
  unfold kernelRun0_C
  dsimp only
  sl_unfold_words
  rw [View.canon_unit_zero hz2, ld_s, ld_x, ld_w]
theorem out_C (hc0 hc1) : out0_C_2 (F := Ideal) c i arg3 harg3 arg4 harg4 arg5 harg5 arg6 harg6 hc0 hc1 x0 x1 xs0
    = k0_pay2 xs0 x0 x1 := by
  unfold out0_C_2
  rw [View.read_writes_junk_eq_canon]
  unfold kernelRun0_C
  dsimp only
  sl_unfold_words
  rw [View.canon_unit_zero hz2, View.readCov_unit_zero (S := S1024x2048) _ hz2, ld_s, ld_x, ld_w]
end Paths

variable (m : (ℓ : Loc nD τ sig) → Buf (Elt Ideal) ℓ) (ρ : Dev nD → PrngReg)

/-! ## The grid -/

theorem crd_val : ∀ t : Fin grid0.N, (grid0.coords t 0).val = t.val / 11 ∧ (grid0.coords t 1).val = 0 ∧ (grid0.coords t 2).val = t.val % 11 := by decide +kernel

theorem tr0_eq : ∀ i : grid0.Coords, cc0_transform_0 i = ![(i 0).val, (i 2).val] := by decide +kernel
theorem tr1_eq : ∀ i : grid0.Coords, cc0_transform_1 i = ![0, (i 2).val, (i 1).val] := by decide +kernel
theorem tr2_eq : ∀ i : grid0.Coords, cc0_transform_2 i = ![(i 0).val, (i 1).val] := by decide +kernel

theorem N88 : cfg0.N = 88 := by decide +kernel

/-- A row of point `n`'s row block; a place of chunk `q` of the contracted axis. -/
def row (n : ℕ) (hn : n < cfg0.N) (i : Fin 1024) : Fin 8192 := ⟨n / 11 * 1024 + i.val, by have := N88; omega⟩
def chk (q : ℕ) (k : Fin 512) : Fin 5632 := ⟨q % 11 * 512 + k.val, by omega⟩

theorem chk_mod (n : ℕ) (k : Fin 512) : chk (n % 11) k = chk n k := Fin.ext (by
  show n % 11 % 11 * 512 + k.val = n % 11 * 512 + k.val
  omega)

theorem x_at (c : Dev nD) (t : Fin cfg0.N) (i : Fin 1024) (k : Fin 512) :
    iblk m c 0 t (ix2 i k) = m ((c : Thread nD τ).loc main_arg0) (ix2 (row t.val t.isLt i) (chk t.val k)) := by
  show m ((c : Thread nD τ).loc main_arg0) _ = _
  refine congrArg (m ((c : Thread nD τ).loc main_arg0)) (funext fun a => Fin.ext ?_)
  show cc0_transform_0 (grid0.coords t) a * S1024x512.size a + 1 * (ix2 i k a).val = _
  rw [tr0_eq, (crd_val t).1, (crd_val t).2.2]
  match a with
  | ⟨0, _⟩ => show t.val / 11 * 1024 + 1 * i.val = t.val / 11 * 1024 + i.val; omega
  | ⟨1, _⟩ => show t.val % 11 * 512 + 1 * k.val = t.val % 11 * 512 + k.val; omega
theorem w_at (c : Dev nD) (t : Fin cfg0.N) (k : Fin 512) (j : Fin 2048) :
    iblk m c 1 t (ix3 0 k j) = m ((c : Thread nD τ).loc main_arg1) (ix3 0 (chk t.val k) j) := by
  show m ((c : Thread nD τ).loc main_arg1) _ = _
  refine congrArg (m ((c : Thread nD τ).loc main_arg1)) (funext fun a => Fin.ext ?_)
  show cc0_transform_1 (grid0.coords t) a * S1x512x2048.size a + 1 * (ix3 (0 : Fin 1) k j a).val = _
  rw [tr1_eq, (crd_val t).2.1, (crd_val t).2.2]
  match a with
  | ⟨0, _⟩ => rfl
  | ⟨1, _⟩ => show t.val % 11 * 512 + 1 * k.val = t.val % 11 * 512 + k.val; omega
  | ⟨2, _⟩ => show 0 * 2048 + 1 * j.val = j.val; omega

/-! ## The accumulator after each point -/

/-- The product of chunk `q` at row `r` and column `j`. -/
def part (x : Vec Ideal ⟨2, ![8192, 5632]⟩ .bf16) (w : Vec Ideal ⟨3, ![2, 5632, 2048]⟩ .f32) (r : Fin 8192) (j : Fin 2048) (q : ℕ) : EReal :=
  ∑ k : Fin 512, x (ix2 r (chk q k)) * w (ix3 0 (chk q k) j)

theorem part_mod (x : Vec Ideal ⟨2, ![8192, 5632]⟩ .bf16) (w : Vec Ideal ⟨3, ![2, 5632, 2048]⟩ .f32) (r : Fin 8192) (j : Fin 2048) (n : ℕ) :
    part x w r j (n % 11) = part x w r j n := by
  unfold part
  simp only [chk_mod]

/-- All eleven chunks together are the whole product. -/
theorem part_sum (x : Vec Ideal ⟨2, ![8192, 5632]⟩ .bf16) (w : Vec Ideal ⟨3, ![2, 5632, 2048]⟩ .f32) (r : Fin 8192) (j : Fin 2048) :
    ∑ q ∈ Finset.range 11, part x w r j q = ffnDown x w (ix2 r j) := by
  show _ = ∑ k : Fin 5632, x (ix2 r k) * w (ix3 0 k j)
  rw [Finset.sum_range]
  unfold part
  rw [← Fintype.sum_prod_type' (f := fun (q : Fin 11) (k : Fin 512) => (x (ix2 r (chk q.val k)) * w (ix3 0 (chk q.val k) j) : EReal))]
  refine Fintype.sum_equiv (finProdFinEquiv (m := 11) (n := 512)) _ _ (fun p => ?_)
  have e : chk p.1.val p.2 = (finProdFinEquiv (m := 11) (n := 512) p : Fin 5632) := Fin.ext (by
    show p.1.val % 11 * 512 + p.2.val = p.2.val + 512 * p.1.val
    have := p.1.isLt
    omega)
  rw [e]

theorem pay_at (c : Dev nD) (t : Fin cfg0.N) (a : Vec Ideal S1024x2048 .f32) (i : Fin 1024) (j : Fin 2048) :
    k0_pay2 (F := Ideal) a (iblk m c 0 t) (iblk m c 1 t) (ix2 i j)
      = a (ix2 i j) + part (m ((c : Thread nD τ).loc main_arg0)) (m ((c : Thread nD τ).loc main_arg1)) (row t.val t.isLt i) j (t.val % 11) := by
  rw [part_mod, pay2_apply]
  unfold part
  exact congrArg _ (Finset.sum_congr rfl fun k _ => by rw [x_at, w_at])

theorem acc_A (c : Dev nD) (t : Fin cfg0.N) (h0 : t.val % 11 = 0) :
    (outsAt0 m c t.val t.isLt).2 = k0_pay2 (F := Ideal) (k0_pay1 (F := Ideal)) (iblk m c 0 t) (iblk m c 1 t) := by
  rw [outsAt0_A m c t h0 (by omega)]
  dsimp only
  rw [scr_A]
theorem acc_step (c : Dev nD) (t : Fin cfg0.N) (h0 : ¬ t.val % 11 = 0) :
    (outsAt0 m c t.val t.isLt).2 = k0_pay2 (F := Ideal) (outsAt0 m c (t.val - 1) (Nat.lt_of_le_of_lt (Nat.sub_le _ _) t.isLt)).2 (iblk m c 0 t) (iblk m c 1 t) := by
  by_cases h1 : t.val % 11 = 10
  · rw [outsAt0_C m c t h0 h1]
    dsimp only
    rw [scr_C]
  · rw [outsAt0_B m c t h0 h1]
    dsimp only
    rw [scr_B]
theorem out_last (c : Dev nD) (t : Fin cfg0.N) (h1 : t.val % 11 = 10) :
    (outsAt0 m c t.val t.isLt).1 = (outsAt0 m c t.val t.isLt).2 := by
  rw [outsAt0_C m c t (by omega) h1]
  dsimp only
  rw [scr_C, out_C]

theorem acc (c : Dev nD) (n : ℕ) (hn : n < cfg0.N) (i : Fin 1024) (j : Fin 2048) :
    (outsAt0 m c n hn).2 (ix2 i j)
      = ∑ q ∈ Finset.range (n % 11 + 1), part (m ((c : Thread nD τ).loc main_arg0)) (m ((c : Thread nD τ).loc main_arg1)) (row n hn i) j q := by
  induction n with
  | zero =>
    refine (congrFun (acc_A m c ⟨0, hn⟩ rfl) _).trans ?_
    rw [pay_at, pay1_apply, zero_add]
    exact (Finset.sum_range_one _).symm
  | succ n ih =>
    by_cases h0 : (n + 1) % 11 = 0
    · refine (congrFun (acc_A m c ⟨n + 1, hn⟩ h0) _).trans ?_
      rw [pay_at, pay1_apply, zero_add, h0]
      exact (Finset.sum_range_one _).symm
    · refine (congrFun (acc_step m c ⟨n + 1, hn⟩ h0) _).trans ?_
      rw [pay_at]
      have er : row n (Nat.lt_of_succ_lt hn) i = row (n + 1) hn i := Fin.ext (by
        show n / 11 * 1024 + i.val = (n + 1) / 11 * 1024 + i.val
        omega)
      have i' := ih (Nat.lt_of_succ_lt hn)
      rw [er] at i'
      have em : (n + 1) % 11 = n % 11 + 1 := by omega
      show (outsAt0 m c n _).2 (ix2 i j) + part _ _ (row (n + 1) hn i) j ((n + 1) % 11) = _
      rw [i', em, Finset.sum_range_succ _ (n % 11 + 1)]

/-- What the output array is shown to hold. -/
abbrev G (c : Dev nD) : Buf (Elt Ideal) ((c : Thread nD τ).loc main_v0) :=
  ffnDown (m ((c : Thread nD τ).loc main_arg0)) (m ((c : Thread nD τ).loc main_arg1))

theorem oblk_at (c : Dev nD) (t : Fin cfg0.N) (h1 : t.val % 11 = 10) (i : Fin 1024) (j : Fin 2048) :
    (outsAt0 m c t.val t.isLt).1 (ix2 i j) = G m c (ix2 (row t.val t.isLt i) j) := by
  rw [out_last m c t h1, acc, h1]
  exact part_sum _ _ _ _

theorem flush_last : ∀ t : Fin cfg0.N, win0_2.flush t = true → t.val % 11 = 10 :=
  (by decide +kernel : ∀ t : Fin grid0.N, win0_2.flush t = true → t.val % 11 = 10)

theorem flushed_eq (c : Dev nD) (t : Fin cfg0.N) (hf : (cfg0.win 2).flush t = true) :
    (dats m 0 c).flushed 2 t = ((cfg0.win 2).blk t).view.read (Elt Ideal) (G m c) := by
  have h1 := flush_last t hf
  rw [flushed2]
  funext y
  obtain ⟨i, j, rfl⟩ : ∃ (i : Fin 1024) (j : Fin 2048), y = ix2 i j := ⟨y 0, y 1, eq_ix2 y⟩
  show (outsAt0 m c t.val t.isLt).1 _ = G m c _
  refine (congrArg (outsAt0 m c t.val t.isLt).1 ?_).trans ((oblk_at m c t h1 i j).trans (congrArg (G m c) ?_))
  · funext a
    match a with
    | ⟨0, _⟩ => rfl
    | ⟨1, _⟩ => rfl
  · symm
    funext a
    apply Fin.ext
    show cc0_transform_2 (grid0.coords t) a * S1024x2048.size a + 1 * (ix2 i j a).val = _
    rw [tr2_eq, (crd_val t).1, (crd_val t).2.1]
    match a with
    | ⟨0, _⟩ => show t.val / 11 * 1024 + 1 * i.val = t.val / 11 * 1024 + i.val; omega
    | ⟨1, _⟩ => show 0 * 2048 + 1 * j.val = j.val; omega

theorem final (c : Dev nD) : (dats m 0 c).arrAt 2 cfg0.N = G m c :=
  (dats m 0 c).arrAt_eq_of_cover 2 _ (fun t hf => flushed_eq m c t hf) (fun i => (covered_iff2 i).2 (by
    have h0 : (i 0).val < 8192 := (i 0).isLt; have h1 : (i 1).val < 2048 := (i 1).isLt; omega))

/-- THE VALUE: the output array holds the product and the arguments are as they were. -/
theorem value : θ_run (defs (F := Ideal)) (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final m c), (h c).2⟩) (run_blocks m ρ)

end Cert.FfnDownIdeal.Hand
end
-- ==== Proof.FfnDownRef.lean ====
/- The down-projection's reference computes `ffnDown`. -/
module

public import proofs.«01_k».proof.Defs
public import proofs.«01_k».proof.Proof.Gen.FfnDownRefIdeal
public import proofs.«01_k».proof.Proof.Gen.FfnDownRefIdeal.Read
public import proofs.«01_k».proof.Proof.SpecFfn
public import Idealize.ShloMosaic.Lib.Pointwise
public import Idealize.ShloMosaic.PureOps.Ideal
public import Idealize.ShloMosaic.Init

@[expose] public section

set_option maxRecDepth 16384

noncomputable section

namespace Cert.FfnDownRefIdeal.Ref
open Cert.FfnDownRefIdeal Cert.FfnDownRefIdeal.Read Cert.Spec
open Idealize.ShloMosaic

theorem ref_at (x0 : Vec Ideal S8192x5632 .bf16) (x1 : Vec Ideal S2x5632x2048 .f32) (r : Fin 8192) (n : Fin 2048) :
    val_main_v3 (F := Ideal) x0 x1 (ix2 r n) = ∑ k : Fin 5632, x0 (ix2 r k) * x1 (ix3 0 k n) := by
  pointwise [val_main_v3, val_main_v2, val_main_v1, val_main_v0]

theorem ref_eq (x0 : Vec Ideal S8192x5632 .bf16) (x1 : Vec Ideal S2x5632x2048 .f32) : val_main_v3 (F := Ideal) x0 x1 = ffnDown x0 x1 := by
  funext i
  rw [eq_ix2 i]
  exact ref_at _ _ _ _

end Cert.FfnDownRefIdeal.Ref
end
-- ==== Proof.MergeIdealPaths.lean ====
/- What each path of the branch merge leaves: its run's contents in closed form, over the weights its scratches hold. -/
module

public import proofs.«01_k».proof.Defs
public import proofs.«01_k».proof.Proof.Gen.MergeIdeal
public import proofs.«01_k».proof.Proof.Gen.MergeIdeal.Skeleton
public import proofs.«01_k».proof.Proof.Gen.MergeIdeal.Frame
public import Idealize.ShloMosaic.Lib.Pointwise
public import Idealize.ShloMosaic.Lib.Pipeline.Value
public import Idealize.ShloMosaic.Lib.Writes
public import Idealize.ShloMosaic.Lib.Exec
public import Idealize.ShloMosaic.Lib.Tactic
public import Idealize.ShloMosaic.PureOps.Ideal
public import Idealize.ShloMosaic.Init

@[expose] public section

set_option maxRecDepth 16384

noncomputable section

namespace Cert.MergeIdeal.Hand

open Cert.MergeIdeal Cert.MergeIdeal.Gen
open Idealize.ShloMosaic Idealize.ShloMosaic.TcCoe Idealize.ShloMosaic.Tactic
open Idealize.SL.Sem
open Idealize.ShloMosaic.Pipeline (Dat Cfg Window)

section Paths
variable (c : Dev nD) (i : grid0.Coords) (arg2 : Memref sig .tc .vmem S512x2048 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S1x2048x256 .f32) (harg10 : arg10.IsWhole) (arg11 : Memref sig .tc .vmem S1x4x512x256 .f32) (harg11 : arg11.IsWhole) (arg12 : Memref sig .tc .vmem S512x256 .bf16) (harg12 : arg12.IsWhole) (arg13 : Memref sig .tc .vmem S4x2048x256 .bf16) (harg13 : arg13.IsWhole) (arg14 : Memref sig .tc .vmem S4x512x256 .bf16) (harg14 : arg14.IsWhole)
    (x0 : Vec Ideal S512x2048 .bf16) (x1 x2 x3 x4 : Vec Ideal S512x512 .f32) (x5 x6 x7 x8 : Vec Ideal S1x2048x256 .f32) (x9 : Vec Ideal S1x4x512x256 .f32) (xs0 : Vec Ideal S4x2048x256 .bf16) (xs1 : Vec Ideal S4x512x256 .bf16)

theorem hz2 : (![0, 0] : Fin 2 → ℕ) = fun _ => 0 := by decide
theorem hz3 : (![0, 0, 0] : Fin 3 → ℕ) = fun _ => 0 := by decide

/-- The narrowed gate weights, as the four stores of the loading path leave them, -/
abbrev W0 (x5 x6 x7 x8 : Vec Ideal S1x2048x256 .f32) : List (View.Piece (Elt Ideal) S4x2048x256 .bf16) :=
  [⟨Rect.unit (s := S4x2048x256) ![3, 0, 0] S1x2048x256.size inb_S4x2048x256_S1x2048x256_3_0_0, k0_pay9 x8⟩,
   ⟨Rect.unit (s := S4x2048x256) ![2, 0, 0] S1x2048x256.size inb_S4x2048x256_S1x2048x256_2_0_0, k0_pay7 (k0_pay6 x7)⟩,
   ⟨Rect.unit (s := S4x2048x256) ![1, 0, 0] S1x2048x256.size inb_S4x2048x256_S1x2048x256_1_0_0, k0_pay4 x6⟩,
   ⟨Rect.unit (s := S4x2048x256) ![0, 0, 0] S1x2048x256.size inb_S4x2048x256_S1x2048x256_0_0_0, k0_pay2 x5⟩]
/-- and the narrowed branch weights. -/
abbrev W1 (x9 : Vec Ideal S1x4x512x256 .f32) : List (View.Piece (Elt Ideal) S4x512x256 .bf16) :=
  [⟨Rect.unit (s := S4x512x256) ![3, 0, 0] S1x512x256.size inb_S4x512x256_S1x512x256_3_0_0,
      k0_pay10 (View.ld x9 (Rect.unit (s := S1x4x512x256) ![0, 3, 0, 0] S1x1x512x256.size inb_S1x4x512x256_S1x1x512x256_0_3_0_0))⟩,
   ⟨Rect.unit (s := S4x512x256) ![2, 0, 0] S1x512x256.size inb_S4x512x256_S1x512x256_2_0_0,
      k0_pay8 (View.ld x9 (Rect.unit (s := S1x4x512x256) ![0, 2, 0, 0] S1x1x512x256.size inb_S1x4x512x256_S1x1x512x256_0_2_0_0))⟩,
   ⟨Rect.unit (s := S4x512x256) ![1, 0, 0] S1x512x256.size inb_S4x512x256_S1x512x256_1_0_0,
      k0_pay5 (View.ld x9 (Rect.unit (s := S1x4x512x256) ![0, 1, 0, 0] S1x1x512x256.size inb_S1x4x512x256_S1x1x512x256_0_1_0_0))⟩,
   ⟨Rect.unit (s := S4x512x256) ![0, 0, 0] S1x512x256.size inb_S4x512x256_S1x512x256_0_0_0,
      k0_pay3 (View.ld x9 (Rect.unit (s := S1x4x512x256) ![0, 0, 0, 0] S1x1x512x256.size inb_S1x4x512x256_S1x1x512x256_0_0_0_0))⟩]

/-- Slices of the two scratches. -/
abbrev g0 (s : Vec Ideal S4x2048x256 .bf16) : Vec Ideal S1x2048x256 .bf16 := View.ld s (Rect.unit (s := S4x2048x256) ![0, 0, 0] S1x2048x256.size inb_S4x2048x256_S1x2048x256_0_0_0)
abbrev g1 (s : Vec Ideal S4x2048x256 .bf16) : Vec Ideal S1x2048x256 .bf16 := View.ld s (Rect.unit (s := S4x2048x256) ![1, 0, 0] S1x2048x256.size inb_S4x2048x256_S1x2048x256_1_0_0)
abbrev g2 (s : Vec Ideal S4x2048x256 .bf16) : Vec Ideal S1x2048x256 .bf16 := View.ld s (Rect.unit (s := S4x2048x256) ![2, 0, 0] S1x2048x256.size inb_S4x2048x256_S1x2048x256_2_0_0)
abbrev g3 (s : Vec Ideal S4x2048x256 .bf16) : Vec Ideal S1x2048x256 .bf16 := View.ld s (Rect.unit (s := S4x2048x256) ![3, 0, 0] S1x2048x256.size inb_S4x2048x256_S1x2048x256_3_0_0)
abbrev p0 (s : Vec Ideal S4x512x256 .bf16) : Vec Ideal S1x512x256 .bf16 := View.ld s (Rect.unit (s := S4x512x256) ![0, 0, 0] S1x512x256.size inb_S4x512x256_S1x512x256_0_0_0)
abbrev p1 (s : Vec Ideal S4x512x256 .bf16) : Vec Ideal S1x512x256 .bf16 := View.ld s (Rect.unit (s := S4x512x256) ![1, 0, 0] S1x512x256.size inb_S4x512x256_S1x512x256_1_0_0)
abbrev p2 (s : Vec Ideal S4x512x256 .bf16) : Vec Ideal S1x512x256 .bf16 := View.ld s (Rect.unit (s := S4x512x256) ![2, 0, 0] S1x512x256.size inb_S4x512x256_S1x512x256_2_0_0)
abbrev p3 (s : Vec Ideal S4x512x256 .bf16) : Vec Ideal S1x512x256 .bf16 := View.ld s (Rect.unit (s := S4x512x256) ![3, 0, 0] S1x512x256.size inb_S4x512x256_S1x512x256_3_0_0)

/-- What a point stores, over the weights in the scratches. -/
abbrev form (x0 : Vec Ideal S512x2048 .bf16) (x1 x2 x3 x4 : Vec Ideal S512x512 .f32) (s : Vec Ideal S4x2048x256 .bf16) (p : Vec Ideal S4x512x256 .bf16) : Vec Ideal S512x256 .bf16 :=
  k0_pay1 (k0_pay13 x0 (k0_pay11 x0 (g0 s) x1 (p0 p)) (k0_pay12 x0 (g1 s)) x2 (p1 p) (g2 s) x3 (p2 p)) (k0_pay14 x0 (g3 s)) x4 (p3 p)

theorem cov0 (y : S4x2048x256.Idx) : ∃ pc ∈ W0 x5 x6 x7 x8, y ∈ pc.1.set :=
  View.cover_of_tiledL (W0 x5 x6 x7 x8) S1x2048x256.size (by sl_kernel_rfl) y
theorem cov1 (y : S4x512x256.Idx) : ∃ pc ∈ W1 x9, y ∈ pc.1.set :=
  View.cover_of_tiledL (W1 x9) S1x512x256.size (by sl_kernel_rfl) y

theorem rd0 (v : View sig .tc .vmem S4x2048x256 .bf16) (r : Rect S4x2048x256) : v.readCov (W0 x5 x6 x7 x8) r.toLoadRect = View.ld (View.canon (W0 x5 x6 x7 x8)) r :=
  View.readCov_eq_canon_ld v _ r (cov0 x5 x6 x7 x8)
theorem rd1 (v : View sig .tc .vmem S4x512x256 .bf16) (r : Rect S4x512x256) : v.readCov (W1 x9) r.toLoadRect = View.ld (View.canon (W1 x9)) r :=
  View.readCov_eq_canon_ld v _ r (cov1 x9)

/-- A load of a block reads the block there. -/
theorem ldr {s : Shape} {e : EltTy} (arg : Memref sig .tc .vmem s e) (h : arg.IsWhole) (r : Rect s) (x : s.Idx → Elt Ideal e) :
    View.readAt (Elt Ideal) arg.view r.toLoadRect (h.unread x) = View.ld x r := by
  rw [View.readAt_eq_ld, h.read_unread]
theorem lx (x : S512x2048.Idx → Elt Ideal .bf16) : View.ld x (Rect.unit (s := S512x2048) ![0, 0] S512x2048.size inb_S512x2048_S512x2048_0_0) = x := View.ld_unit_zero hz2 _ _
theorem lb (x : S512x512.Idx → Elt Ideal .f32) : View.ld x (Rect.unit (s := S512x512) ![0, 0] S512x512.size inb_S512x512_S512x512_0_0) = x := View.ld_unit_zero hz2 _ _
theorem lw (x : S1x2048x256.Idx → Elt Ideal .f32) : View.ld x (Rect.unit (s := S1x2048x256) ![0, 0, 0] S1x2048x256.size inb_S1x2048x256_S1x2048x256_0_0_0) = x := View.ld_unit_zero hz3 _ _

theorem scr0_A (hc0) : sout0_A_0 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9
    = View.canon (W0 x5 x6 x7 x8) := by
  unfold sout0_A_0
  rw [View.read_writes_junk_eq_canon]
  unfold kernelRun0_A
  dsimp only
  sl_unfold_words
  rw [ldr arg7 harg7, ldr arg8 harg8, ldr arg9 harg9, ldr arg10 harg10, lw, lw, lw, lw]
theorem scr1_A (hc0) : sout0_A_1 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9
    = View.canon (W1 x9) := by
  unfold sout0_A_1
  rw [View.read_writes_junk_eq_canon]
  unfold kernelRun0_A
  dsimp only
  sl_unfold_words
  rw [ldr arg11 harg11, ldr arg11 harg11, ldr arg11 harg11, ldr arg11 harg11]
theorem out_A (hc0) : out0_A_10 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9
    = form x0 x1 x2 x3 x4 (View.canon (W0 x5 x6 x7 x8)) (View.canon (W1 x9)) := by
  unfold out0_A_10
  rw [View.read_writes_junk_eq_canon]
  unfold kernelRun0_A
  dsimp only
  sl_unfold_words
  rw [View.canon_unit_zero hz2, ldr arg7 harg7, ldr arg8 harg8, ldr arg9 harg9, ldr arg10 harg10, lw, lw, lw, lw,
    ldr arg11 harg11, ldr arg11 harg11, ldr arg11 harg11, ldr arg11 harg11,
    ldr arg2 harg2, ldr arg3 harg3, ldr arg4 harg4, ldr arg5 harg5, ldr arg6 harg6, lx, lb, lb, lb, lb,
    rd0, rd0, rd0, rd0, rd1, rd1, rd1, rd1]
theorem out_B (hc0) : out0_B_10 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xs0 xs1
    = form x0 x1 x2 x3 x4 xs0 xs1 := by
  unfold out0_B_10
  rw [View.read_writes_junk_eq_canon]
  unfold kernelRun0_B
  dsimp only
  sl_unfold_words
  rw [View.canon_unit_zero hz2, ldr arg2 harg2, ldr arg3 harg3, ldr arg4 harg4, ldr arg5 harg5, ldr arg6 harg6, lx, lb, lb, lb, lb,
    ldr arg13 harg13, ldr arg13 harg13, ldr arg13 harg13, ldr arg13 harg13, ldr arg14 harg14, ldr arg14 harg14, ldr arg14 harg14, ldr arg14 harg14]
end Paths
end Cert.MergeIdeal.Hand
end
-- ==== Proof.MergeIdealValue.lean ====
/- What the branch merge's output array holds after the run: `merge` of the arguments.
   The grid runs the sixteen row blocks of one column block before the next. The first narrows the column block's weights into
   the two scratches; the others find them there. So after every point the scratches hold the weights of that point's own
   column block, and the point's output block is the payload of its own rectangles of the arrays. -/
module

public import proofs.«01_k».proof.Defs
public import proofs.«01_k».proof.Proof.Gen.MergeIdeal
public import proofs.«01_k».proof.Proof.Gen.MergeIdeal.Skeleton
public import proofs.«01_k».proof.Proof.Gen.MergeIdeal.Frame
public import proofs.«01_k».proof.Proof.Gen.MergeIdeal.Value
public import proofs.«01_k».proof.Proof.MergeIdealPaths
public import proofs.«01_k».proof.Proof.SpecFfn
public import Idealize.ShloMosaic.Lib.Pointwise
public import Idealize.ShloMosaic.Lib.Pipeline.Value
public import Idealize.ShloMosaic.Lib.Writes
public import Idealize.ShloMosaic.Lib.Exec
public import Idealize.ShloMosaic.Lib.Tactic
public import Idealize.ShloMosaic.PureOps.Ideal
public import Idealize.ShloMosaic.Init

@[expose] public section

set_option maxRecDepth 16384

noncomputable section

namespace Cert.MergeIdeal.Hand

open Cert.MergeIdeal Cert.MergeIdeal.Gen Cert.MergeIdeal.Value Cert.Spec
open Idealize.ShloMosaic Idealize.ShloMosaic.TcCoe Idealize.ShloMosaic.Tactic
open Idealize.SL.Sem
open Idealize.ShloMosaic.Pipeline (Dat Cfg Window)

/-! ## The payloads, read at an element -/

theorem pay2_apply (w : Vec Ideal S1x2048x256 .f32) (k : Fin 2048) (n : Fin 256) : k0_pay2 (F := Ideal) w (ix3 0 k n) = w (ix3 0 k n) := by
  pointwise [k0_pay2]
theorem pay4_apply (w : Vec Ideal S1x2048x256 .f32) (k : Fin 2048) (n : Fin 256) : k0_pay4 (F := Ideal) w (ix3 0 k n) = w (ix3 0 k n) := by
  pointwise [k0_pay4]
theorem pay7_apply (w : Vec Ideal S1x2048x256 .f32) (k : Fin 2048) (n : Fin 256) : k0_pay7 (F := Ideal) (k0_pay6 w) (ix3 0 k n) = w (ix3 0 k n) := by
  pointwise [k0_pay7, k0_pay6]
theorem pay9_apply (w : Vec Ideal S1x2048x256 .f32) (k : Fin 2048) (n : Fin 256) : k0_pay9 (F := Ideal) w (ix3 0 k n) = w (ix3 0 k n) := by
  pointwise [k0_pay9]
theorem pay3_apply (w : Vec Ideal S1x1x512x256 .f32) (k : Fin 512) (n : Fin 256) : k0_pay3 (F := Ideal) w (ix3 0 k n) = w (ix4 0 0 k n) := by
  pointwise [k0_pay3]
theorem pay5_apply (w : Vec Ideal S1x1x512x256 .f32) (k : Fin 512) (n : Fin 256) : k0_pay5 (F := Ideal) w (ix3 0 k n) = w (ix4 0 0 k n) := by
  pointwise [k0_pay5]
theorem pay8_apply (w : Vec Ideal S1x1x512x256 .f32) (k : Fin 512) (n : Fin 256) : k0_pay8 (F := Ideal) w (ix3 0 k n) = w (ix4 0 0 k n) := by
  pointwise [k0_pay8]
theorem pay10_apply (w : Vec Ideal S1x1x512x256 .f32) (k : Fin 512) (n : Fin 256) : k0_pay10 (F := Ideal) w (ix3 0 k n) = w (ix4 0 0 k n) := by
  pointwise [k0_pay10]

section Pay
variable (x : Vec Ideal S512x2048 .bf16) (w w' : Vec Ideal S1x2048x256 .bf16) (o o' : Vec Ideal S512x512 .f32) (p p' : Vec Ideal S1x512x256 .bf16)
  (a a' : FVec Ideal S512x256 .f32) (i : Fin 512) (j : Fin 256)

theorem pay12_apply : k0_pay12 (F := Ideal) x w (ix2 i j) = sigm (∑ k : Fin 2048, x (ix2 i k) * w (ix3 0 k j)) := by
  pointwise [k0_pay12, sigm]
  rw [zero_sub]
theorem pay14_apply : k0_pay14 (F := Ideal) x w (ix2 i j) = sigm (∑ k : Fin 2048, x (ix2 i k) * w (ix3 0 k j)) := by
  pointwise [k0_pay14, sigm]
  rw [zero_sub]
theorem pay11_apply : k0_pay11 (F := Ideal) x w o p (ix2 i j)
    = sigm (∑ k : Fin 2048, x (ix2 i k) * w (ix3 0 k j)) * ∑ q : Fin 512, o (ix2 i q) * p (ix3 0 q j) := by
  pointwise [k0_pay11, sigm]
  rw [zero_sub]
theorem pay13_apply : k0_pay13 (F := Ideal) x a a' o p w o' p' (ix2 i j)
    = a (ix2 i j) + a' (ix2 i j) * (∑ q : Fin 512, o (ix2 i q) * p (ix3 0 q j))
      + sigm (∑ k : Fin 2048, x (ix2 i k) * w (ix3 0 k j)) * ∑ q : Fin 512, o' (ix2 i q) * p' (ix3 0 q j) := by
  pointwise [k0_pay13, sigm]
  rw [zero_sub]
theorem pay1_apply : k0_pay1 (F := Ideal) a a' o p (ix2 i j)
    = a (ix2 i j) + a' (ix2 i j) * ∑ q : Fin 512, o (ix2 i q) * p (ix3 0 q j) := by
  pointwise [k0_pay1]
end Pay

/-! ## The scratches' slices -/

theorem em0 (d : ℕ) (hd : d < 4) (inb) (k : Fin 2048) (j : Fin 256) :
    (Rect.unit (s := S4x2048x256) ![d, 0, 0] S1x2048x256.size inb).emb (ix3 (0 : Fin 1) k j) = ix3 (⟨d, hd⟩ : Fin 4) k j := by
  funext a
  apply Fin.ext
  match a with
  | ⟨0, _⟩ => rfl
  | ⟨1, _⟩ => show 0 + 1 * k.val = k.val; omega
  | ⟨2, _⟩ => show 0 + 1 * j.val = j.val; omega
theorem em1 (d : ℕ) (hd : d < 4) (inb) (k : Fin 512) (j : Fin 256) :
    (Rect.unit (s := S4x512x256) ![d, 0, 0] S1x512x256.size inb).emb (ix3 (0 : Fin 1) k j) = ix3 (⟨d, hd⟩ : Fin 4) k j := by
  funext a
  apply Fin.ext
  match a with
  | ⟨0, _⟩ => rfl
  | ⟨1, _⟩ => show 0 + 1 * k.val = k.val; omega
  | ⟨2, _⟩ => show 0 + 1 * j.val = j.val; omega
theorem em9 (d : ℕ) (hd : d < 4) (inb) (k : Fin 512) (j : Fin 256) :
    (Rect.unit (s := S1x4x512x256) ![0, d, 0, 0] S1x1x512x256.size inb).emb (ix4 (0 : Fin 1) (0 : Fin 1) k j) = ix4 (0 : Fin 1) (⟨d, hd⟩ : Fin 4) k j := by
  funext a
  apply Fin.ext
  match a with
  | ⟨0, _⟩ => rfl
  | ⟨1, _⟩ => rfl
  | ⟨2, _⟩ => show 0 + 1 * k.val = k.val; omega
  | ⟨3, _⟩ => show 0 + 1 * j.val = j.val; omega

/-- A slice of a scratch, and of the branch weights' window, at an element. -/
theorem ld0 (d : ℕ) (hd : d < 4) (inb) (s : Vec Ideal S4x2048x256 .bf16) (k : Fin 2048) (j : Fin 256) :
    View.ld s (Rect.unit (s := S4x2048x256) ![d, 0, 0] S1x2048x256.size inb) (ix3 (0 : Fin 1) k j) = s (ix3 (⟨d, hd⟩ : Fin 4) k j) := congrArg s (em0 d hd inb k j)
theorem ld1 (d : ℕ) (hd : d < 4) (inb) (s : Vec Ideal S4x512x256 .bf16) (k : Fin 512) (j : Fin 256) :
    View.ld s (Rect.unit (s := S4x512x256) ![d, 0, 0] S1x512x256.size inb) (ix3 (0 : Fin 1) k j) = s (ix3 (⟨d, hd⟩ : Fin 4) k j) := congrArg s (em1 d hd inb k j)
theorem ld9 (d : ℕ) (hd : d < 4) (inb) (s : Vec Ideal S1x4x512x256 .f32) (k : Fin 512) (j : Fin 256) :
    View.ld s (Rect.unit (s := S1x4x512x256) ![0, d, 0, 0] S1x1x512x256.size inb) (ix4 (0 : Fin 1) (0 : Fin 1) k j) = s (ix4 (0 : Fin 1) (⟨d, hd⟩ : Fin 4) k j) := congrArg s (em9 d hd inb k j)

/-- A place of one slice is in no other. -/
theorem out0 (d : ℕ) (inb) (b : Fin 4) (k : Fin 2048) (j : Fin 256) (h : b.val < d) :
    (ix3 b k j : S4x2048x256.Idx) ∉ (Rect.unit (s := S4x2048x256) ![d, 0, 0] S1x2048x256.size inb).set := by
  rw [Rect.mem_set_unit]
  intro q
  have : d ≤ b.val := (q 0).1
  omega
theorem out1 (d : ℕ) (inb) (b : Fin 4) (k : Fin 512) (j : Fin 256) (h : b.val < d) :
    (ix3 b k j : S4x512x256.Idx) ∉ (Rect.unit (s := S4x512x256) ![d, 0, 0] S1x512x256.size inb).set := by
  rw [Rect.mem_set_unit]
  intro q
  have : d ≤ b.val := (q 0).1
  omega

/-- A store's place holds what it stored, and any other what was there before it. -/
theorem hit {S : Shape} {e : EltTy} (r : Rect S) (w : r.toLoadRect.shape.Idx → Elt Ideal e) (L : List (View.Piece (Elt Ideal) S e)) (x : r.toLoadRect.shape.Idx) (y : S.Idx)
    (h : r.emb x = y) : View.canon ((⟨r, w⟩ : View.Piece (Elt Ideal) S e) :: L) y = w x := by
  subst h
  exact View.canon_cons_emb r w L x
theorem skip {S : Shape} {e : EltTy} (r : Rect S) (w : r.toLoadRect.shape.Idx → Elt Ideal e) (L : List (View.Piece (Elt Ideal) S e)) (y : S.Idx)
    (h : y ∉ r.set) : View.canon ((⟨r, w⟩ : View.Piece (Elt Ideal) S e) :: L) y = View.canon L y :=
  View.canon_cons_of_not_mem ⟨r, w⟩ L h

section Slices
variable (x5 x6 x7 x8 : Vec Ideal S1x2048x256 .f32) (x9 : Vec Ideal S1x4x512x256 .f32)
theorem c0_0 (k : Fin 2048) (j : Fin 256) : View.canon (W0 x5 x6 x7 x8) (ix3 (0 : Fin 4) k j) = x5 (ix3 0 k j) := by
  refine (skip (Rect.unit (s := S4x2048x256) ![3, 0, 0] S1x2048x256.size inb_S4x2048x256_S1x2048x256_3_0_0) _ _ _ (out0 3 inb_S4x2048x256_S1x2048x256_3_0_0 0 k j (by decide))).trans ?_
  refine (skip (Rect.unit (s := S4x2048x256) ![2, 0, 0] S1x2048x256.size inb_S4x2048x256_S1x2048x256_2_0_0) _ _ _ (out0 2 inb_S4x2048x256_S1x2048x256_2_0_0 0 k j (by decide))).trans ?_
  refine (skip (Rect.unit (s := S4x2048x256) ![1, 0, 0] S1x2048x256.size inb_S4x2048x256_S1x2048x256_1_0_0) _ _ _ (out0 1 inb_S4x2048x256_S1x2048x256_1_0_0 0 k j (by decide))).trans ?_
  refine (hit (Rect.unit (s := S4x2048x256) ![0, 0, 0] S1x2048x256.size inb_S4x2048x256_S1x2048x256_0_0_0) _ _ (ix3 (0 : Fin 1) k j) _ (em0 0 (by decide) _ k j)).trans ?_
  exact pay2_apply _ k j
theorem c1_0 (k : Fin 512) (j : Fin 256) : View.canon (W1 x9) (ix3 (0 : Fin 4) k j) = x9 (ix4 0 (0 : Fin 4) k j) := by
  refine (skip (Rect.unit (s := S4x512x256) ![3, 0, 0] S1x512x256.size inb_S4x512x256_S1x512x256_3_0_0) _ _ _ (out1 3 inb_S4x512x256_S1x512x256_3_0_0 0 k j (by decide))).trans ?_
  refine (skip (Rect.unit (s := S4x512x256) ![2, 0, 0] S1x512x256.size inb_S4x512x256_S1x512x256_2_0_0) _ _ _ (out1 2 inb_S4x512x256_S1x512x256_2_0_0 0 k j (by decide))).trans ?_
  refine (skip (Rect.unit (s := S4x512x256) ![1, 0, 0] S1x512x256.size inb_S4x512x256_S1x512x256_1_0_0) _ _ _ (out1 1 inb_S4x512x256_S1x512x256_1_0_0 0 k j (by decide))).trans ?_
  refine (hit (Rect.unit (s := S4x512x256) ![0, 0, 0] S1x512x256.size inb_S4x512x256_S1x512x256_0_0_0) _ _ (ix3 (0 : Fin 1) k j) _ (em1 0 (by decide) _ k j)).trans ?_
  exact (pay3_apply _ k j).trans (ld9 0 (by decide) _ x9 k j)
theorem c0_1 (k : Fin 2048) (j : Fin 256) : View.canon (W0 x5 x6 x7 x8) (ix3 (1 : Fin 4) k j) = x6 (ix3 0 k j) := by
  refine (skip (Rect.unit (s := S4x2048x256) ![3, 0, 0] S1x2048x256.size inb_S4x2048x256_S1x2048x256_3_0_0) _ _ _ (out0 3 inb_S4x2048x256_S1x2048x256_3_0_0 1 k j (by decide))).trans ?_
  refine (skip (Rect.unit (s := S4x2048x256) ![2, 0, 0] S1x2048x256.size inb_S4x2048x256_S1x2048x256_2_0_0) _ _ _ (out0 2 inb_S4x2048x256_S1x2048x256_2_0_0 1 k j (by decide))).trans ?_
  refine (hit (Rect.unit (s := S4x2048x256) ![1, 0, 0] S1x2048x256.size inb_S4x2048x256_S1x2048x256_1_0_0) _ _ (ix3 (0 : Fin 1) k j) _ (em0 1 (by decide) _ k j)).trans ?_
  exact pay4_apply _ k j
theorem c1_1 (k : Fin 512) (j : Fin 256) : View.canon (W1 x9) (ix3 (1 : Fin 4) k j) = x9 (ix4 0 (1 : Fin 4) k j) := by
  refine (skip (Rect.unit (s := S4x512x256) ![3, 0, 0] S1x512x256.size inb_S4x512x256_S1x512x256_3_0_0) _ _ _ (out1 3 inb_S4x512x256_S1x512x256_3_0_0 1 k j (by decide))).trans ?_
  refine (skip (Rect.unit (s := S4x512x256) ![2, 0, 0] S1x512x256.size inb_S4x512x256_S1x512x256_2_0_0) _ _ _ (out1 2 inb_S4x512x256_S1x512x256_2_0_0 1 k j (by decide))).trans ?_
  refine (hit (Rect.unit (s := S4x512x256) ![1, 0, 0] S1x512x256.size inb_S4x512x256_S1x512x256_1_0_0) _ _ (ix3 (0 : Fin 1) k j) _ (em1 1 (by decide) _ k j)).trans ?_
  exact (pay5_apply _ k j).trans (ld9 1 (by decide) _ x9 k j)
theorem c0_2 (k : Fin 2048) (j : Fin 256) : View.canon (W0 x5 x6 x7 x8) (ix3 (2 : Fin 4) k j) = x7 (ix3 0 k j) := by
  refine (skip (Rect.unit (s := S4x2048x256) ![3, 0, 0] S1x2048x256.size inb_S4x2048x256_S1x2048x256_3_0_0) _ _ _ (out0 3 inb_S4x2048x256_S1x2048x256_3_0_0 2 k j (by decide))).trans ?_
  refine (hit (Rect.unit (s := S4x2048x256) ![2, 0, 0] S1x2048x256.size inb_S4x2048x256_S1x2048x256_2_0_0) _ _ (ix3 (0 : Fin 1) k j) _ (em0 2 (by decide) _ k j)).trans ?_
  exact pay7_apply _ k j
theorem c1_2 (k : Fin 512) (j : Fin 256) : View.canon (W1 x9) (ix3 (2 : Fin 4) k j) = x9 (ix4 0 (2 : Fin 4) k j) := by
  refine (skip (Rect.unit (s := S4x512x256) ![3, 0, 0] S1x512x256.size inb_S4x512x256_S1x512x256_3_0_0) _ _ _ (out1 3 inb_S4x512x256_S1x512x256_3_0_0 2 k j (by decide))).trans ?_
  refine (hit (Rect.unit (s := S4x512x256) ![2, 0, 0] S1x512x256.size inb_S4x512x256_S1x512x256_2_0_0) _ _ (ix3 (0 : Fin 1) k j) _ (em1 2 (by decide) _ k j)).trans ?_
  exact (pay8_apply _ k j).trans (ld9 2 (by decide) _ x9 k j)
theorem c0_3 (k : Fin 2048) (j : Fin 256) : View.canon (W0 x5 x6 x7 x8) (ix3 (3 : Fin 4) k j) = x8 (ix3 0 k j) := by
  refine (hit (Rect.unit (s := S4x2048x256) ![3, 0, 0] S1x2048x256.size inb_S4x2048x256_S1x2048x256_3_0_0) _ _ (ix3 (0 : Fin 1) k j) _ (em0 3 (by decide) _ k j)).trans ?_
  exact pay9_apply _ k j
theorem c1_3 (k : Fin 512) (j : Fin 256) : View.canon (W1 x9) (ix3 (3 : Fin 4) k j) = x9 (ix4 0 (3 : Fin 4) k j) := by
  refine (hit (Rect.unit (s := S4x512x256) ![3, 0, 0] S1x512x256.size inb_S4x512x256_S1x512x256_3_0_0) _ _ (ix3 (0 : Fin 1) k j) _ (em1 3 (by decide) _ k j)).trans ?_
  exact (pay10_apply _ k j).trans (ld9 3 (by decide) _ x9 k j)
end Slices

theorem sum_at (x0 : Vec Ideal S512x2048 .bf16) (x1 x2 x3 x4 : Vec Ideal S512x512 .f32) (a b c d : Vec Ideal S1x2048x256 .bf16)
    (e f g h : Vec Ideal S1x512x256 .bf16) (i : Fin 512) (j : Fin 256) :
    k0_pay1 (F := Ideal) (k0_pay13 x0 (k0_pay11 x0 a x1 e) (k0_pay12 x0 b) x2 f c x3 g) (k0_pay14 x0 d) x4 h (ix2 i j)
      = sigm (∑ k : Fin 2048, x0 (ix2 i k) * a (ix3 0 k j)) * (∑ q : Fin 512, x1 (ix2 i q) * e (ix3 0 q j))
        + sigm (∑ k : Fin 2048, x0 (ix2 i k) * b (ix3 0 k j)) * (∑ q : Fin 512, x2 (ix2 i q) * f (ix3 0 q j))
        + sigm (∑ k : Fin 2048, x0 (ix2 i k) * c (ix3 0 k j)) * (∑ q : Fin 512, x3 (ix2 i q) * g (ix3 0 q j))
        + sigm (∑ k : Fin 2048, x0 (ix2 i k) * d (ix3 0 k j)) * (∑ q : Fin 512, x4 (ix2 i q) * h (ix3 0 q j)) := by
  rw [pay1_apply, pay13_apply, pay11_apply, pay12_apply, pay14_apply]

/-- What a point stores, at an element. -/
theorem form_at (x0 : Vec Ideal S512x2048 .bf16) (x1 x2 x3 x4 : Vec Ideal S512x512 .f32) (s : Vec Ideal S4x2048x256 .bf16) (p : Vec Ideal S4x512x256 .bf16)
    (i : Fin 512) (j : Fin 256) : form x0 x1 x2 x3 x4 s p (ix2 i j)
      = sigm (∑ k : Fin 2048, x0 (ix2 i k) * s (ix3 (0 : Fin 4) k j)) * (∑ q : Fin 512, x1 (ix2 i q) * p (ix3 (0 : Fin 4) q j))
        + sigm (∑ k : Fin 2048, x0 (ix2 i k) * s (ix3 (1 : Fin 4) k j)) * (∑ q : Fin 512, x2 (ix2 i q) * p (ix3 (1 : Fin 4) q j))
        + sigm (∑ k : Fin 2048, x0 (ix2 i k) * s (ix3 (2 : Fin 4) k j)) * (∑ q : Fin 512, x3 (ix2 i q) * p (ix3 (2 : Fin 4) q j))
        + sigm (∑ k : Fin 2048, x0 (ix2 i k) * s (ix3 (3 : Fin 4) k j)) * (∑ q : Fin 512, x4 (ix2 i q) * p (ix3 (3 : Fin 4) q j)) := by
  have a0 : ∀ k, g0 s (ix3 0 k j) = s (ix3 (0 : Fin 4) k j) := fun k => ld0 0 (by decide) _ s k j
  have a1 : ∀ k, g1 s (ix3 0 k j) = s (ix3 (1 : Fin 4) k j) := fun k => ld0 1 (by decide) _ s k j
  have a2 : ∀ k, g2 s (ix3 0 k j) = s (ix3 (2 : Fin 4) k j) := fun k => ld0 2 (by decide) _ s k j
  have a3 : ∀ k, g3 s (ix3 0 k j) = s (ix3 (3 : Fin 4) k j) := fun k => ld0 3 (by decide) _ s k j
  have b0 : ∀ k, p0 p (ix3 0 k j) = p (ix3 (0 : Fin 4) k j) := fun k => ld1 0 (by decide) _ p k j
  have b1 : ∀ k, p1 p (ix3 0 k j) = p (ix3 (1 : Fin 4) k j) := fun k => ld1 1 (by decide) _ p k j
  have b2 : ∀ k, p2 p (ix3 0 k j) = p (ix3 (2 : Fin 4) k j) := fun k => ld1 2 (by decide) _ p k j
  have b3 : ∀ k, p3 p (ix3 0 k j) = p (ix3 (3 : Fin 4) k j) := fun k => ld1 3 (by decide) _ p k j
  unfold form
  generalize g0 s = c0 at *
  generalize g1 s = c1 at *
  generalize g2 s = c2 at *
  generalize g3 s = c3 at *
  generalize p0 p = d0 at *
  generalize p1 p = d1 at *
  generalize p2 p = d2 at *
  generalize p3 p = d3 at *
  rw [sum_at]
  simp only [a0, a1, a2, a3, b0, b1, b2, b3]

variable (m : (ℓ : Loc nD τ sig) → Buf (Elt Ideal) ℓ) (ρ : Dev nD → PrngReg)

/-! ## The grid -/

theorem crd_val : ∀ t : Fin grid0.N, (grid0.coords t 0).val = t.val / 16 ∧ (grid0.coords t 1).val = t.val % 16 := by decide +kernel

theorem tr0_eq : ∀ i : grid0.Coords, cc0_transform_0 i = ![(i 1).val, 0] := by decide +kernel
theorem tr1_eq : ∀ i : grid0.Coords, cc0_transform_1 i = ![(i 1).val, 0] := by decide +kernel
theorem tr2_eq : ∀ i : grid0.Coords, cc0_transform_2 i = ![(i 1).val, 0] := by decide +kernel
theorem tr3_eq : ∀ i : grid0.Coords, cc0_transform_3 i = ![(i 1).val, 0] := by decide +kernel
theorem tr4_eq : ∀ i : grid0.Coords, cc0_transform_4 i = ![(i 1).val, 0] := by decide +kernel
theorem tr5_eq : ∀ i : grid0.Coords, cc0_transform_5 i = ![0, 0, 0 + (i 0).val] := by decide +kernel
theorem tr6_eq : ∀ i : grid0.Coords, cc0_transform_6 i = ![0, 0, 8 + (i 0).val] := by decide +kernel
theorem tr7_eq : ∀ i : grid0.Coords, cc0_transform_7 i = ![0, 0, 16 + (i 0).val] := by decide +kernel
theorem tr8_eq : ∀ i : grid0.Coords, cc0_transform_8 i = ![0, 0, 24 + (i 0).val] := by decide +kernel
theorem tr9_eq : ∀ i : grid0.Coords, cc0_transform_9 i = ![0, 0, 0, (i 0).val] := by decide +kernel
theorem tr10_eq : ∀ i : grid0.Coords, cc0_transform_10 i = ![(i 1).val, (i 0).val] := by decide +kernel

theorem N128 : cfg0.N = 128 := by decide +kernel

/-- A row of point `n`'s row block, a column of its column block. -/
def row (n : ℕ) (i : Fin 512) : Fin 8192 := ⟨n % 16 * 512 + i.val, by omega⟩
def col (n : ℕ) (hn : n < cfg0.N) (j : Fin 256) : Fin 2048 := ⟨n / 16 * 256 + j.val, by have := N128; omega⟩

theorem x_at (c : Dev nD) (t : Fin cfg0.N) (i : Fin 512) (k : Fin 2048) :
    iblk m c 0 t (ix2 i k) = m ((c : Thread nD τ).loc main_arg0) (ix2 (row t.val i) k) := by
  show m ((c : Thread nD τ).loc main_arg0) _ = _
  refine congrArg (m ((c : Thread nD τ).loc main_arg0)) (funext fun a => Fin.ext ?_)
  show cc0_transform_0 (grid0.coords t) a * S512x2048.size a + 1 * (ix2 i k a).val = _
  rw [tr0_eq, (crd_val t).2]
  match a with
  | ⟨0, _⟩ => show t.val % 16 * 512 + 1 * i.val = t.val % 16 * 512 + i.val; omega
  | ⟨1, _⟩ => show 0 * 2048 + 1 * k.val = k.val; omega
theorem o1_at (c : Dev nD) (t : Fin cfg0.N) (i k : Fin 512) :
    iblk m c 1 t (ix2 i k) = m ((c : Thread nD τ).loc main_arg1) (ix2 (row t.val i) k) := by
  show m ((c : Thread nD τ).loc main_arg1) _ = _
  refine congrArg (m ((c : Thread nD τ).loc main_arg1)) (funext fun a => Fin.ext ?_)
  show cc0_transform_1 (grid0.coords t) a * S512x512.size a + 1 * (ix2 i k a).val = _
  rw [tr1_eq, (crd_val t).2]
  match a with
  | ⟨0, _⟩ => show t.val % 16 * 512 + 1 * i.val = t.val % 16 * 512 + i.val; omega
  | ⟨1, _⟩ => show 0 * 512 + 1 * k.val = k.val; omega
theorem o2_at (c : Dev nD) (t : Fin cfg0.N) (i k : Fin 512) :
    iblk m c 2 t (ix2 i k) = m ((c : Thread nD τ).loc main_arg2) (ix2 (row t.val i) k) := by
  show m ((c : Thread nD τ).loc main_arg2) _ = _
  refine congrArg (m ((c : Thread nD τ).loc main_arg2)) (funext fun a => Fin.ext ?_)
  show cc0_transform_2 (grid0.coords t) a * S512x512.size a + 1 * (ix2 i k a).val = _
  rw [tr2_eq, (crd_val t).2]
  match a with
  | ⟨0, _⟩ => show t.val % 16 * 512 + 1 * i.val = t.val % 16 * 512 + i.val; omega
  | ⟨1, _⟩ => show 0 * 512 + 1 * k.val = k.val; omega
theorem o3_at (c : Dev nD) (t : Fin cfg0.N) (i k : Fin 512) :
    iblk m c 3 t (ix2 i k) = m ((c : Thread nD τ).loc main_arg3) (ix2 (row t.val i) k) := by
  show m ((c : Thread nD τ).loc main_arg3) _ = _
  refine congrArg (m ((c : Thread nD τ).loc main_arg3)) (funext fun a => Fin.ext ?_)
  show cc0_transform_3 (grid0.coords t) a * S512x512.size a + 1 * (ix2 i k a).val = _
  rw [tr3_eq, (crd_val t).2]
  match a with
  | ⟨0, _⟩ => show t.val % 16 * 512 + 1 * i.val = t.val % 16 * 512 + i.val; omega
  | ⟨1, _⟩ => show 0 * 512 + 1 * k.val = k.val; omega
theorem o4_at (c : Dev nD) (t : Fin cfg0.N) (i k : Fin 512) :
    iblk m c 4 t (ix2 i k) = m ((c : Thread nD τ).loc main_arg4) (ix2 (row t.val i) k) := by
  show m ((c : Thread nD τ).loc main_arg4) _ = _
  refine congrArg (m ((c : Thread nD τ).loc main_arg4)) (funext fun a => Fin.ext ?_)
  show cc0_transform_4 (grid0.coords t) a * S512x512.size a + 1 * (ix2 i k a).val = _
  rw [tr4_eq, (crd_val t).2]
  match a with
  | ⟨0, _⟩ => show t.val % 16 * 512 + 1 * i.val = t.val % 16 * 512 + i.val; omega
  | ⟨1, _⟩ => show 0 * 512 + 1 * k.val = k.val; omega
theorem w0_at (c : Dev nD) (t : Fin cfg0.N) (k : Fin 2048) (j : Fin 256) :
    iblk m c 5 t (ix3 0 k j) = m ((c : Thread nD τ).loc main_arg5) (ix3 0 k (gcol 0 (col t.val t.isLt j))) := by
  show m ((c : Thread nD τ).loc main_arg5) _ = _
  refine congrArg (m ((c : Thread nD τ).loc main_arg5)) (funext fun a => Fin.ext ?_)
  show cc0_transform_5 (grid0.coords t) a * S1x2048x256.size a + 1 * (ix3 (0 : Fin 1) k j a).val = _
  rw [tr5_eq, (crd_val t).1]
  match a with
  | ⟨0, _⟩ => rfl
  | ⟨1, _⟩ => show 0 * 2048 + 1 * k.val = k.val; omega
  | ⟨2, _⟩ => show (0 + t.val / 16) * 256 + 1 * j.val = 0 * 2048 + (t.val / 16 * 256 + j.val); omega
theorem w1_at (c : Dev nD) (t : Fin cfg0.N) (k : Fin 2048) (j : Fin 256) :
    iblk m c 6 t (ix3 0 k j) = m ((c : Thread nD τ).loc main_arg5) (ix3 0 k (gcol 1 (col t.val t.isLt j))) := by
  show m ((c : Thread nD τ).loc main_arg5) _ = _
  refine congrArg (m ((c : Thread nD τ).loc main_arg5)) (funext fun a => Fin.ext ?_)
  show cc0_transform_6 (grid0.coords t) a * S1x2048x256.size a + 1 * (ix3 (0 : Fin 1) k j a).val = _
  rw [tr6_eq, (crd_val t).1]
  match a with
  | ⟨0, _⟩ => rfl
  | ⟨1, _⟩ => show 0 * 2048 + 1 * k.val = k.val; omega
  | ⟨2, _⟩ => show (8 + t.val / 16) * 256 + 1 * j.val = 1 * 2048 + (t.val / 16 * 256 + j.val); omega
theorem w2_at (c : Dev nD) (t : Fin cfg0.N) (k : Fin 2048) (j : Fin 256) :
    iblk m c 7 t (ix3 0 k j) = m ((c : Thread nD τ).loc main_arg5) (ix3 0 k (gcol 2 (col t.val t.isLt j))) := by
  show m ((c : Thread nD τ).loc main_arg5) _ = _
  refine congrArg (m ((c : Thread nD τ).loc main_arg5)) (funext fun a => Fin.ext ?_)
  show cc0_transform_7 (grid0.coords t) a * S1x2048x256.size a + 1 * (ix3 (0 : Fin 1) k j a).val = _
  rw [tr7_eq, (crd_val t).1]
  match a with
  | ⟨0, _⟩ => rfl
  | ⟨1, _⟩ => show 0 * 2048 + 1 * k.val = k.val; omega
  | ⟨2, _⟩ => show (16 + t.val / 16) * 256 + 1 * j.val = 2 * 2048 + (t.val / 16 * 256 + j.val); omega
theorem w3_at (c : Dev nD) (t : Fin cfg0.N) (k : Fin 2048) (j : Fin 256) :
    iblk m c 8 t (ix3 0 k j) = m ((c : Thread nD τ).loc main_arg5) (ix3 0 k (gcol 3 (col t.val t.isLt j))) := by
  show m ((c : Thread nD τ).loc main_arg5) _ = _
  refine congrArg (m ((c : Thread nD τ).loc main_arg5)) (funext fun a => Fin.ext ?_)
  show cc0_transform_8 (grid0.coords t) a * S1x2048x256.size a + 1 * (ix3 (0 : Fin 1) k j a).val = _
  rw [tr8_eq, (crd_val t).1]
  match a with
  | ⟨0, _⟩ => rfl
  | ⟨1, _⟩ => show 0 * 2048 + 1 * k.val = k.val; omega
  | ⟨2, _⟩ => show (24 + t.val / 16) * 256 + 1 * j.val = 3 * 2048 + (t.val / 16 * 256 + j.val); omega
theorem w_at (c : Dev nD) (t : Fin cfg0.N) (b : Fin 4) (q : Fin 512) (j : Fin 256) :
    iblk m c 9 t (ix4 0 b q j) = m ((c : Thread nD τ).loc main_arg6) (ix4 0 b q (col t.val t.isLt j)) := by
  show m ((c : Thread nD τ).loc main_arg6) _ = _
  refine congrArg (m ((c : Thread nD τ).loc main_arg6)) (funext fun a => Fin.ext ?_)
  show cc0_transform_9 (grid0.coords t) a * S1x4x512x256.size a + 1 * (ix4 (0 : Fin 1) b q j a).val = _
  rw [tr9_eq, (crd_val t).1]
  match a with
  | ⟨0, _⟩ => rfl
  | ⟨1, _⟩ => show 0 * 4 + 1 * b.val = b.val; omega
  | ⟨2, _⟩ => show 0 * 512 + 1 * q.val = q.val; omega
  | ⟨3, _⟩ => show t.val / 16 * 256 + 1 * j.val = t.val / 16 * 256 + j.val; omega

/-! ## The scratches and the output block after each point -/

theorem scr_step (c : Dev nD) (t : Fin cfg0.N) (h0 : ¬ t.val % 16 = 0) :
    (outsAt0 m c t.val t.isLt).2.1 = (outsAt0 m c (t.val - 1) (Nat.lt_of_le_of_lt (Nat.sub_le _ _) t.isLt)).2.1
    ∧ (outsAt0 m c t.val t.isLt).2.2 = (outsAt0 m c (t.val - 1) (Nat.lt_of_le_of_lt (Nat.sub_le _ _) t.isLt)).2.2 := by
  rw [outsAt0_B m c t h0]
  exact ⟨rfl, rfl⟩
theorem scr_A (c : Dev nD) (t : Fin cfg0.N) (h0 : t.val % 16 = 0) :
    (outsAt0 m c t.val t.isLt).2.1 = View.canon (W0 (iblk m c 5 t) (iblk m c 6 t) (iblk m c 7 t) (iblk m c 8 t))
    ∧ (outsAt0 m c t.val t.isLt).2.2 = View.canon (W1 (iblk m c 9 t)) := by
  rw [outsAt0_A m c t h0]
  dsimp only
  exact ⟨by rw [scr0_A], by rw [scr1_A]⟩

/-- The weights of point `n`'s column block, in the scratches. -/
abbrev Holds (c : Dev nD) (n : ℕ) (hn : n < cfg0.N) (s : Vec Ideal S4x2048x256 .bf16) (p : Vec Ideal S4x512x256 .bf16) : Prop :=
  (∀ k j, s (ix3 (0 : Fin 4) k j) = m ((c : Thread nD τ).loc main_arg5) (ix3 0 k (gcol 0 (col n hn j))))
  ∧ (∀ k j, s (ix3 (1 : Fin 4) k j) = m ((c : Thread nD τ).loc main_arg5) (ix3 0 k (gcol 1 (col n hn j))))
  ∧ (∀ k j, s (ix3 (2 : Fin 4) k j) = m ((c : Thread nD τ).loc main_arg5) (ix3 0 k (gcol 2 (col n hn j))))
  ∧ (∀ k j, s (ix3 (3 : Fin 4) k j) = m ((c : Thread nD τ).loc main_arg5) (ix3 0 k (gcol 3 (col n hn j))))
  ∧ (∀ q j, p (ix3 (0 : Fin 4) q j) = m ((c : Thread nD τ).loc main_arg6) (ix4 0 (0 : Fin 4) q (col n hn j)))
  ∧ (∀ q j, p (ix3 (1 : Fin 4) q j) = m ((c : Thread nD τ).loc main_arg6) (ix4 0 (1 : Fin 4) q (col n hn j)))
  ∧ (∀ q j, p (ix3 (2 : Fin 4) q j) = m ((c : Thread nD τ).loc main_arg6) (ix4 0 (2 : Fin 4) q (col n hn j)))
  ∧ (∀ q j, p (ix3 (3 : Fin 4) q j) = m ((c : Thread nD τ).loc main_arg6) (ix4 0 (3 : Fin 4) q (col n hn j)))

theorem holds_A (c : Dev nD) (t : Fin cfg0.N) (h0 : t.val % 16 = 0) :
    Holds m c t.val t.isLt (outsAt0 m c t.val t.isLt).2.1 (outsAt0 m c t.val t.isLt).2.2 := by
  rw [(scr_A m c t h0).1, (scr_A m c t h0).2]
  exact ⟨fun k j => (c0_0 _ _ _ _ k j).trans (w0_at m c t k j), fun k j => (c0_1 _ _ _ _ k j).trans (w1_at m c t k j),
    fun k j => (c0_2 _ _ _ _ k j).trans (w2_at m c t k j), fun k j => (c0_3 _ _ _ _ k j).trans (w3_at m c t k j),
    fun q j => (c1_0 _ q j).trans (w_at m c t 0 q j), fun q j => (c1_1 _ q j).trans (w_at m c t 1 q j),
    fun q j => (c1_2 _ q j).trans (w_at m c t 2 q j), fun q j => (c1_3 _ q j).trans (w_at m c t 3 q j)⟩

theorem holds (c : Dev nD) (n : ℕ) (hn : n < cfg0.N) : Holds m c n hn (outsAt0 m c n hn).2.1 (outsAt0 m c n hn).2.2 := by
  induction n with
  | zero => exact holds_A m c ⟨0, hn⟩ rfl
  | succ n ih =>
    by_cases h0 : (n + 1) % 16 = 0
    · exact holds_A m c ⟨n + 1, hn⟩ h0
    · have e := scr_step m c ⟨n + 1, hn⟩ h0
      have ec : ∀ j, col n (Nat.lt_of_succ_lt hn) j = col (n + 1) hn j := fun j => Fin.ext (by
        show n / 16 * 256 + j.val = (n + 1) / 16 * 256 + j.val
        omega)
      have i := ih (Nat.lt_of_succ_lt hn)
      unfold Holds at i ⊢
      simp only [ec] at i
      have e1 : (outsAt0 m c (n + 1) hn).2.1 = (outsAt0 m c n (Nat.lt_of_succ_lt hn)).2.1 := e.1
      have e2 : (outsAt0 m c (n + 1) hn).2.2 = (outsAt0 m c n (Nat.lt_of_succ_lt hn)).2.2 := e.2
      rw [e1, e2]
      exact i

/-- What the output array is shown to hold. -/
abbrev G (c : Dev nD) : Buf (Elt Ideal) ((c : Thread nD τ).loc main_v0) :=
  merge (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

theorem merge_at (x : Vec Ideal ⟨2, ![8192, 2048]⟩ .bf16) (o0 o1 o2 o3 : Vec Ideal ⟨2, ![8192, 512]⟩ .f32) (wg : Vec Ideal ⟨3, ![4, 2048, 8192]⟩ .f32)
    (w : Vec Ideal ⟨4, ![4, 4, 512, 2048]⟩ .f32) (r : Fin 8192) (n : Fin 2048) :
    merge x o0 o1 o2 o3 wg w (ix2 r n)
      = sigm (∑ k : Fin 2048, x (ix2 r k) * wg (ix3 0 k (gcol 0 n))) * (∑ q : Fin 512, o0 (ix2 r q) * w (ix4 0 (0 : Fin 4) q n))
        + sigm (∑ k : Fin 2048, x (ix2 r k) * wg (ix3 0 k (gcol 1 n))) * (∑ q : Fin 512, o1 (ix2 r q) * w (ix4 0 (1 : Fin 4) q n))
        + sigm (∑ k : Fin 2048, x (ix2 r k) * wg (ix3 0 k (gcol 2 n))) * (∑ q : Fin 512, o2 (ix2 r q) * w (ix4 0 (2 : Fin 4) q n))
        + sigm (∑ k : Fin 2048, x (ix2 r k) * wg (ix3 0 k (gcol 3 n))) * (∑ q : Fin 512, o3 (ix2 r q) * w (ix4 0 (3 : Fin 4) q n)) := rfl

theorem out_eq (c : Dev nD) (t : Fin cfg0.N) :
    (outsAt0 m c t.val t.isLt).1 = form (iblk m c 0 t) (iblk m c 1 t) (iblk m c 2 t) (iblk m c 3 t) (iblk m c 4 t)
      (outsAt0 m c t.val t.isLt).2.1 (outsAt0 m c t.val t.isLt).2.2 := by
  by_cases h0 : t.val % 16 = 0
  · rw [(scr_A m c t h0).1, (scr_A m c t h0).2, outsAt0_A m c t h0]
    dsimp only
    rw [out_A]
  · have e := scr_step m c t h0
    rw [e.1, e.2, outsAt0_B m c t h0]
    dsimp only
    rw [out_B]

theorem oblk_at (c : Dev nD) (t : Fin cfg0.N) (i : Fin 512) (j : Fin 256) :
    (outsAt0 m c t.val t.isLt).1 (ix2 i j) = G m c (ix2 (row t.val i) (col t.val t.isLt j)) := by
  refine Eq.trans ?_ (merge_at _ _ _ _ _ _ _ _ _).symm
  obtain ⟨h0, h1, h2, h3, q0, q1, q2, q3⟩ := holds m c t.val t.isLt
  rw [out_eq, form_at]
  simp only [h0, h1, h2, h3, q0, q1, q2, q3, x_at, o1_at, o2_at, o3_at, o4_at]

theorem flushed_eq (c : Dev nD) (t : Fin cfg0.N) :
    (dats m 0 c).flushed 10 t = ((cfg0.win 10).blk t).view.read (Elt Ideal) (G m c) := by
  rw [flushed10]
  funext y
  obtain ⟨i, j, rfl⟩ : ∃ (i : Fin 512) (j : Fin 256), y = ix2 i j := ⟨y 0, y 1, eq_ix2 y⟩
  show (outsAt0 m c t.val t.isLt).1 _ = G m c _
  refine (congrArg (outsAt0 m c t.val t.isLt).1 ?_).trans ((oblk_at m c t i j).trans (congrArg (G m c) ?_))
  · funext a
    match a with
    | ⟨0, _⟩ => rfl
    | ⟨1, _⟩ => rfl
  · symm
    funext a
    apply Fin.ext
    show cc0_transform_10 (grid0.coords t) a * S512x256.size a + 1 * (ix2 i j a).val = _
    rw [tr10_eq, (crd_val t).1, (crd_val t).2]
    match a with
    | ⟨0, _⟩ => show t.val % 16 * 512 + 1 * i.val = t.val % 16 * 512 + i.val; omega
    | ⟨1, _⟩ => show t.val / 16 * 256 + 1 * j.val = t.val / 16 * 256 + j.val; omega

theorem final (c : Dev nD) : (dats m 0 c).arrAt 10 cfg0.N = G m c :=
  (dats m 0 c).arrAt_eq_of_cover 10 _ (fun t _ => flushed_eq m c t) (fun i => (covered_iff10 i).2 (by
    have h0 : (i 0).val < 8192 := (i 0).isLt; have h1 : (i 1).val < 2048 := (i 1).isLt; omega))

/-- THE VALUE: the output array holds the gated sum and the arguments are as they were. -/
theorem value : θ_run (defs (F := Ideal)) (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (final m c), (h c).2⟩) (run_blocks m ρ)

end Cert.MergeIdeal.Hand
end
-- ==== Proof.MergeRef.lean ====
/- The branch merge's reference computes `merge`. -/
module

public import proofs.«01_k».proof.Defs
public import proofs.«01_k».proof.Proof.Gen.MergeRefIdeal
public import proofs.«01_k».proof.Proof.Gen.MergeRefIdeal.Read
public import proofs.«01_k».proof.Proof.SpecFfn
public import Idealize.ShloMosaic.Lib.Pointwise
public import Idealize.ShloMosaic.PureOps.Ideal
public import Idealize.ShloMosaic.Init

@[expose] public section

set_option maxRecDepth 16384

noncomputable section

namespace Cert.MergeRefIdeal.Ref
open Cert.MergeRefIdeal Cert.MergeRefIdeal.Read Cert.Spec
open Idealize.ShloMosaic

variable (x0 : Vec Ideal S8192x2048 .bf16) (x1 x2 x3 x4 : Vec Ideal S8192x512 .f32) (x5 : Vec Ideal S4x2048x8192 .f32) (x6 : Vec Ideal S4x4x512x2048 .f32)

theorem v4_0 (r : Fin 8192) (q : Fin 512) : val_main_v4 (F := Ideal) x1 x2 x3 x4 (ix3 r (0 : Fin 4) q) = x1 (ix2 r q) := by
  pointwise [val_main_v4, val_main_v3, val_main_v2, val_main_v1, val_main_v0]
theorem v4_1 (r : Fin 8192) (q : Fin 512) : val_main_v4 (F := Ideal) x1 x2 x3 x4 (ix3 r (1 : Fin 4) q) = x2 (ix2 r q) := by
  pointwise [val_main_v4, val_main_v3, val_main_v2, val_main_v1, val_main_v0]
theorem v4_2 (r : Fin 8192) (q : Fin 512) : val_main_v4 (F := Ideal) x1 x2 x3 x4 (ix3 r (2 : Fin 4) q) = x3 (ix2 r q) := by
  pointwise [val_main_v4, val_main_v3, val_main_v2, val_main_v1, val_main_v0]
theorem v4_3 (r : Fin 8192) (q : Fin 512) : val_main_v4 (F := Ideal) x1 x2 x3 x4 (ix3 r (3 : Fin 4) q) = x4 (ix2 r q) := by
  pointwise [val_main_v4, val_main_v3, val_main_v2, val_main_v1, val_main_v0]
theorem v8_at (r : Fin 8192) (b : Fin 4) (n : Fin 2048) :
    val_main_v8 (F := Ideal) x1 x2 x3 x4 x6 (ix3 r b n) = ∑ q : Fin 512, x6 (ix4 0 b q n) * val_main_v4 (F := Ideal) x1 x2 x3 x4 (ix3 r b q) := by
  pointwise [val_main_v8, val_main_v7, val_main_v6, val_main_v5]
theorem v19_at (r : Fin 8192) (b : Fin 4) (n : Fin 2048) : val_main_v19 (F := Ideal) x0 x5 (ix3 r b n) = gate x0 x5 b r n := by
  pointwise [val_main_v19, val_main_v18, val_main_v17, val_main_cst_0, val_main_v16, val_main_v15, val_main_cst, val_main_v14, val_main_v13,
    val_main_v12, val_main_v11, val_main_v10, val_main_v9, gate, sigm, gcol]
theorem v22_at (r : Fin 8192) (n : Fin 2048) :
    val_main_v22 (F := Ideal) x0 x1 x2 x3 x4 x5 x6 (ix2 r n)
      = ∑ b : Fin 4, val_main_v19 (F := Ideal) x0 x5 (ix3 r b n) * val_main_v8 (F := Ideal) x1 x2 x3 x4 x6 (ix3 r b n) := by
  pointwise [val_main_v22, val_main_v21, val_main_v20, val_main_cst_1]

theorem ref_eq : val_main_v22 (F := Ideal) x0 x1 x2 x3 x4 x5 x6 = merge x0 x1 x2 x3 x4 x5 x6 := by
  funext i
  obtain ⟨r, n, rfl⟩ : ∃ (r : Fin 8192) (n : Fin 2048), i = ix2 r n := ⟨i 0, i 1, eq_ix2 i⟩
  rw [v22_at, Fin.sum_univ_four]
  simp only [v19_at, v8_at, v4_0, v4_1, v4_2, v4_3]
  unfold merge proj
  simp only [mul_comm (x6 _)]
  rfl

end Cert.MergeRefIdeal.Ref
end
-- ==== Proof.SpecMul.lean ====
/- What the input and the output projection compute: a product with the first of four layers' weights. -/
module

public import proofs.«01_k».proof.Defs
public import Idealize.ShloMosaic.Lib.Pointwise
public import Idealize.ShloMosaic.PureOps.Ideal
public import Idealize.ShloMosaic.Init

@[expose] public section

set_option maxRecDepth 16384

noncomputable section

namespace Cert.Spec
open Idealize.ShloMosaic

/-- The product with the first layer's weights. -/
def layerMul {N : ℕ} (x : Vec Ideal ⟨2, ![8192, 2048]⟩ .bf16) (w : Vec Ideal ⟨3, ![4, 2048, N]⟩ .f32) : Vec Ideal ⟨2, ![8192, N]⟩ .f32 := fun i =>
  ∑ k : Fin 2048, x (ix2 (i 0) k) * w (ix3 0 k (i 1))

theorem layerMul_at {N : ℕ} (x : Vec Ideal ⟨2, ![8192, 2048]⟩ .bf16) (w : Vec Ideal ⟨3, ![4, 2048, N]⟩ .f32) (r : Fin 8192) (n : Fin N) :
    layerMul x w (ix2 r n) = ∑ k : Fin 2048, x (ix2 r k) * w (ix3 0 k n) := rfl

end Cert.Spec
end
-- ==== Proof.InProjIdealValue.lean ====
/- What the input projection's output array holds after the run: the product `layerMul` of the arguments.
   The grid runs the eight row blocks of one column block before the next. The first narrows the column block's weights into
   the scratch; the others find them there. So after every point the scratch holds the weights of that point's own column
   block, and the point's output block is the product of its own rectangles of the arrays. -/
module

public import proofs.«01_k».proof.Defs
public import proofs.«01_k».proof.Proof.Gen.InProjIdeal
public import proofs.«01_k».proof.Proof.Gen.InProjIdeal.Skeleton
public import proofs.«01_k».proof.Proof.Gen.InProjIdeal.Frame
public import proofs.«01_k».proof.Proof.Gen.InProjIdeal.Value
public import proofs.«01_k».proof.Proof.SpecMul
public import Idealize.ShloMosaic.Lib.Pointwise
public import Idealize.ShloMosaic.Lib.Pipeline.Value
public import Idealize.ShloMosaic.Lib.Writes
public import Idealize.ShloMosaic.Lib.Exec
public import Idealize.ShloMosaic.Lib.Tactic
public import Idealize.ShloMosaic.PureOps.Ideal
public import Idealize.ShloMosaic.Init

@[expose] public section

set_option maxRecDepth 16384

noncomputable section

namespace Cert.InProjIdeal.Hand

open Cert.InProjIdeal Cert.InProjIdeal.Gen Cert.InProjIdeal.Value Cert.Spec
open Idealize.ShloMosaic Idealize.ShloMosaic.TcCoe Idealize.ShloMosaic.Tactic
open Idealize.SL.Sem
open Idealize.ShloMosaic.Pipeline (Dat Cfg Window)

/-! ## The payloads, read at an element -/

theorem pay1_apply (w : Vec Ideal S1x2048x512 .f32) (k : Fin 2048) (n : Fin 512) : k0_pay1 (F := Ideal) w (ix2 k n) = w (ix3 0 k n) := by
  pointwise [k0_pay1]
theorem pay2_apply (x : Vec Ideal S1024x2048 .bf16) (g : Vec Ideal S2048x512 .bf16) (i : Fin 1024) (j : Fin 512) :
    k0_pay2 (F := Ideal) x g (ix2 i j) = ∑ k : Fin 2048, x (ix2 i k) * g (ix2 k j) := by
  pointwise [k0_pay2]

/-! ## What each path leaves: its run's contents in closed form -/

section Paths
variable (c : Dev nD) (i : grid0.Coords) (arg2 : Memref sig .tc .vmem S1024x2048 .bf16) (harg2 : arg2.IsWhole)
  (arg3 : Memref sig .tc .vmem S1x2048x512 .f32) (harg3 : arg3.IsWhole) (arg4 : Memref sig .tc .vmem S1024x512 .f32) (harg4 : arg4.IsWhole)
  (arg5 : Memref sig .tc .vmem S2048x512 .bf16) (harg5 : arg5.IsWhole)
  (x0 : Vec Ideal S1024x2048 .bf16) (x1 : Vec Ideal S1x2048x512 .f32) (xs0 : Vec Ideal S2048x512 .bf16)

theorem hz2 : (![0, 0] : Fin 2 → ℕ) = fun _ => 0 := by decide
theorem hz3 : (![0, 0, 0] : Fin 3 → ℕ) = fun _ => 0 := by decide

/-- A load of a whole block reads the block. -/
theorem ld_x (arg : Memref sig .tc .vmem S1024x2048 .bf16) (h : arg.IsWhole) (x : S1024x2048.Idx → Elt Ideal .bf16) :
    View.readAt (Elt Ideal) arg.view (Rect.unit (s := S1024x2048) ![0, 0] S1024x2048.size inb_S1024x2048_S1024x2048_0_0).toLoadRect (h.unread x) = x := by
  rw [View.readAt_eq_ld, h.read_unread, View.ld_unit_zero hz2]
theorem ld_w (arg : Memref sig .tc .vmem S1x2048x512 .f32) (h : arg.IsWhole) (x : S1x2048x512.Idx → Elt Ideal .f32) :
    View.readAt (Elt Ideal) arg.view (Rect.unit (s := S1x2048x512) ![0, 0, 0] S1x2048x512.size inb_S1x2048x512_S1x2048x512_0_0_0).toLoadRect (h.unread x) = x := by
  rw [View.readAt_eq_ld, h.read_unread, View.ld_unit_zero hz3]
theorem ld_s (arg : Memref sig .tc .vmem S2048x512 .bf16) (h : arg.IsWhole) (x : S2048x512.Idx → Elt Ideal .bf16) :
    View.readAt (Elt Ideal) arg.view (Rect.unit (s := S2048x512) ![0, 0] S2048x512.size inb_S2048x512_S2048x512_0_0).toLoadRect (h.unread x) = x := by
  rw [View.readAt_eq_ld, h.read_unread, View.ld_unit_zero hz2]

theorem out_A (hc0) : out0_A_2 (F := Ideal) c i arg2 harg2 arg3 harg3 arg4 harg4 arg5 harg5 hc0 x0 x1 = k0_pay2 x0 (k0_pay1 x1) := by
  unfold out0_A_2
  rw [View.read_writes_junk_eq_canon]
  unfold kernelRun0_A
  dsimp only
  sl_unfold_words
  rw [View.canon_unit_zero hz2, View.readCov_unit_zero (S := S2048x512) _ hz2, ld_x, ld_w]
theorem scr_A (hc0) : sout0_A_0 (F := Ideal) c i arg2 harg2 arg3 harg3 arg4 harg4 arg5 harg5 hc0 x0 x1 = k0_pay1 x1 := by
  unfold sout0_A_0
  rw [View.read_writes_junk_eq_canon]
  unfold kernelRun0_A
  dsimp only
  sl_unfold_words
  exact (View.canon_unit_zero (S := S2048x512) hz2 inb_S2048x512_S2048x512_0_0 _).trans (congrArg k0_pay1 (ld_w _ _ _))
theorem out_B (hc0) : out0_B_2 (F := Ideal) c i arg2 harg2 arg3 harg3 arg4 harg4 arg5 harg5 hc0 x0 x1 xs0 = k0_pay2 x0 xs0 := by
  unfold out0_B_2
  rw [View.read_writes_junk_eq_canon]
  unfold kernelRun0_B
  dsimp only
  sl_unfold_words
  rw [View.canon_unit_zero hz2, ld_x, ld_s]
end Paths

variable (m : (ℓ : Loc nD τ sig) → Buf (Elt Ideal) ℓ) (ρ : Dev nD → PrngReg)

/-! ## The grid -/

theorem crd_val : ∀ t : Fin grid0.N, (grid0.coords t 0).val = t.val / 8 ∧ (grid0.coords t 1).val = t.val % 8 := by decide +kernel

theorem tr0_eq : ∀ i : grid0.Coords, cc0_transform_0 i = ![(i 1).val, 0] := by decide +kernel
theorem tr1_eq : ∀ i : grid0.Coords, cc0_transform_1 i = ![0, 0, (i 0).val] := by decide +kernel
theorem tr2_eq : ∀ i : grid0.Coords, cc0_transform_2 i = ![(i 1).val, (i 0).val] := by decide +kernel

theorem N80 : cfg0.N = 80 := by decide +kernel

/-- A row of point `n`'s row block, a column of its column block. -/
def row (n : ℕ) (i : Fin 1024) : Fin 8192 := ⟨n % 8 * 1024 + i.val, by omega⟩
def col (n : ℕ) (hn : n < cfg0.N) (j : Fin 512) : Fin 5120 := ⟨n / 8 * 512 + j.val, by have := N80; omega⟩

theorem x_at (c : Dev nD) (t : Fin cfg0.N) (i : Fin 1024) (k : Fin 2048) :
    iblk m c 0 t (ix2 i k) = m ((c : Thread nD τ).loc main_arg0) (ix2 (row t.val i) k) := by
  show m ((c : Thread nD τ).loc main_arg0) _ = _
  refine congrArg (m ((c : Thread nD τ).loc main_arg0)) (funext fun a => Fin.ext ?_)
  show cc0_transform_0 (grid0.coords t) a * S1024x2048.size a + 1 * (ix2 i k a).val = _
  rw [tr0_eq, (crd_val t).2]
  match a with
  | ⟨0, _⟩ => show t.val % 8 * 1024 + 1 * i.val = t.val % 8 * 1024 + i.val; omega
  | ⟨1, _⟩ => show 0 * 2048 + 1 * k.val = k.val; omega
theorem g_at (c : Dev nD) (t : Fin cfg0.N) (k : Fin 2048) (j : Fin 512) :
    iblk m c 1 t (ix3 0 k j) = m ((c : Thread nD τ).loc main_arg1) (ix3 0 k (col t.val t.isLt j)) := by
  show m ((c : Thread nD τ).loc main_arg1) _ = _
  refine congrArg (m ((c : Thread nD τ).loc main_arg1)) (funext fun a => Fin.ext ?_)
  show cc0_transform_1 (grid0.coords t) a * S1x2048x512.size a + 1 * (ix3 (0 : Fin 1) k j a).val = _
  rw [tr1_eq, (crd_val t).1]
  match a with
  | ⟨0, _⟩ => rfl
  | ⟨1, _⟩ => show 0 * 2048 + 1 * k.val = k.val; omega
  | ⟨2, _⟩ => show t.val / 8 * 512 + 1 * j.val = t.val / 8 * 512 + j.val; omega
/-! ## The scratch and the output block after each point -/

theorem scr_step (c : Dev nD) (t : Fin cfg0.N) (h0 : ¬ t.val % 8 = 0) :
    (outsAt0 m c t.val t.isLt).2 = (outsAt0 m c (t.val - 1) (Nat.lt_of_le_of_lt (Nat.sub_le _ _) t.isLt)).2 := by
  rw [outsAt0_B m c t h0]
  dsimp only [sout0_B_0]

theorem scr (c : Dev nD) (n : ℕ) (hn : n < cfg0.N) (k : Fin 2048) (j : Fin 512) :
    (outsAt0 m c n hn).2 (ix2 k j) = m ((c : Thread nD τ).loc main_arg1) (ix3 0 k (col n hn j)) := by
  induction n with
  | zero =>
    have e := outsAt0_A m c ⟨0, hn⟩ rfl
    rw [show outsAt0 m c 0 hn = _ from e]
    dsimp only
    rw [scr_A, pay1_apply]
    exact g_at m c ⟨0, hn⟩ k j
  | succ n ih =>
    by_cases h0 : (n + 1) % 8 = 0
    · have e := outsAt0_A m c ⟨n + 1, hn⟩ h0
      rw [show outsAt0 m c (n + 1) hn = _ from e]
      dsimp only
      rw [scr_A, pay1_apply]
      exact g_at m c ⟨n + 1, hn⟩ k j
    · have e := scr_step m c ⟨n + 1, hn⟩ h0
      have i := ih (Nat.lt_of_succ_lt hn)
      have ec : col n (Nat.lt_of_succ_lt hn) j = col (n + 1) hn j := Fin.ext (by
        show n / 8 * 512 + j.val = (n + 1) / 8 * 512 + j.val
        omega)
      rw [ec] at i
      exact (congrFun e _).trans i

/-- What the output array is shown to hold. -/
abbrev G (c : Dev nD) : Buf (Elt Ideal) ((c : Thread nD τ).loc main_v0) :=
  layerMul (m ((c : Thread nD τ).loc main_arg0)) (m ((c : Thread nD τ).loc main_arg1))

theorem out_eq (c : Dev nD) (t : Fin cfg0.N) :
    (outsAt0 m c t.val t.isLt).1 = k0_pay2 (F := Ideal) (iblk m c 0 t) (outsAt0 m c t.val t.isLt).2 := by
  by_cases h0 : t.val % 8 = 0
  · rw [outsAt0_A m c t h0]
    dsimp only
    rw [out_A, scr_A]
  · have e := scr_step m c t h0
    rw [e, outsAt0_B m c t h0]
    dsimp only
    rw [out_B]

theorem oblk_at (c : Dev nD) (t : Fin cfg0.N) (i : Fin 1024) (j : Fin 512) :
    (outsAt0 m c t.val t.isLt).1 (ix2 i j) = G m c (ix2 (row t.val i) (col t.val t.isLt j)) := by
  refine Eq.trans ?_ (layerMul_at _ _ _ _).symm
  rw [out_eq, pay2_apply]
  simp only [scr m c t.val t.isLt _ j, x_at]

theorem flushed_eq (c : Dev nD) (t : Fin cfg0.N) :
    (dats m 0 c).flushed 2 t = ((cfg0.win 2).blk t).view.read (Elt Ideal) (G m c) := by
  rw [flushed2]
  funext y
  obtain ⟨i, j, rfl⟩ : ∃ (i : Fin 1024) (j : Fin 512), y = ix2 i j := ⟨y 0, y 1, eq_ix2 y⟩
  show (outsAt0 m c t.val t.isLt).1 _ = G m c _
  refine (congrArg (outsAt0 m c t.val t.isLt).1 ?_).trans ((oblk_at m c t i j).trans (congrArg (G m c) ?_))
  · funext a
    match a with
    | ⟨0, _⟩ => rfl
    | ⟨1, _⟩ => rfl
  · symm
    funext a
    apply Fin.ext
    show cc0_transform_2 (grid0.coords t) a * S1024x512.size a + 1 * (ix2 i j a).val = _
    rw [tr2_eq, (crd_val t).1, (crd_val t).2]
    match a with
    | ⟨0, _⟩ => show t.val % 8 * 1024 + 1 * i.val = t.val % 8 * 1024 + i.val; omega
    | ⟨1, _⟩ => show t.val / 8 * 512 + 1 * j.val = t.val / 8 * 512 + j.val; omega

theorem final (c : Dev nD) : (dats m 0 c).arrAt 2 cfg0.N = G m c :=
  (dats m 0 c).arrAt_eq_of_cover 2 _ (fun t _ => flushed_eq m c t) (fun i => (covered_iff2 i).2 (by
    have h0 : (i 0).val < 8192 := (i 0).isLt; have h1 : (i 1).val < 5120 := (i 1).isLt; omega))

/-- THE VALUE: the output array holds the product and the arguments are as they were. -/
theorem value : θ_run (defs (F := Ideal)) (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final m c), (h c).2⟩) (run_blocks m ρ)

end Cert.InProjIdeal.Hand
end
-- ==== Proof.InProjRef.lean ====
/- The input projection's reference computes `layerMul`. -/
module

public import proofs.«01_k».proof.Defs
public import proofs.«01_k».proof.Proof.Gen.InProjRefIdeal
public import proofs.«01_k».proof.Proof.Gen.InProjRefIdeal.Read
public import proofs.«01_k».proof.Proof.SpecMul
public import Idealize.ShloMosaic.Lib.Pointwise
public import Idealize.ShloMosaic.PureOps.Ideal
public import Idealize.ShloMosaic.Init

@[expose] public section

set_option maxRecDepth 16384

noncomputable section

namespace Cert.InProjRefIdeal.Ref
open Cert.InProjRefIdeal Cert.InProjRefIdeal.Read Cert.Spec
open Idealize.ShloMosaic

theorem ref_at (x0 : Vec Ideal S8192x2048 .bf16) (x1 : Vec Ideal S4x2048x5120 .f32) (r : Fin 8192) (n : Fin 5120) :
    val_main_v3 (F := Ideal) x0 x1 (ix2 r n) = ∑ k : Fin 2048, x0 (ix2 r k) * x1 (ix3 0 k n) := by
  pointwise [val_main_v3, val_main_v2, val_main_v1, val_main_v0]

theorem ref_eq (x0 : Vec Ideal S8192x2048 .bf16) (x1 : Vec Ideal S4x2048x5120 .f32) : val_main_v3 (F := Ideal) x0 x1 = layerMul x0 x1 := by
  funext i
  rw [eq_ix2 i]
  exact ref_at _ _ _ _

end Cert.InProjRefIdeal.Ref
end
-- ==== Proof.OutProjIdealValue.lean ====
/- What the output projection's output array holds after the run: the product `layerMul` of the arguments.
   The grid runs the eight row blocks of one column block before the next. The first narrows the column block's weights into
   the scratch; the others find them there. So after every point the scratch holds the weights of that point's own column
   block, and the point's output block is the product of its own rectangles of the arrays. -/
module

public import proofs.«01_k».proof.Defs
public import proofs.«01_k».proof.Proof.Gen.OutProjIdeal
public import proofs.«01_k».proof.Proof.Gen.OutProjIdeal.Skeleton
public import proofs.«01_k».proof.Proof.Gen.OutProjIdeal.Frame
public import proofs.«01_k».proof.Proof.Gen.OutProjIdeal.Value
public import proofs.«01_k».proof.Proof.SpecMul
public import Idealize.ShloMosaic.Lib.Pointwise
public import Idealize.ShloMosaic.Lib.Pipeline.Value
public import Idealize.ShloMosaic.Lib.Writes
public import Idealize.ShloMosaic.Lib.Exec
public import Idealize.ShloMosaic.Lib.Tactic
public import Idealize.ShloMosaic.PureOps.Ideal
public import Idealize.ShloMosaic.Init

@[expose] public section

set_option maxRecDepth 16384

noncomputable section

namespace Cert.OutProjIdeal.Hand

open Cert.OutProjIdeal Cert.OutProjIdeal.Gen Cert.OutProjIdeal.Value Cert.Spec
open Idealize.ShloMosaic Idealize.ShloMosaic.TcCoe Idealize.ShloMosaic.Tactic
open Idealize.SL.Sem
open Idealize.ShloMosaic.Pipeline (Dat Cfg Window)

/-! ## The payloads, read at an element -/

theorem pay1_apply (w : Vec Ideal S1x2048x512 .f32) (k : Fin 2048) (n : Fin 512) : k0_pay1 (F := Ideal) w (ix2 k n) = w (ix3 0 k n) := by
  pointwise [k0_pay1]
theorem pay2_apply (x : Vec Ideal S1024x2048 .bf16) (g : Vec Ideal S2048x512 .bf16) (i : Fin 1024) (j : Fin 512) :
    k0_pay2 (F := Ideal) x g (ix2 i j) = ∑ k : Fin 2048, x (ix2 i k) * g (ix2 k j) := by
  pointwise [k0_pay2]

/-! ## What each path leaves: its run's contents in closed form -/

section Paths
variable (c : Dev nD) (i : grid0.Coords) (arg2 : Memref sig .tc .vmem S1024x2048 .bf16) (harg2 : arg2.IsWhole)
  (arg3 : Memref sig .tc .vmem S1x2048x512 .f32) (harg3 : arg3.IsWhole) (arg4 : Memref sig .tc .vmem S1024x512 .f32) (harg4 : arg4.IsWhole)
  (arg5 : Memref sig .tc .vmem S2048x512 .bf16) (harg5 : arg5.IsWhole)
  (x0 : Vec Ideal S1024x2048 .bf16) (x1 : Vec Ideal S1x2048x512 .f32) (xs0 : Vec Ideal S2048x512 .bf16)

theorem hz2 : (![0, 0] : Fin 2 → ℕ) = fun _ => 0 := by decide
theorem hz3 : (![0, 0, 0] : Fin 3 → ℕ) = fun _ => 0 := by decide

/-- A load of a whole block reads the block. -/
theorem ld_x (arg : Memref sig .tc .vmem S1024x2048 .bf16) (h : arg.IsWhole) (x : S1024x2048.Idx → Elt Ideal .bf16) :
    View.readAt (Elt Ideal) arg.view (Rect.unit (s := S1024x2048) ![0, 0] S1024x2048.size inb_S1024x2048_S1024x2048_0_0).toLoadRect (h.unread x) = x := by
  rw [View.readAt_eq_ld, h.read_unread, View.ld_unit_zero hz2]
theorem ld_w (arg : Memref sig .tc .vmem S1x2048x512 .f32) (h : arg.IsWhole) (x : S1x2048x512.Idx → Elt Ideal .f32) :
    View.readAt (Elt Ideal) arg.view (Rect.unit (s := S1x2048x512) ![0, 0, 0] S1x2048x512.size inb_S1x2048x512_S1x2048x512_0_0_0).toLoadRect (h.unread x) = x := by
  rw [View.readAt_eq_ld, h.read_unread, View.ld_unit_zero hz3]
theorem ld_s (arg : Memref sig .tc .vmem S2048x512 .bf16) (h : arg.IsWhole) (x : S2048x512.Idx → Elt Ideal .bf16) :
    View.readAt (Elt Ideal) arg.view (Rect.unit (s := S2048x512) ![0, 0] S2048x512.size inb_S2048x512_S2048x512_0_0).toLoadRect (h.unread x) = x := by
  rw [View.readAt_eq_ld, h.read_unread, View.ld_unit_zero hz2]

theorem out_A (hc0) : out0_A_2 (F := Ideal) c i arg2 harg2 arg3 harg3 arg4 harg4 arg5 harg5 hc0 x0 x1 = k0_pay2 x0 (k0_pay1 x1) := by
  unfold out0_A_2
  rw [View.read_writes_junk_eq_canon]
  unfold kernelRun0_A
  dsimp only
  sl_unfold_words
  rw [View.canon_unit_zero hz2, View.readCov_unit_zero (S := S2048x512) _ hz2, ld_x, ld_w]
theorem scr_A (hc0) : sout0_A_0 (F := Ideal) c i arg2 harg2 arg3 harg3 arg4 harg4 arg5 harg5 hc0 x0 x1 = k0_pay1 x1 := by
  unfold sout0_A_0
  rw [View.read_writes_junk_eq_canon]
  unfold kernelRun0_A
  dsimp only
  sl_unfold_words
  exact (View.canon_unit_zero (S := S2048x512) hz2 inb_S2048x512_S2048x512_0_0 _).trans (congrArg k0_pay1 (ld_w _ _ _))
theorem out_B (hc0) : out0_B_2 (F := Ideal) c i arg2 harg2 arg3 harg3 arg4 harg4 arg5 harg5 hc0 x0 x1 xs0 = k0_pay2 x0 xs0 := by
  unfold out0_B_2
  rw [View.read_writes_junk_eq_canon]
  unfold kernelRun0_B
  dsimp only
  sl_unfold_words
  rw [View.canon_unit_zero hz2, ld_x, ld_s]
end Paths

variable (m : (ℓ : Loc nD τ sig) → Buf (Elt Ideal) ℓ) (ρ : Dev nD → PrngReg)

/-! ## The grid -/

theorem crd_val : ∀ t : Fin grid0.N, (grid0.coords t 0).val = t.val / 8 ∧ (grid0.coords t 1).val = t.val % 8 := by decide +kernel

theorem tr0_eq : ∀ i : grid0.Coords, cc0_transform_0 i = ![(i 1).val, 0] := by decide +kernel
theorem tr1_eq : ∀ i : grid0.Coords, cc0_transform_1 i = ![0, 0, (i 0).val] := by decide +kernel
theorem tr2_eq : ∀ i : grid0.Coords, cc0_transform_2 i = ![(i 1).val, (i 0).val] := by decide +kernel

theorem N32 : cfg0.N = 32 := by decide +kernel

/-- A row of point `n`'s row block, a column of its column block. -/
def row (n : ℕ) (i : Fin 1024) : Fin 8192 := ⟨n % 8 * 1024 + i.val, by omega⟩
def col (n : ℕ) (hn : n < cfg0.N) (j : Fin 512) : Fin 2048 := ⟨n / 8 * 512 + j.val, by have := N32; omega⟩

theorem x_at (c : Dev nD) (t : Fin cfg0.N) (i : Fin 1024) (k : Fin 2048) :
    iblk m c 0 t (ix2 i k) = m ((c : Thread nD τ).loc main_arg0) (ix2 (row t.val i) k) := by
  show m ((c : Thread nD τ).loc main_arg0) _ = _
  refine congrArg (m ((c : Thread nD τ).loc main_arg0)) (funext fun a => Fin.ext ?_)
  show cc0_transform_0 (grid0.coords t) a * S1024x2048.size a + 1 * (ix2 i k a).val = _
  rw [tr0_eq, (crd_val t).2]
  match a with
  | ⟨0, _⟩ => show t.val % 8 * 1024 + 1 * i.val = t.val % 8 * 1024 + i.val; omega
  | ⟨1, _⟩ => show 0 * 2048 + 1 * k.val = k.val; omega
theorem g_at (c : Dev nD) (t : Fin cfg0.N) (k : Fin 2048) (j : Fin 512) :
    iblk m c 1 t (ix3 0 k j) = m ((c : Thread nD τ).loc main_arg1) (ix3 0 k (col t.val t.isLt j)) := by
  show m ((c : Thread nD τ).loc main_arg1) _ = _
  refine congrArg (m ((c : Thread nD τ).loc main_arg1)) (funext fun a => Fin.ext ?_)
  show cc0_transform_1 (grid0.coords t) a * S1x2048x512.size a + 1 * (ix3 (0 : Fin 1) k j a).val = _
  rw [tr1_eq, (crd_val t).1]
  match a with
  | ⟨0, _⟩ => rfl
  | ⟨1, _⟩ => show 0 * 2048 + 1 * k.val = k.val; omega
  | ⟨2, _⟩ => show t.val / 8 * 512 + 1 * j.val = t.val / 8 * 512 + j.val; omega
/-! ## The scratch and the output block after each point -/

theorem scr_step (c : Dev nD) (t : Fin cfg0.N) (h0 : ¬ t.val % 8 = 0) :
    (outsAt0 m c t.val t.isLt).2 = (outsAt0 m c (t.val - 1) (Nat.lt_of_le_of_lt (Nat.sub_le _ _) t.isLt)).2 := by
  rw [outsAt0_B m c t h0]
  dsimp only [sout0_B_0]

theorem scr (c : Dev nD) (n : ℕ) (hn : n < cfg0.N) (k : Fin 2048) (j : Fin 512) :
    (outsAt0 m c n hn).2 (ix2 k j) = m ((c : Thread nD τ).loc main_arg1) (ix3 0 k (col n hn j)) := by
  induction n with
  | zero =>
    have e := outsAt0_A m c ⟨0, hn⟩ rfl
    rw [show outsAt0 m c 0 hn = _ from e]
    dsimp only
    rw [scr_A, pay1_apply]
    exact g_at m c ⟨0, hn⟩ k j
  | succ n ih =>
    by_cases h0 : (n + 1) % 8 = 0
    · have e := outsAt0_A m c ⟨n + 1, hn⟩ h0
      rw [show outsAt0 m c (n + 1) hn = _ from e]
      dsimp only
      rw [scr_A, pay1_apply]
      exact g_at m c ⟨n + 1, hn⟩ k j
    · have e := scr_step m c ⟨n + 1, hn⟩ h0
      have i := ih (Nat.lt_of_succ_lt hn)
      have ec : col n (Nat.lt_of_succ_lt hn) j = col (n + 1) hn j := Fin.ext (by
        show n / 8 * 512 + j.val = (n + 1) / 8 * 512 + j.val
        omega)
      rw [ec] at i
      exact (congrFun e _).trans i

/-- What the output array is shown to hold. -/
abbrev G (c : Dev nD) : Buf (Elt Ideal) ((c : Thread nD τ).loc main_v0) :=
  layerMul (m ((c : Thread nD τ).loc main_arg0)) (m ((c : Thread nD τ).loc main_arg1))

theorem out_eq (c : Dev nD) (t : Fin cfg0.N) :
    (outsAt0 m c t.val t.isLt).1 = k0_pay2 (F := Ideal) (iblk m c 0 t) (outsAt0 m c t.val t.isLt).2 := by
  by_cases h0 : t.val % 8 = 0
  · rw [outsAt0_A m c t h0]
    dsimp only
    rw [out_A, scr_A]
  · have e := scr_step m c t h0
    rw [e, outsAt0_B m c t h0]
    dsimp only
    rw [out_B]

theorem oblk_at (c : Dev nD) (t : Fin cfg0.N) (i : Fin 1024) (j : Fin 512) :
    (outsAt0 m c t.val t.isLt).1 (ix2 i j) = G m c (ix2 (row t.val i) (col t.val t.isLt j)) := by
  refine Eq.trans ?_ (layerMul_at _ _ _ _).symm
  rw [out_eq, pay2_apply]
  simp only [scr m c t.val t.isLt _ j, x_at]

theorem flushed_eq (c : Dev nD) (t : Fin cfg0.N) :
    (dats m 0 c).flushed 2 t = ((cfg0.win 2).blk t).view.read (Elt Ideal) (G m c) := by
  rw [flushed2]
  funext y
  obtain ⟨i, j, rfl⟩ : ∃ (i : Fin 1024) (j : Fin 512), y = ix2 i j := ⟨y 0, y 1, eq_ix2 y⟩
  show (outsAt0 m c t.val t.isLt).1 _ = G m c _
  refine (congrArg (outsAt0 m c t.val t.isLt).1 ?_).trans ((oblk_at m c t i j).trans (congrArg (G m c) ?_))
  · funext a
    match a with
    | ⟨0, _⟩ => rfl
    | ⟨1, _⟩ => rfl
  · symm
    funext a
    apply Fin.ext
    show cc0_transform_2 (grid0.coords t) a * S1024x512.size a + 1 * (ix2 i j a).val = _
    rw [tr2_eq, (crd_val t).1, (crd_val t).2]
    match a with
    | ⟨0, _⟩ => show t.val % 8 * 1024 + 1 * i.val = t.val % 8 * 1024 + i.val; omega
    | ⟨1, _⟩ => show t.val / 8 * 512 + 1 * j.val = t.val / 8 * 512 + j.val; omega

theorem final (c : Dev nD) : (dats m 0 c).arrAt 2 cfg0.N = G m c :=
  (dats m 0 c).arrAt_eq_of_cover 2 _ (fun t _ => flushed_eq m c t) (fun i => (covered_iff2 i).2 (by
    have h0 : (i 0).val < 8192 := (i 0).isLt; have h1 : (i 1).val < 2048 := (i 1).isLt; omega))

/-- THE VALUE: the output array holds the product and the arguments are as they were. -/
theorem value : θ_run (defs (F := Ideal)) (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final m c), (h c).2⟩) (run_blocks m ρ)

end Cert.OutProjIdeal.Hand
end
-- ==== Proof.OutProjRef.lean ====
/- The output projection's reference computes `layerMul`. -/
module

public import proofs.«01_k».proof.Defs
public import proofs.«01_k».proof.Proof.Gen.OutProjRefIdeal
public import proofs.«01_k».proof.Proof.Gen.OutProjRefIdeal.Read
public import proofs.«01_k».proof.Proof.SpecMul
public import Idealize.ShloMosaic.Lib.Pointwise
public import Idealize.ShloMosaic.PureOps.Ideal
public import Idealize.ShloMosaic.Init

@[expose] public section

set_option maxRecDepth 16384

noncomputable section

namespace Cert.OutProjRefIdeal.Ref
open Cert.OutProjRefIdeal Cert.OutProjRefIdeal.Read Cert.Spec
open Idealize.ShloMosaic

theorem ref_at (x0 : Vec Ideal S8192x2048 .bf16) (x1 : Vec Ideal S4x2048x2048 .f32) (r : Fin 8192) (n : Fin 2048) :
    val_main_v3 (F := Ideal) x0 x1 (ix2 r n) = ∑ k : Fin 2048, x0 (ix2 r k) * x1 (ix3 0 k n) := by
  pointwise [val_main_v3, val_main_v2, val_main_v1, val_main_v0]

theorem ref_eq (x0 : Vec Ideal S8192x2048 .bf16) (x1 : Vec Ideal S4x2048x2048 .f32) : val_main_v3 (F := Ideal) x0 x1 = layerMul x0 x1 := by
  funext i
  rw [eq_ix2 i]
  exact ref_at _ _ _ _

end Cert.OutProjRefIdeal.Ref
end
-- ==== Proof.SpecTrunk.lean ====
/- What the layer's smaller calls compute, as functions on whole arrays: the conditioning projection, the modulation, the
   scaled residual with its layer norm, the normed latent's projection and the compression of the gathered blocks. -/
module

public import proofs.«01_k».proof.Defs
public import proofs.«01_k».proof.Proof.Spec
public import Idealize.ShloMosaic.Lib.Pointwise
public import Idealize.ShloMosaic.PureOps.Ideal
public import Idealize.ShloMosaic.Init

@[expose] public section

set_option maxRecDepth 16384

noncomputable section

namespace Cert.Spec
open Idealize.ShloMosaic

/-- `silu` with `0 - x` for `-x`. -/
theorem silu_sub (x : EReal) : x * Ideal.div 1 (1 + Ideal.exp (0 - x)) = silu x := by
  unfold silu
  rw [zero_sub]

/-- Column `j` of part `p` of the six parts of a modulation vector. -/
def part (p : Fin 6) (j : Fin 2048) : Fin 12288 := ⟨p.val * 2048 + j.val, by omega⟩

/-- `silu` of the conditioning rows, times the first layer's weights, plus the bias. -/
def cond (x : Vec Ideal ⟨2, ![8, 2048]⟩ .f32) (w : Vec Ideal ⟨3, ![4, 2048, 12288]⟩ .f32) (b : Vec Ideal ⟨2, ![1, 12288]⟩ .f32) :
    Vec Ideal ⟨2, ![8, 12288]⟩ .f32 := fun i =>
  (∑ k : Fin 2048, silu (x (ix2 (i 0) k)) * w (ix3 0 k (i 1))) + b (ix2 0 (i 1))

/-- `x · (1 + scale) + shift`. -/
def modulate (x : Vec Ideal ⟨2, ![8192, 2048]⟩ .f32) (md : Vec Ideal ⟨2, ![1, 12288]⟩ .f32) : Vec Ideal ⟨2, ![8192, 2048]⟩ .bf16 := fun i =>
  x (ix2 (i 0) (i 1)) * (1 + md (ix2 0 (part 1 (i 1)))) + md (ix2 0 (part 0 (i 1)))

/-- The mean of a row of 2048. -/
def mean (z : Fin 2048 → EReal) : EReal := Ideal.div (∑ k : Fin 2048, z k) (Ideal.ofBits .f32 1157627904#32)

/-- The layer norm of a row, with gain `g` and bias `b`, at column `j`. -/
def lnorm (z : Fin 2048 → EReal) (g b : Vec Ideal ⟨2, ![1, 2048]⟩ .f32) (j : Fin 2048) : EReal :=
  (z j - mean z) * Ideal.rsqrt (mean (fun k => (z k - mean z) * (z k - mean z)) + Ideal.ofBits .f32 925353388#32) * g (ix2 0 j) + b (ix2 0 j)

/-- A row of the scaled residual: a constant times `x`, plus the gate times `y`. -/
def resid (x y : Vec Ideal ⟨2, ![8192, 2048]⟩ .f32) (md : Vec Ideal ⟨2, ![1, 12288]⟩ .f32) (r : Fin 8192) (k : Fin 2048) : EReal :=
  Ideal.ofBits .f32 1071072509#32 * x (ix2 r k) + md (ix2 0 (part 5 k)) * y (ix2 r k)

/-- The layer norm of the scaled residual. -/
def residLn (x y : Vec Ideal ⟨2, ![8192, 2048]⟩ .f32) (md : Vec Ideal ⟨2, ![1, 12288]⟩ .f32) (g b : Vec Ideal ⟨2, ![1, 2048]⟩ .f32) :
    Vec Ideal ⟨2, ![8192, 2048]⟩ .f32 := fun i =>
  lnorm (resid x y md (i 0)) g b (i 1)

/-- A row of the latent: the columns 3584 to 3711 of the projection. -/
def latent (x : Vec Ideal ⟨2, ![8192, 5120]⟩ .f32) (r : Fin 8192) (k : Fin 128) : EReal := x (ix2 r ⟨3584 + k.val, by omega⟩)

/-- The root-mean-square norm of a row of 128, with gain `g`. -/
def rms (z : Fin 128 → EReal) (g : Vec Ideal ⟨2, ![1, 128]⟩ .f32) (k : Fin 128) : EReal :=
  z k * Ideal.rsqrt (Ideal.div (∑ q : Fin 128, z q * z q) (Ideal.ofBits .f32 1124073472#32) + Ideal.ofBits .f32 897988541#32) * g (ix2 0 k)

/-- The normed latent's product with the first layer's weights. -/
def latentMul (x : Vec Ideal ⟨2, ![8192, 5120]⟩ .f32) (g : Vec Ideal ⟨2, ![1, 128]⟩ .f32) (w : Vec Ideal ⟨3, ![4, 128, 1024]⟩ .f32) :
    Vec Ideal ⟨2, ![8192, 1024]⟩ .f32 := fun i =>
  ∑ k : Fin 128, rms (latent x (i 0)) g k * w (ix3 0 k (i 1))

/-- Whether group `a` is of the keys (0) or of the values (1). -/
def kind (a : Fin 4) : Fin 2 := ⟨a.val / 2, by omega⟩

/-- The compression of each gathered block: `silu` of the product of block and positions with the first weights, times the
    second weights. -/
def compress (x : Vec Ideal ⟨3, ![4, 512, 2048]⟩ .f32) (p : Vec Ideal ⟨4, ![4, 2, 1, 2048]⟩ .f32) (w1 : Vec Ideal ⟨4, ![4, 2, 2048, 256]⟩ .f32)
    (w2 : Vec Ideal ⟨4, ![4, 2, 256, 64]⟩ .f32) : Vec Ideal ⟨3, ![4, 512, 64]⟩ .f32 := fun i =>
  ∑ n : Fin 256, silu (∑ k : Fin 2048, (x (ix3 (i 0) (i 1) k) + p (ix4 0 (kind (i 0)) 0 k)) * w1 (ix4 0 (kind (i 0)) k n))
    * w2 (ix4 0 (kind (i 0)) n (i 2))

end Cert.Spec
end
-- ==== Proof.CondIdealValue.lean ====
/- What the conditioning projection's output array holds after the run: `cond` of the arguments. Each of the 24 grid points
   narrows its own column block's weights into the scratch and makes the eight rows of that block. -/
module

public import proofs.«01_k».proof.Defs
public import proofs.«01_k».proof.Proof.Gen.CondIdeal
public import proofs.«01_k».proof.Proof.Gen.CondIdeal.Skeleton
public import proofs.«01_k».proof.Proof.Gen.CondIdeal.Frame
public import proofs.«01_k».proof.Proof.Gen.CondIdeal.Value
public import proofs.«01_k».proof.Proof.SpecTrunk
public import Idealize.ShloMosaic.Lib.Pointwise
public import Idealize.ShloMosaic.Lib.Pipeline.Value
public import Idealize.ShloMosaic.Lib.Writes
public import Idealize.ShloMosaic.Lib.Exec
public import Idealize.ShloMosaic.Lib.Tactic
public import Idealize.ShloMosaic.PureOps.Ideal
public import Idealize.ShloMosaic.Init

@[expose] public section

set_option maxRecDepth 16384

noncomputable section

namespace Cert.CondIdeal.Hand

open Cert.CondIdeal Cert.CondIdeal.Gen Cert.CondIdeal.Value Cert.Spec
open Idealize.ShloMosaic Idealize.ShloMosaic.TcCoe Idealize.ShloMosaic.Tactic
open Idealize.SL.Sem
open Idealize.ShloMosaic.Pipeline (Dat Cfg Window)

/-! ## The payloads, read at an element -/

theorem pay1_apply (w : Vec Ideal S1x2048x512 .f32) (k : Fin 2048) (n : Fin 512) : k0_pay1 (F := Ideal) w (ix2 k n) = w (ix3 0 k n) := by
  pointwise [k0_pay1]
theorem pay2_apply (x : Vec Ideal S8x2048 .f32) (w : Vec Ideal S2048x512 .bf16) (b : Vec Ideal S1x512 .f32) (i : Fin 8) (j : Fin 512) :
    k0_pay2 (F := Ideal) x w b (ix2 i j) = (∑ k : Fin 2048, silu (x (ix2 i k)) * w (ix2 k j)) + b (ix2 0 j) := by
  simp only [← silu_sub]
  pointwise [k0_pay2]

/-! ## What a point's run leaves -/

section Paths
variable (c : Dev nD) (i : grid0.Coords) (arg2 : Memref sig .tc .vmem S8x2048 .f32) (harg2 : arg2.IsWhole)
  (arg3 : Memref sig .tc .vmem S1x2048x512 .f32) (harg3 : arg3.IsWhole) (arg4 : Memref sig .tc .vmem S1x512 .f32) (harg4 : arg4.IsWhole)
  (arg5 : Memref sig .tc .vmem S8x512 .f32) (harg5 : arg5.IsWhole) (arg6 : Memref sig .tc .vmem S2048x512 .bf16) (harg6 : arg6.IsWhole)
  (x0 : Vec Ideal S8x2048 .f32) (x1 : Vec Ideal S1x2048x512 .f32) (x2 : Vec Ideal S1x512 .f32)

theorem hz2 : (![0, 0] : Fin 2 → ℕ) = fun _ => 0 := by decide
theorem hz3 : (![0, 0, 0] : Fin 3 → ℕ) = fun _ => 0 := by decide

/-- A load of a whole block reads the block. -/
theorem ld_x (arg : Memref sig .tc .vmem S8x2048 .f32) (h : arg.IsWhole) (x : S8x2048.Idx → Elt Ideal .f32) :
    View.readAt (Elt Ideal) arg.view (Rect.unit (s := S8x2048) ![0, 0] S8x2048.size inb_S8x2048_S8x2048_0_0).toLoadRect (h.unread x) = x := by
  rw [View.readAt_eq_ld, h.read_unread, View.ld_unit_zero hz2]
theorem ld_w (arg : Memref sig .tc .vmem S1x2048x512 .f32) (h : arg.IsWhole) (x : S1x2048x512.Idx → Elt Ideal .f32) :
    View.readAt (Elt Ideal) arg.view (Rect.unit (s := S1x2048x512) ![0, 0, 0] S1x2048x512.size inb_S1x2048x512_S1x2048x512_0_0_0).toLoadRect (h.unread x) = x := by
  rw [View.readAt_eq_ld, h.read_unread, View.ld_unit_zero hz3]
theorem ld_b (arg : Memref sig .tc .vmem S1x512 .f32) (h : arg.IsWhole) (x : S1x512.Idx → Elt Ideal .f32) :
    View.readAt (Elt Ideal) arg.view (Rect.unit (s := S1x512) ![0, 0] S1x512.size inb_S1x512_S1x512_0_0).toLoadRect (h.unread x) = x := by
  rw [View.readAt_eq_ld, h.read_unread, View.ld_unit_zero hz2]

theorem out_A (hc0) : out0_A_3 (F := Ideal) c i arg2 harg2 arg3 harg3 arg4 harg4 arg5 harg5 arg6 harg6 hc0 x0 x1 x2 = k0_pay2 x0 (k0_pay1 x1) x2 := by
  unfold out0_A_3
  rw [View.read_writes_junk_eq_canon]
  unfold kernelRun0_A
  dsimp only
  sl_unfold_words
  rw [View.canon_unit_zero hz2, View.readCov_unit_zero (S := S2048x512) _ hz2, ld_x, ld_w, ld_b]
end Paths

variable (m : (ℓ : Loc nD τ sig) → Buf (Elt Ideal) ℓ) (ρ : Dev nD → PrngReg)

/-! ## The grid -/

theorem crd_val : ∀ t : Fin grid0.N, (grid0.coords t 0).val = t.val ∧ (grid0.coords t 1).val = 0 := by decide +kernel
theorem N24 : cfg0.N = 24 := by decide +kernel

theorem tr0_eq : ∀ i : grid0.Coords, cc0_transform_0 i = ![(i 1).val, 0] := by decide +kernel
theorem tr1_eq : ∀ i : grid0.Coords, cc0_transform_1 i = ![0, 0, (i 0).val] := by decide +kernel
theorem tr2_eq : ∀ i : grid0.Coords, cc0_transform_2 i = ![0, (i 0).val] := by decide +kernel
theorem tr3_eq : ∀ i : grid0.Coords, cc0_transform_3 i = ![(i 1).val, (i 0).val] := by decide +kernel

/-- A column of point `t`'s block. -/
def col (t : Fin cfg0.N) (j : Fin 512) : Fin 12288 := ⟨t.val * 512 + j.val, by have := N24; have := t.isLt; omega⟩

theorem x_at (c : Dev nD) (t : Fin cfg0.N) (i : Fin 8) (k : Fin 2048) :
    iblk m c 0 t (ix2 i k) = m ((c : Thread nD τ).loc main_arg0) (ix2 i k) := by
  show m ((c : Thread nD τ).loc main_arg0) _ = _
  refine congrArg (m ((c : Thread nD τ).loc main_arg0)) (funext fun a => Fin.ext ?_)
  show cc0_transform_0 (grid0.coords t) a * S8x2048.size a + 1 * (ix2 i k a).val = _
  rw [tr0_eq, (crd_val t).2]
  match a with
  | ⟨0, _⟩ => show 0 * 8 + 1 * i.val = i.val; omega
  | ⟨1, _⟩ => show 0 * 2048 + 1 * k.val = k.val; omega
theorem w_at (c : Dev nD) (t : Fin cfg0.N) (k : Fin 2048) (j : Fin 512) :
    iblk m c 1 t (ix3 0 k j) = m ((c : Thread nD τ).loc main_arg1) (ix3 0 k (col t j)) := by
  show m ((c : Thread nD τ).loc main_arg1) _ = _
  refine congrArg (m ((c : Thread nD τ).loc main_arg1)) (funext fun a => Fin.ext ?_)
  show cc0_transform_1 (grid0.coords t) a * S1x2048x512.size a + 1 * (ix3 (0 : Fin 1) k j a).val = _
  rw [tr1_eq, (crd_val t).1]
  match a with
  | ⟨0, _⟩ => rfl
  | ⟨1, _⟩ => show 0 * 2048 + 1 * k.val = k.val; omega
  | ⟨2, _⟩ => show t.val * 512 + 1 * j.val = t.val * 512 + j.val; omega
theorem b_at (c : Dev nD) (t : Fin cfg0.N) (j : Fin 512) :
    iblk m c 2 t (ix2 0 j) = m ((c : Thread nD τ).loc main_arg2) (ix2 0 (col t j)) := by
  show m ((c : Thread nD τ).loc main_arg2) _ = _
  refine congrArg (m ((c : Thread nD τ).loc main_arg2)) (funext fun a => Fin.ext ?_)
  show cc0_transform_2 (grid0.coords t) a * S1x512.size a + 1 * (ix2 (0 : Fin 1) j a).val = _
  rw [tr2_eq, (crd_val t).1]
  match a with
  | ⟨0, _⟩ => rfl
  | ⟨1, _⟩ => show t.val * 512 + 1 * j.val = t.val * 512 + j.val; omega

/-- What the output array is shown to hold. -/
abbrev G (c : Dev nD) : Buf (Elt Ideal) ((c : Thread nD τ).loc main_v0) :=
  cond (m ((c : Thread nD τ).loc main_arg0)) (m ((c : Thread nD τ).loc main_arg1)) (m ((c : Thread nD τ).loc main_arg2))

theorem oblk_at (c : Dev nD) (t : Fin cfg0.N) (i : Fin 8) (j : Fin 512) : outsAt0 m c t (ix2 i j) = G m c (ix2 i (col t j)) := by
  unfold outsAt0
  rw [out_A, pay2_apply]
  simp only [pay1_apply, x_at, w_at, b_at]
  rfl

theorem flushed_eq (c : Dev nD) (t : Fin cfg0.N) :
    (dats m 0 c).flushed 3 t = ((cfg0.win 3).blk t).view.read (Elt Ideal) (G m c) := by
  rw [flushed3]
  funext y
  obtain ⟨i, j, rfl⟩ : ∃ (i : Fin 8) (j : Fin 512), y = ix2 i j := ⟨y 0, y 1, eq_ix2 y⟩
  show outsAt0 m c t _ = G m c _
  refine (congrArg (outsAt0 m c t) ?_).trans ((oblk_at m c t i j).trans (congrArg (G m c) ?_))
  · funext a
    match a with
    | ⟨0, _⟩ => rfl
    | ⟨1, _⟩ => rfl
  · symm
    funext a
    apply Fin.ext
    show cc0_transform_3 (grid0.coords t) a * S8x512.size a + 1 * (ix2 i j a).val = _
    rw [tr3_eq, (crd_val t).1, (crd_val t).2]
    match a with
    | ⟨0, _⟩ => show 0 * 8 + 1 * i.val = i.val; omega
    | ⟨1, _⟩ => show t.val * 512 + 1 * j.val = t.val * 512 + j.val; omega

theorem mem_blk (t : Fin cfg0.N) (i : S8x12288.Idx) : i ∈ ((cfg0.win 3).blk t).view.set
    ↔ ∀ a : Fin 2, cc0_transform_3 (grid0.coords t) a * S8x512.size a ≤ (i a).val ∧ (i a).val < cc0_transform_3 (grid0.coords t) a * S8x512.size a + S8x512.size a := by
  show i ∈ ((View.whole main_v0).slice (win0_3.rect t)).set ↔ _
  rw [View.set_slice_whole, Rect.mem_set_unit]
  exact Iff.rfl

/-- Every index is in the block of a point that writes back. -/
theorem covered (i : S8x12288.Idx) : ∃ t : Fin cfg0.N, (cfg0.win 3).flush t = true ∧ i ∈ ((cfg0.win 3).blk t).view.set := by
  have h0 : (i 0).val < 8 := (i 0).isLt
  have h1 : (i 1).val < 12288 := (i 1).isLt
  have hN := N24
  refine ⟨⟨(i 1).val / 512, by omega⟩, (by decide +kernel : ∀ t : Fin grid0.N, win0_3.flush t = true) _, ?_⟩
  rw [mem_blk, tr3_eq, (crd_val _).1, (crd_val _).2]
  intro a
  match a with
  | ⟨0, _⟩ => show 0 * 8 ≤ (i 0).val ∧ (i 0).val < 0 * 8 + 8; omega
  | ⟨1, _⟩ => show (i 1).val / 512 * 512 ≤ (i 1).val ∧ (i 1).val < (i 1).val / 512 * 512 + 512; omega

theorem final (c : Dev nD) : (dats m 0 c).arrAt 3 cfg0.N = G m c :=
  (dats m 0 c).arrAt_eq_of_cover 3 _ (fun t _ => flushed_eq m c t) covered

/-- THE VALUE: the output array holds the projected rows and the arguments are as they were. -/
theorem value : θ_run (defs (F := Ideal)) (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (final m c), (h c).2⟩) (run_blocks m ρ)

end Cert.CondIdeal.Hand
end
-- ==== Proof.DsaKvIdealValue.lean ====
/- What the latent projection's output array holds after the run: `latentMul` of the arguments. The grid runs the eight row
   blocks of one column block before the next. The first narrows the column block's weights into the scratch; the others find
   them there. The norm of a row is taken within a point, which has the row's 128 columns. -/
module

public import proofs.«01_k».proof.Defs
public import proofs.«01_k».proof.Proof.Gen.DsaKvIdeal
public import proofs.«01_k».proof.Proof.Gen.DsaKvIdeal.Skeleton
public import proofs.«01_k».proof.Proof.Gen.DsaKvIdeal.Frame
public import proofs.«01_k».proof.Proof.Gen.DsaKvIdeal.Value
public import proofs.«01_k».proof.Proof.SpecTrunk
public import Idealize.ShloMosaic.Lib.Pointwise
public import Idealize.ShloMosaic.Lib.Pipeline.Value
public import Idealize.ShloMosaic.Lib.Writes
public import Idealize.ShloMosaic.Lib.Exec
public import Idealize.ShloMosaic.Lib.Tactic
public import Idealize.ShloMosaic.PureOps.Ideal
public import Idealize.ShloMosaic.Init

@[expose] public section

set_option maxRecDepth 16384

noncomputable section

namespace Cert.DsaKvIdeal.Hand

open Cert.DsaKvIdeal Cert.DsaKvIdeal.Gen Cert.DsaKvIdeal.Value Cert.Spec
open Idealize.ShloMosaic Idealize.ShloMosaic.TcCoe Idealize.ShloMosaic.Tactic
open Idealize.SL.Sem
open Idealize.ShloMosaic.Pipeline (Dat Cfg Window)

/-! ## The payloads, read at an element -/

theorem pay1_apply (w : Vec Ideal S1x128x512 .f32) (k : Fin 128) (n : Fin 512) : k0_pay1 (F := Ideal) w (ix2 k n) = w (ix3 0 k n) := by
  pointwise [k0_pay1]
theorem pay2_apply (x : Vec Ideal S1024x128 .f32) (g : Vec Ideal S1x128 .f32) (w : Vec Ideal S128x512 .bf16) (i : Fin 1024) (j : Fin 512) :
    k0_pay2 (F := Ideal) x g w (ix2 i j) = ∑ k : Fin 128, rms (fun q => x (ix2 i q)) g k * w (ix2 k j) := by
  pointwise [rms, k0_pay2]

/-! ## What each path leaves: its run's contents in closed form -/

section Paths
variable (c : Dev nD) (i : grid0.Coords) (arg2 : Memref sig .tc .vmem S1024x128 .f32) (harg2 : arg2.IsWhole)
  (arg3 : Memref sig .tc .vmem S1x128 .f32) (harg3 : arg3.IsWhole) (arg4 : Memref sig .tc .vmem S1x128x512 .f32) (harg4 : arg4.IsWhole)
  (arg5 : Memref sig .tc .vmem S1024x512 .f32) (harg5 : arg5.IsWhole) (arg6 : Memref sig .tc .vmem S128x512 .bf16) (harg6 : arg6.IsWhole)
  (x0 : Vec Ideal S1024x128 .f32) (x1 : Vec Ideal S1x128 .f32) (x2 : Vec Ideal S1x128x512 .f32) (xs0 : Vec Ideal S128x512 .bf16)

theorem hz2 : (![0, 0] : Fin 2 → ℕ) = fun _ => 0 := by decide
theorem hz3 : (![0, 0, 0] : Fin 3 → ℕ) = fun _ => 0 := by decide

/-- A load of a whole block reads the block. -/
theorem ld_x (arg : Memref sig .tc .vmem S1024x128 .f32) (h : arg.IsWhole) (x : S1024x128.Idx → Elt Ideal .f32) :
    View.readAt (Elt Ideal) arg.view (Rect.unit (s := S1024x128) ![0, 0] S1024x128.size inb_S1024x128_S1024x128_0_0).toLoadRect (h.unread x) = x := by
  rw [View.readAt_eq_ld, h.read_unread, View.ld_unit_zero hz2]
theorem ld_g (arg : Memref sig .tc .vmem S1x128 .f32) (h : arg.IsWhole) (x : S1x128.Idx → Elt Ideal .f32) :
    View.readAt (Elt Ideal) arg.view (Rect.unit (s := S1x128) ![0, 0] S1x128.size inb_S1x128_S1x128_0_0).toLoadRect (h.unread x) = x := by
  rw [View.readAt_eq_ld, h.read_unread, View.ld_unit_zero hz2]
theorem ld_w (arg : Memref sig .tc .vmem S1x128x512 .f32) (h : arg.IsWhole) (x : S1x128x512.Idx → Elt Ideal .f32) :
    View.readAt (Elt Ideal) arg.view (Rect.unit (s := S1x128x512) ![0, 0, 0] S1x128x512.size inb_S1x128x512_S1x128x512_0_0_0).toLoadRect (h.unread x) = x := by
  rw [View.readAt_eq_ld, h.read_unread, View.ld_unit_zero hz3]
theorem ld_s (arg : Memref sig .tc .vmem S128x512 .bf16) (h : arg.IsWhole) (x : S128x512.Idx → Elt Ideal .bf16) :
    View.readAt (Elt Ideal) arg.view (Rect.unit (s := S128x512) ![0, 0] S128x512.size inb_S128x512_S128x512_0_0).toLoadRect (h.unread x) = x := by
  rw [View.readAt_eq_ld, h.read_unread, View.ld_unit_zero hz2]

theorem out_A (hc0) : out0_A_3 (F := Ideal) c i arg2 harg2 arg3 harg3 arg4 harg4 arg5 harg5 arg6 harg6 hc0 x0 x1 x2 = k0_pay2 x0 x1 (k0_pay1 x2) := by
  unfold out0_A_3
  rw [View.read_writes_junk_eq_canon]
  unfold kernelRun0_A
  dsimp only
  sl_unfold_words
  rw [View.canon_unit_zero hz2, View.readCov_unit_zero (S := S128x512) _ hz2, ld_x, ld_g, ld_w]
theorem scr_A (hc0) : sout0_A_0 (F := Ideal) c i arg2 harg2 arg3 harg3 arg4 harg4 arg5 harg5 arg6 harg6 hc0 x0 x1 x2 = k0_pay1 x2 := by
  unfold sout0_A_0
  rw [View.read_writes_junk_eq_canon]
  unfold kernelRun0_A
  dsimp only
  sl_unfold_words
  exact (View.canon_unit_zero (S := S128x512) hz2 inb_S128x512_S128x512_0_0 _).trans (congrArg k0_pay1 (ld_w _ _ _))
theorem out_B (hc0) : out0_B_3 (F := Ideal) c i arg2 harg2 arg3 harg3 arg4 harg4 arg5 harg5 arg6 harg6 hc0 x0 x1 x2 xs0 = k0_pay2 x0 x1 xs0 := by
  unfold out0_B_3
  rw [View.read_writes_junk_eq_canon]
  unfold kernelRun0_B
  dsimp only
  sl_unfold_words
  rw [View.canon_unit_zero hz2, ld_x, ld_g, ld_s]
end Paths

variable (m : (ℓ : Loc nD τ sig) → Buf (Elt Ideal) ℓ) (ρ : Dev nD → PrngReg)

/-! ## The grid -/

theorem crd_val : ∀ t : Fin grid0.N, (grid0.coords t 0).val = t.val / 8 ∧ (grid0.coords t 1).val = t.val % 8 := by decide +kernel
theorem N16 : cfg0.N = 16 := by decide +kernel

theorem tr0_eq : ∀ i : grid0.Coords, cc0_transform_0 i = ![(i 1).val, 28] := by decide +kernel
theorem tr1_eq : ∀ i : grid0.Coords, cc0_transform_1 i = ![0, 0] := by decide +kernel
theorem tr2_eq : ∀ i : grid0.Coords, cc0_transform_2 i = ![0, 0, (i 0).val] := by decide +kernel
theorem tr3_eq : ∀ i : grid0.Coords, cc0_transform_3 i = ![(i 1).val, (i 0).val] := by decide +kernel

/-- A row of point `n`'s row block, a column of its column block. -/
def row (n : ℕ) (i : Fin 1024) : Fin 8192 := ⟨n % 8 * 1024 + i.val, by omega⟩
def col (n : ℕ) (hn : n < cfg0.N) (j : Fin 512) : Fin 1024 := ⟨n / 8 * 512 + j.val, by have := N16; omega⟩

theorem x_at (c : Dev nD) (t : Fin cfg0.N) (i : Fin 1024) (k : Fin 128) :
    iblk m c 0 t (ix2 i k) = latent (m ((c : Thread nD τ).loc main_arg0)) (row t.val i) k := by
  show m ((c : Thread nD τ).loc main_arg0) _ = _
  refine congrArg (m ((c : Thread nD τ).loc main_arg0)) (funext fun a => Fin.ext ?_)
  show cc0_transform_0 (grid0.coords t) a * S1024x128.size a + 1 * (ix2 i k a).val = _
  rw [tr0_eq, (crd_val t).2]
  match a with
  | ⟨0, _⟩ => show t.val % 8 * 1024 + 1 * i.val = t.val % 8 * 1024 + i.val; omega
  | ⟨1, _⟩ => show 28 * 128 + 1 * k.val = 3584 + k.val; omega
theorem g_at (c : Dev nD) (t : Fin cfg0.N) : (iblk m c 1 t : Vec Ideal S1x128 .f32) = m ((c : Thread nD τ).loc main_arg1) := by
  funext y
  show m ((c : Thread nD τ).loc main_arg1) _ = _
  refine congrArg (m ((c : Thread nD τ).loc main_arg1)) (funext fun a => Fin.ext ?_)
  show cc0_transform_1 (grid0.coords t) a * S1x128.size a + 1 * (y a).val = _
  rw [tr1_eq]
  match a with
  | ⟨0, _⟩ => show 0 * 1 + 1 * (y 0).val = (y 0).val; omega
  | ⟨1, _⟩ => show 0 * 128 + 1 * (y 1).val = (y 1).val; omega
theorem w_at (c : Dev nD) (t : Fin cfg0.N) (k : Fin 128) (j : Fin 512) :
    iblk m c 2 t (ix3 0 k j) = m ((c : Thread nD τ).loc main_arg2) (ix3 0 k (col t.val t.isLt j)) := by
  show m ((c : Thread nD τ).loc main_arg2) _ = _
  refine congrArg (m ((c : Thread nD τ).loc main_arg2)) (funext fun a => Fin.ext ?_)
  show cc0_transform_2 (grid0.coords t) a * S1x128x512.size a + 1 * (ix3 (0 : Fin 1) k j a).val = _
  rw [tr2_eq, (crd_val t).1]
  match a with
  | ⟨0, _⟩ => rfl
  | ⟨1, _⟩ => show 0 * 128 + 1 * k.val = k.val; omega
  | ⟨2, _⟩ => show t.val / 8 * 512 + 1 * j.val = t.val / 8 * 512 + j.val; omega

/-! ## The scratch and the output block after each point -/

theorem scr_step (c : Dev nD) (t : Fin cfg0.N) (h0 : ¬ t.val % 8 = 0) :
    (outsAt0 m c t.val t.isLt).2 = (outsAt0 m c (t.val - 1) (Nat.lt_of_le_of_lt (Nat.sub_le _ _) t.isLt)).2 := by
  rw [outsAt0_B m c t h0]
  dsimp only [sout0_B_0]

theorem scr (c : Dev nD) (n : ℕ) (hn : n < cfg0.N) (k : Fin 128) (j : Fin 512) :
    (outsAt0 m c n hn).2 (ix2 k j) = m ((c : Thread nD τ).loc main_arg2) (ix3 0 k (col n hn j)) := by
  induction n with
  | zero =>
    have e := outsAt0_A m c ⟨0, hn⟩ rfl
    rw [show outsAt0 m c 0 hn = _ from e]
    dsimp only
    rw [scr_A, pay1_apply]
    exact w_at m c ⟨0, hn⟩ k j
  | succ n ih =>
    by_cases h0 : (n + 1) % 8 = 0
    · have e := outsAt0_A m c ⟨n + 1, hn⟩ h0
      rw [show outsAt0 m c (n + 1) hn = _ from e]
      dsimp only
      rw [scr_A, pay1_apply]
      exact w_at m c ⟨n + 1, hn⟩ k j
    · have e := scr_step m c ⟨n + 1, hn⟩ h0
      have i := ih (Nat.lt_of_succ_lt hn)
      have ec : col n (Nat.lt_of_succ_lt hn) j = col (n + 1) hn j := Fin.ext (by
        show n / 8 * 512 + j.val = (n + 1) / 8 * 512 + j.val
        omega)
      rw [ec] at i
      exact (congrFun e _).trans i

/-- What the output array is shown to hold. -/
abbrev G (c : Dev nD) : Buf (Elt Ideal) ((c : Thread nD τ).loc main_v0) :=
  latentMul (m ((c : Thread nD τ).loc main_arg0)) (m ((c : Thread nD τ).loc main_arg1)) (m ((c : Thread nD τ).loc main_arg2))

theorem out_eq (c : Dev nD) (t : Fin cfg0.N) :
    (outsAt0 m c t.val t.isLt).1 = k0_pay2 (F := Ideal) (iblk m c 0 t) (iblk m c 1 t) (outsAt0 m c t.val t.isLt).2 := by
  by_cases h0 : t.val % 8 = 0
  · rw [outsAt0_A m c t h0]
    dsimp only
    rw [out_A, scr_A]
  · have e := scr_step m c t h0
    rw [e, outsAt0_B m c t h0]
    dsimp only
    rw [out_B]

theorem oblk_at (c : Dev nD) (t : Fin cfg0.N) (i : Fin 1024) (j : Fin 512) :
    (outsAt0 m c t.val t.isLt).1 (ix2 i j) = G m c (ix2 (row t.val i) (col t.val t.isLt j)) := by
  rw [out_eq, pay2_apply, g_at]
  simp only [scr m c t.val t.isLt _ j, x_at]
  rfl

theorem flushed_eq (c : Dev nD) (t : Fin cfg0.N) :
    (dats m 0 c).flushed 3 t = ((cfg0.win 3).blk t).view.read (Elt Ideal) (G m c) := by
  rw [flushed3]
  funext y
  obtain ⟨i, j, rfl⟩ : ∃ (i : Fin 1024) (j : Fin 512), y = ix2 i j := ⟨y 0, y 1, eq_ix2 y⟩
  show (outsAt0 m c t.val t.isLt).1 _ = G m c _
  refine (congrArg (outsAt0 m c t.val t.isLt).1 ?_).trans ((oblk_at m c t i j).trans (congrArg (G m c) ?_))
  · funext a
    match a with
    | ⟨0, _⟩ => rfl
    | ⟨1, _⟩ => rfl
  · symm
    funext a
    apply Fin.ext
    show cc0_transform_3 (grid0.coords t) a * S1024x512.size a + 1 * (ix2 i j a).val = _
    rw [tr3_eq, (crd_val t).1, (crd_val t).2]
    match a with
    | ⟨0, _⟩ => show t.val % 8 * 1024 + 1 * i.val = t.val % 8 * 1024 + i.val; omega
    | ⟨1, _⟩ => show t.val / 8 * 512 + 1 * j.val = t.val / 8 * 512 + j.val; omega

theorem final (c : Dev nD) : (dats m 0 c).arrAt 3 cfg0.N = G m c :=
  (dats m 0 c).arrAt_eq_of_cover 3 _ (fun t _ => flushed_eq m c t) (fun i => (covered_iff3 i).2 (by
    have h0 : (i 0).val < 8192 := (i 0).isLt; have h1 : (i 1).val < 1024 := (i 1).isLt; omega))

/-- THE VALUE: the output array holds the product and the arguments are as they were. -/
theorem value : θ_run (defs (F := Ideal)) (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (final m c), (h c).2⟩) (run_blocks m ρ)

end Cert.DsaKvIdeal.Hand
end
-- ==== Proof.ModulateIdealValue.lean ====
/- What the modulation's output array holds after the run: `modulate` of the arguments. Each of the sixteen grid points
   makes 512 whole rows. -/
module

public import proofs.«01_k».proof.Defs
public import proofs.«01_k».proof.Proof.Gen.ModulateIdeal
public import proofs.«01_k».proof.Proof.Gen.ModulateIdeal.Skeleton
public import proofs.«01_k».proof.Proof.Gen.ModulateIdeal.Frame
public import proofs.«01_k».proof.Proof.Gen.ModulateIdeal.Value
public import proofs.«01_k».proof.Proof.SpecTrunk
public import Idealize.ShloMosaic.Lib.Pointwise
public import Idealize.ShloMosaic.Lib.Pipeline.Value
public import Idealize.ShloMosaic.Lib.Writes
public import Idealize.ShloMosaic.Lib.Exec
public import Idealize.ShloMosaic.Lib.Tactic
public import Idealize.ShloMosaic.PureOps.Ideal
public import Idealize.ShloMosaic.Init

@[expose] public section

set_option maxRecDepth 16384

noncomputable section

namespace Cert.ModulateIdeal.Hand

open Cert.ModulateIdeal Cert.ModulateIdeal.Gen Cert.ModulateIdeal.Value Cert.Spec
open Idealize.ShloMosaic Idealize.ShloMosaic.TcCoe Idealize.ShloMosaic.Tactic
open Idealize.SL.Sem
open Idealize.ShloMosaic.Pipeline (Dat Cfg Window)

theorem pay1_apply (x : Vec Ideal S512x2048 .f32) (s b : Vec Ideal S1x2048 .f32) (i : Fin 512) (j : Fin 2048) :
    k0_pay1 (F := Ideal) x s b (ix2 i j) = x (ix2 i j) * (1 + s (ix2 0 j)) + b (ix2 0 j) := by
  pointwise [k0_pay1]

theorem hz2 : (![0, 0] : Fin 2 → ℕ) = fun _ => 0 := by decide

theorem out_eq (x : Vec Ideal S512x2048 .f32) (s b : Vec Ideal S1x2048 .f32) : out0_3 (F := Ideal) x s b = k0_pay1 x s b := by
  unfold out0_3
  rw [View.canon_unit_zero hz2, View.ld_unit_zero hz2, View.ld_unit_zero hz2, View.ld_unit_zero hz2]

variable (m : (ℓ : Loc nD τ sig) → Buf (Elt Ideal) ℓ) (ρ : Dev nD → PrngReg)

theorem crd_val : ∀ t : Fin grid0.N, (grid0.coords t 0).val = t.val := by decide +kernel
theorem N16 : cfg0.N = 16 := by decide +kernel

theorem tr0_eq : ∀ i : grid0.Coords, cc0_transform_0 i = ![(i 0).val, 0] := by decide +kernel
theorem tr1_eq : ∀ i : grid0.Coords, cc0_transform_1 i = ![0, 1] := by decide +kernel
theorem tr2_eq : ∀ i : grid0.Coords, cc0_transform_2 i = ![0, 0] := by decide +kernel
theorem tr3_eq : ∀ i : grid0.Coords, cc0_transform_3 i = ![(i 0).val, 0] := by decide +kernel

/-- A row of point `t`. -/
def row (t : Fin cfg0.N) (i : Fin 512) : Fin 8192 := ⟨t.val * 512 + i.val, by have := N16; have := t.isLt; omega⟩

theorem x_at (c : Dev nD) (t : Fin cfg0.N) (i : Fin 512) (k : Fin 2048) :
    iblk m c 0 t (ix2 i k) = m ((c : Thread nD τ).loc main_arg0) (ix2 (row t i) k) := by
  show m ((c : Thread nD τ).loc main_arg0) _ = _
  refine congrArg (m ((c : Thread nD τ).loc main_arg0)) (funext fun a => Fin.ext ?_)
  show cc0_transform_0 (grid0.coords t) a * S512x2048.size a + 1 * (ix2 i k a).val = _
  rw [tr0_eq, crd_val t]
  match a with
  | ⟨0, _⟩ => show t.val * 512 + 1 * i.val = t.val * 512 + i.val; omega
  | ⟨1, _⟩ => show 0 * 2048 + 1 * k.val = k.val; omega
theorem scale_at (c : Dev nD) (t : Fin cfg0.N) (k : Fin 2048) :
    iblk m c 1 t (ix2 0 k) = m ((c : Thread nD τ).loc main_arg1) (ix2 0 (part 1 k)) := by
  show m ((c : Thread nD τ).loc main_arg1) _ = _
  refine congrArg (m ((c : Thread nD τ).loc main_arg1)) (funext fun a => Fin.ext ?_)
  show cc0_transform_1 (grid0.coords t) a * S1x2048.size a + 1 * (ix2 (0 : Fin 1) k a).val = _
  rw [tr1_eq]
  match a with
  | ⟨0, _⟩ => rfl
  | ⟨1, _⟩ => show 1 * 2048 + 1 * k.val = 1 * 2048 + k.val; omega
theorem shift_at (c : Dev nD) (t : Fin cfg0.N) (k : Fin 2048) :
    iblk m c 2 t (ix2 0 k) = m ((c : Thread nD τ).loc main_arg1) (ix2 0 (part 0 k)) := by
  show m ((c : Thread nD τ).loc main_arg1) _ = _
  refine congrArg (m ((c : Thread nD τ).loc main_arg1)) (funext fun a => Fin.ext ?_)
  show cc0_transform_2 (grid0.coords t) a * S1x2048.size a + 1 * (ix2 (0 : Fin 1) k a).val = _
  rw [tr2_eq]
  match a with
  | ⟨0, _⟩ => rfl
  | ⟨1, _⟩ => show 0 * 2048 + 1 * k.val = 0 * 2048 + k.val; omega

/-- What the output array is shown to hold. -/
abbrev G (c : Dev nD) : Buf (Elt Ideal) ((c : Thread nD τ).loc main_v0) :=
  modulate (m ((c : Thread nD τ).loc main_arg0)) (m ((c : Thread nD τ).loc main_arg1))

theorem oblk_at (c : Dev nD) (t : Fin cfg0.N) (i : Fin 512) (j : Fin 2048) :
    out0_3 (F := Ideal) (iblk m c 0 t) (iblk m c 1 t) (iblk m c 2 t) (ix2 i j) = G m c (ix2 (row t i) j) := by
  rw [out_eq, pay1_apply, x_at, scale_at, shift_at]
  rfl

theorem flushed_eq (c : Dev nD) (t : Fin cfg0.N) :
    (dats m 0 c).flushed 3 t = ((cfg0.win 3).blk t).view.read (Elt Ideal) (G m c) := by
  rw [flushed3]
  funext y
  obtain ⟨i, j, rfl⟩ : ∃ (i : Fin 512) (j : Fin 2048), y = ix2 i j := ⟨y 0, y 1, eq_ix2 y⟩
  show out0_3 (F := Ideal) (iblk m c 0 t) (iblk m c 1 t) (iblk m c 2 t) _ = G m c _
  refine (congrArg (out0_3 (F := Ideal) (iblk m c 0 t) (iblk m c 1 t) (iblk m c 2 t)) ?_).trans ((oblk_at m c t i j).trans (congrArg (G m c) ?_))
  · funext a
    match a with
    | ⟨0, _⟩ => rfl
    | ⟨1, _⟩ => rfl
  · symm
    funext a
    apply Fin.ext
    show cc0_transform_3 (grid0.coords t) a * S512x2048.size a + 1 * (ix2 i j a).val = _
    rw [tr3_eq, crd_val t]
    match a with
    | ⟨0, _⟩ => show t.val * 512 + 1 * i.val = t.val * 512 + i.val; omega
    | ⟨1, _⟩ => show 0 * 2048 + 1 * j.val = j.val; omega

theorem mem_blk (t : Fin cfg0.N) (i : S8192x2048.Idx) : i ∈ ((cfg0.win 3).blk t).view.set
    ↔ ∀ a : Fin 2, cc0_transform_3 (grid0.coords t) a * S512x2048.size a ≤ (i a).val ∧ (i a).val < cc0_transform_3 (grid0.coords t) a * S512x2048.size a + S512x2048.size a := by
  show i ∈ ((View.whole main_v0).slice (win0_3.rect t)).set ↔ _
  rw [View.set_slice_whole, Rect.mem_set_unit]
  exact Iff.rfl

/-- Every index is in the block of a point that writes back. -/
theorem covered (i : S8192x2048.Idx) : ∃ t : Fin cfg0.N, (cfg0.win 3).flush t = true ∧ i ∈ ((cfg0.win 3).blk t).view.set := by
  have h0 : (i 0).val < 8192 := (i 0).isLt
  have h1 : (i 1).val < 2048 := (i 1).isLt
  have hN := N16
  refine ⟨⟨(i 0).val / 512, by omega⟩, (by decide +kernel : ∀ t : Fin grid0.N, win0_3.flush t = true) _, ?_⟩
  rw [mem_blk, tr3_eq, crd_val]
  intro a
  match a with
  | ⟨0, _⟩ => show (i 0).val / 512 * 512 ≤ (i 0).val ∧ (i 0).val < (i 0).val / 512 * 512 + 512; omega
  | ⟨1, _⟩ => show 0 * 2048 ≤ (i 1).val ∧ (i 1).val < 0 * 2048 + 2048; omega

theorem final (c : Dev nD) : (dats m 0 c).arrAt 3 cfg0.N = G m c :=
  (dats m 0 c).arrAt_eq_of_cover 3 _ (fun t _ => flushed_eq m c t) covered

/-- THE VALUE: the output array holds the modulated rows and the arguments are as they were. -/
theorem value : θ_run (defs (F := Ideal)) (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (final m c), (h c).2⟩) (run_blocks m ρ)

end Cert.ModulateIdeal.Hand
end
-- ==== Proof.ResidLnIdealValue.lean ====
/- What the residual call's two output arrays hold after the run: the layer norm `residLn` of the scaled residual, and its
   modulation by the next vector. Each of the sixteen grid points makes 512 whole rows of both, so a row's mean and variance
   are taken within a point. -/
module

public import proofs.«01_k».proof.Defs
public import proofs.«01_k».proof.Proof.Gen.ResidLnIdeal
public import proofs.«01_k».proof.Proof.Gen.ResidLnIdeal.Skeleton
public import proofs.«01_k».proof.Proof.Gen.ResidLnIdeal.Frame
public import proofs.«01_k».proof.Proof.Gen.ResidLnIdeal.Value
public import proofs.«01_k».proof.Proof.SpecTrunk
public import Idealize.ShloMosaic.Lib.Pointwise
public import Idealize.ShloMosaic.Lib.Pipeline.Value
public import Idealize.ShloMosaic.Lib.Writes
public import Idealize.ShloMosaic.Lib.Exec
public import Idealize.ShloMosaic.Lib.Tactic
public import Idealize.ShloMosaic.PureOps.Ideal
public import Idealize.ShloMosaic.Init

@[expose] public section

set_option maxRecDepth 16384

noncomputable section

namespace Cert.ResidLnIdeal.Hand

open Cert.ResidLnIdeal Cert.ResidLnIdeal.Gen Cert.ResidLnIdeal.Value Cert.Spec
open Idealize.ShloMosaic Idealize.ShloMosaic.TcCoe Idealize.ShloMosaic.Tactic
open Idealize.SL.Sem
open Idealize.ShloMosaic.Pipeline (Dat Cfg Window)

/-! ## The payloads, read at an element -/

theorem pay2_apply (x y : Vec Ideal S512x2048 .f32) (gt g b : Vec Ideal S1x2048 .f32) (i : Fin 512) (j : Fin 2048) :
    k0_pay2 (F := Ideal) x gt y g b (ix2 i j)
      = lnorm (fun k => Ideal.ofBits .f32 1071072509#32 * x (ix2 i k) + gt (ix2 0 k) * y (ix2 i k)) g b j := by
  pointwise [lnorm, mean, k0_pay2]
theorem pay3_apply (x y : Vec Ideal S512x2048 .f32) (gt g b s : Vec Ideal S1x2048 .f32) (i : Fin 512) (j : Fin 2048) :
    k0_pay3 (F := Ideal) x gt y g b s (ix2 i j) = k0_pay2 (F := Ideal) x gt y g b (ix2 i j) * (1 + s (ix2 0 j)) := by
  pointwise [k0_pay3, k0_pay2]
theorem pay1_apply (v : FVec Ideal S512x2048 .f32) (s : Vec Ideal S1x2048 .f32) (i : Fin 512) (j : Fin 2048) :
    k0_pay1 (F := Ideal) v s (ix2 i j) = v (ix2 i j) + s (ix2 0 j) := by
  pointwise [k0_pay1]

theorem hz2 : (![0, 0] : Fin 2 → ℕ) = fun _ => 0 := by decide

/-- A load of a whole block reads the block. -/
theorem ld_rows (x : Vec Ideal S512x2048 .f32) : View.ld x r0_0 = x := by rw [View.ld_unit_zero hz2]
theorem ld_vec (x : Vec Ideal S1x2048 .f32) : View.ld x r0_1 = x := by rw [View.ld_unit_zero hz2]

theorem out7_eq (x y : Vec Ideal S512x2048 .f32) (gt g b s h : Vec Ideal S1x2048 .f32) :
    out0_7 (F := Ideal) x y gt g b s h = k0_pay2 x gt y g b := by
  unfold out0_7
  rw [View.canon_unit_zero hz2, ld_rows, ld_rows, ld_vec, ld_vec, ld_vec]
theorem out8_eq (x y : Vec Ideal S512x2048 .f32) (gt g b s h : Vec Ideal S1x2048 .f32) :
    out0_8 (F := Ideal) x y gt g b s h = k0_pay1 (k0_pay3 x gt y g b s) h := by
  unfold out0_8
  rw [View.canon_unit_zero hz2, ld_rows, ld_rows, ld_vec, ld_vec, ld_vec, ld_vec, ld_vec]

variable (m : (ℓ : Loc nD τ sig) → Buf (Elt Ideal) ℓ) (ρ : Dev nD → PrngReg)

/-! ## The blocks at a grid point -/

theorem crd_val : ∀ t : Fin grid0.N, (grid0.coords t 0).val = t.val := by decide +kernel
theorem N16 : cfg0.N = 16 := by decide +kernel

theorem tr0_eq : ∀ i : grid0.Coords, cc0_transform_0 i = ![(i 0).val, 0] := by decide +kernel
theorem tr1_eq : ∀ i : grid0.Coords, cc0_transform_1 i = ![(i 0).val, 0] := by decide +kernel
theorem tr2_eq : ∀ i : grid0.Coords, cc0_transform_2 i = ![0, 5] := by decide +kernel
theorem tr3_eq : ∀ i : grid0.Coords, cc0_transform_3 i = ![0, 0] := by decide +kernel
theorem tr4_eq : ∀ i : grid0.Coords, cc0_transform_4 i = ![0, 0] := by decide +kernel
theorem tr5_eq : ∀ i : grid0.Coords, cc0_transform_5 i = ![0, 1] := by decide +kernel
theorem tr6_eq : ∀ i : grid0.Coords, cc0_transform_6 i = ![0, 0] := by decide +kernel
theorem tr7_eq : ∀ i : grid0.Coords, cc0_transform_7 i = ![(i 0).val, 0] := by decide +kernel
theorem tr8_eq : ∀ i : grid0.Coords, cc0_transform_8 i = ![(i 0).val, 0] := by decide +kernel

/-- A row of point `t`. -/
def row (t : Fin cfg0.N) (i : Fin 512) : Fin 8192 := ⟨t.val * 512 + i.val, by have := N16; have := t.isLt; omega⟩

/-- Where an index of a block of 512 rows lies in its array. -/
theorem rows_at (t : Fin cfg0.N) (i : Fin 512) (k : Fin 2048) (f : Fin 2 → ℕ) (hf : f = ![(grid0.coords t 0).val, 0]) (a : Fin 2) :
    f a * S512x2048.size a + 1 * (ix2 i k a).val = (ix2 (row t i) k a).val := by
  rw [hf, crd_val t]
  match a with
  | ⟨0, _⟩ => show t.val * 512 + 1 * i.val = t.val * 512 + i.val; omega
  | ⟨1, _⟩ => show 0 * 2048 + 1 * k.val = k.val; omega
/-- Where an index of part `p` of a modulation vector lies in it. -/
theorem part_at (p : Fin 6) (k : Fin 2048) (f : Fin 2 → ℕ) (hf : f = ![0, p.val]) (a : Fin 2) :
    f a * S1x2048.size a + 1 * (ix2 (0 : Fin 1) k a).val = (ix2 (0 : Fin 1) (part p k) a).val := by
  rw [hf]
  match a with
  | ⟨0, _⟩ => rfl
  | ⟨1, _⟩ => show p.val * 2048 + 1 * k.val = p.val * 2048 + k.val; omega
/-- A block that is its whole vector. -/
theorem vec_at (k : Fin 2048) (f : Fin 2 → ℕ) (hf : f = ![0, 0]) (a : Fin 2) :
    f a * S1x2048.size a + 1 * (ix2 (0 : Fin 1) k a).val = (ix2 (0 : Fin 1) k a).val := by
  rw [hf]
  match a with
  | ⟨0, _⟩ => rfl
  | ⟨1, _⟩ => show 0 * 2048 + 1 * k.val = k.val; omega

theorem x_at (c : Dev nD) (t : Fin cfg0.N) (i : Fin 512) (k : Fin 2048) :
    iblk m c 0 t (ix2 i k) = m ((c : Thread nD τ).loc main_arg0) (ix2 (row t i) k) :=
  congrArg (m ((c : Thread nD τ).loc main_arg0)) (funext fun a => Fin.ext (rows_at t i k _ (tr0_eq _) a))
theorem y_at (c : Dev nD) (t : Fin cfg0.N) (i : Fin 512) (k : Fin 2048) :
    iblk m c 1 t (ix2 i k) = m ((c : Thread nD τ).loc main_arg1) (ix2 (row t i) k) :=
  congrArg (m ((c : Thread nD τ).loc main_arg1)) (funext fun a => Fin.ext (rows_at t i k _ (tr1_eq _) a))
theorem gate_at (c : Dev nD) (t : Fin cfg0.N) (k : Fin 2048) :
    iblk m c 2 t (ix2 0 k) = m ((c : Thread nD τ).loc main_arg2) (ix2 0 (part 5 k)) :=
  congrArg (m ((c : Thread nD τ).loc main_arg2)) (funext fun a => Fin.ext (part_at 5 k _ (tr2_eq (grid0.coords t)) a))
theorem g_at (c : Dev nD) (t : Fin cfg0.N) (k : Fin 2048) :
    iblk m c 3 t (ix2 0 k) = m ((c : Thread nD τ).loc main_arg3) (ix2 0 k) :=
  congrArg (m ((c : Thread nD τ).loc main_arg3)) (funext fun a => Fin.ext (vec_at k _ (tr3_eq (grid0.coords t)) a))
theorem b_at (c : Dev nD) (t : Fin cfg0.N) (k : Fin 2048) :
    iblk m c 4 t (ix2 0 k) = m ((c : Thread nD τ).loc main_arg4) (ix2 0 k) :=
  congrArg (m ((c : Thread nD τ).loc main_arg4)) (funext fun a => Fin.ext (vec_at k _ (tr4_eq (grid0.coords t)) a))
theorem scale_at (c : Dev nD) (t : Fin cfg0.N) (k : Fin 2048) :
    iblk m c 5 t (ix2 0 k) = m ((c : Thread nD τ).loc main_arg5) (ix2 0 (part 1 k)) :=
  congrArg (m ((c : Thread nD τ).loc main_arg5)) (funext fun a => Fin.ext (part_at 1 k _ (tr5_eq (grid0.coords t)) a))
theorem shift_at (c : Dev nD) (t : Fin cfg0.N) (k : Fin 2048) :
    iblk m c 6 t (ix2 0 k) = m ((c : Thread nD τ).loc main_arg5) (ix2 0 (part 0 k)) :=
  congrArg (m ((c : Thread nD τ).loc main_arg5)) (funext fun a => Fin.ext (part_at 0 k _ (tr6_eq (grid0.coords t)) a))

/-! ## What the output arrays are shown to hold -/

abbrev G7 (c : Dev nD) : Buf (Elt Ideal) ((c : Thread nD τ).loc main_v0_0) :=
  residLn (m ((c : Thread nD τ).loc main_arg0)) (m ((c : Thread nD τ).loc main_arg1)) (m ((c : Thread nD τ).loc main_arg2))
    (m ((c : Thread nD τ).loc main_arg3)) (m ((c : Thread nD τ).loc main_arg4))
abbrev G8 (c : Dev nD) : Buf (Elt Ideal) ((c : Thread nD τ).loc main_v0_1) :=
  modulate (residLn (m ((c : Thread nD τ).loc main_arg0)) (m ((c : Thread nD τ).loc main_arg1)) (m ((c : Thread nD τ).loc main_arg2))
    (m ((c : Thread nD τ).loc main_arg3)) (m ((c : Thread nD τ).loc main_arg4))) (m ((c : Thread nD τ).loc main_arg5))

/-- The layer norm depends on the gain and the bias at its column only. -/
theorem lnorm_congr {z z' : Fin 2048 → EReal} {g b g' b' : Vec Ideal ⟨2, ![1, 2048]⟩ .f32} {j : Fin 2048} (hz : z = z') (hg : g (ix2 0 j) = g' (ix2 0 j))
    (hb : b (ix2 0 j) = b' (ix2 0 j)) : lnorm z g b j = lnorm z' g' b' j := by
  subst hz
  unfold lnorm
  rw [hg, hb]

theorem ln_at (c : Dev nD) (t : Fin cfg0.N) (i : Fin 512) (j : Fin 2048) :
    k0_pay2 (F := Ideal) (iblk m c 0 t) (iblk m c 2 t) (iblk m c 1 t) (iblk m c 3 t) (iblk m c 4 t) (ix2 i j) = G7 m c (ix2 (row t i) j) := by
  rw [pay2_apply]
  refine lnorm_congr (funext fun k => ?_) (g_at m c t j) (b_at m c t j)
  rw [x_at, y_at, gate_at]
  rfl

theorem oblk7_at (c : Dev nD) (t : Fin cfg0.N) (i : Fin 512) (j : Fin 2048) :
    out0_7 (F := Ideal) (iblk m c 0 t) (iblk m c 1 t) (iblk m c 2 t) (iblk m c 3 t) (iblk m c 4 t) (iblk m c 5 t) (iblk m c 6 t) (ix2 i j)
      = G7 m c (ix2 (row t i) j) := by
  rw [out7_eq, ln_at]
theorem oblk8_at (c : Dev nD) (t : Fin cfg0.N) (i : Fin 512) (j : Fin 2048) :
    out0_8 (F := Ideal) (iblk m c 0 t) (iblk m c 1 t) (iblk m c 2 t) (iblk m c 3 t) (iblk m c 4 t) (iblk m c 5 t) (iblk m c 6 t) (ix2 i j)
      = G8 m c (ix2 (row t i) j) := by
  rw [out8_eq, pay1_apply, pay3_apply, ln_at, scale_at, shift_at]
  rfl

theorem flushed7_eq (c : Dev nD) (t : Fin cfg0.N) :
    (dats m 0 c).flushed 7 t = ((cfg0.win 7).blk t).view.read (Elt Ideal) (G7 m c) := by
  rw [flushed7]
  funext y
  obtain ⟨i, j, rfl⟩ : ∃ (i : Fin 512) (j : Fin 2048), y = ix2 i j := ⟨y 0, y 1, eq_ix2 y⟩
  show out0_7 (F := Ideal) (iblk m c 0 t) (iblk m c 1 t) (iblk m c 2 t) (iblk m c 3 t) (iblk m c 4 t) (iblk m c 5 t) (iblk m c 6 t) _ = G7 m c _
  refine (congrArg (out0_7 (F := Ideal) (iblk m c 0 t) (iblk m c 1 t) (iblk m c 2 t) (iblk m c 3 t) (iblk m c 4 t) (iblk m c 5 t) (iblk m c 6 t)) ?_).trans
    ((oblk7_at m c t i j).trans (congrArg (G7 m c) (funext fun a => Fin.ext (rows_at t i j _ (tr7_eq _) a).symm)))
  funext a
  match a with
  | ⟨0, _⟩ => rfl
  | ⟨1, _⟩ => rfl
theorem flushed8_eq (c : Dev nD) (t : Fin cfg0.N) :
    (dats m 0 c).flushed 8 t = ((cfg0.win 8).blk t).view.read (Elt Ideal) (G8 m c) := by
  rw [flushed8]
  funext y
  obtain ⟨i, j, rfl⟩ : ∃ (i : Fin 512) (j : Fin 2048), y = ix2 i j := ⟨y 0, y 1, eq_ix2 y⟩
  show out0_8 (F := Ideal) (iblk m c 0 t) (iblk m c 1 t) (iblk m c 2 t) (iblk m c 3 t) (iblk m c 4 t) (iblk m c 5 t) (iblk m c 6 t) _ = G8 m c _
  refine (congrArg (out0_8 (F := Ideal) (iblk m c 0 t) (iblk m c 1 t) (iblk m c 2 t) (iblk m c 3 t) (iblk m c 4 t) (iblk m c 5 t) (iblk m c 6 t)) ?_).trans
    ((oblk8_at m c t i j).trans (congrArg (G8 m c) (funext fun a => Fin.ext (rows_at t i j _ (tr8_eq _) a).symm)))
  funext a
  match a with
  | ⟨0, _⟩ => rfl
  | ⟨1, _⟩ => rfl

/-! ## Every index is in the block of a point that writes back -/

theorem mem_blk7 (t : Fin cfg0.N) (i : S8192x2048.Idx) : i ∈ ((cfg0.win 7).blk t).view.set
    ↔ ∀ a : Fin 2, cc0_transform_7 (grid0.coords t) a * S512x2048.size a ≤ (i a).val ∧ (i a).val < cc0_transform_7 (grid0.coords t) a * S512x2048.size a + S512x2048.size a := by
  show i ∈ ((View.whole main_v0_0).slice (win0_7.rect t)).set ↔ _
  rw [View.set_slice_whole, Rect.mem_set_unit]
  exact Iff.rfl
theorem mem_blk8 (t : Fin cfg0.N) (i : S8192x2048.Idx) : i ∈ ((cfg0.win 8).blk t).view.set
    ↔ ∀ a : Fin 2, cc0_transform_8 (grid0.coords t) a * S512x2048.size a ≤ (i a).val ∧ (i a).val < cc0_transform_8 (grid0.coords t) a * S512x2048.size a + S512x2048.size a := by
  show i ∈ ((View.whole main_v0_1).slice (win0_8.rect t)).set ↔ _
  rw [View.set_slice_whole, Rect.mem_set_unit]
  exact Iff.rfl

/-- The point whose rows hold an index. -/
def pt (i : S8192x2048.Idx) : Fin cfg0.N := ⟨(i 0).val / 512, by have := N16; have h0 : (i 0).val < 8192 := (i 0).isLt; omega⟩

theorem in_rows (i : S8192x2048.Idx) (f : Fin 2 → ℕ) (hf : f = ![(grid0.coords (pt i) 0).val, 0]) (a : Fin 2) :
    f a * S512x2048.size a ≤ (i a).val ∧ (i a).val < f a * S512x2048.size a + S512x2048.size a := by
  have h1 : (i 1).val < 2048 := (i 1).isLt
  rw [hf, crd_val]
  match a with
  | ⟨0, _⟩ => show (i 0).val / 512 * 512 ≤ (i 0).val ∧ (i 0).val < (i 0).val / 512 * 512 + 512; omega
  | ⟨1, _⟩ => show 0 * 2048 ≤ (i 1).val ∧ (i 1).val < 0 * 2048 + 2048; omega

theorem final7 (c : Dev nD) : (dats m 0 c).arrAt 7 cfg0.N = G7 m c :=
  (dats m 0 c).arrAt_eq_of_cover 7 _ (fun t _ => flushed7_eq m c t) (fun i => ⟨pt i,
    (by decide +kernel : ∀ t : Fin grid0.N, win0_7.flush t = true) _, (mem_blk7 (pt i) i).2 (in_rows i _ (tr7_eq _))⟩)
theorem final8 (c : Dev nD) : (dats m 0 c).arrAt 8 cfg0.N = G8 m c :=
  (dats m 0 c).arrAt_eq_of_cover 8 _ (fun t _ => flushed8_eq m c t) (fun i => ⟨pt i,
    (by decide +kernel : ∀ t : Fin grid0.N, win0_8.flush t = true) _, (mem_blk8 (pt i) i).2 (in_rows i _ (tr8_eq _))⟩)

/-- THE VALUE: the output arrays hold the normed residual and its modulation, and the arguments are as they were. -/
theorem value : θ_run (defs (F := Ideal)) (onTc (τ := τ) (main (F := Ideal))) ⟨m, fun _ => 0, ρ⟩ (fun r => ∀ c : Dev nD,
      r.2.mem ((c.tc : Thread nD τ).loc main_v0_0) = G7 m c
      ∧ r.2.mem ((c.tc : Thread nD τ).loc main_v0_1) = G8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (final7 m c), (h c).2.1.trans (final8 m c), (h c).2.2⟩) (run_blocks m ρ)

end Cert.ResidLnIdeal.Hand
end
-- ==== Proof.NsaCompressIdealValue.lean ====
/- What the compression's output array holds after the run: `compress` of the arguments. Each of the four grid points makes
   one group; points 0 and 1 take the keys' positions and weights, points 2 and 3 the values'. -/
module

public import proofs.«01_k».proof.Defs
public import proofs.«01_k».proof.Proof.Gen.NsaCompressIdeal
public import proofs.«01_k».proof.Proof.Gen.NsaCompressIdeal.Skeleton
public import proofs.«01_k».proof.Proof.Gen.NsaCompressIdeal.Frame
public import proofs.«01_k».proof.Proof.Gen.NsaCompressIdeal.Value
public import proofs.«01_k».proof.Proof.SpecTrunk
public import Idealize.ShloMosaic.Lib.Pointwise
public import Idealize.ShloMosaic.Lib.Pipeline.Value
public import Idealize.ShloMosaic.Lib.Writes
public import Idealize.ShloMosaic.Lib.Exec
public import Idealize.ShloMosaic.Lib.Tactic
public import Idealize.ShloMosaic.PureOps.Ideal
public import Idealize.ShloMosaic.Init

@[expose] public section

set_option maxRecDepth 16384

noncomputable section

namespace Cert.NsaCompressIdeal.Hand

open Cert.NsaCompressIdeal Cert.NsaCompressIdeal.Gen Cert.NsaCompressIdeal.Value Cert.Spec
open Idealize.ShloMosaic Idealize.ShloMosaic.TcCoe Idealize.ShloMosaic.Tactic
open Idealize.SL.Sem
open Idealize.ShloMosaic.Pipeline (Dat Cfg Window)

theorem pay1_apply (x : Vec Ideal S1x512x2048 .f32) (p : Vec Ideal S1x1x1x2048 .f32) (w1 : Vec Ideal S1x1x2048x256 .f32) (w2 : Vec Ideal S1x1x256x64 .f32)
    (i : Fin 512) (j : Fin 64) :
    k0_pay1 (F := Ideal) x p w1 w2 (ix3 0 i j)
      = ∑ n : Fin 256, silu (∑ k : Fin 2048, (x (ix3 0 i k) + p (ix4 0 0 0 k)) * w1 (ix4 0 0 k n)) * w2 (ix4 0 0 n j) := by
  simp only [← silu_sub]
  pointwise [k0_pay1]

theorem hz3 : (![0, 0, 0] : Fin 3 → ℕ) = fun _ => 0 := by decide
theorem hz4 : (![0, 0, 0, 0] : Fin 4 → ℕ) = fun _ => 0 := by decide

theorem out_eq (x : Vec Ideal S1x512x2048 .f32) (p : Vec Ideal S1x1x1x2048 .f32) (w1 : Vec Ideal S1x1x2048x256 .f32) (w2 : Vec Ideal S1x1x256x64 .f32) :
    out0_4 (F := Ideal) x p w1 w2 = k0_pay1 x p w1 w2 := by
  unfold out0_4
  rw [View.canon_unit_zero hz3, View.ld_unit_zero hz3, View.ld_unit_zero hz4, View.ld_unit_zero hz4, View.ld_unit_zero hz4]

variable (m : (ℓ : Loc nD τ sig) → Buf (Elt Ideal) ℓ) (ρ : Dev nD → PrngReg)

theorem crd_val : ∀ t : Fin grid0.N, (grid0.coords t 0).val = t.val := by decide +kernel
theorem N4 : cfg0.N = 4 := by decide +kernel

theorem tr0_eq : ∀ i : grid0.Coords, cc0_transform_0 i = ![(i 0).val, 0, 0] := by decide +kernel
theorem tr1_eq : ∀ i : grid0.Coords, cc0_transform_1 i = ![0, (i 0).val / 2, 0, 0] := by decide +kernel
theorem tr2_eq : ∀ i : grid0.Coords, cc0_transform_2 i = ![0, (i 0).val / 2, 0, 0] := by decide +kernel
theorem tr3_eq : ∀ i : grid0.Coords, cc0_transform_3 i = ![0, (i 0).val / 2, 0, 0] := by decide +kernel
theorem tr4_eq : ∀ i : grid0.Coords, cc0_transform_4 i = ![(i 0).val, 0, 0] := by decide +kernel

/-- The group point `t` makes. -/
def grp (t : Fin cfg0.N) : Fin 4 := ⟨t.val, lt_of_lt_of_eq t.isLt N4⟩

theorem x_at (c : Dev nD) (t : Fin cfg0.N) (i : Fin 512) (k : Fin 2048) :
    iblk m c 0 t (ix3 0 i k) = m ((c : Thread nD τ).loc main_arg0) (ix3 (grp t) i k) := by
  show m ((c : Thread nD τ).loc main_arg0) _ = _
  refine congrArg (m ((c : Thread nD τ).loc main_arg0)) (funext fun a => Fin.ext ?_)
  show cc0_transform_0 (grid0.coords t) a * S1x512x2048.size a + 1 * (ix3 (0 : Fin 1) i k a).val = _
  rw [tr0_eq, crd_val t]
  match a with
  | ⟨0, _⟩ => show t.val * 1 + 1 * 0 = t.val; omega
  | ⟨1, _⟩ => show 0 * 512 + 1 * i.val = i.val; omega
  | ⟨2, _⟩ => show 0 * 2048 + 1 * k.val = k.val; omega
theorem p_at (c : Dev nD) (t : Fin cfg0.N) (k : Fin 2048) :
    iblk m c 1 t (ix4 0 0 0 k) = m ((c : Thread nD τ).loc main_arg1) (ix4 0 (kind (grp t)) 0 k) := by
  show m ((c : Thread nD τ).loc main_arg1) _ = _
  refine congrArg (m ((c : Thread nD τ).loc main_arg1)) (funext fun a => Fin.ext ?_)
  show cc0_transform_1 (grid0.coords t) a * S1x1x1x2048.size a + 1 * (ix4 (0 : Fin 1) (0 : Fin 1) (0 : Fin 1) k a).val = _
  rw [tr1_eq, crd_val t]
  match a with
  | ⟨0, _⟩ => rfl
  | ⟨1, _⟩ => show t.val / 2 * 1 + 1 * 0 = t.val / 2; omega
  | ⟨2, _⟩ => rfl
  | ⟨3, _⟩ => show 0 * 2048 + 1 * k.val = k.val; omega
theorem w1_at (c : Dev nD) (t : Fin cfg0.N) (k : Fin 2048) (n : Fin 256) :
    iblk m c 2 t (ix4 0 0 k n) = m ((c : Thread nD τ).loc main_arg2) (ix4 0 (kind (grp t)) k n) := by
  show m ((c : Thread nD τ).loc main_arg2) _ = _
  refine congrArg (m ((c : Thread nD τ).loc main_arg2)) (funext fun a => Fin.ext ?_)
  show cc0_transform_2 (grid0.coords t) a * S1x1x2048x256.size a + 1 * (ix4 (0 : Fin 1) (0 : Fin 1) k n a).val = _
  rw [tr2_eq, crd_val t]
  match a with
  | ⟨0, _⟩ => rfl
  | ⟨1, _⟩ => show t.val / 2 * 1 + 1 * 0 = t.val / 2; omega
  | ⟨2, _⟩ => show 0 * 2048 + 1 * k.val = k.val; omega
  | ⟨3, _⟩ => show 0 * 256 + 1 * n.val = n.val; omega
theorem w2_at (c : Dev nD) (t : Fin cfg0.N) (n : Fin 256) (j : Fin 64) :
    iblk m c 3 t (ix4 0 0 n j) = m ((c : Thread nD τ).loc main_arg3) (ix4 0 (kind (grp t)) n j) := by
  show m ((c : Thread nD τ).loc main_arg3) _ = _
  refine congrArg (m ((c : Thread nD τ).loc main_arg3)) (funext fun a => Fin.ext ?_)
  show cc0_transform_3 (grid0.coords t) a * S1x1x256x64.size a + 1 * (ix4 (0 : Fin 1) (0 : Fin 1) n j a).val = _
  rw [tr3_eq, crd_val t]
  match a with
  | ⟨0, _⟩ => rfl
  | ⟨1, _⟩ => show t.val / 2 * 1 + 1 * 0 = t.val / 2; omega
  | ⟨2, _⟩ => show 0 * 256 + 1 * n.val = n.val; omega
  | ⟨3, _⟩ => show 0 * 64 + 1 * j.val = j.val; omega

/-- What the output array is shown to hold. -/
abbrev G (c : Dev nD) : Buf (Elt Ideal) ((c : Thread nD τ).loc main_v0) :=
  compress (m ((c : Thread nD τ).loc main_arg0)) (m ((c : Thread nD τ).loc main_arg1)) (m ((c : Thread nD τ).loc main_arg2)) (m ((c : Thread nD τ).loc main_arg3))

theorem oblk_at (c : Dev nD) (t : Fin cfg0.N) (i : Fin 512) (j : Fin 64) :
    out0_4 (F := Ideal) (iblk m c 0 t) (iblk m c 1 t) (iblk m c 2 t) (iblk m c 3 t) (ix3 0 i j) = G m c (ix3 (grp t) i j) := by
  rw [out_eq, pay1_apply]
  simp only [x_at, p_at, w1_at, w2_at]
  rfl

theorem flushed_eq (c : Dev nD) (t : Fin cfg0.N) :
    (dats m 0 c).flushed 4 t = ((cfg0.win 4).blk t).view.read (Elt Ideal) (G m c) := by
  rw [flushed4]
  funext y
  obtain ⟨i, j, rfl⟩ : ∃ (i : Fin 512) (j : Fin 64), y = ix3 0 i j := ⟨y 1, y 2, (eq_ix3 y).trans
    (congrArg (fun z : Fin 1 => ix3 z (y 1) (y 2)) (Subsingleton.elim (α := Fin 1) (y 0) 0))⟩
  show out0_4 (F := Ideal) (iblk m c 0 t) (iblk m c 1 t) (iblk m c 2 t) (iblk m c 3 t) _ = G m c _
  refine (congrArg (out0_4 (F := Ideal) (iblk m c 0 t) (iblk m c 1 t) (iblk m c 2 t) (iblk m c 3 t)) ?_).trans ((oblk_at m c t i j).trans (congrArg (G m c) ?_))
  · funext a
    match a with
    | ⟨0, _⟩ => rfl
    | ⟨1, _⟩ => rfl
    | ⟨2, _⟩ => rfl
  · symm
    funext a
    apply Fin.ext
    show cc0_transform_4 (grid0.coords t) a * S1x512x64.size a + 1 * (ix3 (0 : Fin 1) i j a).val = _
    rw [tr4_eq, crd_val t]
    match a with
    | ⟨0, _⟩ => show t.val * 1 + 1 * 0 = t.val; omega
    | ⟨1, _⟩ => show 0 * 512 + 1 * i.val = i.val; omega
    | ⟨2, _⟩ => show 0 * 64 + 1 * j.val = j.val; omega

theorem mem_blk (t : Fin cfg0.N) (i : S4x512x64.Idx) : i ∈ ((cfg0.win 4).blk t).view.set
    ↔ ∀ a : Fin 3, cc0_transform_4 (grid0.coords t) a * S1x512x64.size a ≤ (i a).val ∧ (i a).val < cc0_transform_4 (grid0.coords t) a * S1x512x64.size a + S1x512x64.size a := by
  show i ∈ ((View.whole main_v0).slice (win0_4.rect t)).set ↔ _
  rw [View.set_slice_whole, Rect.mem_set_unit]
  exact Iff.rfl

/-- Every index is in the block of a point that writes back. -/
theorem covered (i : S4x512x64.Idx) : ∃ t : Fin cfg0.N, (cfg0.win 4).flush t = true ∧ i ∈ ((cfg0.win 4).blk t).view.set := by
  have h0 : (i 0).val < 4 := (i 0).isLt
  have h1 : (i 1).val < 512 := (i 1).isLt
  have h2 : (i 2).val < 64 := (i 2).isLt
  refine ⟨⟨(i 0).val, lt_of_lt_of_eq h0 N4.symm⟩, (by decide +kernel : ∀ t : Fin grid0.N, win0_4.flush t = true) _, ?_⟩
  rw [mem_blk, tr4_eq, crd_val]
  intro a
  match a with
  | ⟨0, _⟩ => show (i 0).val * 1 ≤ (i 0).val ∧ (i 0).val < (i 0).val * 1 + 1; omega
  | ⟨1, _⟩ => show 0 * 512 ≤ (i 1).val ∧ (i 1).val < 0 * 512 + 512; omega
  | ⟨2, _⟩ => show 0 * 64 ≤ (i 2).val ∧ (i 2).val < 0 * 64 + 64; omega

theorem final (c : Dev nD) : (dats m 0 c).arrAt 4 cfg0.N = G m c :=
  (dats m 0 c).arrAt_eq_of_cover 4 _ (fun t _ => flushed_eq m c t) covered

/-- THE VALUE: the output array holds the compressed blocks and the arguments are as they were. -/
theorem value : θ_run (defs (F := Ideal)) (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (final m c), (h c).2⟩) (run_blocks m ρ)

end Cert.NsaCompressIdeal.Hand
end
-- ==== Proof.TrunkRef.lean ====
/- The references of the layer's smaller calls compute the formulas of `SpecTrunk`. -/
module

public import proofs.«01_k».proof.Defs
public import proofs.«01_k».proof.Proof.Gen.CondRefIdeal
public import proofs.«01_k».proof.Proof.Gen.CondRefIdeal.Read
public import proofs.«01_k».proof.Proof.Gen.DsaKvRefIdeal
public import proofs.«01_k».proof.Proof.Gen.DsaKvRefIdeal.Read
public import proofs.«01_k».proof.Proof.Gen.ModulateRefIdeal
public import proofs.«01_k».proof.Proof.Gen.ModulateRefIdeal.Read
public import proofs.«01_k».proof.Proof.Gen.ResidLnRefIdeal
public import proofs.«01_k».proof.Proof.Gen.ResidLnRefIdeal.Read
public import proofs.«01_k».proof.Proof.Gen.NsaCompressRefIdeal
public import proofs.«01_k».proof.Proof.Gen.NsaCompressRefIdeal.Read
public import proofs.«01_k».proof.Proof.SpecTrunk
public import Idealize.ShloMosaic.Lib.Pointwise
public import Idealize.ShloMosaic.PureOps.Ideal
public import Idealize.ShloMosaic.Init

@[expose] public section

set_option maxRecDepth 16384

noncomputable section

open Cert.Spec Idealize.ShloMosaic

/-- A column of the first part is that column. -/
theorem Cert.Spec.part_zero (j : Fin 2048) (h : j.val < 12288) : (⟨j.val, h⟩ : Fin 12288) = part 0 j := Fin.ext (by
  show j.val = 0 * 2048 + j.val
  omega)

namespace Cert.CondRefIdeal.Ref
open Cert.CondRefIdeal Cert.CondRefIdeal.Read

theorem ref_at (x : Vec Ideal S8x2048 .f32) (w : Vec Ideal S4x2048x12288 .f32) (b : Vec Ideal S1x12288 .f32) (i : Fin 8) (j : Fin 12288) :
    val_main_v5 (F := Ideal) x w b (ix2 i j) = (∑ k : Fin 2048, x (ix2 i k) * Ideal.div 1 (1 + Ideal.exp (-x (ix2 i k))) * w (ix3 0 k j)) + b (ix2 0 j) := by
  pointwise [val_main_v5, val_main_v4, val_main_v3, val_main_v2, val_main_v1, val_main_v0, val_main_call0_v5, val_main_call0_v4, val_main_call0_v3, val_main_call0_v2, val_main_call0_v1, val_main_call0_v0, val_main_call0_cst, val_main_call0_cst_0]

theorem ref_eq (x : Vec Ideal S8x2048 .f32) (w : Vec Ideal S4x2048x12288 .f32) (b : Vec Ideal S1x12288 .f32) :
    val_main_v5 (F := Ideal) x w b = cond x w b := by
  funext i
  rw [eq_ix2 i]
  exact ref_at _ _ _ _ _
end Cert.CondRefIdeal.Ref

namespace Cert.DsaKvRefIdeal.Ref
open Cert.DsaKvRefIdeal Cert.DsaKvRefIdeal.Read

theorem ref_at (x : Vec Ideal S8192x5120 .f32) (g : Vec Ideal S1x128 .f32) (w : Vec Ideal S4x128x1024 .f32) (i : Fin 8192) (j : Fin 1024) :
    val_main_v15 (F := Ideal) x g w (ix2 i j) = ∑ k : Fin 128, x (ix2 i ⟨3584 + k.val, by omega⟩)
      * Ideal.rsqrt (Ideal.div (∑ q : Fin 128, x (ix2 i ⟨3584 + q.val, by omega⟩) * x (ix2 i ⟨3584 + q.val, by omega⟩)) (Ideal.ofBits .f32 1124073472#32)
        + Ideal.ofBits .f32 897988541#32) * g (ix2 0 k) * w (ix3 0 k j) := by
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]

theorem ref_eq (x : Vec Ideal S8192x5120 .f32) (g : Vec Ideal S1x128 .f32) (w : Vec Ideal S4x128x1024 .f32) :
    val_main_v15 (F := Ideal) x g w = latentMul x g w := by
  funext i
  rw [eq_ix2 i]
  exact ref_at _ _ _ _ _
end Cert.DsaKvRefIdeal.Ref

namespace Cert.ModulateRefIdeal.Ref
open Cert.ModulateRefIdeal Cert.ModulateRefIdeal.Read

theorem ref_at (x : Vec Ideal S8192x2048 .f32) (md : Vec Ideal S1x12288 .f32) (i : Fin 8192) (j : Fin 2048) :
    val_main_v8 (F := Ideal) x md (ix2 i j) = x (ix2 i j) * (1 + md (ix2 0 ⟨2048 + j.val, by omega⟩)) + md (ix2 0 ⟨j.val, by omega⟩) := by
  pointwise [val_main_v8, val_main_v7, val_main_v6, val_main_v5, val_main_v4, val_main_v3, val_main_v2, val_main_v1, val_main_v0, val_main_cst]

theorem ref_eq (x : Vec Ideal S8192x2048 .f32) (md : Vec Ideal S1x12288 .f32) : val_main_v8 (F := Ideal) x md = modulate x md := by
  funext i
  obtain ⟨r, n, rfl⟩ : ∃ (r : Fin 8192) (n : Fin 2048), i = ix2 r n := ⟨i 0, i 1, eq_ix2 i⟩
  rw [ref_at, part_zero]
  rfl
end Cert.ModulateRefIdeal.Ref

namespace Cert.ResidLnRefIdeal.Ref
open Cert.ResidLnRefIdeal Cert.ResidLnRefIdeal.Read

theorem ln_at (x y : Vec Ideal S8192x2048 .f32) (md : Vec Ideal S1x12288 .f32) (g b : Vec Ideal S1x2048 .f32) (i : Fin 8192) (j : Fin 2048) :
    val_main_v27 (F := Ideal) x y md g b (ix2 i j) = residLn x y md g b (ix2 i j) := by
  show _ = lnorm (fun k => Ideal.ofBits .f32 1071072509#32 * x (ix2 i k) + md (ix2 0 ⟨10240 + k.val, by omega⟩) * y (ix2 i k)) g b j
  pointwise [lnorm, mean, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4]

theorem ln_eq (x y : Vec Ideal S8192x2048 .f32) (md : Vec Ideal S1x12288 .f32) (g b : Vec Ideal S1x2048 .f32) :
    val_main_v27 (F := Ideal) x y md g b = residLn x y md g b := by
  funext i
  rw [eq_ix2 i]
  exact ln_at _ _ _ _ _ _ _

theorem mod_at (x y : Vec Ideal S8192x2048 .f32) (md : Vec Ideal S1x12288 .f32) (g b : Vec Ideal S1x2048 .f32) (mn : Vec Ideal S1x12288 .f32) (i : Fin 8192) (j : Fin 2048) :
    val_main_v36 (F := Ideal) x y md g b mn (ix2 i j)
      = val_main_v27 (F := Ideal) x y md g b (ix2 i j) * (1 + mn (ix2 0 ⟨2048 + j.val, by omega⟩)) + mn (ix2 0 ⟨j.val, by omega⟩) := by
  pointwise [val_main_v36, val_main_v35, val_main_v34, val_main_v33, val_main_v32, val_main_v31, val_main_v30, val_main_v29, val_main_v28, val_main_cst_5]

theorem mod_eq (x y : Vec Ideal S8192x2048 .f32) (md : Vec Ideal S1x12288 .f32) (g b : Vec Ideal S1x2048 .f32) (mn : Vec Ideal S1x12288 .f32) :
    val_main_v36 (F := Ideal) x y md g b mn = modulate (residLn x y md g b) mn := by
  funext i
  obtain ⟨r, n, rfl⟩ : ∃ (r : Fin 8192) (n : Fin 2048), i = ix2 r n := ⟨i 0, i 1, eq_ix2 i⟩
  rw [mod_at, ln_eq, part_zero]
  rfl
end Cert.ResidLnRefIdeal.Ref

namespace Cert.NsaCompressRefIdeal.Ref
open Cert.NsaCompressRefIdeal Cert.NsaCompressRefIdeal.Read

theorem ref_at (x : Vec Ideal S4x512x2048 .f32) (p : Vec Ideal S4x2x1x2048 .f32) (w1 : Vec Ideal S4x2x2048x256 .f32) (w2 : Vec Ideal S4x2x256x64 .f32) (a : Fin 4) (i : Fin 512) (j : Fin 64) :
    val_main_v13 (F := Ideal) x p w1 w2 (ix3 a i j) = compress x p w1 w2 (ix3 a i j) := by
  show _ = ∑ n : Fin 256, silu (∑ k : Fin 2048, (x (ix3 a i k) + p (ix4 0 ⟨a.val / 2, by omega⟩ 0 k)) * w1 (ix4 0 ⟨a.val / 2, by omega⟩ k n)) * w2 (ix4 0 ⟨a.val / 2, by omega⟩ n j)
  pointwise [silu, val_main_v13, val_main_v12, val_main_v11, val_main_v10, val_main_v9, val_main_v8, val_main_v7, val_main_v6, val_main_v5, val_main_v4, val_main_v3, val_main_v2, val_main_v1, val_main_v0, val_main_call0_v5, val_main_call0_v4, val_main_call0_v3, val_main_call0_v2, val_main_call0_v1, val_main_call0_v0, val_main_call0_cst, val_main_call0_cst_0]

theorem ref_eq (x : Vec Ideal S4x512x2048 .f32) (p : Vec Ideal S4x2x1x2048 .f32) (w1 : Vec Ideal S4x2x2048x256 .f32) (w2 : Vec Ideal S4x2x256x64 .f32) :
    val_main_v13 (F := Ideal) x p w1 w2 = compress x p w1 w2 := by
  funext i
  rw [eq_ix3 i]
  exact ref_at _ _ _ _ _ _ _
end Cert.NsaCompressRefIdeal.Ref
end
-- ==== Proof.SpecHeads.lean ====
/- What the two calls on the heads' columns compute, as functions on whole arrays: the gated sum of the native sparse
   attention's three branches, and the difference of the differential attention's two maps with its norm. -/
module

public import proofs.«01_k».proof.Defs
public import proofs.«01_k».proof.Proof.SpecTrunk
public import Idealize.ShloMosaic.Lib.Pointwise
public import Idealize.ShloMosaic.PureOps.Ideal
public import Idealize.ShloMosaic.Init

@[expose] public section

set_option maxRecDepth 16384

noncomputable section

namespace Cert.Spec
open Idealize.ShloMosaic

/-- The logistic function. -/
def headGate (x : EReal) : EReal := Ideal.div 1 (1 + Ideal.exp (-x))

/-- The column of the projection with the gate of branch `b` for the head that column `n` belongs to. -/
def gateCol (n : Fin 512) (b : Fin 3) : Fin 5120 := ⟨4872 + (n.val / 64 * 3 + b.val), by omega⟩

/-- The sum of the three branches, each times its head's gate. -/
def combine (p : Vec Ideal ⟨2, ![8192, 5120]⟩ .f32) (a b c : Vec Ideal ⟨2, ![8192, 512]⟩ .f32) : Vec Ideal ⟨2, ![8192, 512]⟩ .f32 := fun i =>
  headGate (p (ix2 (i 0) (gateCol (i 1) 0))) * a (ix2 (i 0) (i 1)) + headGate (p (ix2 (i 0) (gateCol (i 1) 1))) * b (ix2 (i 0) (i 1))
    + headGate (p (ix2 (i 0) (gateCol (i 1) 2))) * c (ix2 (i 0) (i 1))

/-- The factor of the second map: `exp (l₀ · l₁) - exp (l₂ · l₃)` plus the first layer's constant. -/
def lam (l : Vec Ideal ⟨3, ![4, 4, 64]⟩ .f32) : EReal :=
  Ideal.exp (∑ k : Fin 64, l (ix3 0 0 k) * l (ix3 0 1 k)) - Ideal.exp (∑ k : Fin 64, l (ix3 0 2 k) * l (ix3 0 3 k)) + Ideal.ofBits .f32 1045220557#32

/-- Column `k` of map `p` of head `h`. -/
def mapCol (h : Fin 4) (p : Fin 2) (k : Fin 128) : Fin 1024 := ⟨h.val * 256 + p.val * 128 + k.val, by omega⟩

/-- The head that a column of the result belongs to, and the column in it. -/
def headOf (n : Fin 512) : Fin 4 := ⟨n.val / 128, by omega⟩
def inHead (n : Fin 512) : Fin 128 := ⟨n.val % 128, by omega⟩

/-- A row of the difference of the two maps of head `h`. -/
def diff (o : Vec Ideal ⟨2, ![8192, 1024]⟩ .f32) (l : EReal) (r : Fin 8192) (h : Fin 4) (k : Fin 128) : EReal :=
  o (ix2 r (mapCol h 0 k)) - l * o (ix2 r (mapCol h 1 k))

/-- The root-mean-square norm of each head's difference, times the first layer's constant. -/
def diffFinal (o : Vec Ideal ⟨2, ![8192, 1024]⟩ .f32) (l : Vec Ideal ⟨3, ![4, 4, 64]⟩ .f32) (g : Vec Ideal ⟨2, ![1, 128]⟩ .f32) :
    Vec Ideal ⟨2, ![8192, 512]⟩ .f32 := fun i =>
  rms (diff o (lam l) (i 0) (headOf (i 1))) g (inHead (i 1)) * Ideal.ofBits .f32 1061997773#32

end Cert.Spec
end
-- ==== Proof.NsaCombineIdealValue.lean ====
/- What the gated sum's output array holds after the run: `combine` of the arguments. Each of the eight grid points makes
   1024 whole rows, in eight stores of 64 columns, one of each head. -/
module

public import proofs.«01_k».proof.Defs
public import proofs.«01_k».proof.Proof.Gen.NsaCombineIdeal
public import proofs.«01_k».proof.Proof.Gen.NsaCombineIdeal.Skeleton
public import proofs.«01_k».proof.Proof.Gen.NsaCombineIdeal.Frame
public import proofs.«01_k».proof.Proof.Gen.NsaCombineIdeal.Value
public import proofs.«01_k».proof.Proof.SpecHeads
public import Idealize.ShloMosaic.Lib.Pointwise
public import Idealize.ShloMosaic.Lib.Pipeline.Value
public import Idealize.ShloMosaic.Lib.Pipeline.ValueKit.Tiles
public import Idealize.ShloMosaic.Lib.Writes
public import Idealize.ShloMosaic.Lib.Exec
public import Idealize.ShloMosaic.Lib.Tactic
public import Idealize.ShloMosaic.PureOps.Ideal
public import Idealize.ShloMosaic.Init

@[expose] public section

set_option maxRecDepth 16384

noncomputable section

namespace Cert.NsaCombineIdeal.Hand

open Cert.NsaCombineIdeal Cert.NsaCombineIdeal.Gen Cert.NsaCombineIdeal.Value Cert.Spec
open Idealize.ShloMosaic Idealize.ShloMosaic.TcCoe Idealize.ShloMosaic.Tactic
open Idealize.SL.Sem
open Idealize.ShloMosaic.Pipeline (Dat Cfg Window)

/-! ## One head's columns -/

/-- The gated sum of one head's columns, from the gates and the columns of the three branches. -/
def comb (v : Vec Ideal S1024x128 .f32) (h : Fin 8) (a b c : Vec Ideal S1024x64 .f32) : Vec Ideal S1024x64 .f32 := fun i =>
  v (ix2 (i 0) ⟨8 + (h.val * 3 + 0), by omega⟩) * a i + v (ix2 (i 0) ⟨8 + (h.val * 3 + 1), by omega⟩) * b i
    + v (ix2 (i 0) ⟨8 + (h.val * 3 + 2), by omega⟩) * c i

theorem ext64 {f g : Vec Ideal S1024x64 .f32} (h : ∀ (i : Fin 1024) (j : Fin 64), f (ix2 i j) = g (ix2 i j)) : f = g := by
  funext i
  rw [eq_ix2 i]
  exact h _ _

theorem gates_at (p : Vec Ideal S1024x128 .f32) (i : Fin 1024) (k : Fin 128) : k0_pay2 (F := Ideal) p (ix2 i k) = headGate (p (ix2 i k)) := by
  rw [headGate, ← zero_sub]
  pointwise [k0_pay2]

section
variable (v : Vec Ideal S1024x128 .f32) (a b c : Vec Ideal S1024x64 .f32)
theorem pay3_eq (p : Vec Ideal S1024x128 .f32) : k0_pay3 (F := Ideal) p a b c = comb (k0_pay2 p) 0 a b c := ext64 fun i j => by pointwise [k0_pay3, comb]
theorem pay4_eq (p : Vec Ideal S1024x128 .f32) : k0_pay4 (F := Ideal) p a b c = comb (k0_pay2 p) 1 a b c := ext64 fun i j => by pointwise [k0_pay4, comb]
theorem pay5_eq : k0_pay5 (F := Ideal) v a b c = comb v 2 a b c := ext64 fun i j => by pointwise [k0_pay5, comb]
theorem pay6_eq : k0_pay6 (F := Ideal) v a b c = comb v 3 a b c := ext64 fun i j => by pointwise [k0_pay6, comb]
theorem pay10_eq : k0_pay10 (F := Ideal) v a b c = comb v 5 a b c := ext64 fun i j => by pointwise [k0_pay10, comb]
theorem pay11_eq : k0_pay11 (F := Ideal) v a b c = comb v 6 a b c := ext64 fun i j => by pointwise [k0_pay11, comb]
theorem pay1_eq : k0_pay1 (F := Ideal) v a b c = comb v 7 a b c := ext64 fun i j => by pointwise [k0_pay1, comb]
theorem pay9_eq : k0_pay9 (F := Ideal) v (k0_pay7 v a) (k0_pay8 v) b c = comb v 4 a b c := ext64 fun i j => by pointwise [k0_pay9, k0_pay8, k0_pay7, comb]
end

/-! ## The block of a grid point, put together from the eight heads' columns -/

/-- The columns of head `h`. -/
abbrev cols (h : Fin 8) : Rect S1024x512 := Rect.unit (s := S1024x512) ![0, 64 * h.val] S1024x64.size (fun a => by
  match a with
  | ⟨0, _⟩ => show 0 + 1024 ≤ 1024; omega
  | ⟨1, _⟩ => show 64 * h.val + 64 ≤ 512; omega)

/-- The column of the block of gates for the head of column `n`, branch `b`. -/
def gcol (n : Fin 512) (b : Fin 3) : Fin 128 := ⟨8 + (n.val / 64 * 3 + b.val), by omega⟩

/-- What a block holds. -/
def blk (x0 : Vec Ideal S1024x128 .f32) (x1 x2 x3 : Vec Ideal S1024x512 .f32) : Vec Ideal S1024x512 .f32 := fun y =>
  headGate (x0 (ix2 (y 0) (gcol (y 1) 0))) * x1 y + headGate (x0 (ix2 (y 0) (gcol (y 1) 1))) * x2 y + headGate (x0 (ix2 (y 0) (gcol (y 1) 2))) * x3 y

/-- The gate that meets an index of head `h`'s columns. -/
theorem gate_cols (x0 : Vec Ideal S1024x128 .f32) (h : Fin 8) (i : Fin 1024) (j : Fin 64) (b : Fin 3) (n : ℕ) (hlt : n < 128)
    (hn : n = 8 + (h.val * 3 + b.val)) :
    k0_pay2 (F := Ideal) x0 (ix2 i ⟨n, hlt⟩) = headGate (x0 (ix2 ((cols h).emb (ix2 i j) 0) (gcol ((cols h).emb (ix2 i j) 1) b))) := by
  have e0 : i = (cols h).emb (ix2 i j) 0 := Fin.ext (by show i.val = 0 + 1 * i.val; omega)
  have e1 : (⟨n, hlt⟩ : Fin 128) = gcol ((cols h).emb (ix2 i j) 1) b := Fin.ext (by
    show n = 8 + ((64 * h.val + 1 * j.val) / 64 * 3 + b.val)
    omega)
  exact (gates_at x0 i _).trans (congrArg₂ (fun (p : Fin 1024) (q : Fin 128) => headGate (x0 (ix2 p q))) e0 e1)

theorem piece (x0 : Vec Ideal S1024x128 .f32) (x1 x2 x3 : Vec Ideal S1024x512 .f32) (h : Fin 8) (w : Vec Ideal S1024x64 .f32)
    (hw : w = comb (k0_pay2 x0) h (View.ld x1 (cols h)) (View.ld x2 (cols h)) (View.ld x3 (cols h))) (y : S1024x512.Idx) :
    View.RectAt (Val := Elt Ideal) (e := .f32) y (cols h) w (blk x0 x1 x2 x3 y) := by
  intro x hx
  subst hx hw
  obtain ⟨i, j, rfl⟩ : ∃ (i : Fin 1024) (j : Fin 64), x = ix2 i j := ⟨x 0, x 1, eq_ix2 x⟩
  exact congrArg₂ (· + ·) (congrArg₂ (· + ·)
    (congrArg (· * x1 ((cols h).emb (ix2 i j))) (gate_cols x0 h i j 0 _ _ rfl))
    (congrArg (· * x2 ((cols h).emb (ix2 i j))) (gate_cols x0 h i j 1 _ _ rfl)))
    (congrArg (· * x3 ((cols h).emb (ix2 i j))) (gate_cols x0 h i j 2 _ _ rfl))

theorem hz2 : (![0, 0] : Fin 2 → ℕ) = fun _ => 0 := by decide

theorem out_eq (x0 : Vec Ideal S1024x128 .f32) (x1 x2 x3 : Vec Ideal S1024x512 .f32) : out0_4 (F := Ideal) x0 x1 x2 x3 = blk x0 x1 x2 x3 := by
  funext y
  unfold out0_4 k0_pay12
  rw [View.ld_unit_zero hz2]
  exact View.canon_eq_of_allAt _ y _ (cover0_4 _ _ _ _ _ _ _ _ y)
    (View.allAt_cons _ _ _ (piece x0 x1 x2 x3 7 _ (pay1_eq _ _ _ _) y) (View.allAt_cons _ _ _ (piece x0 x1 x2 x3 6 _ (pay11_eq _ _ _ _) y)
      (View.allAt_cons _ _ _ (piece x0 x1 x2 x3 5 _ (pay10_eq _ _ _ _) y) (View.allAt_cons _ _ _ (piece x0 x1 x2 x3 4 _ (pay9_eq _ _ _ _) y)
        (View.allAt_cons _ _ _ (piece x0 x1 x2 x3 3 _ (pay6_eq _ _ _ _) y) (View.allAt_cons _ _ _ (piece x0 x1 x2 x3 2 _ (pay5_eq _ _ _ _) y)
          (View.allAt_cons _ _ _ (piece x0 x1 x2 x3 1 _ (pay4_eq _ _ _ _) y) (View.allAt_cons _ _ _ (piece x0 x1 x2 x3 0 _ (pay3_eq _ _ _ _) y)
            (View.allAt_nil _ _)))))))))

variable (m : (ℓ : Loc nD τ sig) → Buf (Elt Ideal) ℓ) (ρ : Dev nD → PrngReg)

theorem crd_val : ∀ t : Fin grid0.N, (grid0.coords t 0).val = t.val := by decide +kernel
theorem N8 : cfg0.N = 8 := by decide +kernel

theorem tr0_eq : ∀ i : grid0.Coords, cc0_transform_0 i = ![(i 0).val, 38] := by decide +kernel
theorem tr1_eq : ∀ i : grid0.Coords, cc0_transform_1 i = ![(i 0).val, 0] := by decide +kernel
theorem tr2_eq : ∀ i : grid0.Coords, cc0_transform_2 i = ![(i 0).val, 0] := by decide +kernel
theorem tr3_eq : ∀ i : grid0.Coords, cc0_transform_3 i = ![(i 0).val, 0] := by decide +kernel
theorem tr4_eq : ∀ i : grid0.Coords, cc0_transform_4 i = ![(i 0).val, 0] := by decide +kernel

/-- A row of point `t`. -/
def row (t : Fin cfg0.N) (i : Fin 1024) : Fin 8192 := ⟨t.val * 1024 + i.val, by have := N8; have := t.isLt; omega⟩

/-- Where an index of a block of 1024 rows lies in its array. -/
theorem rows_at (t : Fin cfg0.N) (i : Fin 1024) (k : Fin 512) (f : Fin 2 → ℕ) (hf : f = ![(grid0.coords t 0).val, 0]) (a : Fin 2) :
    f a * S1024x512.size a + 1 * (ix2 i k a).val = (ix2 (row t i) k a).val := by
  rw [hf, crd_val t]
  match a with
  | ⟨0, _⟩ => show t.val * 1024 + 1 * i.val = t.val * 1024 + i.val; omega
  | ⟨1, _⟩ => show 0 * 512 + 1 * k.val = k.val; omega

theorem gates_blk (c : Dev nD) (t : Fin cfg0.N) (i : Fin 1024) (n : Fin 512) (b : Fin 3) :
    iblk m c 0 t (ix2 i (gcol n b)) = m ((c : Thread nD τ).loc main_arg0) (ix2 (row t i) (gateCol n b)) := by
  show m ((c : Thread nD τ).loc main_arg0) _ = _
  refine congrArg (m ((c : Thread nD τ).loc main_arg0)) (funext fun a => Fin.ext ?_)
  show cc0_transform_0 (grid0.coords t) a * S1024x128.size a + 1 * (ix2 i (gcol n b) a).val = _
  rw [tr0_eq, crd_val t]
  match a with
  | ⟨0, _⟩ => show t.val * 1024 + 1 * i.val = t.val * 1024 + i.val; omega
  | ⟨1, _⟩ => show 38 * 128 + 1 * (8 + (n.val / 64 * 3 + b.val)) = 4872 + (n.val / 64 * 3 + b.val); omega
theorem cmp_at (c : Dev nD) (t : Fin cfg0.N) (i : Fin 1024) (k : Fin 512) :
    iblk m c 1 t (ix2 i k) = m ((c : Thread nD τ).loc main_arg1) (ix2 (row t i) k) :=
  congrArg (m ((c : Thread nD τ).loc main_arg1)) (funext fun a => Fin.ext (rows_at t i k _ (tr1_eq _) a))
theorem slc_at (c : Dev nD) (t : Fin cfg0.N) (i : Fin 1024) (k : Fin 512) :
    iblk m c 2 t (ix2 i k) = m ((c : Thread nD τ).loc main_arg2) (ix2 (row t i) k) :=
  congrArg (m ((c : Thread nD τ).loc main_arg2)) (funext fun a => Fin.ext (rows_at t i k _ (tr2_eq _) a))
theorem win_at (c : Dev nD) (t : Fin cfg0.N) (i : Fin 1024) (k : Fin 512) :
    iblk m c 3 t (ix2 i k) = m ((c : Thread nD τ).loc main_arg3) (ix2 (row t i) k) :=
  congrArg (m ((c : Thread nD τ).loc main_arg3)) (funext fun a => Fin.ext (rows_at t i k _ (tr3_eq _) a))

/-- What the output array is shown to hold. -/
abbrev G (c : Dev nD) : Buf (Elt Ideal) ((c : Thread nD τ).loc main_v0) :=
  combine (m ((c : Thread nD τ).loc main_arg0)) (m ((c : Thread nD τ).loc main_arg1)) (m ((c : Thread nD τ).loc main_arg2)) (m ((c : Thread nD τ).loc main_arg3))

theorem oblk_at (c : Dev nD) (t : Fin cfg0.N) (i : Fin 1024) (j : Fin 512) :
    out0_4 (F := Ideal) (iblk m c 0 t) (iblk m c 1 t) (iblk m c 2 t) (iblk m c 3 t) (ix2 i j) = G m c (ix2 (row t i) j) := by
  rw [out_eq]
  show headGate (iblk m c 0 t (ix2 i (gcol j 0))) * iblk m c 1 t (ix2 i j) + headGate (iblk m c 0 t (ix2 i (gcol j 1))) * iblk m c 2 t (ix2 i j)
    + headGate (iblk m c 0 t (ix2 i (gcol j 2))) * iblk m c 3 t (ix2 i j) = _
  rw [gates_blk, gates_blk, gates_blk, cmp_at, slc_at, win_at]
  rfl

theorem flushed_eq (c : Dev nD) (t : Fin cfg0.N) :
    (dats m 0 c).flushed 4 t = ((cfg0.win 4).blk t).view.read (Elt Ideal) (G m c) := by
  rw [flushed4]
  funext y
  obtain ⟨i, j, rfl⟩ : ∃ (i : Fin 1024) (j : Fin 512), y = ix2 i j := ⟨y 0, y 1, eq_ix2 y⟩
  show out0_4 (F := Ideal) (iblk m c 0 t) (iblk m c 1 t) (iblk m c 2 t) (iblk m c 3 t) _ = G m c _
  refine (congrArg (out0_4 (F := Ideal) (iblk m c 0 t) (iblk m c 1 t) (iblk m c 2 t) (iblk m c 3 t)) ?_).trans
    ((oblk_at m c t i j).trans (congrArg (G m c) (funext fun a => Fin.ext (rows_at t i j _ (tr4_eq _) a).symm)))
  funext a
  match a with
  | ⟨0, _⟩ => rfl
  | ⟨1, _⟩ => rfl

theorem mem_blk (t : Fin cfg0.N) (i : S8192x512.Idx) : i ∈ ((cfg0.win 4).blk t).view.set
    ↔ ∀ a : Fin 2, cc0_transform_4 (grid0.coords t) a * S1024x512.size a ≤ (i a).val ∧ (i a).val < cc0_transform_4 (grid0.coords t) a * S1024x512.size a + S1024x512.size a := by
  show i ∈ ((View.whole main_v0).slice (win0_4.rect t)).set ↔ _
  rw [View.set_slice_whole, Rect.mem_set_unit]
  exact Iff.rfl

/-- Every index is in the block of a point that writes back. -/
theorem covered (i : S8192x512.Idx) : ∃ t : Fin cfg0.N, (cfg0.win 4).flush t = true ∧ i ∈ ((cfg0.win 4).blk t).view.set := by
  have h0 : (i 0).val < 8192 := (i 0).isLt
  have h1 : (i 1).val < 512 := (i 1).isLt
  have hN := N8
  refine ⟨⟨(i 0).val / 1024, by omega⟩, (by decide +kernel : ∀ t : Fin grid0.N, win0_4.flush t = true) _, ?_⟩
  rw [mem_blk, tr4_eq, crd_val]
  intro a
  match a with
  | ⟨0, _⟩ => show (i 0).val / 1024 * 1024 ≤ (i 0).val ∧ (i 0).val < (i 0).val / 1024 * 1024 + 1024; omega
  | ⟨1, _⟩ => show 0 * 512 ≤ (i 1).val ∧ (i 1).val < 0 * 512 + 512; omega

theorem final (c : Dev nD) : (dats m 0 c).arrAt 4 cfg0.N = G m c :=
  (dats m 0 c).arrAt_eq_of_cover 4 _ (fun t _ => flushed_eq m c t) covered

/-- THE VALUE: the output array holds the gated sums and the arguments are as they were. -/
theorem value : θ_run (defs (F := Ideal)) (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (final m c), (h c).2⟩) (run_blocks m ρ)

end Cert.NsaCombineIdeal.Hand
end
-- ==== Proof.DiffFinalIdealValue.lean ====
/- What the differential attention's last step leaves in its output array: `diffFinal` of the arguments. Each of the eight
   grid points makes 1024 whole rows, in four stores of 128 columns, one of each head. -/
module

public import proofs.«01_k».proof.Defs
public import proofs.«01_k».proof.Proof.Gen.DiffFinalIdeal
public import proofs.«01_k».proof.Proof.Gen.DiffFinalIdeal.Skeleton
public import proofs.«01_k».proof.Proof.Gen.DiffFinalIdeal.Frame
public import proofs.«01_k».proof.Proof.Gen.DiffFinalIdeal.Value
public import proofs.«01_k».proof.Proof.SpecHeads
public import Idealize.ShloMosaic.Lib.Pointwise
public import Idealize.ShloMosaic.Lib.Pipeline.Value
public import Idealize.ShloMosaic.Lib.Pipeline.ValueKit.Tiles
public import Idealize.ShloMosaic.Lib.Writes
public import Idealize.ShloMosaic.Lib.Exec
public import Idealize.ShloMosaic.Lib.Tactic
public import Idealize.ShloMosaic.PureOps.Ideal
public import Idealize.ShloMosaic.Init

@[expose] public section

set_option maxRecDepth 16384

noncomputable section

namespace Cert.DiffFinalIdeal.Hand

open Cert.DiffFinalIdeal Cert.DiffFinalIdeal.Gen Cert.DiffFinalIdeal.Value Cert.Spec
open Idealize.ShloMosaic Idealize.ShloMosaic.TcCoe Idealize.ShloMosaic.Tactic
open Idealize.SL.Sem
open Idealize.ShloMosaic.Pipeline (Dat Cfg Window)

/-! ## One head's columns -/

/-- The four heads' payloads are the same function of the factor, the two maps and the gain. -/
theorem pay5_eq (l : EReal) (a b : Vec Ideal S1024x128 .f32) (g : Vec Ideal S1x128 .f32) : k0_pay5 (F := Ideal) l a b g = k0_pay2 l a b g := rfl
theorem pay1_eq (l : EReal) (a b : Vec Ideal S1024x128 .f32) (g : Vec Ideal S1x128 .f32) :
    k0_pay1 (F := Ideal) (k0_pay6 l a b) g = k0_pay2 l a b g := rfl
theorem pay4_eq (v : Vec Ideal S1x4x64 .f32) (a b : Vec Ideal S1024x128 .f32) (g : Vec Ideal S1x128 .f32) :
    k0_pay4 (F := Ideal) v a b g = k0_pay2 (k0_pay3 v) a b g := rfl

theorem pay2_at (l : EReal) (a b : Vec Ideal S1024x128 .f32) (g : Vec Ideal S1x128 .f32) (i : Fin 1024) (j : Fin 128) :
    k0_pay2 (F := Ideal) l a b g (ix2 i j) = rms (fun k => a (ix2 i k) - l * b (ix2 i k)) g j * Ideal.ofBits .f32 1061997773#32 := by
  pointwise [rms, k0_pay2]

/-- The factor of the second map, from the first layer's four rows. -/
theorem pay3_eq (v : Vec Ideal S1x4x64 .f32) : k0_pay3 (F := Ideal) v
    = Ideal.exp (∑ k : Fin 64, v (ix3 0 0 k) * v (ix3 0 1 k)) - Ideal.exp (∑ k : Fin 64, v (ix3 0 2 k) * v (ix3 0 3 k)) + Ideal.ofBits .f32 1045220557#32 := by
  pointwise [k0_pay3]
  simp only [Fin.sum_univ_one]
  rfl

/-! ## The block of a grid point, put together from the four heads' columns -/

/-- The columns of head `h` of the result. -/
abbrev cols (h : Fin 4) : Rect S1024x512 := Rect.unit (s := S1024x512) ![0, 128 * h.val] S1024x128.size (fun a => by
  match a with
  | ⟨0, _⟩ => show 0 + 1024 ≤ 1024; omega
  | ⟨1, _⟩ => show 128 * h.val + 128 ≤ 512; omega)

/-- The columns of map `p` of head `h`. -/
abbrev maps (h : Fin 4) (p : Fin 2) : Rect S1024x1024 := Rect.unit (s := S1024x1024) ![0, h.val * 256 + p.val * 128] S1024x128.size (fun a => by
  match a with
  | ⟨0, _⟩ => show 0 + 1024 ≤ 1024; omega
  | ⟨1, _⟩ => show h.val * 256 + p.val * 128 + 128 ≤ 1024; omega)

theorem maps_at (x : Vec Ideal S1024x1024 .f32) (h : Fin 4) (p : Fin 2) (i : Fin 1024) (k : Fin 128) :
    View.ld x (maps h p) (ix2 i k) = x (ix2 i (mapCol h p k)) :=
  congrArg x (funext fun a => Fin.ext (by
    match a with
    | ⟨0, _⟩ => show 0 + 1 * i.val = i.val; omega
    | ⟨1, _⟩ => show h.val * 256 + p.val * 128 + 1 * k.val = h.val * 256 + p.val * 128 + k.val; omega))

/-- What a block holds. -/
def blk (x0 : Vec Ideal S1024x1024 .f32) (l : EReal) (g : Vec Ideal S1x128 .f32) : Vec Ideal S1024x512 .f32 := fun y =>
  rms (fun k => x0 (ix2 (y 0) (mapCol (headOf (y 1)) 0 k)) - l * x0 (ix2 (y 0) (mapCol (headOf (y 1)) 1 k))) g (inHead (y 1)) * Ideal.ofBits .f32 1061997773#32

theorem piece (x0 : Vec Ideal S1024x1024 .f32) (l : EReal) (g : Vec Ideal S1x128 .f32) (h : Fin 4) (w : Vec Ideal S1024x128 .f32)
    (hw : w = k0_pay2 l (View.ld x0 (maps h 0)) (View.ld x0 (maps h 1)) g) (y : S1024x512.Idx) :
    View.RectAt (Val := Elt Ideal) (e := .f32) y (cols h) w (blk x0 l g y) := by
  intro x hx
  subst hx hw
  obtain ⟨i, j, rfl⟩ : ∃ (i : Fin 1024) (j : Fin 128), x = ix2 i j := ⟨x 0, x 1, eq_ix2 x⟩
  have e0 : (cols h).emb (ix2 i j) 0 = i := Fin.ext (by show 0 + 1 * i.val = i.val; omega)
  have e1 : headOf ((cols h).emb (ix2 i j) 1) = h := Fin.ext (by show (128 * h.val + 1 * j.val) / 128 = h.val; omega)
  have e2 : inHead ((cols h).emb (ix2 i j) 1) = j := Fin.ext (by show (128 * h.val + 1 * j.val) % 128 = j.val; omega)
  refine (pay2_at l _ _ g i j).trans ?_
  unfold blk
  rw [e0, e1, e2]
  exact congrArg (fun z => rms z g j * Ideal.ofBits .f32 1061997773#32) (funext fun k =>
    congrArg₂ (fun a b => a - l * b) (maps_at x0 h 0 i k) (maps_at x0 h 1 i k))

theorem hz2 : (![0, 0] : Fin 2 → ℕ) = fun _ => 0 := by decide
theorem hz3 : (![0, 0, 0] : Fin 3 → ℕ) = fun _ => 0 := by decide

theorem out_eq (x0 : Vec Ideal S1024x1024 .f32) (x1 : Vec Ideal S1x4x64 .f32) (x2 : Vec Ideal S1x128 .f32) :
    out0_3 (F := Ideal) x0 x1 x2 = blk x0 (k0_pay3 x1) x2 := by
  funext y
  unfold out0_3
  rw [View.ld_unit_zero hz3, View.ld_unit_zero hz2]
  exact View.canon_eq_of_allAt _ y _ (cover0_3 _ _ _ _ y)
    (View.allAt_cons _ _ _ (piece x0 _ x2 3 _ rfl y) (View.allAt_cons _ _ _ (piece x0 _ x2 2 _ (pay1_eq _ _ _ _) y)
      (View.allAt_cons _ _ _ (piece x0 _ x2 1 _ (pay5_eq _ _ _ _) y) (View.allAt_cons _ _ _ (piece x0 _ x2 0 _ (pay4_eq _ _ _ _) y)
        (View.allAt_nil _ _)))))

variable (m : (ℓ : Loc nD τ sig) → Buf (Elt Ideal) ℓ) (ρ : Dev nD → PrngReg)

theorem crd_val : ∀ t : Fin grid0.N, (grid0.coords t 0).val = t.val := by decide +kernel
theorem N8 : cfg0.N = 8 := by decide +kernel

theorem tr0_eq : ∀ i : grid0.Coords, cc0_transform_0 i = ![(i 0).val, 0] := by decide +kernel
theorem tr1_eq : ∀ i : grid0.Coords, cc0_transform_1 i = ![0, 0, 0] := by decide +kernel
theorem tr2_eq : ∀ i : grid0.Coords, cc0_transform_2 i = ![0, 0] := by decide +kernel
theorem tr3_eq : ∀ i : grid0.Coords, cc0_transform_3 i = ![(i 0).val, 0] := by decide +kernel

/-- A row of point `t`. -/
def row (t : Fin cfg0.N) (i : Fin 1024) : Fin 8192 := ⟨t.val * 1024 + i.val, by have := N8; have := t.isLt; omega⟩

theorem o_at (c : Dev nD) (t : Fin cfg0.N) (i : Fin 1024) (k : Fin 1024) :
    iblk m c 0 t (ix2 i k) = m ((c : Thread nD τ).loc main_arg0) (ix2 (row t i) k) := by
  show m ((c : Thread nD τ).loc main_arg0) _ = _
  refine congrArg (m ((c : Thread nD τ).loc main_arg0)) (funext fun a => Fin.ext ?_)
  show cc0_transform_0 (grid0.coords t) a * S1024x1024.size a + 1 * (ix2 i k a).val = _
  rw [tr0_eq, crd_val t]
  match a with
  | ⟨0, _⟩ => show t.val * 1024 + 1 * i.val = t.val * 1024 + i.val; omega
  | ⟨1, _⟩ => show 0 * 1024 + 1 * k.val = k.val; omega
theorem l_at (c : Dev nD) (t : Fin cfg0.N) (p : Fin 4) (k : Fin 64) :
    iblk m c 1 t (ix3 0 p k) = m ((c : Thread nD τ).loc main_arg1) (ix3 0 p k) := by
  show m ((c : Thread nD τ).loc main_arg1) _ = _
  refine congrArg (m ((c : Thread nD τ).loc main_arg1)) (funext fun a => Fin.ext ?_)
  show cc0_transform_1 (grid0.coords t) a * S1x4x64.size a + 1 * (ix3 (0 : Fin 1) p k a).val = _
  rw [tr1_eq]
  match a with
  | ⟨0, _⟩ => rfl
  | ⟨1, _⟩ => show 0 * 4 + 1 * p.val = p.val; omega
  | ⟨2, _⟩ => show 0 * 64 + 1 * k.val = k.val; omega
theorem g_at (c : Dev nD) (t : Fin cfg0.N) (k : Fin 128) :
    iblk m c 2 t (ix2 0 k) = m ((c : Thread nD τ).loc main_arg2) (ix2 0 k) := by
  show m ((c : Thread nD τ).loc main_arg2) _ = _
  refine congrArg (m ((c : Thread nD τ).loc main_arg2)) (funext fun a => Fin.ext ?_)
  show cc0_transform_2 (grid0.coords t) a * S1x128.size a + 1 * (ix2 (0 : Fin 1) k a).val = _
  rw [tr2_eq]
  match a with
  | ⟨0, _⟩ => rfl
  | ⟨1, _⟩ => show 0 * 128 + 1 * k.val = k.val; omega

/-- What the output array is shown to hold. -/
abbrev G (c : Dev nD) : Buf (Elt Ideal) ((c : Thread nD τ).loc main_v0) :=
  diffFinal (m ((c : Thread nD τ).loc main_arg0)) (m ((c : Thread nD τ).loc main_arg1)) (m ((c : Thread nD τ).loc main_arg2))

theorem lam_at (c : Dev nD) (t : Fin cfg0.N) : k0_pay3 (F := Ideal) (iblk m c 1 t) = lam (m ((c : Thread nD τ).loc main_arg1)) := by
  rw [pay3_eq]
  simp only [l_at]
  rfl

/-- The norm depends on the gain at its column only. -/
theorem rms_congr {z z' : Fin 128 → EReal} {g g' : Vec Ideal ⟨2, ![1, 128]⟩ .f32} {j : Fin 128} (hz : z = z') (hg : g (ix2 0 j) = g' (ix2 0 j)) :
    rms z g j = rms z' g' j := by
  subst hz
  unfold rms
  rw [hg]

theorem oblk_at (c : Dev nD) (t : Fin cfg0.N) (i : Fin 1024) (j : Fin 512) :
    out0_3 (F := Ideal) (iblk m c 0 t) (iblk m c 1 t) (iblk m c 2 t) (ix2 i j) = G m c (ix2 (row t i) j) := by
  rw [out_eq, lam_at]
  refine congrArg (· * Ideal.ofBits .f32 1061997773#32) (rms_congr (funext fun k => ?_) (g_at m c t (inHead j)))
  exact congrArg₂ (fun a b => a - lam (m ((c : Thread nD τ).loc main_arg1)) * b) (o_at m c t i (mapCol (headOf j) 0 k)) (o_at m c t i (mapCol (headOf j) 1 k))

theorem flushed_eq (c : Dev nD) (t : Fin cfg0.N) :
    (dats m 0 c).flushed 3 t = ((cfg0.win 3).blk t).view.read (Elt Ideal) (G m c) := by
  rw [flushed3]
  funext y
  obtain ⟨i, j, rfl⟩ : ∃ (i : Fin 1024) (j : Fin 512), y = ix2 i j := ⟨y 0, y 1, eq_ix2 y⟩
  show out0_3 (F := Ideal) (iblk m c 0 t) (iblk m c 1 t) (iblk m c 2 t) _ = G m c _
  refine (congrArg (out0_3 (F := Ideal) (iblk m c 0 t) (iblk m c 1 t) (iblk m c 2 t)) ?_).trans ((oblk_at m c t i j).trans (congrArg (G m c) ?_))
  · funext a
    match a with
    | ⟨0, _⟩ => rfl
    | ⟨1, _⟩ => rfl
  · symm
    funext a
    apply Fin.ext
    show cc0_transform_3 (grid0.coords t) a * S1024x512.size a + 1 * (ix2 i j a).val = _
    rw [tr3_eq, crd_val t]
    match a with
    | ⟨0, _⟩ => show t.val * 1024 + 1 * i.val = t.val * 1024 + i.val; omega
    | ⟨1, _⟩ => show 0 * 512 + 1 * j.val = j.val; omega

theorem mem_blk (t : Fin cfg0.N) (i : S8192x512.Idx) : i ∈ ((cfg0.win 3).blk t).view.set
    ↔ ∀ a : Fin 2, cc0_transform_3 (grid0.coords t) a * S1024x512.size a ≤ (i a).val ∧ (i a).val < cc0_transform_3 (grid0.coords t) a * S1024x512.size a + S1024x512.size a := by
  show i ∈ ((View.whole main_v0).slice (win0_3.rect t)).set ↔ _
  rw [View.set_slice_whole, Rect.mem_set_unit]
  exact Iff.rfl

/-- Every index is in the block of a point that writes back. -/
theorem covered (i : S8192x512.Idx) : ∃ t : Fin cfg0.N, (cfg0.win 3).flush t = true ∧ i ∈ ((cfg0.win 3).blk t).view.set := by
  have h0 : (i 0).val < 8192 := (i 0).isLt
  have h1 : (i 1).val < 512 := (i 1).isLt
  have hN := N8
  refine ⟨⟨(i 0).val / 1024, by omega⟩, (by decide +kernel : ∀ t : Fin grid0.N, win0_3.flush t = true) _, ?_⟩
  rw [mem_blk, tr3_eq, crd_val]
  intro a
  match a with
  | ⟨0, _⟩ => show (i 0).val / 1024 * 1024 ≤ (i 0).val ∧ (i 0).val < (i 0).val / 1024 * 1024 + 1024; omega
  | ⟨1, _⟩ => show 0 * 512 ≤ (i 1).val ∧ (i 1).val < 0 * 512 + 512; omega

theorem final (c : Dev nD) : (dats m 0 c).arrAt 3 cfg0.N = G m c :=
  (dats m 0 c).arrAt_eq_of_cover 3 _ (fun t _ => flushed_eq m c t) covered

/-- THE VALUE: the output array holds the normed differences and the arguments are as they were. -/
theorem value : θ_run (defs (F := Ideal)) (onTc (τ := τ) (main (F := Ideal))) ⟨m, fun _ => 0, ρ⟩ (fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (final m c), (h c).2⟩) (run_blocks m ρ)

end Cert.DiffFinalIdeal.Hand
end
-- ==== Proof.HeadsRef.lean ====
/- The references of the two calls on the heads' columns compute the formulas of `SpecHeads`. -/
module

public import proofs.«01_k».proof.Defs
public import proofs.«01_k».proof.Proof.Gen.NsaCombineRefIdeal
public import proofs.«01_k».proof.Proof.Gen.NsaCombineRefIdeal.Read
public import proofs.«01_k».proof.Proof.Gen.DiffFinalRefIdeal
public import proofs.«01_k».proof.Proof.Gen.DiffFinalRefIdeal.Read
public import proofs.«01_k».proof.Proof.SpecHeads
public import Idealize.ShloMosaic.Lib.Pointwise
public import Idealize.ShloMosaic.PureOps.Ideal
public import Idealize.ShloMosaic.Init

@[expose] public section

set_option maxRecDepth 16384

noncomputable section

open Cert.Spec Idealize.ShloMosaic

namespace Cert.NsaCombineRefIdeal.Ref
open Cert.NsaCombineRefIdeal Cert.NsaCombineRefIdeal.Read

theorem ref_at (p : Vec Ideal S8192x5120 .f32) (a b c : Vec Ideal S8192x512 .f32) (i : Fin 8192) (j : Fin 512) :
    val_main_v22 (F := Ideal) p a b c (ix2 i j) = combine p a b c (ix2 i j) := by
  pointwise [combine, headGate, gateCol, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]

theorem ref_eq (p : Vec Ideal S8192x5120 .f32) (a b c : Vec Ideal S8192x512 .f32) : val_main_v22 (F := Ideal) p a b c = combine p a b c := by
  funext i
  rw [eq_ix2 i]
  exact ref_at _ _ _ _ _ _
end Cert.NsaCombineRefIdeal.Ref

namespace Cert.DiffFinalRefIdeal.Ref
open Cert.DiffFinalRefIdeal Cert.DiffFinalRefIdeal.Read

theorem ref_at (o : Vec Ideal S8192x1024 .f32) (l : Vec Ideal S4x4x64 .f32) (g : Vec Ideal S1x128 .f32) (i : Fin 8192) (j : Fin 512) :
    val_main_v42 (F := Ideal) o l g (ix2 i j) = diffFinal o l g (ix2 i j) := by
  pointwise [diffFinal, rms, diff, lam, mapCol, headOf, inHead, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5]

theorem ref_eq (o : Vec Ideal S8192x1024 .f32) (l : Vec Ideal S4x4x64 .f32) (g : Vec Ideal S1x128 .f32) : val_main_v42 (F := Ideal) o l g = diffFinal o l g := by
  funext i
  rw [eq_ix2 i]
  exact ref_at _ _ _ _ _
end Cert.DiffFinalRefIdeal.Ref
end
-- ==== Proof.Claims.lean ====
/- The value claims: each kernel and its reference, at the extended reals, end with equal results.
   Both sides are the same formula of the arguments: `IdealValue` shows it of the kernel, `Ref` of the reference. -/
module

public import proofs.«01_k».proof.Proof.MoeUpIdealValue
public import proofs.«01_k».proof.Proof.MoeUpRef
public import proofs.«01_k».proof.Proof.MoeDownIdealValue
public import proofs.«01_k».proof.Proof.MoeDownRef
public import proofs.«01_k».proof.Proof.FfnUpIdealValue
public import proofs.«01_k».proof.Proof.FfnUpRef
public import proofs.«01_k».proof.Proof.FfnDownIdealValue
public import proofs.«01_k».proof.Proof.FfnDownRef
public import proofs.«01_k».proof.Proof.MergeIdealValue
public import proofs.«01_k».proof.Proof.MergeRef
public import proofs.«01_k».proof.Proof.InProjIdealValue
public import proofs.«01_k».proof.Proof.InProjRef
public import proofs.«01_k».proof.Proof.OutProjIdealValue
public import proofs.«01_k».proof.Proof.OutProjRef
public import proofs.«01_k».proof.Proof.CondIdealValue
public import proofs.«01_k».proof.Proof.DsaKvIdealValue
public import proofs.«01_k».proof.Proof.ModulateIdealValue
public import proofs.«01_k».proof.Proof.ResidLnIdealValue
public import proofs.«01_k».proof.Proof.NsaCompressIdealValue
public import proofs.«01_k».proof.Proof.TrunkRef
public import proofs.«01_k».proof.Proof.NsaCombineIdealValue
public import proofs.«01_k».proof.Proof.DiffFinalIdealValue
public import proofs.«01_k».proof.Proof.HeadsRef

@[expose] public section

set_option maxRecDepth 16384

noncomputable section

namespace Cert.Proof

open Idealize.ShloMosaic Idealize.SL.Sem

theorem algebraicMoeUp : Cert.algebraic_MoeUpIdeal_MoeUpRefIdeal := by
  intro m ρ m' ρ' hpre hag
  refine ⟨fun c => Cert.MoeUpIdeal.Hand.G m c, Cert.MoeUpIdeal.Hand.value m ρ hpre, (θ_run _ _ _).mono (fun r h c => ?_) (Cert.MoeUpRefIdeal.Value.run m' ρ')⟩
  have c0 : c = 0 := Subsingleton.elim _ _
  subst c0
  have rng := Cert.MoeUpIdeal.Hand.range_of_pre m hpre
  obtain ⟨e0, e1, e2, e3, e4, e5⟩ := hag 0
  refine ⟨(h 0).1.trans ?_, (h 0).2⟩
  · refine (Cert.MoeUpRefIdeal.Read.val_main_v37_eq (F := Ideal) (m' (((0 : Dev Cert.MoeUpRefIdeal.nD).tc : Thread Cert.MoeUpRefIdeal.nD Cert.MoeUpRefIdeal.τ).loc Cert.MoeUpRefIdeal.main_arg0)) (m' (((0 : Dev Cert.MoeUpRefIdeal.nD).tc : Thread Cert.MoeUpRefIdeal.nD Cert.MoeUpRefIdeal.τ).loc Cert.MoeUpRefIdeal.main_arg1)) (m' (((0 : Dev Cert.MoeUpRefIdeal.nD).tc : Thread Cert.MoeUpRefIdeal.nD Cert.MoeUpRefIdeal.τ).loc Cert.MoeUpRefIdeal.main_arg2)) (m' (((0 : Dev Cert.MoeUpRefIdeal.nD).tc : Thread Cert.MoeUpRefIdeal.nD Cert.MoeUpRefIdeal.τ).loc Cert.MoeUpRefIdeal.main_arg3)) (m' (((0 : Dev Cert.MoeUpRefIdeal.nD).tc : Thread Cert.MoeUpRefIdeal.nD Cert.MoeUpRefIdeal.τ).loc Cert.MoeUpRefIdeal.main_arg4)) (m' (((0 : Dev Cert.MoeUpRefIdeal.nD).tc : Thread Cert.MoeUpRefIdeal.nD Cert.MoeUpRefIdeal.τ).loc Cert.MoeUpRefIdeal.main_arg5))).trans ?_
    rw [e0, e1, e2, e3, e4, e5]
    exact Cert.MoeUpRefIdeal.Ref.ref_eq _ _ _ _ _ _  rng

theorem algebraicMoeDown : Cert.algebraic_MoeDownIdeal_MoeDownRefIdeal := by
  intro m ρ m' ρ' hpre hag
  refine ⟨fun c => Cert.MoeDownIdeal.Hand.G2 m c, fun c => Cert.MoeDownIdeal.Hand.G3 m c, fun c => Cert.MoeDownIdeal.Hand.G4 m c, Cert.MoeDownIdeal.Hand.value m ρ hpre, (θ_run _ _ _).mono (fun r h c => ?_) (Cert.MoeDownRefIdeal.Value.run m' ρ')⟩
  have c0 : c = 0 := Subsingleton.elim _ _
  subst c0
  have rng := Cert.MoeDownIdeal.Hand.range_of_pre m hpre
  obtain ⟨e0, e1, e2, e3⟩ := hag 0
  refine ⟨(h 0).1.trans ?_, (h 0).2.1.trans ?_, (h 0).2.2.1.trans ?_, (h 0).2.2.2⟩
  · refine (Cert.MoeDownRefIdeal.Read.val_main_v27_eq (F := Ideal) (m' (((0 : Dev Cert.MoeDownRefIdeal.nD).tc : Thread Cert.MoeDownRefIdeal.nD Cert.MoeDownRefIdeal.τ).loc Cert.MoeDownRefIdeal.main_arg0)) (m' (((0 : Dev Cert.MoeDownRefIdeal.nD).tc : Thread Cert.MoeDownRefIdeal.nD Cert.MoeDownRefIdeal.τ).loc Cert.MoeDownRefIdeal.main_arg1)) (m' (((0 : Dev Cert.MoeDownRefIdeal.nD).tc : Thread Cert.MoeDownRefIdeal.nD Cert.MoeDownRefIdeal.τ).loc Cert.MoeDownRefIdeal.main_arg2)) (m' (((0 : Dev Cert.MoeDownRefIdeal.nD).tc : Thread Cert.MoeDownRefIdeal.nD Cert.MoeDownRefIdeal.τ).loc Cert.MoeDownRefIdeal.main_arg3))).trans ?_
    rw [e0, e1, e2, e3]
    exact Cert.MoeDownRefIdeal.Ref.hi_eq _ _ _ _  rng
  · refine (Cert.MoeDownRefIdeal.Read.val_main_v30_eq (F := Ideal) (m' (((0 : Dev Cert.MoeDownRefIdeal.nD).tc : Thread Cert.MoeDownRefIdeal.nD Cert.MoeDownRefIdeal.τ).loc Cert.MoeDownRefIdeal.main_arg0)) (m' (((0 : Dev Cert.MoeDownRefIdeal.nD).tc : Thread Cert.MoeDownRefIdeal.nD Cert.MoeDownRefIdeal.τ).loc Cert.MoeDownRefIdeal.main_arg1)) (m' (((0 : Dev Cert.MoeDownRefIdeal.nD).tc : Thread Cert.MoeDownRefIdeal.nD Cert.MoeDownRefIdeal.τ).loc Cert.MoeDownRefIdeal.main_arg2)) (m' (((0 : Dev Cert.MoeDownRefIdeal.nD).tc : Thread Cert.MoeDownRefIdeal.nD Cert.MoeDownRefIdeal.τ).loc Cert.MoeDownRefIdeal.main_arg3))).trans ?_
    rw [e0, e1, e2, e3]
    exact Cert.MoeDownRefIdeal.Ref.mid_eq _ _ _ _  rng
  · rw [Cert.MoeDownRefIdeal.Read.val_main_v33_eq, e0, e1, e2, e3]
    exact Cert.MoeDownRefIdeal.Ref.low_eq _ _ _ _  rng

theorem algebraicFfnUp : Cert.algebraic_FfnUpIdeal_FfnUpRefIdeal := by
  intro m ρ m' ρ' hpre hag
  refine ⟨fun c => Cert.FfnUpIdeal.Hand.G m c, Cert.FfnUpIdeal.Hand.value m ρ, (θ_run _ _ _).mono (fun r h c => ?_) (Cert.FfnUpRefIdeal.Value.run m' ρ')⟩
  obtain ⟨e0, e1, e2⟩ := hag c
  refine ⟨(h c).1.trans ?_, (h c).2⟩
  · refine (Cert.FfnUpRefIdeal.Read.val_main_v9_eq (F := Ideal) (m' ((c.tc : Thread Cert.FfnUpRefIdeal.nD Cert.FfnUpRefIdeal.τ).loc Cert.FfnUpRefIdeal.main_arg0)) (m' ((c.tc : Thread Cert.FfnUpRefIdeal.nD Cert.FfnUpRefIdeal.τ).loc Cert.FfnUpRefIdeal.main_arg1)) (m' ((c.tc : Thread Cert.FfnUpRefIdeal.nD Cert.FfnUpRefIdeal.τ).loc Cert.FfnUpRefIdeal.main_arg2))).trans ?_
    rw [e0, e1, e2]
    exact Cert.FfnUpRefIdeal.Ref.ref_eq _ _ _

theorem algebraicFfnDown : Cert.algebraic_FfnDownIdeal_FfnDownRefIdeal := by
  intro m ρ m' ρ' hpre hag
  refine ⟨fun c => Cert.FfnDownIdeal.Hand.G m c, Cert.FfnDownIdeal.Hand.value m ρ, (θ_run _ _ _).mono (fun r h c => ?_) (Cert.FfnDownRefIdeal.Value.run m' ρ')⟩
  obtain ⟨e0, e1⟩ := hag c
  refine ⟨(h c).1.trans ?_, (h c).2⟩
  · refine (Cert.FfnDownRefIdeal.Read.val_main_v3_eq (F := Ideal) (m' ((c.tc : Thread Cert.FfnDownRefIdeal.nD Cert.FfnDownRefIdeal.τ).loc Cert.FfnDownRefIdeal.main_arg0)) (m' ((c.tc : Thread Cert.FfnDownRefIdeal.nD Cert.FfnDownRefIdeal.τ).loc Cert.FfnDownRefIdeal.main_arg1))).trans ?_
    rw [e0, e1]
    exact Cert.FfnDownRefIdeal.Ref.ref_eq _ _

theorem algebraicMerge : Cert.algebraic_MergeIdeal_MergeRefIdeal := by
  intro m ρ m' ρ' hpre hag
  refine ⟨fun c => Cert.MergeIdeal.Hand.G m c, Cert.MergeIdeal.Hand.value m ρ, (θ_run _ _ _).mono (fun r h c => ?_) (Cert.MergeRefIdeal.Value.run m' ρ')⟩
  obtain ⟨e0, e1, e2, e3, e4, e5, e6⟩ := hag c
  refine ⟨(h c).1.trans ?_, (h c).2⟩
  · refine (Cert.MergeRefIdeal.Read.val_main_v22_eq (F := Ideal) (m' ((c.tc : Thread Cert.MergeRefIdeal.nD Cert.MergeRefIdeal.τ).loc Cert.MergeRefIdeal.main_arg0)) (m' ((c.tc : Thread Cert.MergeRefIdeal.nD Cert.MergeRefIdeal.τ).loc Cert.MergeRefIdeal.main_arg1)) (m' ((c.tc : Thread Cert.MergeRefIdeal.nD Cert.MergeRefIdeal.τ).loc Cert.MergeRefIdeal.main_arg2)) (m' ((c.tc : Thread Cert.MergeRefIdeal.nD Cert.MergeRefIdeal.τ).loc Cert.MergeRefIdeal.main_arg3)) (m' ((c.tc : Thread Cert.MergeRefIdeal.nD Cert.MergeRefIdeal.τ).loc Cert.MergeRefIdeal.main_arg4)) (m' ((c.tc : Thread Cert.MergeRefIdeal.nD Cert.MergeRefIdeal.τ).loc Cert.MergeRefIdeal.main_arg5)) (m' ((c.tc : Thread Cert.MergeRefIdeal.nD Cert.MergeRefIdeal.τ).loc Cert.MergeRefIdeal.main_arg6))).trans ?_
    rw [e0, e1, e2, e3, e4, e5, e6]
    exact Cert.MergeRefIdeal.Ref.ref_eq _ _ _ _ _ _ _

theorem algebraicInProj : Cert.algebraic_InProjIdeal_InProjRefIdeal := by
  intro m ρ m' ρ' hpre hag
  refine ⟨fun c => Cert.InProjIdeal.Hand.G m c, Cert.InProjIdeal.Hand.value m ρ, (θ_run _ _ _).mono (fun r h c => ?_) (Cert.InProjRefIdeal.Value.run m' ρ')⟩
  obtain ⟨e0, e1⟩ := hag c
  refine ⟨(h c).1.trans ?_, (h c).2⟩
  · refine (Cert.InProjRefIdeal.Read.val_main_v3_eq (F := Ideal) (m' ((c.tc : Thread Cert.InProjRefIdeal.nD Cert.InProjRefIdeal.τ).loc Cert.InProjRefIdeal.main_arg0)) (m' ((c.tc : Thread Cert.InProjRefIdeal.nD Cert.InProjRefIdeal.τ).loc Cert.InProjRefIdeal.main_arg1))).trans ?_
    rw [e0, e1]
    exact Cert.InProjRefIdeal.Ref.ref_eq _ _

theorem algebraicOutProj : Cert.algebraic_OutProjIdeal_OutProjRefIdeal := by
  intro m ρ m' ρ' hpre hag
  refine ⟨fun c => Cert.OutProjIdeal.Hand.G m c, Cert.OutProjIdeal.Hand.value m ρ, (θ_run _ _ _).mono (fun r h c => ?_) (Cert.OutProjRefIdeal.Value.run m' ρ')⟩
  obtain ⟨e0, e1⟩ := hag c
  refine ⟨(h c).1.trans ?_, (h c).2⟩
  · refine (Cert.OutProjRefIdeal.Read.val_main_v3_eq (F := Ideal) (m' ((c.tc : Thread Cert.OutProjRefIdeal.nD Cert.OutProjRefIdeal.τ).loc Cert.OutProjRefIdeal.main_arg0)) (m' ((c.tc : Thread Cert.OutProjRefIdeal.nD Cert.OutProjRefIdeal.τ).loc Cert.OutProjRefIdeal.main_arg1))).trans ?_
    rw [e0, e1]
    exact Cert.OutProjRefIdeal.Ref.ref_eq _ _

theorem algebraicCond : Cert.algebraic_CondIdeal_CondRefIdeal := by
  intro m ρ m' ρ' hpre hag
  refine ⟨fun c => Cert.CondIdeal.Hand.G m c, Cert.CondIdeal.Hand.value m ρ, (θ_run _ _ _).mono (fun r h c => ?_) (Cert.CondRefIdeal.Value.run m' ρ')⟩
  obtain ⟨e0, e1, e2⟩ := hag c
  refine ⟨(h c).1.trans ?_, (h c).2⟩
  · refine (Cert.CondRefIdeal.Read.val_main_v5_eq (F := Ideal) (m' ((c.tc : Thread Cert.CondRefIdeal.nD Cert.CondRefIdeal.τ).loc Cert.CondRefIdeal.main_arg0)) (m' ((c.tc : Thread Cert.CondRefIdeal.nD Cert.CondRefIdeal.τ).loc Cert.CondRefIdeal.main_arg1)) (m' ((c.tc : Thread Cert.CondRefIdeal.nD Cert.CondRefIdeal.τ).loc Cert.CondRefIdeal.main_arg2))).trans ?_
    rw [e0, e1, e2]
    exact Cert.CondRefIdeal.Ref.ref_eq _ _ _

theorem algebraicDsaKv : Cert.algebraic_DsaKvIdeal_DsaKvRefIdeal := by
  intro m ρ m' ρ' hpre hag
  refine ⟨fun c => Cert.DsaKvIdeal.Hand.G m c, Cert.DsaKvIdeal.Hand.value m ρ, (θ_run _ _ _).mono (fun r h c => ?_) (Cert.DsaKvRefIdeal.Value.run m' ρ')⟩
  obtain ⟨e0, e1, e2⟩ := hag c
  refine ⟨(h c).1.trans ?_, (h c).2⟩
  · refine (Cert.DsaKvRefIdeal.Read.val_main_v15_eq (F := Ideal) (m' ((c.tc : Thread Cert.DsaKvRefIdeal.nD Cert.DsaKvRefIdeal.τ).loc Cert.DsaKvRefIdeal.main_arg0)) (m' ((c.tc : Thread Cert.DsaKvRefIdeal.nD Cert.DsaKvRefIdeal.τ).loc Cert.DsaKvRefIdeal.main_arg1)) (m' ((c.tc : Thread Cert.DsaKvRefIdeal.nD Cert.DsaKvRefIdeal.τ).loc Cert.DsaKvRefIdeal.main_arg2))).trans ?_
    rw [e0, e1, e2]
    exact Cert.DsaKvRefIdeal.Ref.ref_eq _ _ _

theorem algebraicModulate : Cert.algebraic_ModulateIdeal_ModulateRefIdeal := by
  intro m ρ m' ρ' hpre hag
  refine ⟨fun c => Cert.ModulateIdeal.Hand.G m c, Cert.ModulateIdeal.Hand.value m ρ, (θ_run _ _ _).mono (fun r h c => ?_) (Cert.ModulateRefIdeal.Value.run m' ρ')⟩
  obtain ⟨e0, e1⟩ := hag c
  refine ⟨(h c).1.trans ?_, (h c).2⟩
  · refine (Cert.ModulateRefIdeal.Read.val_main_v8_eq (F := Ideal) (m' ((c.tc : Thread Cert.ModulateRefIdeal.nD Cert.ModulateRefIdeal.τ).loc Cert.ModulateRefIdeal.main_arg0)) (m' ((c.tc : Thread Cert.ModulateRefIdeal.nD Cert.ModulateRefIdeal.τ).loc Cert.ModulateRefIdeal.main_arg1))).trans ?_
    rw [e0, e1]
    exact Cert.ModulateRefIdeal.Ref.ref_eq _ _

theorem algebraicResidLn : Cert.algebraic_ResidLnIdeal_ResidLnRefIdeal := by
  intro m ρ m' ρ' hpre hag
  refine ⟨fun c => Cert.ResidLnIdeal.Hand.G7 m c, fun c => Cert.ResidLnIdeal.Hand.G8 m c, Cert.ResidLnIdeal.Hand.value m ρ, (θ_run _ _ _).mono (fun r h c => ?_) (Cert.ResidLnRefIdeal.Value.run m' ρ')⟩
  obtain ⟨e0, e1, e2, e3, e4, e5⟩ := hag c
  refine ⟨(h c).1.trans ?_, (h c).2.1.trans ?_, (h c).2.2⟩
  · refine (Cert.ResidLnRefIdeal.Read.val_main_v27_eq (F := Ideal) (m' ((c.tc : Thread Cert.ResidLnRefIdeal.nD Cert.ResidLnRefIdeal.τ).loc Cert.ResidLnRefIdeal.main_arg0)) (m' ((c.tc : Thread Cert.ResidLnRefIdeal.nD Cert.ResidLnRefIdeal.τ).loc Cert.ResidLnRefIdeal.main_arg1)) (m' ((c.tc : Thread Cert.ResidLnRefIdeal.nD Cert.ResidLnRefIdeal.τ).loc Cert.ResidLnRefIdeal.main_arg2)) (m' ((c.tc : Thread Cert.ResidLnRefIdeal.nD Cert.ResidLnRefIdeal.τ).loc Cert.ResidLnRefIdeal.main_arg3)) (m' ((c.tc : Thread Cert.ResidLnRefIdeal.nD Cert.ResidLnRefIdeal.τ).loc Cert.ResidLnRefIdeal.main_arg4))).trans ?_
    rw [e0, e1, e2, e3, e4]
    exact Cert.ResidLnRefIdeal.Ref.ln_eq _ _ _ _ _
  · rw [Cert.ResidLnRefIdeal.Read.val_main_v36_eq, e0, e1, e2, e3, e4, e5]
    exact Cert.ResidLnRefIdeal.Ref.mod_eq _ _ _ _ _ _

theorem algebraicNsaCompress : Cert.algebraic_NsaCompressIdeal_NsaCompressRefIdeal := by
  intro m ρ m' ρ' hpre hag
  refine ⟨fun c => Cert.NsaCompressIdeal.Hand.G m c, Cert.NsaCompressIdeal.Hand.value m ρ, (θ_run _ _ _).mono (fun r h c => ?_) (Cert.NsaCompressRefIdeal.Value.run m' ρ')⟩
  obtain ⟨e0, e1, e2, e3⟩ := hag c
  refine ⟨(h c).1.trans ?_, (h c).2⟩
  · refine (Cert.NsaCompressRefIdeal.Read.val_main_v13_eq (F := Ideal) (m' ((c.tc : Thread Cert.NsaCompressRefIdeal.nD Cert.NsaCompressRefIdeal.τ).loc Cert.NsaCompressRefIdeal.main_arg0)) (m' ((c.tc : Thread Cert.NsaCompressRefIdeal.nD Cert.NsaCompressRefIdeal.τ).loc Cert.NsaCompressRefIdeal.main_arg1)) (m' ((c.tc : Thread Cert.NsaCompressRefIdeal.nD Cert.NsaCompressRefIdeal.τ).loc Cert.NsaCompressRefIdeal.main_arg2)) (m' ((c.tc : Thread Cert.NsaCompressRefIdeal.nD Cert.NsaCompressRefIdeal.τ).loc Cert.NsaCompressRefIdeal.main_arg3))).trans ?_
    rw [e0, e1, e2, e3]
    exact Cert.NsaCompressRefIdeal.Ref.ref_eq _ _ _ _

theorem algebraicNsaCombine : Cert.algebraic_NsaCombineIdeal_NsaCombineRefIdeal := by
  intro m ρ m' ρ' hpre hag
  refine ⟨fun c => Cert.NsaCombineIdeal.Hand.G m c, Cert.NsaCombineIdeal.Hand.value m ρ, (θ_run _ _ _).mono (fun r h c => ?_) (Cert.NsaCombineRefIdeal.Value.run m' ρ')⟩
  obtain ⟨e0, e1, e2, e3⟩ := hag c
  refine ⟨(h c).1.trans ?_, (h c).2⟩
  · refine (Cert.NsaCombineRefIdeal.Read.val_main_v22_eq (F := Ideal) (m' ((c.tc : Thread Cert.NsaCombineRefIdeal.nD Cert.NsaCombineRefIdeal.τ).loc Cert.NsaCombineRefIdeal.main_arg0)) (m' ((c.tc : Thread Cert.NsaCombineRefIdeal.nD Cert.NsaCombineRefIdeal.τ).loc Cert.NsaCombineRefIdeal.main_arg1)) (m' ((c.tc : Thread Cert.NsaCombineRefIdeal.nD Cert.NsaCombineRefIdeal.τ).loc Cert.NsaCombineRefIdeal.main_arg2)) (m' ((c.tc : Thread Cert.NsaCombineRefIdeal.nD Cert.NsaCombineRefIdeal.τ).loc Cert.NsaCombineRefIdeal.main_arg3))).trans ?_
    rw [e0, e1, e2, e3]
    exact Cert.NsaCombineRefIdeal.Ref.ref_eq _ _ _ _

theorem algebraicDiffFinal : Cert.algebraic_DiffFinalIdeal_DiffFinalRefIdeal := by
  intro m ρ m' ρ' hpre hag
  refine ⟨fun c => Cert.DiffFinalIdeal.Hand.G m c, Cert.DiffFinalIdeal.Hand.value m ρ, (θ_run _ _ _).mono (fun r h c => ?_) (Cert.DiffFinalRefIdeal.Value.run m' ρ')⟩
  obtain ⟨e0, e1, e2⟩ := hag c
  refine ⟨(h c).1.trans ?_, (h c).2⟩
  · rw [Cert.DiffFinalRefIdeal.Read.val_main_v42_eq, e0, e1, e2]
    exact Cert.DiffFinalRefIdeal.Ref.ref_eq _ _ _

end Cert.Proof
end
-- ==== Proof.lean ====
module

public import proofs.«01_k».proof.Defs
public import proofs.«01_k».proof.Proof.Gen.MoeUp
public import proofs.«01_k».proof.Proof.Gen.MoeUp.Skeleton
public import proofs.«01_k».proof.Proof.Gen.MoeUp.Launch
public import proofs.«01_k».proof.Proof.Gen.MoeUp.Flash.Runs
public import proofs.«01_k».proof.Proof.Gen.MoeUpIdeal
public import proofs.«01_k».proof.Proof.Gen.MoeUpIdeal.Skeleton
public import proofs.«01_k».proof.Proof.Gen.MoeUpIdeal.Launch
public import proofs.«01_k».proof.Proof.Gen.MoeUpIdeal.Flash.Runs
public import proofs.«01_k».proof.Proof.Gen.MoeUpRefIdeal
public import proofs.«01_k».proof.Proof.Gen.MoeDown
public import proofs.«01_k».proof.Proof.Gen.MoeDown.Skeleton
public import proofs.«01_k».proof.Proof.Gen.MoeDown.Launch
public import proofs.«01_k».proof.Proof.Gen.MoeDown.Flash.Runs
public import proofs.«01_k».proof.Proof.Gen.MoeDownIdeal
public import proofs.«01_k».proof.Proof.Gen.MoeDownIdeal.Skeleton
public import proofs.«01_k».proof.Proof.Gen.MoeDownIdeal.Launch
public import proofs.«01_k».proof.Proof.Gen.MoeDownIdeal.Flash.Runs
public import proofs.«01_k».proof.Proof.Gen.MoeDownRefIdeal
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpRefIdeal
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.Cond
public import proofs.«01_k».proof.Proof.Gen.Cond.Skeleton
public import proofs.«01_k».proof.Proof.Gen.Cond.Launch
public import proofs.«01_k».proof.Proof.Gen.Cond.Points
public import proofs.«01_k».proof.Proof.Gen.Cond.Frame
public import proofs.«01_k».proof.Proof.Gen.CondIdeal
public import proofs.«01_k».proof.Proof.Gen.CondIdeal.Skeleton
public import proofs.«01_k».proof.Proof.Gen.CondIdeal.Launch
public import proofs.«01_k».proof.Proof.Gen.CondIdeal.Points
public import proofs.«01_k».proof.Proof.Gen.CondIdeal.Frame
public import proofs.«01_k».proof.Proof.Gen.CondIdeal.Value
public import proofs.«01_k».proof.Proof.Gen.CondRefIdeal
public import proofs.«01_k».proof.Proof.Gen.CondRefIdeal.Run
public import proofs.«01_k».proof.Proof.Gen.CondRefIdeal.Read
public import proofs.«01_k».proof.Proof.Gen.DsaKv
public import proofs.«01_k».proof.Proof.Gen.DsaKv.Skeleton
public import proofs.«01_k».proof.Proof.Gen.DsaKv.Launch
public import proofs.«01_k».proof.Proof.Gen.DsaKv.Points
public import proofs.«01_k».proof.Proof.Gen.DsaKv.Frame
public import proofs.«01_k».proof.Proof.Gen.DsaKvIdeal
public import proofs.«01_k».proof.Proof.Gen.DsaKvIdeal.Skeleton
public import proofs.«01_k».proof.Proof.Gen.DsaKvIdeal.Launch
public import proofs.«01_k».proof.Proof.Gen.DsaKvIdeal.Points
public import proofs.«01_k».proof.Proof.Gen.DsaKvIdeal.Frame
public import proofs.«01_k».proof.Proof.Gen.DsaKvIdeal.Value
public import proofs.«01_k».proof.Proof.Gen.DsaKvRefIdeal
public import proofs.«01_k».proof.Proof.Gen.DsaKvRefIdeal.Run
public import proofs.«01_k».proof.Proof.Gen.DsaKvRefIdeal.Read
public import proofs.«01_k».proof.Proof.Gen.Modulate
public import proofs.«01_k».proof.Proof.Gen.Modulate.Skeleton
public import proofs.«01_k».proof.Proof.Gen.Modulate.Launch
public import proofs.«01_k».proof.Proof.Gen.Modulate.Points
public import proofs.«01_k».proof.Proof.Gen.Modulate.Frame
public import proofs.«01_k».proof.Proof.Gen.ModulateIdeal
public import proofs.«01_k».proof.Proof.Gen.ModulateIdeal.Skeleton
public import proofs.«01_k».proof.Proof.Gen.ModulateIdeal.Launch
public import proofs.«01_k».proof.Proof.Gen.ModulateIdeal.Points
public import proofs.«01_k».proof.Proof.Gen.ModulateIdeal.Frame
public import proofs.«01_k».proof.Proof.Gen.ModulateIdeal.Value
public import proofs.«01_k».proof.Proof.Gen.ModulateRefIdeal
public import proofs.«01_k».proof.Proof.Gen.ModulateRefIdeal.Run
public import proofs.«01_k».proof.Proof.Gen.ModulateRefIdeal.Read
public import proofs.«01_k».proof.Proof.Gen.ResidLn
public import proofs.«01_k».proof.Proof.Gen.ResidLn.Skeleton
public import proofs.«01_k».proof.Proof.Gen.ResidLn.Launch
public import proofs.«01_k».proof.Proof.Gen.ResidLn.Points
public import proofs.«01_k».proof.Proof.Gen.ResidLn.Frame
public import proofs.«01_k».proof.Proof.Gen.ResidLnIdeal
public import proofs.«01_k».proof.Proof.Gen.ResidLnIdeal.Skeleton
public import proofs.«01_k».proof.Proof.Gen.ResidLnIdeal.Launch
public import proofs.«01_k».proof.Proof.Gen.ResidLnIdeal.Points
public import proofs.«01_k».proof.Proof.Gen.ResidLnIdeal.Frame
public import proofs.«01_k».proof.Proof.Gen.ResidLnIdeal.Value
public import proofs.«01_k».proof.Proof.Gen.ResidLnRefIdeal
public import proofs.«01_k».proof.Proof.Gen.ResidLnRefIdeal.Run
public import proofs.«01_k».proof.Proof.Gen.ResidLnRefIdeal.Read
public import proofs.«01_k».proof.Proof.Gen.NsaCompress
public import proofs.«01_k».proof.Proof.Gen.NsaCompress.Skeleton
public import proofs.«01_k».proof.Proof.Gen.NsaCompress.Launch
public import proofs.«01_k».proof.Proof.Gen.NsaCompress.Points
public import proofs.«01_k».proof.Proof.Gen.NsaCompress.Frame
public import proofs.«01_k».proof.Proof.Gen.NsaCompressIdeal
public import proofs.«01_k».proof.Proof.Gen.NsaCompressIdeal.Skeleton
public import proofs.«01_k».proof.Proof.Gen.NsaCompressIdeal.Launch
public import proofs.«01_k».proof.Proof.Gen.NsaCompressIdeal.Points
public import proofs.«01_k».proof.Proof.Gen.NsaCompressIdeal.Frame
public import proofs.«01_k».proof.Proof.Gen.NsaCompressIdeal.Value
public import proofs.«01_k».proof.Proof.Gen.NsaCompressRefIdeal
public import proofs.«01_k».proof.Proof.Gen.NsaCompressRefIdeal.Run
public import proofs.«01_k».proof.Proof.Gen.NsaCompressRefIdeal.Read
public import proofs.«01_k».proof.Proof.Gen.NsaCombine
public import proofs.«01_k».proof.Proof.Gen.NsaCombine.Skeleton
public import proofs.«01_k».proof.Proof.Gen.NsaCombine.Launch
public import proofs.«01_k».proof.Proof.Gen.NsaCombine.Points
public import proofs.«01_k».proof.Proof.Gen.NsaCombine.Frame
public import proofs.«01_k».proof.Proof.Gen.NsaCombineIdeal
public import proofs.«01_k».proof.Proof.Gen.NsaCombineIdeal.Skeleton
public import proofs.«01_k».proof.Proof.Gen.NsaCombineIdeal.Launch
public import proofs.«01_k».proof.Proof.Gen.NsaCombineIdeal.Points
public import proofs.«01_k».proof.Proof.Gen.NsaCombineIdeal.Frame
public import proofs.«01_k».proof.Proof.Gen.NsaCombineIdeal.Value
public import proofs.«01_k».proof.Proof.Gen.NsaCombineRefIdeal
public import proofs.«01_k».proof.Proof.Gen.NsaCombineRefIdeal.Run
public import proofs.«01_k».proof.Proof.Gen.NsaCombineRefIdeal.Read
public import proofs.«01_k».proof.Proof.Gen.DiffFinal
public import proofs.«01_k».proof.Proof.Gen.DiffFinal.Skeleton
public import proofs.«01_k».proof.Proof.Gen.DiffFinal.Launch
public import proofs.«01_k».proof.Proof.Gen.DiffFinal.Points
public import proofs.«01_k».proof.Proof.Gen.DiffFinal.Frame
public import proofs.«01_k».proof.Proof.Gen.DiffFinalIdeal
public import proofs.«01_k».proof.Proof.Gen.DiffFinalIdeal.Skeleton
public import proofs.«01_k».proof.Proof.Gen.DiffFinalIdeal.Launch
public import proofs.«01_k».proof.Proof.Gen.DiffFinalIdeal.Points
public import proofs.«01_k».proof.Proof.Gen.DiffFinalIdeal.Frame
public import proofs.«01_k».proof.Proof.Gen.DiffFinalIdeal.Value
public import proofs.«01_k».proof.Proof.Gen.DiffFinalRefIdeal
public import proofs.«01_k».proof.Proof.Gen.DiffFinalRefIdeal.Run
public import proofs.«01_k».proof.Proof.Gen.DiffFinalRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Pre_experts_in_range
public import proofs.«01_k».proof.Proof.Gen.Pre_experts_in_range_down
public import proofs.«01_k».proof.Proof.Gen.FfnUpIdeal.Value
public import proofs.«01_k».proof.Proof.Gen.FfnDownIdeal.Value
public import proofs.«01_k».proof.Proof.Gen.MergeIdeal.Value
public import proofs.«01_k».proof.Proof.Gen.MoeUpRefIdeal.Run
public import proofs.«01_k».proof.Proof.Gen.MoeUpRefIdeal.Read
public import proofs.«01_k».proof.Proof.Gen.MoeDownRefIdeal.Run
public import proofs.«01_k».proof.Proof.Gen.MoeDownRefIdeal.Read
public import proofs.«01_k».proof.Proof.Gen.FfnUpRefIdeal.Run
public import proofs.«01_k».proof.Proof.Gen.FfnUpRefIdeal.Read
public import proofs.«01_k».proof.Proof.Gen.FfnDownRefIdeal.Run
public import proofs.«01_k».proof.Proof.Gen.FfnDownRefIdeal.Read
public import proofs.«01_k».proof.Proof.Gen.MergeRefIdeal.Run
public import proofs.«01_k».proof.Proof.Gen.MergeRefIdeal.Read
public import proofs.«01_k».proof.Proof.MoeUpRun
public import proofs.«01_k».proof.Proof.MoeUpIdealRun
public import proofs.«01_k».proof.Proof.MoeDownRun
public import proofs.«01_k».proof.Proof.MoeDownIdealRun
public import proofs.«01_k».proof.Proof.Claims
public import Idealize.ShloMosaic.Adequacy
public import Idealize.ShloMosaic.Init

@[expose] public section

noncomputable section

namespace Cert.Proof

open Idealize.ShloMosaic Idealize.SL.Sem Cert.MoeUp

/-- Each reference runs, leaves its arguments alone, and there is no counter that could move. -/
theorem frameMoeUpRef : Cert.quiescent_MoeUpRefIdeal := fun m ρ _ =>
  (θ_run Cert.MoeUpRefIdeal.defs _ _).mono (fun r h => ⟨fun c => (h c).2, sem_eq_zero_of_no_sems (by decide) r.2⟩)
    (Cert.MoeUpRefIdeal.Value.run (F := Ideal) m ρ)

theorem frameMoeDownRef : Cert.quiescent_MoeDownRefIdeal := fun m ρ _ =>
  (θ_run Cert.MoeDownRefIdeal.defs _ _).mono (fun r h => ⟨fun c => (h c).2.2.2, sem_eq_zero_of_no_sems (by decide) r.2⟩)
    (Cert.MoeDownRefIdeal.Value.run (F := Ideal) m ρ)

theorem frameFfnUpRef : Cert.quiescent_FfnUpRefIdeal := fun m ρ _ =>
  (θ_run Cert.FfnUpRefIdeal.defs _ _).mono (fun r h => ⟨fun c => (h c).2, sem_eq_zero_of_no_sems (by decide) r.2⟩)
    (Cert.FfnUpRefIdeal.Value.run (F := Ideal) m ρ)

theorem frameFfnDownRef : Cert.quiescent_FfnDownRefIdeal := fun m ρ _ =>
  (θ_run Cert.FfnDownRefIdeal.defs _ _).mono (fun r h => ⟨fun c => (h c).2, sem_eq_zero_of_no_sems (by decide) r.2⟩)
    (Cert.FfnDownRefIdeal.Value.run (F := Ideal) m ρ)

theorem frameMergeRef : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

theorem frameInProjRef : Cert.quiescent_InProjRefIdeal := fun m ρ _ =>
  (θ_run Cert.InProjRefIdeal.defs _ _).mono (fun r h => ⟨fun c => (h c).2, sem_eq_zero_of_no_sems (by decide) r.2⟩)
    (Cert.InProjRefIdeal.Value.run (F := Ideal) m ρ)

theorem frameOutProjRef : Cert.quiescent_OutProjRefIdeal := fun m ρ _ =>
  (θ_run Cert.OutProjRefIdeal.defs _ _).mono (fun r h => ⟨fun c => (h c).2, sem_eq_zero_of_no_sems (by decide) r.2⟩)
    (Cert.OutProjRefIdeal.Value.run (F := Ideal) m ρ)

theorem frameCondRef : Cert.quiescent_CondRefIdeal := fun m ρ _ =>
  (θ_run Cert.CondRefIdeal.defs _ _).mono (fun r h => ⟨fun c => (h c).2, sem_eq_zero_of_no_sems (by decide) r.2⟩)
    (Cert.CondRefIdeal.Value.run (F := Ideal) m ρ)

theorem frameDsaKvRef : Cert.quiescent_DsaKvRefIdeal := fun m ρ _ =>
  (θ_run Cert.DsaKvRefIdeal.defs _ _).mono (fun r h => ⟨fun c => (h c).2, sem_eq_zero_of_no_sems (by decide) r.2⟩)
    (Cert.DsaKvRefIdeal.Value.run (F := Ideal) m ρ)

theorem frameModulateRef : Cert.quiescent_ModulateRefIdeal := fun m ρ _ =>
  (θ_run Cert.ModulateRefIdeal.defs _ _).mono (fun r h => ⟨fun c => (h c).2, sem_eq_zero_of_no_sems (by decide) r.2⟩)
    (Cert.ModulateRefIdeal.Value.run (F := Ideal) m ρ)

theorem frameResidLnRef : Cert.quiescent_ResidLnRefIdeal := fun m ρ _ =>
  (θ_run Cert.ResidLnRefIdeal.defs _ _).mono (fun r h => ⟨fun c => (h c).2.2, sem_eq_zero_of_no_sems (by decide) r.2⟩)
    (Cert.ResidLnRefIdeal.Value.run (F := Ideal) m ρ)

theorem frameNsaCompressRef : Cert.quiescent_NsaCompressRefIdeal := fun m ρ _ =>
  (θ_run Cert.NsaCompressRefIdeal.defs _ _).mono (fun r h => ⟨fun c => (h c).2, sem_eq_zero_of_no_sems (by decide) r.2⟩)
    (Cert.NsaCompressRefIdeal.Value.run (F := Ideal) m ρ)

theorem frameNsaCombineRef : Cert.quiescent_NsaCombineRefIdeal := fun m ρ _ =>
  (θ_run Cert.NsaCombineRefIdeal.defs _ _).mono (fun r h => ⟨fun c => (h c).2, sem_eq_zero_of_no_sems (by decide) r.2⟩)
    (Cert.NsaCombineRefIdeal.Value.run (F := Ideal) m ρ)

theorem frameDiffFinalRef : Cert.quiescent_DiffFinalRefIdeal := fun m ρ _ =>
  (θ_run Cert.DiffFinalRefIdeal.defs _ _).mono (fun r h => ⟨fun c => (h c).2, sem_eq_zero_of_no_sems (by decide) r.2⟩)
    (Cert.DiffFinalRefIdeal.Value.run (F := Ideal) m ρ)

theorem claim : Cert.Claim := ⟨Cert.MoeUp.Gen.facts, Cert.MoeUpIdeal.Gen.facts, Cert.MoeUpRefIdeal.Gen.facts, Cert.MoeDown.Gen.facts, Cert.MoeDownIdeal.Gen.facts, Cert.MoeDownRefIdeal.Gen.facts, Cert.FfnUp.Gen.facts, Cert.FfnUpIdeal.Gen.facts, Cert.FfnUpRefIdeal.Gen.facts, Cert.FfnDown.Gen.facts, Cert.FfnDownIdeal.Gen.facts, Cert.FfnDownRefIdeal.Gen.facts, Cert.Merge.Gen.facts, Cert.MergeIdeal.Gen.facts, Cert.MergeRefIdeal.Gen.facts, Cert.InProj.Gen.facts, Cert.InProjIdeal.Gen.facts, Cert.InProjRefIdeal.Gen.facts, Cert.OutProj.Gen.facts, Cert.OutProjIdeal.Gen.facts, Cert.OutProjRefIdeal.Gen.facts, Cert.Cond.Gen.facts, Cert.CondIdeal.Gen.facts, Cert.CondRefIdeal.Gen.facts, Cert.DsaKv.Gen.facts, Cert.DsaKvIdeal.Gen.facts, Cert.DsaKvRefIdeal.Gen.facts, Cert.Modulate.Gen.facts, Cert.ModulateIdeal.Gen.facts, Cert.ModulateRefIdeal.Gen.facts, Cert.ResidLn.Gen.facts, Cert.ResidLnIdeal.Gen.facts, Cert.ResidLnRefIdeal.Gen.facts, Cert.NsaCompress.Gen.facts, Cert.NsaCompressIdeal.Gen.facts, Cert.NsaCompressRefIdeal.Gen.facts, Cert.NsaCombine.Gen.facts, Cert.NsaCombineIdeal.Gen.facts, Cert.NsaCombineRefIdeal.Gen.facts, Cert.DiffFinal.Gen.facts, Cert.DiffFinalIdeal.Gen.facts, Cert.DiffFinalRefIdeal.Gen.facts, Cert.Pre_experts_in_range.Gen.facts, Cert.Pre_experts_in_range_down.Gen.facts,
  Cert.MoeUp.Hand.frame,
  Cert.MoeUpIdeal.Hand.frame,
  frameMoeUpRef,
  Cert.MoeDown.Hand.frame,
  Cert.MoeDownIdeal.Hand.frame,
  frameMoeDownRef,
  fun m ρ _ => Cert.FfnUp.Gen.frame m ρ,
  fun m ρ _ => Cert.FfnUpIdeal.Gen.frame m ρ,
  frameFfnUpRef,
  fun m ρ _ => Cert.FfnDown.Gen.frame m ρ,
  fun m ρ _ => Cert.FfnDownIdeal.Gen.frame m ρ,
  frameFfnDownRef,
  fun m ρ _ => Cert.Merge.Gen.frame m ρ,
  fun m ρ _ => Cert.MergeIdeal.Gen.frame m ρ,
  frameMergeRef,
  fun m ρ _ => Cert.InProj.Gen.frame m ρ,
  fun m ρ _ => Cert.InProjIdeal.Gen.frame m ρ,
  frameInProjRef,
  fun m ρ _ => Cert.OutProj.Gen.frame m ρ,
  fun m ρ _ => Cert.OutProjIdeal.Gen.frame m ρ,
  frameOutProjRef,
  fun m ρ _ => Cert.Cond.Gen.frame m ρ,
  fun m ρ _ => Cert.CondIdeal.Gen.frame m ρ,
  frameCondRef,
  fun m ρ _ => Cert.DsaKv.Gen.frame m ρ,
  fun m ρ _ => Cert.DsaKvIdeal.Gen.frame m ρ,
  frameDsaKvRef,
  fun m ρ _ => Cert.Modulate.Gen.frame m ρ,
  fun m ρ _ => Cert.ModulateIdeal.Gen.frame m ρ,
  frameModulateRef,
  fun m ρ _ => Cert.ResidLn.Gen.frame m ρ,
  fun m ρ _ => Cert.ResidLnIdeal.Gen.frame m ρ,
  frameResidLnRef,
  fun m ρ _ => Cert.NsaCompress.Gen.frame m ρ,
  fun m ρ _ => Cert.NsaCompressIdeal.Gen.frame m ρ,
  frameNsaCompressRef,
  fun m ρ _ => Cert.NsaCombine.Gen.frame m ρ,
  fun m ρ _ => Cert.NsaCombineIdeal.Gen.frame m ρ,
  frameNsaCombineRef,
  fun m ρ _ => Cert.DiffFinal.Gen.frame m ρ,
  fun m ρ _ => Cert.DiffFinalIdeal.Gen.frame m ρ,
  frameDiffFinalRef,
  trivial, algebraicMoeUp, trivial, algebraicMoeDown, trivial, algebraicFfnUp, trivial, algebraicFfnDown, trivial, algebraicMerge,
  trivial, algebraicInProj, trivial, algebraicOutProj,
  trivial, algebraicCond, trivial, algebraicDsaKv, trivial, algebraicModulate, trivial, algebraicResidLn, trivial, algebraicNsaCompress,
  trivial, algebraicNsaCombine, trivial, algebraicDiffFinal⟩

end Cert.Proof

end
